-- ==== Defs.lean ====
def Pre_Moe [hPre_tiles_in_range : Cert.Pre_tiles_in_range.Facts] (m : (ℓ : Loc Cert.Moe.nD Cert.Moe.τ Cert.Moe.sig) → Buf (Elt Bits) ℓ) : Prop :=
  ∀ c : Dev Cert.Moe.nD,
    (Cert.Pre_tiles_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).1 = (fun _ => 1#1)
    ∧ (Cert.Pre_tiles_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).2 = (fun _ => 1#1)

def Pre_MoeIdeal [hPre_tiles_in_range : Cert.Pre_tiles_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).1 = (fun _ => 1#1)
    ∧ (Cert.Pre_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2 = (fun _ => 1#1)

def Pre_MoeRefIdeal [hPre_tiles_in_range : Cert.Pre_tiles_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tiles_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).1 = (fun _ => 1#1)
    ∧ (Cert.Pre_tiles_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_scores [hPre_finite_scores : Cert.Pre_finite_scores.Facts] (m : (ℓ : Loc Cert.WinIdeal.nD Cert.WinIdeal.τ Cert.WinIdeal.sig) → Buf (Elt Ideal) ℓ) : Prop :=
  ∀ c : Dev Cert.WinIdeal.nD,
    (Cert.Pre_finite_scores.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).1 = (fun _ => 1#1)
    ∧ (Cert.Pre_finite_scores.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).2.1 = (fun _ => 1#1)
    ∧ (Cert.Pre_finite_scores.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).2.2.1 = (fun _ => 1#1)
    ∧ (Cert.Pre_finite_scores.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).2.2.2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_scores [hPre_finite_scores : Cert.Pre_finite_scores.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_scores.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).1 = (fun _ => 1#1)
    ∧ (Cert.Pre_finite_scores.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).2.1 = (fun _ => 1#1)
    ∧ (Cert.Pre_finite_scores.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).2.2.1 = (fun _ => 1#1)
    ∧ (Cert.Pre_finite_scores.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).2.2.2 = (fun _ => 1#1)

def Pre_Full (m : (ℓ : Loc Cert.Full.nD Cert.Full.τ Cert.Full.sig) → Buf (Elt Bits) ℓ) : Prop :=
  True

def Pre_FullIdeal (m : (ℓ : Loc Cert.FullIdeal.nD Cert.FullIdeal.τ Cert.FullIdeal.sig) → Buf (Elt Ideal) ℓ) : Prop :=
  True

def Pre_FullIdeal_finite_logits [hPre_finite_logits : Cert.Pre_finite_logits.Facts] (m : (ℓ : Loc Cert.FullIdeal.nD Cert.FullIdeal.τ Cert.FullIdeal.sig) → Buf (Elt Ideal) ℓ) : Prop :=
  ∀ c : Dev Cert.FullIdeal.nD,
    (Cert.Pre_finite_logits.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4))).1 = (fun _ => 1#1)
    ∧ (Cert.Pre_finite_logits.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4))).2.1 = (fun _ => 1#1)
    ∧ (Cert.Pre_finite_logits.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4))).2.2 = (fun _ => 1#1)

def Pre_FullRefIdeal (m : (ℓ : Loc Cert.FullRefIdeal.nD Cert.FullRefIdeal.τ Cert.FullRefIdeal.sig) → Buf (Elt Ideal) ℓ) : Prop :=
  True

def Pre_FullRefIdeal_finite_logits [hPre_finite_logits : Cert.Pre_finite_logits.Facts] (m : (ℓ : Loc Cert.FullRefIdeal.nD Cert.FullRefIdeal.τ Cert.FullRefIdeal.sig) → Buf (Elt Ideal) ℓ) : Prop :=
  ∀ c : Dev Cert.FullRefIdeal.nD,
    (Cert.Pre_finite_logits.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4))).1 = (fun _ => 1#1)
    ∧ (Cert.Pre_finite_logits.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4))).2.1 = (fun _ => 1#1)
    ∧ (Cert.Pre_finite_logits.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Moe [hMoe : Cert.Moe.Facts] [hPre_tiles_in_range : Cert.Pre_tiles_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tiles_in_range : Cert.Pre_tiles_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] [hPre_tiles_in_range : Cert.Pre_tiles_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinIdeal_pre_finite_scores [hWinIdeal : Cert.WinIdeal.Facts] [hPre_finite_scores : Cert.Pre_finite_scores.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_scores m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_WinRefIdeal_pre_finite_scores [hWinRefIdeal : Cert.WinRefIdeal.Facts] [hPre_finite_scores : Cert.Pre_finite_scores.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_scores m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_Full [hFull : Cert.Full.Facts] : Prop :=
  ∀ (m : (ℓ : Loc Cert.Full.nD Cert.Full.τ Cert.Full.sig) → Buf (Elt Bits) ℓ) (g : Dev Cert.Full.nD → PrngReg), Pre_Full m →
    θ_run (Cert.Full.defs (F := Bits)) (onTc (τ := Cert.Full.τ) (Cert.Full.main (F := Bits))) ⟨m, fun _ => 0, g⟩ (fun r => (∀ c : Dev Cert.Full.nD,
      r.2.mem ((c.tc : Thread Cert.Full.nD Cert.Full.τ).loc Cert.Full.main_arg0) = m ((c.tc : Thread Cert.Full.nD Cert.Full.τ).loc Cert.Full.main_arg0)
      ∧ r.2.mem ((c.tc : Thread Cert.Full.nD Cert.Full.τ).loc Cert.Full.main_arg1) = m ((c.tc : Thread Cert.Full.nD Cert.Full.τ).loc Cert.Full.main_arg1)
      ∧ r.2.mem ((c.tc : Thread Cert.Full.nD Cert.Full.τ).loc Cert.Full.main_arg2) = m ((c.tc : Thread Cert.Full.nD Cert.Full.τ).loc Cert.Full.main_arg2)
      ∧ r.2.mem ((c.tc : Thread Cert.Full.nD Cert.Full.τ).loc Cert.Full.main_arg3) = m ((c.tc : Thread Cert.Full.nD Cert.Full.τ).loc Cert.Full.main_arg3)
      ∧ r.2.mem ((c.tc : Thread Cert.Full.nD Cert.Full.τ).loc Cert.Full.main_arg4) = m ((c.tc : Thread Cert.Full.nD Cert.Full.τ).loc Cert.Full.main_arg4))
      ∧ r.2.sem = fun _ => 0)

def quiescent_FullIdeal [hFullIdeal : Cert.FullIdeal.Facts] : Prop :=
  ∀ (m : (ℓ : Loc Cert.FullIdeal.nD Cert.FullIdeal.τ Cert.FullIdeal.sig) → Buf (Elt Ideal) ℓ) (g : Dev Cert.FullIdeal.nD → PrngReg), Pre_FullIdeal m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
      ∧ r.2.mem ((c.tc : Thread Cert.FullIdeal.nD Cert.FullIdeal.τ).loc Cert.FullIdeal.main_arg4) = m ((c.tc : Thread Cert.FullIdeal.nD Cert.FullIdeal.τ).loc Cert.FullIdeal.main_arg4))
      ∧ r.2.sem = fun _ => 0)

def quiescent_FullIdeal_pre_finite_logits [hFullIdeal : Cert.FullIdeal.Facts] [hPre_finite_logits : Cert.Pre_finite_logits.Facts] : Prop :=
  ∀ (m : (ℓ : Loc Cert.FullIdeal.nD Cert.FullIdeal.τ Cert.FullIdeal.sig) → Buf (Elt Ideal) ℓ) (g : Dev Cert.FullIdeal.nD → PrngReg), Pre_FullIdeal_finite_logits m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
      ∧ r.2.mem ((c.tc : Thread Cert.FullIdeal.nD Cert.FullIdeal.τ).loc Cert.FullIdeal.main_arg4) = m ((c.tc : Thread Cert.FullIdeal.nD Cert.FullIdeal.τ).loc Cert.FullIdeal.main_arg4))
      ∧ r.2.sem = fun _ => 0)

def quiescent_FullRefIdeal [hFullRefIdeal : Cert.FullRefIdeal.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0)
      ∧ r.2.mem ((c.tc : Thread Cert.FullRefIdeal.nD Cert.FullRefIdeal.τ).loc Cert.FullRefIdeal.main_arg1) = m ((c.tc : Thread Cert.FullRefIdeal.nD Cert.FullRefIdeal.τ).loc Cert.FullRefIdeal.main_arg1)
      ∧ r.2.mem ((c.tc : Thread Cert.FullRefIdeal.nD Cert.FullRefIdeal.τ).loc Cert.FullRefIdeal.main_arg2) = m ((c.tc : Thread Cert.FullRefIdeal.nD Cert.FullRefIdeal.τ).loc Cert.FullRefIdeal.main_arg2)
      ∧ r.2.mem ((c.tc : Thread Cert.FullRefIdeal.nD Cert.FullRefIdeal.τ).loc Cert.FullRefIdeal.main_arg3) = m ((c.tc : Thread Cert.FullRefIdeal.nD Cert.FullRefIdeal.τ).loc Cert.FullRefIdeal.main_arg3)
      ∧ r.2.mem ((c.tc : Thread Cert.FullRefIdeal.nD Cert.FullRefIdeal.τ).loc Cert.FullRefIdeal.main_arg4) = m ((c.tc : Thread Cert.FullRefIdeal.nD Cert.FullRefIdeal.τ).loc Cert.FullRefIdeal.main_arg4))
      ∧ r.2.sem = fun _ => 0)

def quiescent_FullRefIdeal_pre_finite_logits [hFullRefIdeal : Cert.FullRefIdeal.Facts] [hPre_finite_logits : Cert.Pre_finite_logits.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal_finite_logits m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0)
      ∧ r.2.mem ((c.tc : Thread Cert.FullRefIdeal.nD Cert.FullRefIdeal.τ).loc Cert.FullRefIdeal.main_arg1) = m ((c.tc : Thread Cert.FullRefIdeal.nD Cert.FullRefIdeal.τ).loc Cert.FullRefIdeal.main_arg1)
      ∧ r.2.mem ((c.tc : Thread Cert.FullRefIdeal.nD Cert.FullRefIdeal.τ).loc Cert.FullRefIdeal.main_arg2) = m ((c.tc : Thread Cert.FullRefIdeal.nD Cert.FullRefIdeal.τ).loc Cert.FullRefIdeal.main_arg2)
      ∧ r.2.mem ((c.tc : Thread Cert.FullRefIdeal.nD Cert.FullRefIdeal.τ).loc Cert.FullRefIdeal.main_arg3) = m ((c.tc : Thread Cert.FullRefIdeal.nD Cert.FullRefIdeal.τ).loc Cert.FullRefIdeal.main_arg3)
      ∧ r.2.mem ((c.tc : Thread Cert.FullRefIdeal.nD Cert.FullRefIdeal.τ).loc Cert.FullRefIdeal.main_arg4) = m ((c.tc : Thread Cert.FullRefIdeal.nD Cert.FullRefIdeal.τ).loc Cert.FullRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_tiles_in_range : Cert.Pre_tiles_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v38) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Win_WinIdeal : Prop :=
  IdealRules.named_const.Statement Cert.WinIdeal.κ "q_mult" .f32 0x3E38AA3B#32 (((8 * (Real.log 2))⁻¹ : ℝ) : EReal)
  ∧ IdealRules.named_const.Statement Cert.WinIdeal.κ "mask" .f32 0xF149F2CA#32 ⊥
  ∧ IdealRules.named_const.Statement Cert.WinIdeal.κ "log2_e" .f32 0x3FB8AA3B#32 (((Real.log 2)⁻¹ : ℝ) : EReal)

def algebraic_WinIdeal_WinRefIdeal_pre_finite_scores [hWinIdeal : Cert.WinIdeal.Facts] [hWinRefIdeal : Cert.WinRefIdeal.Facts] [hPre_finite_scores : Cert.Pre_finite_scores.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_scores m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)) →
    ∃ (v0 : (c : Dev Cert.WinIdeal.nD) → Buf (Elt Ideal) ((c.tc : Thread Cert.WinIdeal.nD Cert.WinIdeal.τ).loc Cert.WinIdeal.main_v40)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v40) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v89) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def preserves_Full_FullIdeal : Prop :=
  IdealRules.named_const.Statement Cert.FullIdeal.κ "q_mult" .f32 0x3E38AA3B#32 (((8 * (Real.log 2))⁻¹ : ℝ) : EReal)

def algebraic_FullIdeal_FullRefIdeal_pre_finite_logits [hFullIdeal : Cert.FullIdeal.Facts] [hFullRefIdeal : Cert.FullRefIdeal.Facts] [hPre_finite_logits : Cert.Pre_finite_logits.Facts] : Prop :=
  ∀ (m : (ℓ : Loc Cert.FullIdeal.nD Cert.FullIdeal.τ Cert.FullIdeal.sig) → Buf (Elt Ideal) ℓ) (g : Dev Cert.FullIdeal.nD → PrngReg)
    (m' : (ℓ : Loc Cert.FullRefIdeal.nD Cert.FullRefIdeal.τ Cert.FullRefIdeal.sig) → Buf (Elt Ideal) ℓ) (g' : Dev Cert.FullRefIdeal.nD → PrngReg), Pre_FullIdeal_finite_logits m →
    (∀ c : Dev Cert.FullIdeal.nD,
      m' ((c.tc : Thread Cert.FullRefIdeal.nD Cert.FullRefIdeal.τ).loc Cert.FullRefIdeal.main_arg0) = m ((c.tc : Thread Cert.FullIdeal.nD Cert.FullIdeal.τ).loc Cert.FullIdeal.main_arg0)
      ∧ m' ((c.tc : Thread Cert.FullRefIdeal.nD Cert.FullRefIdeal.τ).loc Cert.FullRefIdeal.main_arg1) = m ((c.tc : Thread Cert.FullIdeal.nD Cert.FullIdeal.τ).loc Cert.FullIdeal.main_arg1)
      ∧ m' ((c.tc : Thread Cert.FullRefIdeal.nD Cert.FullRefIdeal.τ).loc Cert.FullRefIdeal.main_arg2) = m ((c.tc : Thread Cert.FullIdeal.nD Cert.FullIdeal.τ).loc Cert.FullIdeal.main_arg2)
      ∧ m' ((c.tc : Thread Cert.FullRefIdeal.nD Cert.FullRefIdeal.τ).loc Cert.FullRefIdeal.main_arg3) = m ((c.tc : Thread Cert.FullIdeal.nD Cert.FullIdeal.τ).loc Cert.FullIdeal.main_arg3)
      ∧ m' ((c.tc : Thread Cert.FullRefIdeal.nD Cert.FullRefIdeal.τ).loc Cert.FullRefIdeal.main_arg4) = m ((c.tc : Thread Cert.FullIdeal.nD Cert.FullIdeal.τ).loc Cert.FullIdeal.main_arg4)) →
    ∃ (v0 : (c : Dev Cert.FullIdeal.nD) → Buf (Elt Ideal) ((c.tc : Thread Cert.FullIdeal.nD Cert.FullIdeal.τ).loc Cert.FullIdeal.main_v16)),
      θ_run (Cert.FullIdeal.defs (F := Ideal)) (onTc (τ := Cert.FullIdeal.τ) (Cert.FullIdeal.main (F := Ideal))) ⟨m, fun _ => 0, g⟩ (fun r => ∀ c : Dev Cert.FullIdeal.nD,
          r.2.mem ((c.tc : Thread Cert.FullIdeal.nD Cert.FullIdeal.τ).loc Cert.FullIdeal.main_v16) = v0 c
          ∧ r.2.mem ((c.tc : Thread Cert.FullIdeal.nD Cert.FullIdeal.τ).loc Cert.FullIdeal.main_arg0) = m ((c.tc : Thread Cert.FullIdeal.nD Cert.FullIdeal.τ).loc Cert.FullIdeal.main_arg0)
          ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
          ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
          ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
          ∧ r.2.mem ((c.tc : Thread Cert.FullIdeal.nD Cert.FullIdeal.τ).loc Cert.FullIdeal.main_arg4) = m ((c.tc : Thread Cert.FullIdeal.nD Cert.FullIdeal.τ).loc Cert.FullIdeal.main_arg4))
      ∧ θ_run (Cert.FullRefIdeal.defs (F := Ideal)) (onTc (τ := Cert.FullRefIdeal.τ) (Cert.FullRefIdeal.main (F := Ideal))) ⟨m', fun _ => 0, g'⟩ (fun r => ∀ c : Dev Cert.FullRefIdeal.nD,
          r.2.mem ((c.tc : Thread Cert.FullRefIdeal.nD Cert.FullRefIdeal.τ).loc Cert.FullRefIdeal.main_v26) = v0 c
          ∧ r.2.mem ((c.tc : Thread Cert.FullRefIdeal.nD Cert.FullRefIdeal.τ).loc Cert.FullRefIdeal.main_arg0) = m' ((c.tc : Thread Cert.FullRefIdeal.nD Cert.FullRefIdeal.τ).loc Cert.FullRefIdeal.main_arg0)
          ∧ r.2.mem ((c.tc : Thread Cert.FullRefIdeal.nD Cert.FullRefIdeal.τ).loc Cert.FullRefIdeal.main_arg1) = m' ((c.tc : Thread Cert.FullRefIdeal.nD Cert.FullRefIdeal.τ).loc Cert.FullRefIdeal.main_arg1)
          ∧ r.2.mem ((c.tc : Thread Cert.FullRefIdeal.nD Cert.FullRefIdeal.τ).loc Cert.FullRefIdeal.main_arg2) = m' ((c.tc : Thread Cert.FullRefIdeal.nD Cert.FullRefIdeal.τ).loc Cert.FullRefIdeal.main_arg2)
          ∧ r.2.mem ((c.tc : Thread Cert.FullRefIdeal.nD Cert.FullRefIdeal.τ).loc Cert.FullRefIdeal.main_arg3) = m' ((c.tc : Thread Cert.FullRefIdeal.nD Cert.FullRefIdeal.τ).loc Cert.FullRefIdeal.main_arg3)
          ∧ r.2.mem ((c.tc : Thread Cert.FullRefIdeal.nD Cert.FullRefIdeal.τ).loc Cert.FullRefIdeal.main_arg4) = m' ((c.tc : Thread Cert.FullRefIdeal.nD Cert.FullRefIdeal.τ).loc Cert.FullRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v58_0)) (v1 : (c : Dev Cert.ProjIdeal.nD) → Buf (Elt Ideal) ((c.tc : Thread Cert.ProjIdeal.nD Cert.ProjIdeal.τ).loc Cert.ProjIdeal.main_v58_1)) (v2 : (c : Dev Cert.ProjIdeal.nD) → Buf (Elt Ideal) ((c.tc : Thread Cert.ProjIdeal.nD Cert.ProjIdeal.τ).loc Cert.ProjIdeal.main_v58_2)) (v3 : (c : Dev Cert.ProjIdeal.nD) → Buf (Elt Ideal) ((c.tc : Thread Cert.ProjIdeal.nD Cert.ProjIdeal.τ).loc Cert.ProjIdeal.main_v58_3)) (v4 : (c : Dev Cert.ProjIdeal.nD) → Buf (Elt Ideal) ((c.tc : Thread Cert.ProjIdeal.nD Cert.ProjIdeal.τ).loc Cert.ProjIdeal.main_v58_4)) (v5 : (c : Dev Cert.ProjIdeal.nD) → Buf (Elt Ideal) ((c.tc : Thread Cert.ProjIdeal.nD Cert.ProjIdeal.τ).loc Cert.ProjIdeal.main_v58_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v58_0) = v0 c
          ∧ r.2.mem ((c.tc : Thread Cert.ProjIdeal.nD Cert.ProjIdeal.τ).loc Cert.ProjIdeal.main_v58_1) = v1 c
          ∧ r.2.mem ((c.tc : Thread Cert.ProjIdeal.nD Cert.ProjIdeal.τ).loc Cert.ProjIdeal.main_v58_2) = v2 c
          ∧ r.2.mem ((c.tc : Thread Cert.ProjIdeal.nD Cert.ProjIdeal.τ).loc Cert.ProjIdeal.main_v58_3) = v3 c
          ∧ r.2.mem ((c.tc : Thread Cert.ProjIdeal.nD Cert.ProjIdeal.τ).loc Cert.ProjIdeal.main_v58_4) = v4 c
          ∧ r.2.mem ((c.tc : Thread Cert.ProjIdeal.nD Cert.ProjIdeal.τ).loc Cert.ProjIdeal.main_v58_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v97) = v0 c
          ∧ r.2.mem ((c.tc : Thread Cert.ProjRefIdeal.nD Cert.ProjRefIdeal.τ).loc Cert.ProjRefIdeal.main_v173) = v1 c
          ∧ r.2.mem ((c.tc : Thread Cert.ProjRefIdeal.nD Cert.ProjRefIdeal.τ).loc Cert.ProjRefIdeal.main_v181) = v2 c
          ∧ r.2.mem ((c.tc : Thread Cert.ProjRefIdeal.nD Cert.ProjRefIdeal.τ).loc Cert.ProjRefIdeal.main_v25) = v3 c
          ∧ r.2.mem ((c.tc : Thread Cert.ProjRefIdeal.nD Cert.ProjRefIdeal.τ).loc Cert.ProjRefIdeal.main_v182) = v4 c
          ∧ r.2.mem ((c.tc : Thread Cert.ProjRefIdeal.nD Cert.ProjRefIdeal.τ).loc Cert.ProjRefIdeal.main_v183) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)) →
    ∃ (v0 : (c : Dev Cert.OddIdeal.nD) → Buf (Elt Ideal) ((c.tc : Thread Cert.OddIdeal.nD Cert.OddIdeal.τ).loc Cert.OddIdeal.main_v73_0)) (v1 : (c : Dev Cert.OddIdeal.nD) → Buf (Elt Ideal) ((c.tc : Thread Cert.OddIdeal.nD Cert.OddIdeal.τ).loc Cert.OddIdeal.main_v73_1)) (v2 : (c : Dev Cert.OddIdeal.nD) → Buf (Elt Ideal) ((c.tc : Thread Cert.OddIdeal.nD Cert.OddIdeal.τ).loc Cert.OddIdeal.main_v73_2)) (v3 : (c : Dev Cert.OddIdeal.nD) → Buf (Elt Ideal) ((c.tc : Thread Cert.OddIdeal.nD Cert.OddIdeal.τ).loc Cert.OddIdeal.main_v73_3)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v73_0) = v0 c
          ∧ r.2.mem ((c.tc : Thread Cert.OddIdeal.nD Cert.OddIdeal.τ).loc Cert.OddIdeal.main_v73_1) = v1 c
          ∧ r.2.mem ((c.tc : Thread Cert.OddIdeal.nD Cert.OddIdeal.τ).loc Cert.OddIdeal.main_v73_2) = v2 c
          ∧ r.2.mem ((c.tc : Thread Cert.OddIdeal.nD Cert.OddIdeal.τ).loc Cert.OddIdeal.main_v73_3) = v3 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v108) = v0 c
          ∧ r.2.mem ((c.tc : Thread Cert.OddRefIdeal.nD Cert.OddRefIdeal.τ).loc Cert.OddRefIdeal.main_v197) = v1 c
          ∧ r.2.mem ((c.tc : Thread Cert.OddRefIdeal.nD Cert.OddRefIdeal.τ).loc Cert.OddRefIdeal.main_v205) = v2 c
          ∧ r.2.mem ((c.tc : Thread Cert.OddRefIdeal.nD Cert.OddRefIdeal.τ).loc Cert.OddRefIdeal.main_v25) = v3 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)) →
    ∃ (v0 : (c : Dev Cert.CtxIdeal.nD) → Buf (Elt Ideal) ((c.tc : Thread Cert.CtxIdeal.nD Cert.CtxIdeal.τ).loc Cert.CtxIdeal.main_v15_0)) (v1 : (c : Dev Cert.CtxIdeal.nD) → Buf (Elt Ideal) ((c.tc : Thread Cert.CtxIdeal.nD Cert.CtxIdeal.τ).loc Cert.CtxIdeal.main_v15_1)) (v2 : (c : Dev Cert.CtxIdeal.nD) → Buf (Elt Ideal) ((c.tc : Thread Cert.CtxIdeal.nD Cert.CtxIdeal.τ).loc Cert.CtxIdeal.main_v15_2)) (v3 : (c : Dev Cert.CtxIdeal.nD) → Buf (Elt Ideal) ((c.tc : Thread Cert.CtxIdeal.nD Cert.CtxIdeal.τ).loc Cert.CtxIdeal.main_v15_3)) (v4 : (c : Dev Cert.CtxIdeal.nD) → Buf (Elt Ideal) ((c.tc : Thread Cert.CtxIdeal.nD Cert.CtxIdeal.τ).loc Cert.CtxIdeal.main_v15_4)) (v5 : (c : Dev Cert.CtxIdeal.nD) → Buf (Elt Ideal) ((c.tc : Thread Cert.CtxIdeal.nD Cert.CtxIdeal.τ).loc Cert.CtxIdeal.main_v15_5)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v15_0) = v0 c
          ∧ r.2.mem ((c.tc : Thread Cert.CtxIdeal.nD Cert.CtxIdeal.τ).loc Cert.CtxIdeal.main_v15_1) = v1 c
          ∧ r.2.mem ((c.tc : Thread Cert.CtxIdeal.nD Cert.CtxIdeal.τ).loc Cert.CtxIdeal.main_v15_2) = v2 c
          ∧ r.2.mem ((c.tc : Thread Cert.CtxIdeal.nD Cert.CtxIdeal.τ).loc Cert.CtxIdeal.main_v15_3) = v3 c
          ∧ r.2.mem ((c.tc : Thread Cert.CtxIdeal.nD Cert.CtxIdeal.τ).loc Cert.CtxIdeal.main_v15_4) = v4 c
          ∧ r.2.mem ((c.tc : Thread Cert.CtxIdeal.nD Cert.CtxIdeal.τ).loc Cert.CtxIdeal.main_v15_5) = v5 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v22) = v0 c
          ∧ r.2.mem ((c.tc : Thread Cert.CtxRefIdeal.nD Cert.CtxRefIdeal.τ).loc Cert.CtxRefIdeal.main_v35) = v1 c
          ∧ r.2.mem ((c.tc : Thread Cert.CtxRefIdeal.nD Cert.CtxRefIdeal.τ).loc Cert.CtxRefIdeal.main_v43) = v2 c
          ∧ r.2.mem ((c.tc : Thread Cert.CtxRefIdeal.nD Cert.CtxRefIdeal.τ).loc Cert.CtxRefIdeal.main_v25) = v3 c
          ∧ r.2.mem ((c.tc : Thread Cert.CtxRefIdeal.nD Cert.CtxRefIdeal.τ).loc Cert.CtxRefIdeal.main_v44) = v4 c
          ∧ r.2.mem ((c.tc : Thread Cert.CtxRefIdeal.nD Cert.CtxRefIdeal.τ).loc Cert.CtxRefIdeal.main_v45) = v5 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v27_0)) (v1 : (c : Dev Cert.LastIdeal.nD) → Buf (Elt Ideal) ((c.tc : Thread Cert.LastIdeal.nD Cert.LastIdeal.τ).loc Cert.LastIdeal.main_v27_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v27_0) = v0 c
          ∧ r.2.mem ((c.tc : Thread Cert.LastIdeal.nD Cert.LastIdeal.τ).loc Cert.LastIdeal.main_v27_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v46) = v0 c
          ∧ r.2.mem ((c.tc : Thread Cert.LastRefIdeal.nD Cert.LastRefIdeal.τ).loc Cert.LastRefIdeal.main_v54) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def Claim : Prop :=
  ∃ (hMoe : Cert.Moe.Facts) (hMoeIdeal : Cert.MoeIdeal.Facts) (hMoeRefIdeal : Cert.MoeRefIdeal.Facts) (hWin : Cert.Win.Facts) (hWinIdeal : Cert.WinIdeal.Facts) (hWinRefIdeal : Cert.WinRefIdeal.Facts) (hFull : Cert.Full.Facts) (hFullIdeal : Cert.FullIdeal.Facts) (hFullRefIdeal : Cert.FullRefIdeal.Facts) (hProj : Cert.Proj.Facts) (hProjIdeal : Cert.ProjIdeal.Facts) (hProjRefIdeal : Cert.ProjRefIdeal.Facts) (hOdd : Cert.Odd.Facts) (hOddIdeal : Cert.OddIdeal.Facts) (hOddRefIdeal : Cert.OddRefIdeal.Facts) (hCtx : Cert.Ctx.Facts) (hCtxIdeal : Cert.CtxIdeal.Facts) (hCtxRefIdeal : Cert.CtxRefIdeal.Facts) (hLast : Cert.Last.Facts) (hLastIdeal : Cert.LastIdeal.Facts) (hLastRefIdeal : Cert.LastRefIdeal.Facts) (hPre_tiles_in_range : Cert.Pre_tiles_in_range.Facts) (hPre_finite_scores : Cert.Pre_finite_scores.Facts) (hPre_finite_logits : Cert.Pre_finite_logits.Facts),
    quiescent_Moe (hMoe := hMoe) (hPre_tiles_in_range := hPre_tiles_in_range)
    ∧ quiescent_MoeIdeal (hMoeIdeal := hMoeIdeal) (hPre_tiles_in_range := hPre_tiles_in_range)
    ∧ quiescent_MoeRefIdeal (hMoeRefIdeal := hMoeRefIdeal) (hPre_tiles_in_range := hPre_tiles_in_range)
    ∧ quiescent_Win (hWin := hWin)
    ∧ quiescent_WinIdeal (hWinIdeal := hWinIdeal)
    ∧ quiescent_WinIdeal_pre_finite_scores (hWinIdeal := hWinIdeal) (hPre_finite_scores := hPre_finite_scores)
    ∧ quiescent_WinRefIdeal (hWinRefIdeal := hWinRefIdeal)
    ∧ quiescent_WinRefIdeal_pre_finite_scores (hWinRefIdeal := hWinRefIdeal) (hPre_finite_scores := hPre_finite_scores)
    ∧ quiescent_Full (hFull := hFull)
    ∧ quiescent_FullIdeal (hFullIdeal := hFullIdeal)
    ∧ quiescent_FullIdeal_pre_finite_logits (hFullIdeal := hFullIdeal) (hPre_finite_logits := hPre_finite_logits)
    ∧ quiescent_FullRefIdeal (hFullRefIdeal := hFullRefIdeal)
    ∧ quiescent_FullRefIdeal_pre_finite_logits (hFullRefIdeal := hFullRefIdeal) (hPre_finite_logits := hPre_finite_logits)
    ∧ quiescent_Proj (hProj := hProj)
    ∧ quiescent_ProjIdeal (hProjIdeal := hProjIdeal)
    ∧ quiescent_ProjRefIdeal (hProjRefIdeal := hProjRefIdeal)
    ∧ quiescent_Odd (hOdd := hOdd)
    ∧ quiescent_OddIdeal (hOddIdeal := hOddIdeal)
    ∧ quiescent_OddRefIdeal (hOddRefIdeal := hOddRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Last (hLast := hLast)
    ∧ quiescent_LastIdeal (hLastIdeal := hLastIdeal)
    ∧ quiescent_LastRefIdeal (hLastRefIdeal := hLastRefIdeal)
    ∧ preserves_Moe_MoeIdeal
    ∧ algebraic_MoeIdeal_MoeRefIdeal (hMoeIdeal := hMoeIdeal) (hMoeRefIdeal := hMoeRefIdeal) (hPre_tiles_in_range := hPre_tiles_in_range)
    ∧ preserves_Win_WinIdeal
    ∧ algebraic_WinIdeal_WinRefIdeal_pre_finite_scores (hWinIdeal := hWinIdeal) (hWinRefIdeal := hWinRefIdeal) (hPre_finite_scores := hPre_finite_scores)
    ∧ preserves_Full_FullIdeal
    ∧ algebraic_FullIdeal_FullRefIdeal_pre_finite_logits (hFullIdeal := hFullIdeal) (hFullRefIdeal := hFullRefIdeal) (hPre_finite_logits := hPre_finite_logits)
    ∧ preserves_Proj_ProjIdeal
    ∧ algebraic_ProjIdeal_ProjRefIdeal (hProjIdeal := hProjIdeal) (hProjRefIdeal := hProjRefIdeal)
    ∧ preserves_Odd_OddIdeal
    ∧ algebraic_OddIdeal_OddRefIdeal (hOddIdeal := hOddIdeal) (hOddRefIdeal := hOddRefIdeal)
    ∧ preserves_Ctx_CtxIdeal
    ∧ algebraic_CtxIdeal_CtxRefIdeal (hCtxIdeal := hCtxIdeal) (hCtxRefIdeal := hCtxRefIdeal)
    ∧ preserves_Last_LastIdeal
    ∧ algebraic_LastIdeal_LastRefIdeal (hLastIdeal := hLastIdeal) (hLastRefIdeal := hLastRefIdeal)
-- ==== Pre_finite_logits.lean ====
abbrev S4x4096x512 : Shape := ⟨3, ![4, 4096, 512]⟩
abbrev S4x4096x128 : Shape := ⟨3, ![4, 4096, 128]⟩
abbrev S4x256x128 : Shape := ⟨3, ![4, 256, 128]⟩
abbrev S_ : Shape := ⟨0, ![]⟩

class Facts : Prop where
  bcast_S_S4x4096x512 : S_.BroadcastsInDim S4x4096x512 (![] : Fin 0 → Fin S4x4096x512.rank)
  bcast_S_S4x4096x128 : S_.BroadcastsInDim S4x4096x128 (![] : Fin 0 → Fin S4x4096x128.rank)
  bcast_S_S4x256x128 : S_.BroadcastsInDim S4x256x128 (![] : Fin 0 → Fin S4x256x128.rank)

variable [Facts]

def fn {F : FTy → Type} [FloatOps F] (main_arg0 : FVec F S4x4096x512 .f32) (main_arg1 : FVec F S4x4096x128 .f32) (main_arg2 : FVec F S4x4096x128 .f32) (main_arg3 : FVec F S4x256x128 .f32) (main_arg4 : FVec F S4x256x128 .f32) : IVec S4x4096x512 1 × IVec S4x4096x128 1 × IVec S4x256x128 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4x4096x128 .f32 := Host.absf main_arg1
  let main_cst_0 : FVec F S_ .f32 := constant S_ .f32 0x7F800000#32
  let main_v4 : FVec F S4x4096x128 .f32 := broadcastInDim S4x4096x128 ![] bcast_S_S4x4096x128 main_cst_0
  let main_v5 : IVec S4x4096x128 1 := cmpf .olt main_v3 main_v4
  let main_v6 : FVec F S4x256x128 .f32 := Host.absf main_arg3
  let main_cst_1 : FVec F S_ .f32 := constant S_ .f32 0x7F800000#32
  let main_v7 : FVec F S4x256x128 .f32 := broadcastInDim S4x256x128 ![] bcast_S_S4x256x128 main_cst_1
  let main_v8 : IVec S4x256x128 1 := cmpf .olt main_v6 main_v7
  (main_v2, main_v5, main_v8)
-- ==== Pre_finite_scores.lean ====
abbrev S4x4096x512 : Shape := ⟨3, ![4, 4096, 512]⟩
abbrev S4x4096x128 : Shape := ⟨3, ![4, 4096, 128]⟩
abbrev S4x256x128 : Shape := ⟨3, ![4, 256, 128]⟩
abbrev S8 : Shape := ⟨1, ![8]⟩
abbrev S_ : Shape := ⟨0, ![]⟩

class Facts : Prop where
  bcast_S_S4x4096x512 : S_.BroadcastsInDim S4x4096x512 (![] : Fin 0 → Fin S4x4096x512.rank)
  bcast_S_S4x4096x128 : S_.BroadcastsInDim S4x4096x128 (![] : Fin 0 → Fin S4x4096x128.rank)
  bcast_S_S4x256x128 : S_.BroadcastsInDim S4x256x128 (![] : Fin 0 → Fin S4x256x128.rank)
  bcast_S_S8 : S_.BroadcastsInDim S8 (![] : Fin 0 → Fin S8.rank)

variable [Facts]

def fn {F : FTy → Type} [FloatOps F] (main_arg0 : FVec F S4x4096x512 .f32) (main_arg1 : FVec F S4x4096x128 .f32) (main_arg2 : FVec F S4x4096x128 .f32) (main_arg3 : FVec F S4x256x128 .f32) (main_arg4 : FVec F S4x256x128 .f32) (main_arg5 : FVec F S8 .f32) : IVec S4x4096x512 1 × IVec S4x4096x128 1 × IVec S4x256x128 1 × IVec S8 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4x4096x128 .f32 := Host.absf main_arg1
  let main_cst_0 : FVec F S_ .f32 := constant S_ .f32 0x7F800000#32
  let main_v4 : FVec F S4x4096x128 .f32 := broadcastInDim S4x4096x128 ![] bcast_S_S4x4096x128 main_cst_0
  let main_v5 : IVec S4x4096x128 1 := cmpf .olt main_v3 main_v4
  let main_v6 : FVec F S4x256x128 .f32 := Host.absf main_arg3
  let main_cst_1 : FVec F S_ .f32 := constant S_ .f32 0x7F800000#32
  let main_v7 : FVec F S4x256x128 .f32 := broadcastInDim S4x256x128 ![] bcast_S_S4x256x128 main_cst_1
  let main_v8 : IVec S4x256x128 1 := cmpf .olt main_v6 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Pre_tiles_in_range.lean ====
abbrev S56 : Shape := ⟨1, ![56]⟩
abbrev S1 : Shape := ⟨1, ![1]⟩
abbrev S57344x1024 : Shape := ⟨2, ![57344, 1024]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S56 : S_.BroadcastsInDim S56 (![] : Fin 0 → Fin S56.rank)
  bcast_S_S1 : S_.BroadcastsInDim S1 (![] : Fin 0 → Fin S1.rank)

variable [Facts]

def fn {F : FTy → Type} [FloatOps F] (main_arg0 : IVec S56 32) (main_arg1 : IVec S1 32) (main_arg2 : FVec F S57344x1024 .bf16) (main_arg3 : FVec F S2x16x1024x512 .f32) (main_arg4 : FVec F S2x16x1024x512 .f32) (main_arg5 : FVec F S2x16x512x1024 .f32) : IVec S56 1 × IVec S1 1 :=
  let main_c : IVec S_ 32 := constantI S_ 32 0#32
  let main_v0 : IVec S56 32 := broadcastInDim S56 ![] bcast_S_S56 main_c
  let main_v1 : IVec S56 1 := cmpi .sge main_arg0 main_v0
  let main_c_0 : IVec S_ 32 := constantI S_ 32 16#32
  let main_v2 : IVec S56 32 := broadcastInDim S56 ![] bcast_S_S56 main_c_0
  let main_v3 : IVec S56 1 := cmpi .slt main_arg0 main_v2
  let main_v4 : IVec S56 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Moe.lean ====
abbrev S56 : Shape := ⟨1, ![56]⟩
abbrev S1 : Shape := ⟨1, ![1]⟩
abbrev S57344x1024 : Shape := ⟨2, ![57344, 1024]⟩
abbrev S2x16x1024x512 : Shape := ⟨4, ![2, 16, 1024, 512]⟩
abbrev S2x16x512x1024 : Shape := ⟨4, ![2, 16, 512, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 5
  | .vmem => 13
  | .smem => 2
  | _ => 0

abbrev bufTy : (tb : Table) → Fin (tcTables nBuf tb) → BufTy
  | .hbm, ⟨0, _⟩ => ⟨S57344x1024, .bf16⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S57344x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S56, .i32⟩
  | .local _ .smem, ⟨1, _⟩ => ⟨S1, .i32⟩
  | _, _ => ⟨S57344x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![56], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S56.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S56) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S56.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S56) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S56.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S56) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S56 : Shape := ⟨1, ![56]⟩
abbrev S1 : Shape := ⟨1, ![1]⟩
abbrev S57344x1024 : Shape := ⟨2, ![57344, 1024]⟩
abbrev S2x16x1024x512 : Shape := ⟨4, ![2, 16, 1024, 512]⟩
abbrev S2x16x512x1024 : Shape := ⟨4, ![2, 16, 512, 1024]⟩
abbrev S56x1024 : Shape := ⟨2, ![56, 1024]⟩
abbrev S57344 : Shape := ⟨1, ![57344]⟩
abbrev S_ : Shape := ⟨0, ![]⟩
abbrev S57344x1 : Shape := ⟨2, ![57344, 1]⟩
abbrev S16 : Shape := ⟨1, ![16]⟩
abbrev S1x16 : Shape := ⟨2, ![1, 16]⟩
abbrev S57344x16 : Shape := ⟨2, ![57344, 16]⟩
abbrev S1x16x1024x512 : Shape := ⟨4, ![1, 16, 1024, 512]⟩
abbrev S16x1024x512 : Shape := ⟨3, ![16, 1024, 512]⟩
abbrev S16x512x57344 : Shape := ⟨3, ![16, 512, 57344]⟩
abbrev S16x57344x512 : Shape := ⟨3, ![16, 57344, 512]⟩
abbrev S1x16x512x1024 : Shape := ⟨4, ![1, 16, 512, 1024]⟩
abbrev S16x512x1024 : Shape := ⟨3, ![16, 512, 1024]⟩
abbrev S16x57344x1024 : Shape := ⟨3, ![16, 57344, 1024]⟩
abbrev S16x57344 : Shape := ⟨2, ![16, 57344]⟩
abbrev S16x57344x1 : Shape := ⟨3, ![16, 57344, 1]⟩

abbrev nBuf : Space → Nat
  | .hbm => 58
  | .vmem => 0
  | .smem => 0
  | _ => 0

abbrev bufTy : (tb : Table) → Fin (tcTables nBuf tb) → BufTy
  | .hbm, ⟨0, _⟩ => ⟨S56, .i32⟩
  | .hbm, ⟨1, _⟩ => ⟨S1, .i32⟩
  | .hbm, ⟨2, _⟩ => ⟨S57344x1024, .bf16⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S57344x1024, .f32⟩
  | .hbm, ⟨7, _⟩ => ⟨S56, .i32⟩
  | .hbm, ⟨8, _⟩ => ⟨S56x1024, .i32⟩
  | .hbm, ⟨9, _⟩ => ⟨S57344, .i32⟩
  | .hbm, ⟨10, _⟩ => ⟨S_, .i32⟩
  | .hbm, ⟨11, _⟩ => ⟨S57344, .i32⟩
  | .hbm, ⟨12, _⟩ => ⟨S57344, .i1⟩
  | .hbm, ⟨13, _⟩ => ⟨S57344x1, .i1⟩
  | .hbm, ⟨14, _⟩ => ⟨S56x1024, .i32⟩
  | .hbm, ⟨15, _⟩ => ⟨S57344, .i32⟩
  | .hbm, ⟨16, _⟩ => ⟨S57344x1, .i32⟩
  | .hbm, ⟨17, _⟩ => ⟨S16, .i32⟩
  | .hbm, ⟨18, _⟩ => ⟨S1x16, .i32⟩
  | .hbm, ⟨19, _⟩ => ⟨S57344x16, .i32⟩
  | .hbm, ⟨20, _⟩ => ⟨S57344x16, .i32⟩
  | .hbm, ⟨21, _⟩ => ⟨S57344x16, .i1⟩
  | .hbm, ⟨22, _⟩ => ⟨S57344x16, .i1⟩
  | .hbm, ⟨23, _⟩ => ⟨S57344x16, .i1⟩
  | .hbm, ⟨24, _⟩ => ⟨S_, .f32⟩
  | .hbm, ⟨25, _⟩ => ⟨S_, .f32⟩
  | .hbm, ⟨26, _⟩ => ⟨S57344x16, .f32⟩
  | .hbm, ⟨27, _⟩ => ⟨S57344x16, .f32⟩
  | .hbm, ⟨28, _⟩ => ⟨S57344x16, .f32⟩
  | .hbm, ⟨29, _⟩ => ⟨S1x16x1024x512, .f32⟩
  | .hbm, ⟨30, _⟩ => ⟨S16x1024x512, .f32⟩
  | .hbm, ⟨31, _⟩ => ⟨S16x512x57344, .f32⟩
  | .hbm, ⟨32, _⟩ => ⟨S16x57344x512, .f32⟩
  | .hbm, ⟨33, _⟩ => ⟨S16x57344x512, .f32⟩
  | .hbm, ⟨34, _⟩ => ⟨S16x57344x512, .f32⟩
  | .hbm, ⟨35, _⟩ => ⟨S_, .f32⟩
  | .hbm, ⟨36, _⟩ => ⟨S16x57344x512, .f32⟩
  | .hbm, ⟨37, _⟩ => ⟨S16x57344x512, .f32⟩
  | .hbm, ⟨38, _⟩ => ⟨S_, .f32⟩
  | .hbm, ⟨39, _⟩ => ⟨S16x57344x512, .f32⟩
  | .hbm, ⟨40, _⟩ => ⟨S16x57344x512, .f32⟩
  | .hbm, ⟨41, _⟩ => ⟨S16x57344x512, .f32⟩
  | .hbm, ⟨42, _⟩ => ⟨S1x16x1024x512, .f32⟩
  | .hbm, ⟨43, _⟩ => ⟨S16x1024x512, .f32⟩
  | .hbm, ⟨44, _⟩ => ⟨S16x512x57344, .f32⟩
  | .hbm, ⟨45, _⟩ => ⟨S16x57344x512, .f32⟩
  | .hbm, ⟨46, _⟩ => ⟨S16x57344x512, .f32⟩
  | .hbm, ⟨47, _⟩ => ⟨S1x16x512x1024, .f32⟩
  | .hbm, ⟨48, _⟩ => ⟨S16x512x1024, .f32⟩
  | .hbm, ⟨49, _⟩ => ⟨S16x57344x1024, .f32⟩
  | .hbm, ⟨50, _⟩ => ⟨S16x57344, .f32⟩
  | .hbm, ⟨51, _⟩ => ⟨S16x57344x1, .f32⟩
  | .hbm, ⟨52, _⟩ => ⟨S16x57344x1, .f32⟩
  | .hbm, ⟨53, _⟩ => ⟨S16x57344x1024, .f32⟩
  | .hbm, ⟨54, _⟩ => ⟨S16x57344x1024, .f32⟩
  | .hbm, ⟨55, _⟩ => ⟨S_, .f32⟩
  | .hbm, ⟨56, _⟩ => ⟨S57344x1024, .f32⟩
  | .hbm, ⟨57, _⟩ => ⟨S57344x1024, .bf16⟩
  | _, _ => ⟨S56, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Win.lean ====
abbrev S4x4096x512 : Shape := ⟨3, ![4, 4096, 512]⟩
abbrev S4x4096x128 : Shape := ⟨3, ![4, 4096, 128]⟩
abbrev S4x256x128 : Shape := ⟨3, ![4, 256, 128]⟩
abbrev S8 : Shape := ⟨1, ![8]⟩
abbrev S4x4096x64 : Shape := ⟨3, ![4, 4096, 64]⟩
abbrev S4x4096x256 : Shape := ⟨3, ![4, 4096, 256]⟩
abbrev S4x256x64 : Shape := ⟨3, ![4, 256, 64]⟩
abbrev S4x256x256 : Shape := ⟨3, ![4, 256, 256]⟩
abbrev S3x512x384 : Shape := ⟨3, ![3, 512, 384]⟩
abbrev S_ : Shape := ⟨0, ![]⟩
abbrev S1x128x512 : Shape := ⟨3, ![1, 128, 512]⟩
abbrev S1x128x256 : Shape := ⟨3, ![1, 128, 256]⟩
abbrev S1x256x256 : Shape := ⟨3, ![1, 256, 256]⟩
abbrev S1x512x384 : Shape := ⟨3, ![1, 512, 384]⟩
abbrev S128x512 : Shape := ⟨2, ![128, 512]⟩
abbrev S512x384 : Shape := ⟨2, ![512, 384]⟩
abbrev S128x256 : Shape := ⟨2, ![128, 256]⟩
abbrev S128x128 : Shape := ⟨2, ![128, 128]⟩
abbrev S384x128 : Shape := ⟨2, ![384, 128]⟩
abbrev S256x128 : Shape := ⟨2, ![256, 128]⟩
abbrev S512x128 : Shape := ⟨2, ![512, 128]⟩
abbrev S256x256 : Shape := ⟨2, ![256, 256]⟩
abbrev S512x256 : Shape := ⟨2, ![512, 256]⟩
abbrev S512x1 : Shape := ⟨2, ![512, 1]⟩
abbrev S1 : Shape := ⟨1, ![1]⟩
abbrev S512 : Shape := ⟨1, ![512]⟩

abbrev nBuf : Space → Nat
  | .hbm => 58
  | .vmem => 22
  | .smem => 1
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S8, .f32⟩
  | .hbm, ⟨6, _⟩ => ⟨S4x4096x64, .f32⟩
  | .hbm, ⟨7, _⟩ => ⟨S4x4096x64, .f32⟩
  | .hbm, ⟨8, _⟩ => ⟨S4x4096x256, .f32⟩
  | .hbm, ⟨9, _⟩ => ⟨S4x4096x256, .bf16⟩
  | .hbm, ⟨10, _⟩ => ⟨S4x4096x64, .f32⟩
  | .hbm, ⟨11, _⟩ => ⟨S4x4096x64, .f32⟩
  | .hbm, ⟨12, _⟩ => ⟨S4x4096x256, .f32⟩
  | .hbm, ⟨13, _⟩ => ⟨S4x4096x256, .bf16⟩
  | .hbm, ⟨14, _⟩ => ⟨S4x256x64, .f32⟩
  | .hbm, ⟨15, _⟩ => ⟨S4x256x64, .f32⟩
  | .hbm, ⟨16, _⟩ => ⟨S4x256x256, .f32⟩
  | .hbm, ⟨17, _⟩ => ⟨S4x256x256, .bf16⟩
  | .hbm, ⟨18, _⟩ => ⟨S4x256x64, .f32⟩
  | .hbm, ⟨19, _⟩ => ⟨S4x256x64, .f32⟩
  | .hbm, ⟨20, _⟩ => ⟨S4x256x256, .f32⟩
  | .hbm, ⟨21, _⟩ => ⟨S4x256x256, .bf16⟩
  | .hbm, ⟨22, _⟩ => ⟨S3x512x384, .i32⟩
  | .hbm, ⟨23, _⟩ => ⟨S3x512x384, .i32⟩
  | .hbm, ⟨24, _⟩ => ⟨S_, .i32⟩
  | .hbm, ⟨25, _⟩ => ⟨S3x512x384, .i32⟩
  | .hbm, ⟨26, _⟩ => ⟨S3x512x384, .i32⟩
  | .hbm, ⟨27, _⟩ => ⟨S3x512x384, .i32⟩
  | .hbm, ⟨28, _⟩ => ⟨S_, .i32⟩
  | .hbm, ⟨29, _⟩ => ⟨S3x512x384, .i32⟩
  | .hbm, ⟨30, _⟩ => ⟨S3x512x384, .i32⟩
  | .hbm, ⟨31, _⟩ => ⟨S3x512x384, .i32⟩
  | .hbm, ⟨32, _⟩ => ⟨S3x512x384, .i32⟩
  | .hbm, ⟨33, _⟩ => ⟨S_, .i32⟩
  | .hbm, ⟨34, _⟩ => ⟨S3x512x384, .i32⟩
  | .hbm, ⟨35, _⟩ => ⟨S3x512x384, .i1⟩
  | .hbm, ⟨36, _⟩ => ⟨S_, .i32⟩
  | .hbm, ⟨37, _⟩ => ⟨S3x512x384, .i32⟩
  | .hbm, ⟨38, _⟩ => ⟨S3x512x384, .i1⟩
  | .hbm, ⟨39, _⟩ => ⟨S_, .i32⟩
  | .hbm, ⟨40, _⟩ => ⟨S3x512x384, .i32⟩
  | .hbm, ⟨41, _⟩ => ⟨S3x512x384, .i1⟩
  | .hbm, ⟨42, _⟩ => ⟨S3x512x384, .i1⟩
  | .hbm, ⟨43, _⟩ => ⟨S3x512x384, .i1⟩
  | .hbm, ⟨44, _⟩ => ⟨S_, .i32⟩
  | .hbm, ⟨45, _⟩ => ⟨S3x512x384, .i32⟩
  | .hbm, ⟨46, _⟩ => ⟨S3x512x384, .i1⟩
  | .hbm, ⟨47, _⟩ => ⟨S_, .i32⟩
  | .hbm, ⟨48, _⟩ => ⟨S3x512x384, .i32⟩
  | .hbm, ⟨49, _⟩ => ⟨S3x512x384, .i1⟩
  | .hbm, ⟨50, _⟩ => ⟨S3x512x384, .i1⟩
  | .hbm, ⟨51, _⟩ => ⟨S3x512x384, .i1⟩
  | .hbm, ⟨52, _⟩ => ⟨S_, .f32⟩
  | .hbm, ⟨53, _⟩ => ⟨S_, .f32⟩
  | .hbm, ⟨54, _⟩ => ⟨S3x512x384, .f32⟩
  | .hbm, ⟨55, _⟩ => ⟨S3x512x384, .f32⟩
  | .hbm, ⟨56, _⟩ => ⟨S3x512x384, .f32⟩
  | .hbm, ⟨57, _⟩ => ⟨S4x4096x512, .bf16⟩
  | .local _ .vmem, ⟨0, _⟩ => ⟨S1x128x512, .f32⟩
  | .local _ .vmem, ⟨1, _⟩ => ⟨S1x128x512, .f32⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x512x384, .f32⟩
  | .local _ .vmem, ⟨19, _⟩ => ⟨S1x512x384, .f32⟩
  | .local _ .vmem, ⟨20, _⟩ => ⟨S1x128x512, .bf16⟩
  | .local _ .vmem, ⟨21, _⟩ => ⟨S1x128x512, .bf16⟩
  | .local _ .smem, ⟨0, _⟩ => ⟨S8, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_v39 : Ref sig .tc := ⟨.hbm, 56, rfl⟩
abbrev main_v40 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c31_i32 : BitVec 32 := 31#32
  let v1 : BitVec 1 := Scalar.cmpi .eq arg1 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== WinIdeal.lean ====
variable {F : FTy → Type} [FloatOps F] [Named F]
def κ : String → Option EReal := fun
  | "log2_e" => some (((Real.log 2)⁻¹ : ℝ) : EReal)
  | "mask" => some ⊥
  | "q_mult" => some (((8 * (Real.log 2))⁻¹ : ℝ) : EReal)
  | _ => none
-- ==== WinRefIdeal.lean ====
abbrev S4x4096x512 : Shape := ⟨3, ![4, 4096, 512]⟩
abbrev S4x4096x128 : Shape := ⟨3, ![4, 4096, 128]⟩
abbrev S4x256x128 : Shape := ⟨3, ![4, 256, 128]⟩
abbrev S8 : Shape := ⟨1, ![8]⟩
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S4x32x128x2x4x64 : Shape := ⟨6, ![4, 32, 128, 2, 4, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S4x32x2x384x128x4 : Shape := ⟨6, ![4, 32, 2, 384, 128, 4]⟩
abbrev S4x32x2x4x128x384 : Shape := ⟨6, ![4, 32, 2, 4, 128, 384]⟩
abbrev S1x32x1x1x128x384 : Shape := ⟨6, ![1, 32, 1, 1, 128, 384]⟩
abbrev S4x2x256x32x128x4 : Shape := ⟨6, ![4, 2, 256, 32, 128, 4]⟩
abbrev S4x32x2x4x128x256 : Shape := ⟨6, ![4, 32, 2, 4, 128, 256]⟩
abbrev S1x1x2x4x1x1 : Shape := ⟨6, ![1, 1, 2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x32x2x64x4x128 : Shape := ⟨6, ![4, 32, 2, 64, 4, 128]⟩
abbrev S4x2x64x32x4x128 : Shape := ⟨6, ![4, 2, 64, 32, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S8, .f32⟩
  | .hbm, ⟨6, _⟩ => ⟨S4x4096x8x64, .f32⟩
  | .hbm, ⟨7, _⟩ => ⟨S4x4096x2x64, .f32⟩
  | .hbm, ⟨8, _⟩ => ⟨S4x4096x2x64, .f32⟩
  | .hbm, ⟨9, _⟩ => ⟨S4x256x2x64, .f32⟩
  | .hbm, ⟨10, _⟩ => ⟨S4x256x2x64, .f32⟩
  | .hbm, ⟨11, _⟩ => ⟨S4x32x128x2x4x64, .f32⟩
  | .hbm, ⟨12, _⟩ => ⟨S_, .i32⟩
  | .hbm, ⟨13, _⟩ => ⟨S_, .f32⟩
  | .hbm, ⟨14, _⟩ => ⟨S4x4352x2x64, .f32⟩
  | .hbm, ⟨15, _⟩ => ⟨S4x34x128x2x64, .f32⟩
  | .hbm, ⟨16, _⟩ => ⟨S_, .i32⟩
  | .hbm, ⟨17, _⟩ => ⟨S_, .f32⟩
  | .hbm, ⟨18, _⟩ => ⟨S4x4352x2x64, .f32⟩
  | .hbm, ⟨19, _⟩ => ⟨S4x34x128x2x64, .f32⟩
  | .hbm, ⟨20, _⟩ => ⟨S4x32x128x2x64, .f32⟩
  | .hbm, ⟨21, _⟩ => ⟨S4x32x128x2x64, .f32⟩
  | .hbm, ⟨22, _⟩ => ⟨S4x32x128x2x64, .f32⟩
  | .hbm, ⟨23, _⟩ => ⟨S4x32x384x2x64, .f32⟩
  | .hbm, ⟨24, _⟩ => ⟨S4x32x128x2x64, .f32⟩
  | .hbm, ⟨25, _⟩ => ⟨S4x32x128x2x64, .f32⟩
  | .hbm, ⟨26, _⟩ => ⟨S4x32x128x2x64, .f32⟩
  | .hbm, ⟨27, _⟩ => ⟨S4x32x384x2x64, .f32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32x1, .i32⟩
  | .hbm, ⟨33, _⟩ => ⟨S128, .i32⟩
  | .hbm, ⟨34, _⟩ => ⟨S1x128, .i32⟩
  | .hbm, ⟨35, _⟩ => ⟨S32x128, .i32⟩
  | .hbm, ⟨36, _⟩ => ⟨S32x128, .i32⟩
  | .hbm, ⟨37, _⟩ => ⟨S32x128, .i32⟩
  | .hbm, ⟨38, _⟩ => ⟨S32, .i32⟩
  | .hbm, ⟨39, _⟩ => ⟨S_, .i32⟩
  | .hbm, ⟨40, _⟩ => ⟨S32, .i32⟩
  | .hbm, ⟨41, _⟩ => ⟨S32, .i32⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32x1, .i32⟩
  | .hbm, ⟨46, _⟩ => ⟨S384, .i32⟩
  | .hbm, ⟨47, _⟩ => ⟨S1x384, .i32⟩
  | .hbm, ⟨48, _⟩ => ⟨S32x384, .i32⟩
  | .hbm, ⟨49, _⟩ => ⟨S32x384, .i32⟩
  | .hbm, ⟨50, _⟩ => ⟨S32x384, .i32⟩
  | .hbm, ⟨51, _⟩ => ⟨S32x128x1, .i32⟩
  | .hbm, ⟨52, _⟩ => ⟨S32x1x384, .i32⟩
  | .hbm, ⟨53, _⟩ => ⟨S32x128x384, .i32⟩
  | .hbm, ⟨54, _⟩ => ⟨S32x128x384, .i32⟩
  | .hbm, ⟨55, _⟩ => ⟨S32x128x384, .i32⟩
  | .hbm, ⟨56, _⟩ => ⟨S32x128x384, .i32⟩
  | .hbm, ⟨57, _⟩ => ⟨S_, .i32⟩
  | .hbm, ⟨58, _⟩ => ⟨S32x128x384, .i32⟩
  | .hbm, ⟨59, _⟩ => ⟨S32x128x384, .i1⟩
  | .hbm, ⟨60, _⟩ => ⟨S32x1x384, .i32⟩
  | .hbm, ⟨61, _⟩ => ⟨S_, .i32⟩
  | .hbm, ⟨62, _⟩ => ⟨S32x1x384, .i32⟩
  | .hbm, ⟨63, _⟩ => ⟨S32x1x384, .i1⟩
  | .hbm, ⟨64, _⟩ => ⟨S32x128x384, .i1⟩
  | .hbm, ⟨65, _⟩ => ⟨S32x128x384, .i1⟩
  | .hbm, ⟨66, _⟩ => ⟨S32x1x384, .i32⟩
  | .hbm, ⟨67, _⟩ => ⟨S_, .i32⟩
  | .hbm, ⟨68, _⟩ => ⟨S32x1x384, .i32⟩
  | .hbm, ⟨69, _⟩ => ⟨S32x1x384, .i1⟩
  | .hbm, ⟨70, _⟩ => ⟨S32x128x384, .i1⟩
  | .hbm, ⟨71, _⟩ => ⟨S32x128x384, .i1⟩
  | .hbm, ⟨72, _⟩ => ⟨S4x32x2x384x128x4, .f32⟩
  | .hbm, ⟨73, _⟩ => ⟨S4x32x2x4x128x384, .f32⟩
  | .hbm, ⟨74, _⟩ => ⟨S_, .f32⟩
  | .hbm, ⟨75, _⟩ => ⟨S4x32x2x4x128x384, .f32⟩
  | .hbm, ⟨76, _⟩ => ⟨S4x32x2x4x128x384, .f32⟩
  | .hbm, ⟨77, _⟩ => ⟨S1x32x1x1x128x384, .i1⟩
  | .hbm, ⟨78, _⟩ => ⟨S_, .f32⟩
  | .hbm, ⟨79, _⟩ => ⟨S_, .f32⟩
  | .hbm, ⟨80, _⟩ => ⟨S4x32x2x4x128x384, .i1⟩
  | .hbm, ⟨81, _⟩ => ⟨S4x32x2x4x128x384, .f32⟩
  | .hbm, ⟨82, _⟩ => ⟨S4x32x2x4x128x384, .f32⟩
  | .hbm, ⟨83, _⟩ => ⟨S4x2x256x32x128x4, .f32⟩
  | .hbm, ⟨84, _⟩ => ⟨S4x32x2x4x128x256, .f32⟩
  | .hbm, ⟨85, _⟩ => ⟨S_, .f32⟩
  | .hbm, ⟨86, _⟩ => ⟨S4x32x2x4x128x256, .f32⟩
  | .hbm, ⟨87, _⟩ => ⟨S4x32x2x4x128x256, .f32⟩
  | .hbm, ⟨88, _⟩ => ⟨S1x1x2x4x1x1, .f32⟩
  | .hbm, ⟨89, _⟩ => ⟨S4x32x2x4x128x1, .f32⟩
  | .hbm, ⟨90, _⟩ => ⟨S4x32x2x4x128x641, .f32⟩
  | .hbm, ⟨91, _⟩ => ⟨S_, .f32⟩
  | .hbm, ⟨92, _⟩ => ⟨S4x32x2x4x128, .f32⟩
  | .hbm, ⟨93, _⟩ => ⟨S_, .f32⟩
  | .hbm, ⟨94, _⟩ => ⟨S4x32x2x4x128, .f32⟩
  | .hbm, ⟨95, _⟩ => ⟨S4x32x2x4x128, .f32⟩
  | .hbm, ⟨96, _⟩ => ⟨S4x32x2x4x128x1, .f32⟩
  | .hbm, ⟨97, _⟩ => ⟨S4x32x2x4x128x641, .f32⟩
  | .hbm, ⟨98, _⟩ => ⟨S4x32x2x4x128x641, .f32⟩
  | .hbm, ⟨99, _⟩ => ⟨S4x32x2x4x128x641, .f32⟩
  | .hbm, ⟨100, _⟩ => ⟨S_, .f32⟩
  | .hbm, ⟨101, _⟩ => ⟨S4x32x2x4x128, .f32⟩
  | .hbm, ⟨102, _⟩ => ⟨S4x32x2x4x128x1, .f32⟩
  | .hbm, ⟨103, _⟩ => ⟨S4x32x2x4x128x641, .f32⟩
  | .hbm, ⟨104, _⟩ => ⟨S4x32x2x4x128x641, .f32⟩
  | .hbm, ⟨105, _⟩ => ⟨S4x32x2x4x128x384, .f32⟩
  | .hbm, ⟨106, _⟩ => ⟨S4x32x2x4x128x256, .f32⟩
  | .hbm, ⟨107, _⟩ => ⟨S4x32x2x4x128x1, .f32⟩
  | .hbm, ⟨108, _⟩ => ⟨S4x32x2x64x4x128, .f32⟩
  | .hbm, ⟨109, _⟩ => ⟨S4x32x128x2x4x64, .f32⟩
  | .hbm, ⟨110, _⟩ => ⟨S4x2x64x32x4x128, .f32⟩
  | .hbm, ⟨111, _⟩ => ⟨S4x32x128x2x4x64, .f32⟩
  | .hbm, ⟨112, _⟩ => ⟨S4x32x128x2x4x64, .f32⟩
  | .hbm, ⟨113, _⟩ => ⟨S4x4096x512, .f32⟩
  | .hbm, ⟨114, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Full.lean ====
abbrev S4x4096x512 : Shape := ⟨3, ![4, 4096, 512]⟩
abbrev S4x4096x128 : Shape := ⟨3, ![4, 4096, 128]⟩
abbrev S4x256x128 : Shape := ⟨3, ![4, 256, 128]⟩
abbrev S4x4096x64 : Shape := ⟨3, ![4, 4096, 64]⟩
abbrev S4x4096x256 : Shape := ⟨3, ![4, 4096, 256]⟩
abbrev S4x256x64 : Shape := ⟨3, ![4, 256, 64]⟩
abbrev S4x256x256 : Shape := ⟨3, ![4, 256, 256]⟩
abbrev S1x512x512 : Shape := ⟨3, ![1, 512, 512]⟩
abbrev S1x4096x256 : Shape := ⟨3, ![1, 4096, 256]⟩
abbrev S1x256x256 : Shape := ⟨3, ![1, 256, 256]⟩
abbrev S512x512 : Shape := ⟨2, ![512, 512]⟩
abbrev S512x128 : Shape := ⟨2, ![512, 128]⟩
abbrev S1024x128 : Shape := ⟨2, ![1024, 128]⟩
abbrev S2048x128 : Shape := ⟨2, ![2048, 128]⟩
abbrev S256x256 : Shape := ⟨2, ![256, 256]⟩
abbrev S256x128 : Shape := ⟨2, ![256, 128]⟩
abbrev S2048x256 : Shape := ⟨2, ![2048, 256]⟩
abbrev S1x512x128 : Shape := ⟨3, ![1, 512, 128]⟩
abbrev S2048x512 : Shape := ⟨2, ![2048, 512]⟩

abbrev nBuf : Space → Nat
  | .hbm => 22
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S4x4096x64, .f32⟩
  | .hbm, ⟨6, _⟩ => ⟨S4x4096x64, .f32⟩
  | .hbm, ⟨7, _⟩ => ⟨S4x4096x256, .f32⟩
  | .hbm, ⟨8, _⟩ => ⟨S4x4096x256, .bf16⟩
  | .hbm, ⟨9, _⟩ => ⟨S4x4096x64, .f32⟩
  | .hbm, ⟨10, _⟩ => ⟨S4x4096x64, .f32⟩
  | .hbm, ⟨11, _⟩ => ⟨S4x4096x256, .f32⟩
  | .hbm, ⟨12, _⟩ => ⟨S4x4096x256, .bf16⟩
  | .hbm, ⟨13, _⟩ => ⟨S4x256x64, .f32⟩
  | .hbm, ⟨14, _⟩ => ⟨S4x256x64, .f32⟩
  | .hbm, ⟨15, _⟩ => ⟨S4x256x256, .f32⟩
  | .hbm, ⟨16, _⟩ => ⟨S4x256x256, .bf16⟩
  | .hbm, ⟨17, _⟩ => ⟨S4x256x64, .f32⟩
  | .hbm, ⟨18, _⟩ => ⟨S4x256x64, .f32⟩
  | .hbm, ⟨19, _⟩ => ⟨S4x256x256, .f32⟩
  | .hbm, ⟨20, _⟩ => ⟨S4x256x256, .bf16⟩
  | .hbm, ⟨21, _⟩ => ⟨S4x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x512x512, .bf16⟩
  | .local _ .vmem, ⟨11, _⟩ => ⟨S1x512x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v72 : BitVec 32 := Scalar.addi c0_i32 c8_i32
  let c1_i32 : BitVec 32 := 1#32
  ⟨c0_i32, v72, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v115 : BitVec 32 := Scalar.muli arg8 c512_i32
  v115
def k0_off1 (k0_t1 : Fin k0_t1_loop.trips) : Fin 3 → Nat :=
  let c0_46 : Index := 0#32
  let c0_i32 : BitVec 32 := 0#32
  let c1_i32 : BitVec 32 := 1#32
  let arg8 : BitVec 32 := Scf.iv c0_i32 c1_i32 k0_t1
  let c512_i32 : BitVec 32 := 512#32
  let v115 : BitVec 32 := Scalar.muli arg8 c512_i32
  let v116 : BitVec 32 := v115
  let v117 : Index := Scalar.indexCast v116
  let c0_47 : Index := 0#32
  ![0, v117.toNat, 0]
def k0_off2 (k0_t1 : Fin k0_t1_loop.trips) : Fin 3 → Nat :=
  let c0_54 : Index := 0#32
  let c0_i32 : BitVec 32 := 0#32
  let c1_i32 : BitVec 32 := 1#32
  let arg8 : BitVec 32 := Scf.iv c0_i32 c1_i32 k0_t1
  let c512_i32 : BitVec 32 := 512#32
  let v115 : BitVec 32 := Scalar.muli arg8 c512_i32
  let v116 : BitVec 32 := v115
  let v133 : Index := Scalar.indexCast v116
  let c128 : Index := 128#32
  ![0, v133.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FullIdeal.lean ====
variable {F : FTy → Type} [FloatOps F] [Named F]
def κ : String → Option EReal := fun
  | "q_mult" => some (((8 * (Real.log 2))⁻¹ : ℝ) : EReal)
  | _ => none
-- ==== FullRefIdeal.lean ====
abbrev S4x4096x512 : Shape := ⟨3, ![4, 4096, 512]⟩
abbrev S4x4096x128 : Shape := ⟨3, ![4, 4096, 128]⟩
abbrev S4x256x128 : Shape := ⟨3, ![4, 256, 128]⟩
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S4x4352x2x64 : Shape := ⟨4, ![4, 4352, 2, 64]⟩
abbrev S4x4096x2x4x64 : Shape := ⟨5, ![4, 4096, 2, 4, 64]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S4x4096x8x64, .f32⟩
  | .hbm, ⟨6, _⟩ => ⟨S4x4096x2x64, .f32⟩
  | .hbm, ⟨7, _⟩ => ⟨S4x4096x2x64, .f32⟩
  | .hbm, ⟨8, _⟩ => ⟨S4x256x2x64, .f32⟩
  | .hbm, ⟨9, _⟩ => ⟨S4x256x2x64, .f32⟩
  | .hbm, ⟨10, _⟩ => ⟨S4x4352x2x64, .f32⟩
  | .hbm, ⟨11, _⟩ => ⟨S4x4352x2x64, .f32⟩
  | .hbm, ⟨12, _⟩ => ⟨S4x4096x2x4x64, .f32⟩
  | .hbm, ⟨13, _⟩ => ⟨S4x2x4352x4096x4, .f32⟩
  | .hbm, ⟨14, _⟩ => ⟨S4x2x4x4096x4352, .f32⟩
  | .hbm, ⟨15, _⟩ => ⟨S_, .f32⟩
  | .hbm, ⟨16, _⟩ => ⟨S4x2x4x4096x4352, .f32⟩
  | .hbm, ⟨17, _⟩ => ⟨S4x2x4x4096x4352, .f32⟩
  | .hbm, ⟨18, _⟩ => ⟨S_, .f32⟩
  | .hbm, ⟨19, _⟩ => ⟨S4x2x4x4096, .f32⟩
  | .hbm, ⟨20, _⟩ => ⟨S_, .f32⟩
  | .hbm, ⟨21, _⟩ => ⟨S4x2x4x4096, .f32⟩
  | .hbm, ⟨22, _⟩ => ⟨S4x2x4x4096, .f32⟩
  | .hbm, ⟨23, _⟩ => ⟨S4x2x4x4096x1, .f32⟩
  | .hbm, ⟨24, _⟩ => ⟨S4x2x4x4096x4352, .f32⟩
  | .hbm, ⟨25, _⟩ => ⟨S4x2x4x4096x4352, .f32⟩
  | .hbm, ⟨26, _⟩ => ⟨S4x2x4x4096x4352, .f32⟩
  | .hbm, ⟨27, _⟩ => ⟨S_, .f32⟩
  | .hbm, ⟨28, _⟩ => ⟨S4x2x4x4096, .f32⟩
  | .hbm, ⟨29, _⟩ => ⟨S4x2x4x4096x1, .f32⟩
  | .hbm, ⟨30, _⟩ => ⟨S4x2x4x4096x4352, .f32⟩
  | .hbm, ⟨31, _⟩ => ⟨S4x2x4x4096x4352, .f32⟩
  | .hbm, ⟨32, _⟩ => ⟨S4x2x64x4x4096, .f32⟩
  | .hbm, ⟨33, _⟩ => ⟨S4x4096x2x4x64, .f32⟩
  | .hbm, ⟨34, _⟩ => ⟨S4x4096x512, .f32⟩
  | .hbm, ⟨35, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S4x1024 : Shape := ⟨2, ![4, 1024]⟩
abbrev S1024x2304 : Shape := ⟨2, ![1024, 2304]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S1024x1536 : Shape := ⟨2, ![1024, 1536]⟩
abbrev S1024x2560 : Shape := ⟨2, ![1024, 2560]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S4x1x1024 : Shape := ⟨3, ![4, 1, 1024]⟩
abbrev S4x4096x512 : Shape := ⟨3, ![4, 4096, 512]⟩
abbrev S4x4096x256 : Shape := ⟨3, ![4, 4096, 256]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩
abbrev S512x512 : Shape := ⟨2, ![512, 512]⟩
abbrev S512x256 : Shape := ⟨2, ![512, 256]⟩

abbrev nBuf : Space → Nat
  | .hbm => 111
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2304, .f32⟩
  | .hbm, ⟨5, _⟩ => ⟨S1024x2304, .bf16⟩
  | .hbm, ⟨6, _⟩ => ⟨S1024x512, .bf16⟩
  | .hbm, ⟨7, _⟩ => ⟨S1024x128, .bf16⟩
  | .hbm, ⟨8, _⟩ => ⟨S1024x64, .bf16⟩
  | .hbm, ⟨9, _⟩ => ⟨S1024x64, .bf16⟩
  | .hbm, ⟨10, _⟩ => ⟨S1024x256, .bf16⟩
  | .hbm, ⟨11, _⟩ => ⟨S1024x128, .bf16⟩
  | .hbm, ⟨12, _⟩ => ⟨S1024x64, .bf16⟩
  | .hbm, ⟨13, _⟩ => ⟨S1024x64, .bf16⟩
  | .hbm, ⟨14, _⟩ => ⟨S1024x256, .bf16⟩
  | .hbm, ⟨15, _⟩ => ⟨S1024x1536, .bf16⟩
  | .hbm, ⟨16, _⟩ => ⟨S1024x2560, .bf16⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S_, .i1⟩
  | .hbm, ⟨53, _⟩ => ⟨S4096, .i1⟩
  | .hbm, ⟨54, _⟩ => ⟨S4096, .i1⟩
  | .hbm, ⟨55, _⟩ => ⟨S4096, .i1⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S4096x1, .f32⟩
  | .hbm, ⟨75, _⟩ => ⟨S1x16, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x1, .f32⟩
  | .hbm, ⟨80, _⟩ => ⟨S1x16, .f32⟩
  | .hbm, ⟨81, _⟩ => ⟨S4096x16, .f32⟩
  | .hbm, ⟨82, _⟩ => ⟨S4096x16, .f32⟩
  | .hbm, ⟨83, _⟩ => ⟨S4096x16, .f32⟩
  | .hbm, ⟨84, _⟩ => ⟨S4096x16, .f32⟩
  | .hbm, ⟨85, _⟩ => ⟨S4096x16, .f32⟩
  | .hbm, ⟨86, _⟩ => ⟨S4096x16, .f32⟩
  | .hbm, ⟨87, _⟩ => ⟨S4096x16, .f32⟩
  | .hbm, ⟨88, _⟩ => ⟨S4096x64, .f32⟩
  | .hbm, ⟨89, _⟩ => ⟨S4096x16, .f32⟩
  | .hbm, ⟨90, _⟩ => ⟨S4096x16, .f32⟩
  | .hbm, ⟨91, _⟩ => ⟨S4096x16, .f32⟩
  | .hbm, ⟨92, _⟩ => ⟨S4096x16, .f32⟩
  | .hbm, ⟨93, _⟩ => ⟨S4096x16, .f32⟩
  | .hbm, ⟨94, _⟩ => ⟨S4096x16, .f32⟩
  | .hbm, ⟨95, _⟩ => ⟨S4096x64, .f32⟩
  | .hbm, ⟨96, _⟩ => ⟨S1x4096x1x64, .f32⟩
  | .hbm, ⟨97, _⟩ => ⟨S1x4096x2x64, .f32⟩
  | .hbm, ⟨98, _⟩ => ⟨S4096x128, .f32⟩
  | .hbm, ⟨99, _⟩ => ⟨S1x4096x1x64, .f32⟩
  | .hbm, ⟨100, _⟩ => ⟨S1x4096x2x64, .f32⟩
  | .hbm, ⟨101, _⟩ => ⟨S4096x128, .f32⟩
  | .hbm, ⟨102, _⟩ => ⟨S1x1024, .f32⟩
  | .hbm, ⟨103, _⟩ => ⟨S4x1x1024, .f32⟩
  | .hbm, ⟨104, _⟩ => ⟨S4x1x1024, .f32⟩
  | .hbm, ⟨105, _⟩ => ⟨S4x4096x512, .f32⟩
  | .hbm, ⟨106, _⟩ => ⟨S4x4096x256, .bf16⟩
  | .hbm, ⟨107, _⟩ => ⟨S4x4096x256, .bf16⟩
  | .hbm, ⟨108, _⟩ => ⟨S4x4096x512, .f32⟩
  | .hbm, ⟨109, _⟩ => ⟨S4x4096x512, .bf16⟩
  | .hbm, ⟨110, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .f32⟩
  | .local _ .vmem, ⟨13, _⟩ => ⟨S1x512x512, .f32⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst : Ref sig .tc := ⟨.hbm, 61, rfl⟩
abbrev main_v18 : Ref sig .tc := ⟨.hbm, 62, rfl⟩
abbrev main_v19 : Ref sig .tc := ⟨.hbm, 63, rfl⟩
abbrev main_cst_1 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_v24 : Ref sig .tc := ⟨.hbm, 70, rfl⟩
abbrev main_cst_3 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58_0 : Ref sig .tc := ⟨.hbm, 105, rfl⟩
abbrev main_v58_1 : Ref sig .tc := ⟨.hbm, 106, rfl⟩
abbrev main_v58_2 : Ref sig .tc := ⟨.hbm, 107, rfl⟩
abbrev main_v58_3 : Ref sig .tc := ⟨.hbm, 108, rfl⟩
abbrev main_v58_4 : Ref sig .tc := ⟨.hbm, 109, rfl⟩
abbrev main_v58_5 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjRefIdeal.lean ====
abbrev S4x4096x1024 : Shape := ⟨3, ![4, 4096, 1024]⟩
abbrev S1024 : Shape := ⟨1, ![1024]⟩
abbrev S4x1024 : Shape := ⟨2, ![4, 1024]⟩
abbrev S1024x2304 : Shape := ⟨2, ![1024, 2304]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x2304 : Shape := ⟨3, ![4, 4096, 2304]⟩
abbrev S4x4096x512 : Shape := ⟨3, ![4, 4096, 512]⟩
abbrev S4x4096x128 : Shape := ⟨3, ![4, 4096, 128]⟩
abbrev S4x4096x8x64 : Shape := ⟨4, ![4, 4096, 8, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4x4096x8x32 : Shape := ⟨4, ![4, 4096, 8, 32]⟩
abbrev S4x4096x8x16 : Shape := ⟨4, ![4, 4096, 8, 16]⟩
abbrev S1x4096x1x16 : Shape := ⟨4, ![1, 4096, 1, 16]⟩
abbrev S4x4096x2x64 : Shape := ⟨4, ![4, 4096, 2, 64]⟩
abbrev S4x4096x2x32 : Shape := ⟨4, ![4, 4096, 2, 32]⟩
abbrev S4x4096x2x16 : Shape := ⟨4, ![4, 4096, 2, 16]⟩
abbrev S4x4096x1x64 : Shape := ⟨4, ![4, 4096, 1, 64]⟩
abbrev S4x4096x4x64 : Shape := ⟨4, ![4, 4096, 4, 64]⟩
abbrev S4x4096x256 : Shape := ⟨3, ![4, 4096, 256]⟩

abbrev nBuf : Space → Nat
  | .hbm => 277
  | .vmem => 0
  | .smem => 0
  | _ => 0

abbrev hbmTy0_0 (i : Nat) : BufTy := match i % 128 with
  | 0 => ⟨S4x4096x1024, .f32⟩
  | 1 => ⟨S1024, .f32⟩
  | 2 => ⟨S4x1024, .f32⟩
  | 3 => ⟨S4x1024, .f32⟩
  | 4 => ⟨S1024x2304, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x1x1024, .f32⟩
  | 22 => ⟨S_, .f32⟩
  | 23 => ⟨S4x1x1024, .f32⟩
  | 24 => ⟨S4x1x1024, .f32⟩
  | 25 => ⟨S4x4096x1024, .f32⟩
  | 26 => ⟨S4x4096x1024, .f32⟩
  | 27 => ⟨S4x1x1024, .f32⟩
  | 28 => ⟨S4x4096x1024, .f32⟩
  | 29 => ⟨S4x4096x1024, .f32⟩
  | 30 => ⟨S4x4096x2304, .f32⟩
  | 31 => ⟨S4x4096x512, .f32⟩
  | 32 => ⟨S4x4096x128, .f32⟩
  | 33 => ⟨S4x4096x128, .f32⟩
  | 34 => ⟨S4x4096x512, .f32⟩
  | 35 => ⟨S4x4096x512, .f32⟩
  | 36 => ⟨S4x4096x512, .f32⟩
  | 37 => ⟨S4x4096x8x64, .f32⟩
  | 38 => ⟨S4096, .i32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S_, .i32⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i1⟩
  | 61 => ⟨S4096, .i32⟩
  | 62 => ⟨S4096, .i32⟩
  | 63 => ⟨S_, .i32⟩
  | 64 => ⟨S4096, .i32⟩
  | 65 => ⟨S4096, .i1⟩
  | 66 => ⟨S4096, .i1⟩
  | 67 => ⟨S_, .i32⟩
  | 68 => ⟨S4096, .i32⟩
  | 69 => ⟨S4096, .i32⟩
  | 70 => ⟨S4096, .i32⟩
  | 71 => ⟨S4096, .f32⟩
  | 72 => ⟨S4096x1, .f32⟩
  | 73 => ⟨S1x16, .f32⟩
  | 74 => ⟨S4096x16, .f32⟩
  | 75 => ⟨S4096x16, .f32⟩
  | 76 => ⟨S4096x16, .f32⟩
  | 77 => ⟨S4096x1x16, .f32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i1⟩
  | 92 => ⟨S_, .i32⟩
  | 93 => ⟨S_, .i1⟩
  | 94 => ⟨S4096, .i1⟩
  | 95 => ⟨S4096, .i1⟩
  | 96 => ⟨S4096, .i1⟩
  | 97 => ⟨S4096, .i32⟩
  | 98 => ⟨S4096, .i32⟩
  | 99 => ⟨S4096, .i32⟩
  | 100 => ⟨S4096, .f32⟩
  | 101 => ⟨S4096x1, .f32⟩
  | 102 => ⟨S1x16, .f32⟩
  | 103 => ⟨S4096x16, .f32⟩
  | 104 => ⟨S4096x16, .f32⟩
  | 105 => ⟨S4096x16, .f32⟩
  | 106 => ⟨S4096x1x16, .f32⟩
  | 107 => ⟨S4x4096x8x32, .f32⟩
  | 108 => ⟨S4x4096x8x16, .f32⟩
  | 109 => ⟨S4x4096x8x16, .f32⟩
  | 110 => ⟨S4096x1x16, .f32⟩
  | 111 => ⟨S4096x1x16, .f32⟩
  | 112 => ⟨S1x4096x1x16, .f32⟩
  | 113 => ⟨S4x4096x8x16, .f32⟩
  | 114 => ⟨S4x4096x8x16, .f32⟩
  | 115 => ⟨S1x4096x1x16, .f32⟩
  | 116 => ⟨S4x4096x8x16, .f32⟩
  | 117 => ⟨S4x4096x8x16, .f32⟩
  | 118 => ⟨S4x4096x8x16, .f32⟩
  | 119 => ⟨S1x4096x1x16, .f32⟩
  | 120 => ⟨S4x4096x8x16, .f32⟩
  | 121 => ⟨S4x4096x8x16, .f32⟩
  | 122 => ⟨S1x4096x1x16, .f32⟩
  | 123 => ⟨S4x4096x8x16, .f32⟩
  | 124 => ⟨S4x4096x8x16, .f32⟩
  | 125 => ⟨S4x4096x8x16, .f32⟩
  | 126 => ⟨S4x4096x8x32, .f32⟩
  | 127 => ⟨S4x4096x8x32, .f32⟩
  | _ => ⟨S4x4096x1024, .f32⟩

abbrev hbmTy0_1 (i : Nat) : BufTy := match i % 128 with
  | 0 => ⟨S4x4096x8x16, .f32⟩
  | 1 => ⟨S4x4096x8x16, .f32⟩
  | 2 => ⟨S4096x1x16, .f32⟩
  | 3 => ⟨S4096x1x16, .f32⟩
  | 4 => ⟨S1x4096x1x16, .f32⟩
  | 5 => ⟨S4x4096x8x16, .f32⟩
  | 6 => ⟨S4x4096x8x16, .f32⟩
  | 7 => ⟨S1x4096x1x16, .f32⟩
  | 8 => ⟨S4x4096x8x16, .f32⟩
  | 9 => ⟨S4x4096x8x16, .f32⟩
  | 10 => ⟨S4x4096x8x16, .f32⟩
  | 11 => ⟨S1x4096x1x16, .f32⟩
  | 12 => ⟨S4x4096x8x16, .f32⟩
  | 13 => ⟨S4x4096x8x16, .f32⟩
  | 14 => ⟨S1x4096x1x16, .f32⟩
  | 15 => ⟨S4x4096x8x16, .f32⟩
  | 16 => ⟨S4x4096x8x16, .f32⟩
  | 17 => ⟨S4x4096x8x16, .f32⟩
  | 18 => ⟨S4x4096x8x32, .f32⟩
  | 19 => ⟨S4x4096x8x64, .f32⟩
  | 20 => ⟨S4x4096x512, .f32⟩
  | 21 => ⟨S4x4096x2x64, .f32⟩
  | 22 => ⟨S4096, .i32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S_, .i32⟩
  | 38 => ⟨S_, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i1⟩
  | 45 => ⟨S4096, .i32⟩
  | 46 => ⟨S4096, .i32⟩
  | 47 => ⟨S_, .i32⟩
  | 48 => ⟨S4096, .i32⟩
  | 49 => ⟨S4096, .i1⟩
  | 50 => ⟨S4096, .i1⟩
  | 51 => ⟨S_, .i32⟩
  | 52 => ⟨S4096, .i32⟩
  | 53 => ⟨S4096, .i32⟩
  | 54 => ⟨S4096, .i32⟩
  | 55 => ⟨S4096, .f32⟩
  | 56 => ⟨S4096x1, .f32⟩
  | 57 => ⟨S1x16, .f32⟩
  | 58 => ⟨S4096x16, .f32⟩
  | 59 => ⟨S4096x16, .f32⟩
  | 60 => ⟨S4096x16, .f32⟩
  | 61 => ⟨S4096x1x16, .f32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i1⟩
  | 76 => ⟨S_, .i32⟩
  | 77 => ⟨S_, .i1⟩
  | 78 => ⟨S4096, .i1⟩
  | 79 => ⟨S4096, .i1⟩
  | 80 => ⟨S4096, .i1⟩
  | 81 => ⟨S4096, .i32⟩
  | 82 => ⟨S4096, .i32⟩
  | 83 => ⟨S4096, .i32⟩
  | 84 => ⟨S4096, .f32⟩
  | 85 => ⟨S4096x1, .f32⟩
  | 86 => ⟨S1x16, .f32⟩
  | 87 => ⟨S4096x16, .f32⟩
  | 88 => ⟨S4096x16, .f32⟩
  | 89 => ⟨S4096x16, .f32⟩
  | 90 => ⟨S4096x1x16, .f32⟩
  | 91 => ⟨S4x4096x2x32, .f32⟩
  | 92 => ⟨S4x4096x2x16, .f32⟩
  | 93 => ⟨S4x4096x2x16, .f32⟩
  | 94 => ⟨S4096x1x16, .f32⟩
  | 95 => ⟨S4096x1x16, .f32⟩
  | 96 => ⟨S1x4096x1x16, .f32⟩
  | 97 => ⟨S4x4096x2x16, .f32⟩
  | 98 => ⟨S4x4096x2x16, .f32⟩
  | 99 => ⟨S1x4096x1x16, .f32⟩
  | 100 => ⟨S4x4096x2x16, .f32⟩
  | 101 => ⟨S4x4096x2x16, .f32⟩
  | 102 => ⟨S4x4096x2x16, .f32⟩
  | 103 => ⟨S1x4096x1x16, .f32⟩
  | 104 => ⟨S4x4096x2x16, .f32⟩
  | 105 => ⟨S4x4096x2x16, .f32⟩
  | 106 => ⟨S1x4096x1x16, .f32⟩
  | 107 => ⟨S4x4096x2x16, .f32⟩
  | 108 => ⟨S4x4096x2x16, .f32⟩
  | 109 => ⟨S4x4096x2x16, .f32⟩
  | 110 => ⟨S4x4096x2x32, .f32⟩
  | 111 => ⟨S4x4096x2x32, .f32⟩
  | 112 => ⟨S4x4096x2x16, .f32⟩
  | 113 => ⟨S4x4096x2x16, .f32⟩
  | 114 => ⟨S4096x1x16, .f32⟩
  | 115 => ⟨S4096x1x16, .f32⟩
  | 116 => ⟨S1x4096x1x16, .f32⟩
  | 117 => ⟨S4x4096x2x16, .f32⟩
  | 118 => ⟨S4x4096x2x16, .f32⟩
  | 119 => ⟨S1x4096x1x16, .f32⟩
  | 120 => ⟨S4x4096x2x16, .f32⟩
  | 121 => ⟨S4x4096x2x16, .f32⟩
  | 122 => ⟨S4x4096x2x16, .f32⟩
  | 123 => ⟨S1x4096x1x16, .f32⟩
  | 124 => ⟨S4x4096x2x16, .f32⟩
  | 125 => ⟨S4x4096x2x16, .f32⟩
  | 126 => ⟨S1x4096x1x16, .f32⟩
  | 127 => ⟨S4x4096x2x16, .f32⟩
  | _ => ⟨S4x4096x1024, .f32⟩

abbrev hbmTy0_2 (i : Nat) : BufTy := match i % 128 with
  | 0 => ⟨S4x4096x2x16, .f32⟩
  | 1 => ⟨S4x4096x2x16, .f32⟩
  | 2 => ⟨S4x4096x2x32, .f32⟩
  | 3 => ⟨S4x4096x2x64, .f32⟩
  | 4 => ⟨S4x4096x1x64, .f32⟩
  | 5 => ⟨S4x4096x1x64, .f32⟩
  | 6 => ⟨S4x4096x1x64, .f32⟩
  | 7 => ⟨S4x4096x1x64, .f32⟩
  | 8 => ⟨S4x4096x4x64, .f32⟩
  | 9 => ⟨S4x4096x256, .f32⟩
  | 10 => ⟨S4x4096x256, .bf16⟩
  | 11 => ⟨S4x4096x2x64, .f32⟩
  | 12 => ⟨S4x4096x1x64, .f32⟩
  | 13 => ⟨S4x4096x1x64, .f32⟩
  | 14 => ⟨S4x4096x1x64, .f32⟩
  | 15 => ⟨S4x4096x1x64, .f32⟩
  | 16 => ⟨S4x4096x4x64, .f32⟩
  | 17 => ⟨S4x4096x256, .f32⟩
  | 18 => ⟨S4x4096x256, .bf16⟩
  | 19 => ⟨S4x4096x512, .bf16⟩
  | 20 => ⟨S4x4096x512, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_7 : Ref sig .tc := ⟨.hbm, 78, rfl⟩
abbrev main_call1_v0 : Ref sig .tc := ⟨.hbm, 79, rfl⟩
abbrev main_call1_c : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_c_1 : Ref sig .tc := ⟨.hbm, 86, rfl⟩
abbrev main_call1_v5 : Ref sig .tc := ⟨.hbm, 87, rfl⟩
abbrev main_call1_v6 : Ref sig .tc := ⟨.hbm, 88, rfl⟩
abbrev main_call1_c_2 : Ref sig .tc := ⟨.hbm, 89, rfl⟩
abbrev main_call1_v7 : Ref sig .tc := ⟨.hbm, 90, rfl⟩
abbrev main_call1_v8 : Ref sig .tc := ⟨.hbm, 91, rfl⟩
abbrev main_call1_c_3 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_8 : Ref sig .tc := ⟨.hbm, 152, rfl⟩
abbrev main_v101 : Ref sig .tc := ⟨.hbm, 153, rfl⟩
abbrev main_v102 : Ref sig .tc := ⟨.hbm, 154, rfl⟩
abbrev main_cst_9 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_10 : Ref sig .tc := ⟨.hbm, 159, rfl⟩
abbrev main_v106 : Ref sig .tc := ⟨.hbm, 160, rfl⟩
abbrev main_v107 : Ref sig .tc := ⟨.hbm, 161, rfl⟩
abbrev main_cst_11 : Ref sig .tc := ⟨.hbm, 162, rfl⟩
abbrev main_v108 : Ref sig .tc := ⟨.hbm, 163, rfl⟩
abbrev main_v109 : Ref sig .tc := ⟨.hbm, 164, rfl⟩
abbrev main_c_12 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_v6 : Ref sig .tc := ⟨.hbm, 172, rfl⟩
abbrev main_call2_v7 : Ref sig .tc := ⟨.hbm, 173, rfl⟩
abbrev main_call2_v8 : Ref sig .tc := ⟨.hbm, 174, rfl⟩
abbrev main_call2_c : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_c_0 : Ref sig .tc := ⟨.hbm, 179, rfl⟩
abbrev main_call2_v12 : Ref sig .tc := ⟨.hbm, 180, rfl⟩
abbrev main_call2_v13 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_c_13 : Ref sig .tc := ⟨.hbm, 190, rfl⟩
abbrev main_call3_v0 : Ref sig .tc := ⟨.hbm, 191, rfl⟩
abbrev main_call3_c : Ref sig .tc := ⟨.hbm, 192, rfl⟩
abbrev main_call3_v1 : Ref sig .tc := ⟨.hbm, 193, rfl⟩
abbrev main_call3_c_0 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_c_1 : Ref sig .tc := ⟨.hbm, 198, rfl⟩
abbrev main_call3_v5 : Ref sig .tc := ⟨.hbm, 199, rfl⟩
abbrev main_call3_v6 : Ref sig .tc := ⟨.hbm, 200, rfl⟩
abbrev main_call3_c_2 : Ref sig .tc := ⟨.hbm, 201, rfl⟩
abbrev main_call3_v7 : Ref sig .tc := ⟨.hbm, 202, rfl⟩
abbrev main_call3_v8 : Ref sig .tc := ⟨.hbm, 203, rfl⟩
abbrev main_call3_c_3 : Ref sig .tc := ⟨.hbm, 204, rfl⟩
abbrev main_call3_v9 : Ref sig .tc := ⟨.hbm, 205, rfl⟩
abbrev main_call3_v10 : Ref sig .tc := ⟨.hbm, 206, rfl⟩
abbrev main_call3_v11 : Ref sig .tc := ⟨.hbm, 207, rfl⟩
abbrev main_call3_v12 : Ref sig .tc := ⟨.hbm, 208, rfl⟩
abbrev main_call3_v13 : Ref sig .tc := ⟨.hbm, 209, rfl⟩
abbrev main_call3_v14 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩

abbrev nD : Nat := 1
abbrev τ : Topo := Topo.v7x

variable {F : FTy → Type} [FloatOps F]
-- ==== Odd.lean ====
abbrev S4x4096x1024 : Shape := ⟨3, ![4, 4096, 1024]⟩
abbrev S1024 : Shape := ⟨1, ![1024]⟩
abbrev S4x1024 : Shape := ⟨2, ![4, 1024]⟩
abbrev S1024x2304 : Shape := ⟨2, ![1024, 2304]⟩
abbrev S64 : Shape := ⟨1, ![64]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S1024x1536 : Shape := ⟨2, ![1024, 1536]⟩
abbrev S1024x2560 : Shape := ⟨2, ![1024, 2560]⟩
abbrev S1x64 : Shape := ⟨2, ![1, 64]⟩
abbrev S8x64 : Shape := ⟨2, ![8, 64]⟩
abbrev S512 : Shape := ⟨1, ![512]⟩
abbrev S4x64 : Shape := ⟨2, ![4, 64]⟩
abbrev S256 : Shape := ⟨1, ![256]⟩
abbrev S768 : Shape := ⟨1, ![768]⟩
abbrev S1x768 : Shape := ⟨2, ![1, 768]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512x512 : Shape := ⟨2, ![512, 512]⟩
abbrev S1x1024 : Shape := ⟨2, ![1, 1024]⟩
abbrev S4x1x1024 : Shape := ⟨3, ![4, 1, 1024]⟩
abbrev S4x4096x512 : Shape := ⟨3, ![4, 4096, 512]⟩
abbrev S4x4096x256 : Shape := ⟨3, ![4, 4096, 256]⟩
abbrev S4x4096x1536 : Shape := ⟨3, ![4, 4096, 1536]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x512x1536 : Shape := ⟨3, ![1, 512, 1536]⟩
abbrev S512x1024 : Shape := ⟨2, ![512, 1024]⟩
abbrev S512x1 : Shape := ⟨2, ![512, 1]⟩
abbrev S512x2560 : Shape := ⟨2, ![512, 2560]⟩
abbrev S1x512 : Shape := ⟨2, ![1, 512]⟩
abbrev S512x256 : Shape := ⟨2, ![512, 256]⟩
abbrev S256x256 : Shape := ⟨2, ![256, 256]⟩
abbrev S1x256 : Shape := ⟨2, ![1, 256]⟩
abbrev S512x1536 : Shape := ⟨2, ![512, 1536]⟩

abbrev nBuf : Space → Nat
  | .hbm => 164
  | .vmem => 22
  | .smem => 0
  | _ => 0

abbrev hbmTy0_0 (i : Nat) : BufTy := match i % 128 with
  | 0 => ⟨S4x4096x1024, .f32⟩
  | 1 => ⟨S1024, .f32⟩
  | 2 => ⟨S4x1024, .f32⟩
  | 3 => ⟨S4x1024, .f32⟩
  | 4 => ⟨S1024x2304, .f32⟩
  | 5 => ⟨S64, .f32⟩
  | 6 => ⟨S64, .f32⟩
  | 7 => ⟨S1024x2304, .bf16⟩
  | 8 => ⟨S1024x512, .bf16⟩
  | 9 => ⟨S1024x128, .bf16⟩
  | 10 => ⟨S1024x64, .bf16⟩
  | 11 => ⟨S1024x64, .bf16⟩
  | 12 => ⟨S1024x256, .bf16⟩
  | 13 => ⟨S1024x128, .bf16⟩
  | 14 => ⟨S1024x64, .bf16⟩
  | 15 => ⟨S1024x64, .bf16⟩
  | 16 => ⟨S1024x256, .bf16⟩
  | 17 => ⟨S1024x1536, .bf16⟩
  | 18 => ⟨S1024x2560, .bf16⟩
  | 19 => ⟨S1x64, .f32⟩
  | 20 => ⟨S8x64, .f32⟩
  | 21 => ⟨S512, .f32⟩
  | 22 => ⟨S1x64, .f32⟩
  | 23 => ⟨S4x64, .f32⟩
  | 24 => ⟨S256, .f32⟩
  | 25 => ⟨S768, .f32⟩
  | 26 => ⟨S1x768, .f32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S4096, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i1⟩
  | 61 => ⟨S_, .i32⟩
  | 62 => ⟨S_, .i1⟩
  | 63 => ⟨S4096, .i1⟩
  | 64 => ⟨S4096, .i1⟩
  | 65 => ⟨S4096, .i1⟩
  | 66 => ⟨S4096, .i32⟩
  | 67 => ⟨S4096, .i32⟩
  | 68 => ⟨S4096, .i32⟩
  | 69 => ⟨S4096, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S4096x1, .f32⟩
  | 85 => ⟨S1x16, .f32⟩
  | 86 => ⟨S4096x16, .f32⟩
  | 87 => ⟨S4096x16, .f32⟩
  | 88 => ⟨S4096x16, .f32⟩
  | 89 => ⟨S4096x1, .f32⟩
  | 90 => ⟨S1x16, .f32⟩
  | 91 => ⟨S4096x16, .f32⟩
  | 92 => ⟨S4096x16, .f32⟩
  | 93 => ⟨S4096x16, .f32⟩
  | 94 => ⟨S4096x16, .f32⟩
  | 95 => ⟨S4096x16, .f32⟩
  | 96 => ⟨S4096x16, .f32⟩
  | 97 => ⟨S4096x16, .f32⟩
  | 98 => ⟨S4096x64, .f32⟩
  | 99 => ⟨S4096x16, .f32⟩
  | 100 => ⟨S4096x16, .f32⟩
  | 101 => ⟨S4096x16, .f32⟩
  | 102 => ⟨S4096x16, .f32⟩
  | 103 => ⟨S4096x16, .f32⟩
  | 104 => ⟨S4096x16, .f32⟩
  | 105 => ⟨S4096x64, .f32⟩
  | 106 => ⟨S1x4096x1x64, .f32⟩
  | 107 => ⟨S1x4096x2x64, .f32⟩
  | 108 => ⟨S4096x128, .f32⟩
  | 109 => ⟨S1x4096x1x64, .f32⟩
  | 110 => ⟨S1x4096x2x64, .f32⟩
  | 111 => ⟨S4096x128, .f32⟩
  | 112 => ⟨S512x512, .i32⟩
  | 113 => ⟨S_, .i32⟩
  | 114 => ⟨S_, .i32⟩
  | 115 => ⟨S512x512, .i32⟩
  | 116 => ⟨S512x512, .i32⟩
  | 117 => ⟨S512x512, .i32⟩
  | 118 => ⟨S_, .i32⟩
  | 119 => ⟨S512x512, .i32⟩
  | 120 => ⟨S512x512, .i1⟩
  | 121 => ⟨S512x512, .i32⟩
  | 122 => ⟨S512x512, .i32⟩
  | 123 => ⟨S_, .i32⟩
  | 124 => ⟨S512x512, .i32⟩
  | 125 => ⟨S512x512, .i1⟩
  | 126 => ⟨S512x512, .i1⟩
  | 127 => ⟨S_, .i32⟩
  | _ => ⟨S4x4096x1024, .f32⟩

abbrev hbmTy0_1 (i : Nat) : BufTy := match i % 128 with
  | 0 => ⟨S512x512, .i32⟩
  | 1 => ⟨S512x512, .i32⟩
  | 2 => ⟨S512x512, .i32⟩
  | 3 => ⟨S512x512, .i32⟩
  | 4 => ⟨S_, .i32⟩
  | 5 => ⟨S_, .i32⟩
  | 6 => ⟨S512x512, .i32⟩
  | 7 => ⟨S512x512, .i32⟩
  | 8 => ⟨S512x512, .i32⟩
  | 9 => ⟨S_, .i32⟩
  | 10 => ⟨S512x512, .i32⟩
  | 11 => ⟨S512x512, .i1⟩
  | 12 => ⟨S512x512, .i32⟩
  | 13 => ⟨S512x512, .i32⟩
  | 14 => ⟨S_, .i32⟩
  | 15 => ⟨S512x512, .i32⟩
  | 16 => ⟨S512x512, .i1⟩
  | 17 => ⟨S512x512, .i1⟩
  | 18 => ⟨S_, .i32⟩
  | 19 => ⟨S512x512, .i32⟩
  | 20 => ⟨S512x512, .i32⟩
  | 21 => ⟨S512x512, .i32⟩
  | 22 => ⟨S512x512, .i1⟩
  | 23 => ⟨S_, .f32⟩
  | 24 => ⟨S_, .f32⟩
  | 25 => ⟨S512x512, .f32⟩
  | 26 => ⟨S512x512, .f32⟩
  | 27 => ⟨S512x512, .f32⟩
  | 28 => ⟨S512x512, .bf16⟩
  | 29 => ⟨S1x1024, .f32⟩
  | 30 => ⟨S4x1x1024, .f32⟩
  | 31 => ⟨S4x1x1024, .f32⟩
  | 32 => ⟨S4x4096x512, .f32⟩
  | 33 => ⟨S4x4096x256, .bf16⟩
  | 34 => ⟨S4x4096x256, .bf16⟩
  | 35 => ⟨S4x4096x1536, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S1x768, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x1536, .f32⟩
  | .local _ .vmem, ⟨21, _⟩ => ⟨S1x512x1536, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v21 : Ref sig .tc := ⟨.hbm, 45, rfl⟩
abbrev main_v22 : Ref sig .tc := ⟨.hbm, 46, rfl⟩
abbrev main_c_0 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst : Ref sig .tc := ⟨.hbm, 71, rfl⟩
abbrev main_v26 : Ref sig .tc := ⟨.hbm, 72, rfl⟩
abbrev main_v27 : Ref sig .tc := ⟨.hbm, 73, rfl⟩
abbrev main_cst_1 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_2 : Ref sig .tc := ⟨.hbm, 78, rfl⟩
abbrev main_v31 : Ref sig .tc := ⟨.hbm, 79, rfl⟩
abbrev main_v32 : Ref sig .tc := ⟨.hbm, 80, rfl⟩
abbrev main_cst_3 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_4 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_c : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_0 : Ref sig .tc := ⟨.hbm, 127, rfl⟩
abbrev main_call2_v12 : Ref sig .tc := ⟨.hbm, 128, rfl⟩
abbrev main_call2_v13 : Ref sig .tc := ⟨.hbm, 129, rfl⟩
abbrev main_v64 : Ref sig .tc := ⟨.hbm, 130, rfl⟩
abbrev main_v65 : Ref sig .tc := ⟨.hbm, 131, rfl⟩
abbrev main_c_5 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_c : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_0 : Ref sig .tc := ⟨.hbm, 146, rfl⟩
abbrev main_call3_v12 : Ref sig .tc := ⟨.hbm, 147, rfl⟩
abbrev main_call3_v13 : Ref sig .tc := ⟨.hbm, 148, rfl⟩
abbrev main_v66 : Ref sig .tc := ⟨.hbm, 149, rfl⟩
abbrev main_v67 : Ref sig .tc := ⟨.hbm, 150, rfl⟩
abbrev main_cst_6 : Ref sig .tc := ⟨.hbm, 151, rfl⟩
abbrev main_cst_7 : Ref sig .tc := ⟨.hbm, 152, rfl⟩
abbrev main_call4_v0 : Ref sig .tc := ⟨.hbm, 153, rfl⟩
abbrev main_call4_v1 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73_0 : Ref sig .tc := ⟨.hbm, 160, rfl⟩
abbrev main_v73_1 : Ref sig .tc := ⟨.hbm, 161, rfl⟩
abbrev main_v73_2 : Ref sig .tc := ⟨.hbm, 162, rfl⟩
abbrev main_v73_3 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OddRefIdeal.lean ====
abbrev S4x4096x1024 : Shape := ⟨3, ![4, 4096, 1024]⟩
abbrev S1024 : Shape := ⟨1, ![1024]⟩
abbrev S4x1024 : Shape := ⟨2, ![4, 1024]⟩
abbrev S1024x2304 : Shape := ⟨2, ![1024, 2304]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x2304 : Shape := ⟨3, ![4, 4096, 2304]⟩
abbrev S4x4096x512 : Shape := ⟨3, ![4, 4096, 512]⟩
abbrev S4x4096x128 : Shape := ⟨3, ![4, 4096, 128]⟩
abbrev S4x4096x1536 : Shape := ⟨3, ![4, 4096, 1536]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4x4096x8x32 : Shape := ⟨4, ![4, 4096, 8, 32]⟩
abbrev S4x4096x8x16 : Shape := ⟨4, ![4, 4096, 8, 16]⟩
abbrev S1x4096x1x16 : Shape := ⟨4, ![1, 4096, 1, 16]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x32 : Shape := ⟨4, ![4, 4096, 2, 32]⟩
abbrev S4x4096x2x16 : Shape := ⟨4, ![4, 4096, 2, 16]⟩
abbrev S4x4096x1x64 : Shape := ⟨4, ![4, 4096, 1, 64]⟩
abbrev S4x4096x4x64 : Shape := ⟨4, ![4, 4096, 4, 64]⟩
abbrev S4x4096x256 : Shape := ⟨3, ![4, 4096, 256]⟩

abbrev nBuf : Space → Nat
  | .hbm => 307
  | .vmem => 0
  | .smem => 0
  | _ => 0

abbrev hbmTy0_0 (i : Nat) : BufTy := match i % 128 with
  | 0 => ⟨S4x4096x1024, .f32⟩
  | 1 => ⟨S1024, .f32⟩
  | 2 => ⟨S4x1024, .f32⟩
  | 3 => ⟨S4x1024, .f32⟩
  | 4 => ⟨S1024x2304, .f32⟩
  | 5 => ⟨S64, .f32⟩
  | 6 => ⟨S64, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S4x1x1024, .f32⟩
  | 24 => ⟨S_, .f32⟩
  | 25 => ⟨S4x1x1024, .f32⟩
  | 26 => ⟨S4x1x1024, .f32⟩
  | 27 => ⟨S4x4096x1024, .f32⟩
  | 28 => ⟨S4x4096x1024, .f32⟩
  | 29 => ⟨S4x1x1024, .f32⟩
  | 30 => ⟨S4x4096x1024, .f32⟩
  | 31 => ⟨S4x4096x1024, .f32⟩
  | 32 => ⟨S4x4096x2304, .f32⟩
  | 33 => ⟨S4x4096x512, .f32⟩
  | 34 => ⟨S4x4096x128, .f32⟩
  | 35 => ⟨S4x4096x128, .f32⟩
  | 36 => ⟨S4x4096x1536, .f32⟩
  | 37 => ⟨S4x4096x8x64, .f32⟩
  | 38 => ⟨S4x4096x8x64, .f32⟩
  | 39 => ⟨S_, .f32⟩
  | 40 => ⟨S4x4096x8, .f32⟩
  | 41 => ⟨S4x4096x8x1, .f32⟩
  | 42 => ⟨S_, .f32⟩
  | 43 => ⟨S4x4096x8x1, .f32⟩
  | 44 => ⟨S4x4096x8x1, .f32⟩
  | 45 => ⟨S_, .f32⟩
  | 46 => ⟨S4x4096x8x1, .f32⟩
  | 47 => ⟨S4x4096x8x1, .f32⟩
  | 48 => ⟨S4x4096x8x1, .f32⟩
  | 49 => ⟨S4x4096x8x64, .f32⟩
  | 50 => ⟨S4x4096x8x64, .f32⟩
  | 51 => ⟨S1x1x1x64, .f32⟩
  | 52 => ⟨S4x4096x8x64, .f32⟩
  | 53 => ⟨S4x4096x8x64, .f32⟩
  | 54 => ⟨S4096, .i32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .i32⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i1⟩
  | 77 => ⟨S4096, .i32⟩
  | 78 => ⟨S4096, .i32⟩
  | 79 => ⟨S_, .i32⟩
  | 80 => ⟨S4096, .i32⟩
  | 81 => ⟨S4096, .i1⟩
  | 82 => ⟨S4096, .i1⟩
  | 83 => ⟨S_, .i32⟩
  | 84 => ⟨S4096, .i32⟩
  | 85 => ⟨S4096, .i32⟩
  | 86 => ⟨S4096, .i32⟩
  | 87 => ⟨S4096, .f32⟩
  | 88 => ⟨S4096x1, .f32⟩
  | 89 => ⟨S1x16, .f32⟩
  | 90 => ⟨S4096x16, .f32⟩
  | 91 => ⟨S4096x16, .f32⟩
  | 92 => ⟨S4096x16, .f32⟩
  | 93 => ⟨S4096x1x16, .f32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i1⟩
  | 108 => ⟨S_, .i32⟩
  | 109 => ⟨S_, .i1⟩
  | 110 => ⟨S4096, .i1⟩
  | 111 => ⟨S4096, .i1⟩
  | 112 => ⟨S4096, .i1⟩
  | 113 => ⟨S4096, .i32⟩
  | 114 => ⟨S4096, .i32⟩
  | 115 => ⟨S4096, .i32⟩
  | 116 => ⟨S4096, .f32⟩
  | 117 => ⟨S4096x1, .f32⟩
  | 118 => ⟨S1x16, .f32⟩
  | 119 => ⟨S4096x16, .f32⟩
  | 120 => ⟨S4096x16, .f32⟩
  | 121 => ⟨S4096x16, .f32⟩
  | 122 => ⟨S4096x1x16, .f32⟩
  | 123 => ⟨S4x4096x8x32, .f32⟩
  | 124 => ⟨S4x4096x8x16, .f32⟩
  | 125 => ⟨S4x4096x8x16, .f32⟩
  | 126 => ⟨S4096x1x16, .f32⟩
  | 127 => ⟨S4096x1x16, .f32⟩
  | _ => ⟨S4x4096x1024, .f32⟩

abbrev hbmTy0_1 (i : Nat) : BufTy := match i % 128 with
  | 0 => ⟨S1x4096x1x16, .f32⟩
  | 1 => ⟨S4x4096x8x16, .f32⟩
  | 2 => ⟨S4x4096x8x16, .f32⟩
  | 3 => ⟨S1x4096x1x16, .f32⟩
  | 4 => ⟨S4x4096x8x16, .f32⟩
  | 5 => ⟨S4x4096x8x16, .f32⟩
  | 6 => ⟨S4x4096x8x16, .f32⟩
  | 7 => ⟨S1x4096x1x16, .f32⟩
  | 8 => ⟨S4x4096x8x16, .f32⟩
  | 9 => ⟨S4x4096x8x16, .f32⟩
  | 10 => ⟨S1x4096x1x16, .f32⟩
  | 11 => ⟨S4x4096x8x16, .f32⟩
  | 12 => ⟨S4x4096x8x16, .f32⟩
  | 13 => ⟨S4x4096x8x16, .f32⟩
  | 14 => ⟨S4x4096x8x32, .f32⟩
  | 15 => ⟨S4x4096x8x32, .f32⟩
  | 16 => ⟨S4x4096x8x16, .f32⟩
  | 17 => ⟨S4x4096x8x16, .f32⟩
  | 18 => ⟨S4096x1x16, .f32⟩
  | 19 => ⟨S4096x1x16, .f32⟩
  | 20 => ⟨S1x4096x1x16, .f32⟩
  | 21 => ⟨S4x4096x8x16, .f32⟩
  | 22 => ⟨S4x4096x8x16, .f32⟩
  | 23 => ⟨S1x4096x1x16, .f32⟩
  | 24 => ⟨S4x4096x8x16, .f32⟩
  | 25 => ⟨S4x4096x8x16, .f32⟩
  | 26 => ⟨S4x4096x8x16, .f32⟩
  | 27 => ⟨S1x4096x1x16, .f32⟩
  | 28 => ⟨S4x4096x8x16, .f32⟩
  | 29 => ⟨S4x4096x8x16, .f32⟩
  | 30 => ⟨S1x4096x1x16, .f32⟩
  | 31 => ⟨S4x4096x8x16, .f32⟩
  | 32 => ⟨S4x4096x8x16, .f32⟩
  | 33 => ⟨S4x4096x8x16, .f32⟩
  | 34 => ⟨S4x4096x8x32, .f32⟩
  | 35 => ⟨S4x4096x8x64, .f32⟩
  | 36 => ⟨S4x4096x512, .f32⟩
  | 37 => ⟨S4x4096x2x64, .f32⟩
  | 38 => ⟨S4x4096x2x64, .f32⟩
  | 39 => ⟨S_, .f32⟩
  | 40 => ⟨S4x4096x2, .f32⟩
  | 41 => ⟨S4x4096x2x1, .f32⟩
  | 42 => ⟨S_, .f32⟩
  | 43 => ⟨S4x4096x2x1, .f32⟩
  | 44 => ⟨S4x4096x2x1, .f32⟩
  | 45 => ⟨S_, .f32⟩
  | 46 => ⟨S4x4096x2x1, .f32⟩
  | 47 => ⟨S4x4096x2x1, .f32⟩
  | 48 => ⟨S4x4096x2x1, .f32⟩
  | 49 => ⟨S4x4096x2x64, .f32⟩
  | 50 => ⟨S4x4096x2x64, .f32⟩
  | 51 => ⟨S1x1x1x64, .f32⟩
  | 52 => ⟨S4x4096x2x64, .f32⟩
  | 53 => ⟨S4x4096x2x64, .f32⟩
  | 54 => ⟨S4096, .i32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .i32⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i1⟩
  | 77 => ⟨S4096, .i32⟩
  | 78 => ⟨S4096, .i32⟩
  | 79 => ⟨S_, .i32⟩
  | 80 => ⟨S4096, .i32⟩
  | 81 => ⟨S4096, .i1⟩
  | 82 => ⟨S4096, .i1⟩
  | 83 => ⟨S_, .i32⟩
  | 84 => ⟨S4096, .i32⟩
  | 85 => ⟨S4096, .i32⟩
  | 86 => ⟨S4096, .i32⟩
  | 87 => ⟨S4096, .f32⟩
  | 88 => ⟨S4096x1, .f32⟩
  | 89 => ⟨S1x16, .f32⟩
  | 90 => ⟨S4096x16, .f32⟩
  | 91 => ⟨S4096x16, .f32⟩
  | 92 => ⟨S4096x16, .f32⟩
  | 93 => ⟨S4096x1x16, .f32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i1⟩
  | 108 => ⟨S_, .i32⟩
  | 109 => ⟨S_, .i1⟩
  | 110 => ⟨S4096, .i1⟩
  | 111 => ⟨S4096, .i1⟩
  | 112 => ⟨S4096, .i1⟩
  | 113 => ⟨S4096, .i32⟩
  | 114 => ⟨S4096, .i32⟩
  | 115 => ⟨S4096, .i32⟩
  | 116 => ⟨S4096, .f32⟩
  | 117 => ⟨S4096x1, .f32⟩
  | 118 => ⟨S1x16, .f32⟩
  | 119 => ⟨S4096x16, .f32⟩
  | 120 => ⟨S4096x16, .f32⟩
  | 121 => ⟨S4096x16, .f32⟩
  | 122 => ⟨S4096x1x16, .f32⟩
  | 123 => ⟨S4x4096x2x32, .f32⟩
  | 124 => ⟨S4x4096x2x16, .f32⟩
  | 125 => ⟨S4x4096x2x16, .f32⟩
  | 126 => ⟨S4096x1x16, .f32⟩
  | 127 => ⟨S4096x1x16, .f32⟩
  | _ => ⟨S4x4096x1024, .f32⟩

abbrev hbmTy0_2 (i : Nat) : BufTy := match i % 128 with
  | 0 => ⟨S1x4096x1x16, .f32⟩
  | 1 => ⟨S4x4096x2x16, .f32⟩
  | 2 => ⟨S4x4096x2x16, .f32⟩
  | 3 => ⟨S1x4096x1x16, .f32⟩
  | 4 => ⟨S4x4096x2x16, .f32⟩
  | 5 => ⟨S4x4096x2x16, .f32⟩
  | 6 => ⟨S4x4096x2x16, .f32⟩
  | 7 => ⟨S1x4096x1x16, .f32⟩
  | 8 => ⟨S4x4096x2x16, .f32⟩
  | 9 => ⟨S4x4096x2x16, .f32⟩
  | 10 => ⟨S1x4096x1x16, .f32⟩
  | 11 => ⟨S4x4096x2x16, .f32⟩
  | 12 => ⟨S4x4096x2x16, .f32⟩
  | 13 => ⟨S4x4096x2x16, .f32⟩
  | 14 => ⟨S4x4096x2x32, .f32⟩
  | 15 => ⟨S4x4096x2x32, .f32⟩
  | 16 => ⟨S4x4096x2x16, .f32⟩
  | 17 => ⟨S4x4096x2x16, .f32⟩
  | 18 => ⟨S4096x1x16, .f32⟩
  | 19 => ⟨S4096x1x16, .f32⟩
  | 20 => ⟨S1x4096x1x16, .f32⟩
  | 21 => ⟨S4x4096x2x16, .f32⟩
  | 22 => ⟨S4x4096x2x16, .f32⟩
  | 23 => ⟨S1x4096x1x16, .f32⟩
  | 24 => ⟨S4x4096x2x16, .f32⟩
  | 25 => ⟨S4x4096x2x16, .f32⟩
  | 26 => ⟨S4x4096x2x16, .f32⟩
  | 27 => ⟨S1x4096x1x16, .f32⟩
  | 28 => ⟨S4x4096x2x16, .f32⟩
  | 29 => ⟨S4x4096x2x16, .f32⟩
  | 30 => ⟨S1x4096x1x16, .f32⟩
  | 31 => ⟨S4x4096x2x16, .f32⟩
  | 32 => ⟨S4x4096x2x16, .f32⟩
  | 33 => ⟨S4x4096x2x16, .f32⟩
  | 34 => ⟨S4x4096x2x32, .f32⟩
  | 35 => ⟨S4x4096x2x64, .f32⟩
  | 36 => ⟨S4x4096x1x64, .f32⟩
  | 37 => ⟨S4x4096x1x64, .f32⟩
  | 38 => ⟨S4x4096x1x64, .f32⟩
  | 39 => ⟨S4x4096x1x64, .f32⟩
  | 40 => ⟨S4x4096x4x64, .f32⟩
  | 41 => ⟨S4x4096x256, .f32⟩
  | 42 => ⟨S4x4096x256, .bf16⟩
  | 43 => ⟨S4x4096x2x64, .f32⟩
  | 44 => ⟨S4x4096x1x64, .f32⟩
  | 45 => ⟨S4x4096x1x64, .f32⟩
  | 46 => ⟨S4x4096x1x64, .f32⟩
  | 47 => ⟨S4x4096x1x64, .f32⟩
  | 48 => ⟨S4x4096x4x64, .f32⟩
  | 49 => ⟨S4x4096x256, .f32⟩
  | 50 => ⟨S4x4096x256, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_call1_v0 : Ref sig .tc := ⟨.hbm, 95, rfl⟩
abbrev main_call1_c : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_c_1 : Ref sig .tc := ⟨.hbm, 102, rfl⟩
abbrev main_call1_v5 : Ref sig .tc := ⟨.hbm, 103, rfl⟩
abbrev main_call1_v6 : Ref sig .tc := ⟨.hbm, 104, rfl⟩
abbrev main_call1_c_2 : Ref sig .tc := ⟨.hbm, 105, rfl⟩
abbrev main_call1_v7 : Ref sig .tc := ⟨.hbm, 106, rfl⟩
abbrev main_call1_v8 : Ref sig .tc := ⟨.hbm, 107, rfl⟩
abbrev main_call1_c_3 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_v12 : Ref sig .tc := ⟨.hbm, 112, rfl⟩
abbrev main_call1_v13 : Ref sig .tc := ⟨.hbm, 113, rfl⟩
abbrev main_call1_v14 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_11 : Ref sig .tc := ⟨.hbm, 167, rfl⟩
abbrev main_v111 : Ref sig .tc := ⟨.hbm, 168, rfl⟩
abbrev main_v112 : Ref sig .tc := ⟨.hbm, 169, rfl⟩
abbrev main_cst_12 : Ref sig .tc := ⟨.hbm, 170, rfl⟩
abbrev main_v113 : Ref sig .tc := ⟨.hbm, 171, rfl⟩
abbrev main_v114 : Ref sig .tc := ⟨.hbm, 172, rfl⟩
abbrev main_cst_13 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_14 : Ref sig .tc := ⟨.hbm, 184, rfl⟩
abbrev main_v125 : Ref sig .tc := ⟨.hbm, 185, rfl⟩
abbrev main_v126 : Ref sig .tc := ⟨.hbm, 186, rfl⟩
abbrev main_cst_15 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_16 : Ref sig .tc := ⟨.hbm, 191, rfl⟩
abbrev main_v130 : Ref sig .tc := ⟨.hbm, 192, rfl⟩
abbrev main_v131 : Ref sig .tc := ⟨.hbm, 193, rfl⟩
abbrev main_cst_17 : Ref sig .tc := ⟨.hbm, 194, rfl⟩
abbrev main_v132 : Ref sig .tc := ⟨.hbm, 195, rfl⟩
abbrev main_v133 : Ref sig .tc := ⟨.hbm, 196, rfl⟩
abbrev main_c_18 : Ref sig .tc := ⟨.hbm, 197, rfl⟩
abbrev main_call2_v0 : Ref sig .tc := ⟨.hbm, 198, rfl⟩
abbrev main_call2_v1 : Ref sig .tc := ⟨.hbm, 199, rfl⟩
abbrev main_call2_v2 : Ref sig .tc := ⟨.hbm, 200, rfl⟩
abbrev main_call2_v3 : Ref sig .tc := ⟨.hbm, 201, rfl⟩
abbrev main_call2_v4 : Ref sig .tc := ⟨.hbm, 202, rfl⟩
abbrev main_call2_v5 : Ref sig .tc := ⟨.hbm, 203, rfl⟩
abbrev main_call2_v6 : Ref sig .tc := ⟨.hbm, 204, rfl⟩
abbrev main_call2_v7 : Ref sig .tc := ⟨.hbm, 205, rfl⟩
abbrev main_call2_v8 : Ref sig .tc := ⟨.hbm, 206, rfl⟩
abbrev main_call2_c : Ref sig .tc := ⟨.hbm, 207, rfl⟩
abbrev main_call2_v9 : Ref sig .tc := ⟨.hbm, 208, rfl⟩
abbrev main_call2_v10 : Ref sig .tc := ⟨.hbm, 209, rfl⟩
abbrev main_call2_v11 : Ref sig .tc := ⟨.hbm, 210, rfl⟩
abbrev main_call2_c_0 : Ref sig .tc := ⟨.hbm, 211, rfl⟩
abbrev main_call2_v12 : Ref sig .tc := ⟨.hbm, 212, rfl⟩
abbrev main_call2_v13 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_c_19 : Ref sig .tc := ⟨.hbm, 222, rfl⟩
abbrev main_call3_v0 : Ref sig .tc := ⟨.hbm, 223, rfl⟩
abbrev main_call3_c : Ref sig .tc := ⟨.hbm, 224, rfl⟩
abbrev main_call3_v1 : Ref sig .tc := ⟨.hbm, 225, rfl⟩
abbrev main_call3_c_0 : Ref sig .tc := ⟨.hbm, 226, rfl⟩
abbrev main_call3_v2 : Ref sig .tc := ⟨.hbm, 227, rfl⟩
abbrev main_call3_v3 : Ref sig .tc := ⟨.hbm, 228, rfl⟩
abbrev main_call3_v4 : Ref sig .tc := ⟨.hbm, 229, rfl⟩
abbrev main_call3_c_1 : Ref sig .tc := ⟨.hbm, 230, rfl⟩
abbrev main_call3_v5 : Ref sig .tc := ⟨.hbm, 231, rfl⟩
abbrev main_call3_v6 : Ref sig .tc := ⟨.hbm, 232, rfl⟩
abbrev main_call3_c_2 : Ref sig .tc := ⟨.hbm, 233, rfl⟩
abbrev main_call3_v7 : Ref sig .tc := ⟨.hbm, 234, rfl⟩
abbrev main_call3_v8 : Ref sig .tc := ⟨.hbm, 235, rfl⟩
abbrev main_call3_c_3 : Ref sig .tc := ⟨.hbm, 236, rfl⟩
abbrev main_call3_v9 : Ref sig .tc := ⟨.hbm, 237, rfl⟩
abbrev main_call3_v10 : Ref sig .tc := ⟨.hbm, 238, rfl⟩
abbrev main_call3_v11 : Ref sig .tc := ⟨.hbm, 239, rfl⟩
abbrev main_call3_v12 : Ref sig .tc := ⟨.hbm, 240, rfl⟩
abbrev main_call3_v13 : Ref sig .tc := ⟨.hbm, 241, rfl⟩
abbrev main_call3_v14 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩

abbrev nD : Nat := 1
abbrev τ : Topo := Topo.v7x

variable {F : FTy → Type} [FloatOps F]
-- ==== Ctx.lean ====
abbrev S4x256x1024 : Shape := ⟨3, ![4, 256, 1024]⟩
abbrev S1024 : Shape := ⟨1, ![1024]⟩
abbrev S1x1024 : Shape := ⟨2, ![1, 1024]⟩
abbrev S1024x2304 : Shape := ⟨2, ![1024, 2304]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S1024x1536 : Shape := ⟨2, ![1024, 1536]⟩
abbrev S1024x2560 : Shape := ⟨2, ![1024, 2560]⟩
abbrev S1x1x1024 : Shape := ⟨3, ![1, 1, 1024]⟩
abbrev S4x256x512 : Shape := ⟨3, ![4, 256, 512]⟩
abbrev S4x256x256 : Shape := ⟨3, ![4, 256, 256]⟩
abbrev S1x256x1024 : Shape := ⟨3, ![1, 256, 1024]⟩
abbrev S1x256x512 : Shape := ⟨3, ![1, 256, 512]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩
abbrev S256x512 : Shape := ⟨2, ![256, 512]⟩
abbrev S256x256 : Shape := ⟨2, ![256, 256]⟩

abbrev nBuf : Space → Nat
  | .hbm => 26
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x2304, .f32⟩
  | .hbm, ⟨5, _⟩ => ⟨S1024x2304, .bf16⟩
  | .hbm, ⟨6, _⟩ => ⟨S1024x512, .bf16⟩
  | .hbm, ⟨7, _⟩ => ⟨S1024x128, .bf16⟩
  | .hbm, ⟨8, _⟩ => ⟨S1024x64, .bf16⟩
  | .hbm, ⟨9, _⟩ => ⟨S1024x64, .bf16⟩
  | .hbm, ⟨10, _⟩ => ⟨S1024x256, .bf16⟩
  | .hbm, ⟨11, _⟩ => ⟨S1024x128, .bf16⟩
  | .hbm, ⟨12, _⟩ => ⟨S1024x64, .bf16⟩
  | .hbm, ⟨13, _⟩ => ⟨S1024x64, .bf16⟩
  | .hbm, ⟨14, _⟩ => ⟨S1024x256, .bf16⟩
  | .hbm, ⟨15, _⟩ => ⟨S1024x1536, .bf16⟩
  | .hbm, ⟨16, _⟩ => ⟨S1024x2560, .bf16⟩
  | .hbm, ⟨17, _⟩ => ⟨S1x1024, .f32⟩
  | .hbm, ⟨18, _⟩ => ⟨S1x1x1024, .f32⟩
  | .hbm, ⟨19, _⟩ => ⟨S1x1x1024, .f32⟩
  | .hbm, ⟨20, _⟩ => ⟨S4x256x512, .f32⟩
  | .hbm, ⟨21, _⟩ => ⟨S4x256x256, .bf16⟩
  | .hbm, ⟨22, _⟩ => ⟨S4x256x256, .bf16⟩
  | .hbm, ⟨23, _⟩ => ⟨S4x256x512, .f32⟩
  | .hbm, ⟨24, _⟩ => ⟨S4x256x512, .bf16⟩
  | .hbm, ⟨25, _⟩ => ⟨S4x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x2560, .bf16⟩
  | .local _ .vmem, ⟨6, _⟩ => ⟨S1x256x512, .f32⟩
  | .local _ .vmem, ⟨7, _⟩ => ⟨S1x256x512, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== CtxRefIdeal.lean ====
abbrev S4x256x1024 : Shape := ⟨3, ![4, 256, 1024]⟩
abbrev S1024 : Shape := ⟨1, ![1024]⟩
abbrev S1x1024 : Shape := ⟨2, ![1, 1024]⟩
abbrev S1024x2304 : Shape := ⟨2, ![1024, 2304]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2304 : Shape := ⟨3, ![4, 256, 2304]⟩
abbrev S4x256x512 : Shape := ⟨3, ![4, 256, 512]⟩
abbrev S4x256x128 : Shape := ⟨3, ![4, 256, 128]⟩
abbrev S4x256x2x64 : Shape := ⟨4, ![4, 256, 2, 64]⟩
abbrev S4x256x1x64 : Shape := ⟨4, ![4, 256, 1, 64]⟩
abbrev S4x256x4x64 : Shape := ⟨4, ![4, 256, 4, 64]⟩
abbrev S4x256x256 : Shape := ⟨3, ![4, 256, 256]⟩

abbrev nBuf : Space → Nat
  | .hbm => 55
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x2304, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S4x256x2304, .f32⟩
  | .hbm, ⟨31, _⟩ => ⟨S4x256x512, .f32⟩
  | .hbm, ⟨32, _⟩ => ⟨S4x256x128, .f32⟩
  | .hbm, ⟨33, _⟩ => ⟨S4x256x128, .f32⟩
  | .hbm, ⟨34, _⟩ => ⟨S4x256x512, .f32⟩
  | .hbm, ⟨35, _⟩ => ⟨S4x256x512, .f32⟩
  | .hbm, ⟨36, _⟩ => ⟨S4x256x512, .f32⟩
  | .hbm, ⟨37, _⟩ => ⟨S4x256x2x64, .f32⟩
  | .hbm, ⟨38, _⟩ => ⟨S4x256x1x64, .f32⟩
  | .hbm, ⟨39, _⟩ => ⟨S4x256x1x64, .f32⟩
  | .hbm, ⟨40, _⟩ => ⟨S4x256x1x64, .f32⟩
  | .hbm, ⟨41, _⟩ => ⟨S4x256x1x64, .f32⟩
  | .hbm, ⟨42, _⟩ => ⟨S4x256x4x64, .f32⟩
  | .hbm, ⟨43, _⟩ => ⟨S4x256x256, .f32⟩
  | .hbm, ⟨44, _⟩ => ⟨S4x256x256, .bf16⟩
  | .hbm, ⟨45, _⟩ => ⟨S4x256x2x64, .f32⟩
  | .hbm, ⟨46, _⟩ => ⟨S4x256x1x64, .f32⟩
  | .hbm, ⟨47, _⟩ => ⟨S4x256x1x64, .f32⟩
  | .hbm, ⟨48, _⟩ => ⟨S4x256x1x64, .f32⟩
  | .hbm, ⟨49, _⟩ => ⟨S4x256x1x64, .f32⟩
  | .hbm, ⟨50, _⟩ => ⟨S4x256x4x64, .f32⟩
  | .hbm, ⟨51, _⟩ => ⟨S4x256x256, .f32⟩
  | .hbm, ⟨52, _⟩ => ⟨S4x256x256, .bf16⟩
  | .hbm, ⟨53, _⟩ => ⟨S4x256x512, .bf16⟩
  | .hbm, ⟨54, _⟩ => ⟨S4x256x512, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Last.lean ====
abbrev S4x256x1024 : Shape := ⟨3, ![4, 256, 1024]⟩
abbrev S1024 : Shape := ⟨1, ![1024]⟩
abbrev S1x1024 : Shape := ⟨2, ![1, 1024]⟩
abbrev S1024x2304 : Shape := ⟨2, ![1024, 2304]⟩
abbrev S64 : Shape := ⟨1, ![64]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S1024x1536 : Shape := ⟨2, ![1024, 1536]⟩
abbrev S1024x2560 : Shape := ⟨2, ![1024, 2560]⟩
abbrev S512x512 : Shape := ⟨2, ![512, 512]⟩
abbrev S_ : Shape := ⟨0, ![]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1x1024 : Shape := ⟨3, ![1, 1, 1024]⟩
abbrev S4x256x256 : Shape := ⟨3, ![4, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x1 : Shape := ⟨2, ![256, 1]⟩
abbrev S256x512 : Shape := ⟨2, ![256, 512]⟩
abbrev S256x256 : Shape := ⟨2, ![256, 256]⟩

abbrev nBuf : Space → Nat
  | .hbm => 73
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x2304, .f32⟩
  | .hbm, ⟨5, _⟩ => ⟨S64, .f32⟩
  | .hbm, ⟨6, _⟩ => ⟨S1024x2304, .bf16⟩
  | .hbm, ⟨7, _⟩ => ⟨S1024x512, .bf16⟩
  | .hbm, ⟨8, _⟩ => ⟨S1024x128, .bf16⟩
  | .hbm, ⟨9, _⟩ => ⟨S1024x64, .bf16⟩
  | .hbm, ⟨10, _⟩ => ⟨S1024x64, .bf16⟩
  | .hbm, ⟨11, _⟩ => ⟨S1024x256, .bf16⟩
  | .hbm, ⟨12, _⟩ => ⟨S1024x128, .bf16⟩
  | .hbm, ⟨13, _⟩ => ⟨S1024x64, .bf16⟩
  | .hbm, ⟨14, _⟩ => ⟨S1024x64, .bf16⟩
  | .hbm, ⟨15, _⟩ => ⟨S1024x256, .bf16⟩
  | .hbm, ⟨16, _⟩ => ⟨S1024x1536, .bf16⟩
  | .hbm, ⟨17, _⟩ => ⟨S1024x2560, .bf16⟩
  | .hbm, ⟨18, _⟩ => ⟨S512x512, .i32⟩
  | .hbm, ⟨19, _⟩ => ⟨S_, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i1⟩
  | .hbm, ⟨51, _⟩ => ⟨S512x512, .i1⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i32⟩
  | .hbm, ⟨56, _⟩ => ⟨S512x512, .i1⟩
  | .hbm, ⟨57, _⟩ => ⟨S_, .f32⟩
  | .hbm, ⟨58, _⟩ => ⟨S_, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S512x512, .bf16⟩
  | .hbm, ⟨63, _⟩ => ⟨S1x64, .f32⟩
  | .hbm, ⟨64, _⟩ => ⟨S4x64, .f32⟩
  | .hbm, ⟨65, _⟩ => ⟨S256, .f32⟩
  | .hbm, ⟨66, _⟩ => ⟨S1x256, .f32⟩
  | .hbm, ⟨67, _⟩ => ⟨S1024x512, .bf16⟩
  | .hbm, ⟨68, _⟩ => ⟨S1x1024, .f32⟩
  | .hbm, ⟨69, _⟩ => ⟨S1x1x1024, .f32⟩
  | .hbm, ⟨70, _⟩ => ⟨S1x1x1024, .f32⟩
  | .hbm, ⟨71, _⟩ => ⟨S4x256x256, .bf16⟩
  | .hbm, ⟨72, _⟩ => ⟨S4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x512, .bf16⟩
  | .local _ .vmem, ⟨6, _⟩ => ⟨S512x512, .bf16⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v15 : Ref sig .tc := ⟨.hbm, 55, rfl⟩
abbrev main_v16 : Ref sig .tc := ⟨.hbm, 56, rfl⟩
abbrev main_cst : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27_0 : Ref sig .tc := ⟨.hbm, 71, rfl⟩
abbrev main_v27_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LastRefIdeal.lean ====
abbrev S4x256x1024 : Shape := ⟨3, ![4, 256, 1024]⟩
abbrev S1024 : Shape := ⟨1, ![1024]⟩
abbrev S1x1024 : Shape := ⟨2, ![1, 1024]⟩
abbrev S1024x2304 : Shape := ⟨2, ![1024, 2304]⟩
abbrev S64 : Shape := ⟨1, ![64]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2304 : Shape := ⟨3, ![4, 256, 2304]⟩
abbrev S4x256x512 : Shape := ⟨3, ![4, 256, 512]⟩
abbrev S4x256x128 : Shape := ⟨3, ![4, 256, 128]⟩
abbrev S4x256x1536 : Shape := ⟨3, ![4, 256, 1536]⟩
abbrev S4x256x2x64 : Shape := ⟨4, ![4, 256, 2, 64]⟩
abbrev S4x256x2 : Shape := ⟨3, ![4, 256, 2]⟩
abbrev S4x256x2x1 : Shape := ⟨4, ![4, 256, 2, 1]⟩
abbrev S1x1x1x64 : Shape := ⟨4, ![1, 1, 1, 64]⟩
abbrev S4x256x1x64 : Shape := ⟨4, ![4, 256, 1, 64]⟩
abbrev S4x256x4x64 : Shape := ⟨4, ![4, 256, 4, 64]⟩
abbrev S4x256x256 : Shape := ⟨3, ![4, 256, 256]⟩

abbrev nBuf : Space → Nat
  | .hbm => 68
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x2304, .f32⟩
  | .hbm, ⟨5, _⟩ => ⟨S64, .f32⟩
  | .hbm, ⟨6, _⟩ => ⟨S4x256x1024, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x1024, .f32⟩
  | .hbm, ⟨18, _⟩ => ⟨S4x256x1024, .f32⟩
  | .hbm, ⟨19, _⟩ => ⟨S1x1x1024, .f32⟩
  | .hbm, ⟨20, _⟩ => ⟨S4x256x1024, .f32⟩
  | .hbm, ⟨21, _⟩ => ⟨S4x256x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S4x256x1024, .f32⟩
  | .hbm, ⟨27, _⟩ => ⟨S4x256x1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S4x256x2304, .f32⟩
  | .hbm, ⟨32, _⟩ => ⟨S4x256x512, .f32⟩
  | .hbm, ⟨33, _⟩ => ⟨S4x256x128, .f32⟩
  | .hbm, ⟨34, _⟩ => ⟨S4x256x128, .f32⟩
  | .hbm, ⟨35, _⟩ => ⟨S4x256x1536, .f32⟩
  | .hbm, ⟨36, _⟩ => ⟨S4x256x2x64, .f32⟩
  | .hbm, ⟨37, _⟩ => ⟨S4x256x2x64, .f32⟩
  | .hbm, ⟨38, _⟩ => ⟨S_, .f32⟩
  | .hbm, ⟨39, _⟩ => ⟨S4x256x2, .f32⟩
  | .hbm, ⟨40, _⟩ => ⟨S4x256x2x1, .f32⟩
  | .hbm, ⟨41, _⟩ => ⟨S_, .f32⟩
  | .hbm, ⟨42, _⟩ => ⟨S4x256x2x1, .f32⟩
  | .hbm, ⟨43, _⟩ => ⟨S4x256x2x1, .f32⟩
  | .hbm, ⟨44, _⟩ => ⟨S_, .f32⟩
  | .hbm, ⟨45, _⟩ => ⟨S4x256x2x1, .f32⟩
  | .hbm, ⟨46, _⟩ => ⟨S4x256x2x1, .f32⟩
  | .hbm, ⟨47, _⟩ => ⟨S4x256x2x1, .f32⟩
  | .hbm, ⟨48, _⟩ => ⟨S4x256x2x64, .f32⟩
  | .hbm, ⟨49, _⟩ => ⟨S4x256x2x64, .f32⟩
  | .hbm, ⟨50, _⟩ => ⟨S1x1x1x64, .f32⟩
  | .hbm, ⟨51, _⟩ => ⟨S4x256x2x64, .f32⟩
  | .hbm, ⟨52, _⟩ => ⟨S4x256x2x64, .f32⟩
  | .hbm, ⟨53, _⟩ => ⟨S4x256x1x64, .f32⟩
  | .hbm, ⟨54, _⟩ => ⟨S4x256x1x64, .f32⟩
  | .hbm, ⟨55, _⟩ => ⟨S4x256x1x64, .f32⟩
  | .hbm, ⟨56, _⟩ => ⟨S4x256x1x64, .f32⟩
  | .hbm, ⟨57, _⟩ => ⟨S4x256x4x64, .f32⟩
  | .hbm, ⟨58, _⟩ => ⟨S4x256x256, .f32⟩
  | .hbm, ⟨59, _⟩ => ⟨S4x256x256, .bf16⟩
  | .hbm, ⟨60, _⟩ => ⟨S4x256x2x64, .f32⟩
  | .hbm, ⟨61, _⟩ => ⟨S4x256x1x64, .f32⟩
  | .hbm, ⟨62, _⟩ => ⟨S4x256x1x64, .f32⟩
  | .hbm, ⟨63, _⟩ => ⟨S4x256x1x64, .f32⟩
  | .hbm, ⟨64, _⟩ => ⟨S4x256x1x64, .f32⟩
  | .hbm, ⟨65, _⟩ => ⟨S4x256x4x64, .f32⟩
  | .hbm, ⟨66, _⟩ => ⟨S4x256x256, .f32⟩
  | .hbm, ⟨67, _⟩ => ⟨S4x256x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.MoeIdealRun.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.Pipeline.ValueKit
public import Idealize.ShloMosaic.Lib.WholeRead
public import proofs.«01_k».proof.Proof.Gen.Pre_tiles_in_range

@[expose] public section

set_option maxRecDepth 16384

noncomputable section

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables, as the body reads them -/

abbrev tbM0 : Memref sig .tc .smem S56 .i32 := Memref.whole main_arg0
abbrev htbM0 : tbM0.IsWhole := Memref.isWhole_whole _
abbrev tbM1 : Memref sig .tc .smem S1 .i32 := Memref.whole main_arg1
abbrev htbM1 : tbM1.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The number of used tiles, as the body loads it. -/
def wNv (c : Dev nD) (xt1 : TbBuf (F := F) c tbM1) : BitVec 32 :=
  View.readAt (Elt F) tbM1.view (Rect.unit (s := S1) ![0] S1.size inb_S1_S1_0).toLoadRect xt1 (Shape.Idx.first (Nat.lt_of_lt_of_eq Nat.zero_lt_one numel1_S1.symm))
/-- The tile's expert, as the body loads it. -/
def wTe (c : Dev nD) (i : grid0.Coords) (xt0 : TbBuf (F := F) c tbM0) : BitVec 32 :=
  View.readAt (Elt F) tbM0.view (Rect.unit (s := S56) (k0_off1 i) S1.size (k0_off1_inb i)).toLoadRect xt0 (Shape.Idx.first (Nat.lt_of_lt_of_eq Nat.zero_lt_one numel1_S1.symm))
/-- The expert of the tile before, as the body loads it. -/
def wTp (c : Dev nD) (i : grid0.Coords) (xt0 : TbBuf (F := F) c tbM0) : BitVec 32 :=
  View.readAt (Elt F) tbM0.view (Rect.unit (s := S56) (k0_off2 i) S1.size (k0_off2_inb i)).toLoadRect xt0 (Shape.Idx.first (Nat.lt_of_lt_of_eq Nat.zero_lt_one numel1_S1.symm))
/-- Whether the tile takes fresh weights: it is used, and it is the first or of another expert than the tile before. -/
def wFresh (c : Dev nD) (i : grid0.Coords) (xt0 : TbBuf (F := F) c tbM0) (xt1 : TbBuf (F := F) c tbM1) : BitVec 1 :=
  Scalar.cmpi .ne (Scalar.extui (Scalar.andi (Scalar.cmpi .slt (BitVec.ofNat 32 (i 0).val) (wNv c xt1)) (Scalar.ori (Scalar.cmpi .eq (BitVec.ofNat 32 (i 0).val) 0#32) (Scalar.cmpi .ne (wTe c i xt0) (wTp c i xt0)))) : BitVec 32) 0#32

/-- What the scratches hold after the body: the weights just taken where they are fresh, what they held otherwise. -/
def keep {S : Shape} {e : EltTy} (b : BitVec 1) (new old : Vec F S e) : Vec F S e := if b = 1#1 then new else old

/-- The two conditions on the tile are each other's negation. -/
theorem cond3_iff (i : grid0.Coords) (w : BitVec 32) : k0_cond3 i w = 1#1 ↔ ¬ k0_cond2 i w = 1#1 := by
  have h : ∀ b : BitVec 1, Scalar.cmpi .ne (Scalar.extui (Scalar.xori b 1#1) : BitVec 32) 0#32 = 1#1
      ↔ ¬ Scalar.cmpi .ne (Scalar.extui b : BitVec 32) 0#32 = 1#1 := by decide
  exact h _

/-- A whole buffer overwritten under a condition reads as the new contents where it holds, as the old otherwise. -/
theorem read_keep {S : Shape} {e : EltTy} (M : Memref sig .tc .vmem S e) (hM : M.IsWhole) (b : BitVec 1) (off : Fin S.rank → ℕ)
    (inb : ∀ a, off a + S.size a ≤ S.size a) (w x : Vec F S e) :
    M.view.read (Elt F) (if hc : b = 1#1 then M.view.writes (Elt F) (hM.unread x) [⟨Rect.unit off S.size inb, w⟩] else hM.unread x) = keep b w x := by
  unfold keep
  by_cases h : b = 1#1
  · rw [dif_pos h, if_pos h]; exact View.read_writes_full _ _ inb w []
  · rw [dif_neg h, if_neg h]; exact hM.read_unread _

set_option maxHeartbeats 2000000 in
/-- The body at any grid point, from scratches at any contents: it leaves its inputs and the tables as they were, puts
    the rounded weights in the scratches where they are fresh, and stores the tile's feed-forward product, or zero. -/
theorem sound_run (c : Dev nD) (i : grid0.Coords) (arg3 : Memref sig .tc .vmem S1024x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S1024x1024 .bf16) (x1 : Vec F S1x1x1024x512 .f32) (x2 : Vec F S1x1x1024x512 .f32) (x3 : Vec F S1x1x512x1024 .f32) (xt0 : TbBuf (F := F) c tbM0) (xt1 : TbBuf (F := F) c tbM1) (xs0 : Vec F S1024x512 .bf16) (xs1 : Vec F S1024x512 .bf16) (xs2 : Vec F S512x1024 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (keep (k0_cond2 i (wNv c xt1)) (k0_pay4 x0 (keep (wFresh c i xt0 xt1) (k0_pay1 x1) xs0) (keep (wFresh c i xt0 xt1) (k0_pay2 x2) xs1) (keep (wFresh c i xt0 xt1) (k0_pay3 x3) xs2)) k0_pay5)
                ∗ owns (c : Thread nD τ) arg8 fullShare (keep (wFresh c i xt0 xt1) (k0_pay1 x1) xs0) ∗ owns (c : Thread nD τ) arg9 fullShare (keep (wFresh c i xt0 xt1) (k0_pay2 x2) xs1) ∗ owns (c : Thread nD τ) arg10 fullShare (keep (wFresh c i xt0 xt1) (k0_pay3 x3) xs2)
                ∗ tbPt c tbM0 xt0 ∗ tbPt c tbM1 xt1) -∗ K ⟨⟩))
          ⊢ wp frame (wpE (defs₀ (F := F)) Variants.none c none) E (cc0_moe_grouped i tbM0 htbM0 tbM1 htbM1 arg3 harg3 arg4 harg4 arg5 harg5 arg6 harg6 arg7 harg7 arg8 harg8 arg9 harg9 arg10 harg10) K := by
    simp only [cc0_moe_grouped_eq_skeleton]; unfold cc0_moe_grouped_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, HT0, HT1, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2
    sl_exec
    sl_exec
    sl_step
    iapply Hk
    isplitl [H0]
    · iexists _; isplitr; swap
      · iexact H0
      ipureintro; exact harg3.read_unread _
    isplitl [H1]
    · iexists _; isplitr; swap
      · iexact H1
      ipureintro; exact harg4.read_unread _
    isplitl [H2]
    · iexists _; isplitr; swap
      · iexact H2
      ipureintro; exact harg5.read_unread _
    isplitl [H3]
    · iexists _; isplitr; swap
      · iexact H3
      ipureintro; exact harg6.read_unread _
    have e0 : View.readAt (Elt F) arg3.view (Rect.unit ![0, 0] S1024x1024.size inb_S1024x1024_S1024x1024_0_0).toLoadRect (harg3.unread x0) = x0 := by
      rw [View.readAt_full]; exact harg3.read_unread _
    have e1 : View.readAt (Elt F) arg4.view (Rect.unit ![0, 0, 0, 0] S1x1x1024x512.size inb_S1x1x1024x512_S1x1x1024x512_0_0_0_0).toLoadRect (harg4.unread x1) = x1 := by
      rw [View.readAt_full]; exact harg4.read_unread _
    have e2 : View.readAt (Elt F) arg5.view (Rect.unit ![0, 0, 0, 0] S1x1x1024x512.size inb_S1x1x1024x512_S1x1x1024x512_0_0_0_0).toLoadRect (harg5.unread x2) = x2 := by
      rw [View.readAt_full]; exact harg5.read_unread _
    have e3 : View.readAt (Elt F) arg6.view (Rect.unit ![0, 0, 0, 0] S1x1x512x1024.size inb_S1x1x512x1024_S1x1x512x1024_0_0_0_0).toLoadRect (harg6.unread x3) = x3 := by
      rw [View.readAt_full]; exact harg6.read_unread _
    have k0 : sound_run.sl.v20 c i arg4 harg4 arg8 harg8 x1 xt0 xt1 xs0 = keep (wFresh c i xt0 xt1) (k0_pay1 x1) xs0 := by
      unfold sound_run.sl.v20; rw [e1, View.readAt_full]; exact read_keep arg8 harg8 _ _ _ _ _
    have k1 : sound_run.sl.v22 c i arg5 harg5 arg9 harg9 x2 xt0 xt1 xs1 = keep (wFresh c i xt0 xt1) (k0_pay2 x2) xs1 := by
      unfold sound_run.sl.v22; rw [e2, View.readAt_full]; exact read_keep arg9 harg9 _ _ _ _ _
    have k2 : sound_run.sl.v28 c i arg6 harg6 arg10 harg10 x3 xt0 xt1 xs2 = keep (wFresh c i xt0 xt1) (k0_pay3 x3) xs2 := by
      unfold sound_run.sl.v28; rw [e3, View.readAt_full]; exact read_keep arg10 harg10 _ _ _ _ _
    isplitl [H4]
    · iexists _; isplitr; swap
      · iexact H4
      ipureintro
      rw [e0, k0, k1, k2, show sound_run.sl.r c xt1 = wNv c xt1 from rfl]
      by_cases h2 : k0_cond2 i (wNv c xt1) = 1#1
      · have h3 : ¬ k0_cond3 i (wNv c xt1) = 1#1 := fun h => (cond3_iff i _).mp h h2
        rw [dif_neg h3, dif_pos h2]; unfold keep; rw [if_pos h2]
        exact View.read_writes_full _ _ _ _ []
      · rw [dif_pos ((cond3_iff i _).mpr h2), dif_neg h2]; unfold keep; rw [if_neg h2]
        exact View.read_writes_full _ _ _ _ []
    isplitl [HS0]
    · iexists _; isplitr; swap
      · iexact HS0
      ipureintro
      rw [e1]; exact read_keep arg8 harg8 _ _ _ _ _
    isplitl [HS1]
    · iexists _; isplitr; swap
      · iexact HS1
      ipureintro
      rw [e2]; exact read_keep arg9 harg9 _ _ _ _ _
    isplitl [HS2]
    · iexists _; isplitr; swap
      · iexact HS2
      ipureintro
      rw [e3]; exact read_keep arg10 harg10 _ _ _ _ _
    isplitl [HT0]; · iexact HT0
    iexact HT1

/-! ## The launch memory -/

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables as launched. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables name blocks inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The tables' words in closed form -/

/-- The expert of tile `j`. -/
def te (j : Fin 56) : BitVec 32 := tbl m 0 (ix1 j)
/-- The number of used tiles. -/
def nv : BitVec 32 := tbl m 1 (ix1 (0 : Fin 1))

theorem point_lt (t : Fin grid0.N) : t.val < 56 := lt_of_lt_of_eq t.isLt N_0
/-- A grid point as a tile number. -/
def tile (t : Fin grid0.N) : Fin 56 := ⟨t.val, point_lt t⟩
theorem coords_val (t : Fin grid0.N) : (grid0.coords t 0).val = t.val := by
  have e0 : (grid0.coords t 0).val = t.val / 1 % 56 := Pipeline.Grid.coords_val t 0 (by decide) rfl
  have := point_lt t
  omega

theorem wNv_eq (c : Dev nD) : wNv c (tbl m 1) = nv m := by
  unfold wNv nv
  refine congrArg (tbl m 1) (funext fun a => Fin.ext ?_)
  obtain rfl : a = (0 : Fin 1) := Subsingleton.elim (α := Fin 1) _ _
  rfl
theorem first_val {s : Shape} (h : 0 < s.numel) (a : Fin s.rank) : (Shape.Idx.first h a).val = 0 := rfl
theorem off1_val (i : grid0.Coords) : k0_off1 i 0 = (i 0).val := by
  have h : (i 0).val < 56 := (i 0).isLt
  have e : ∀ n : Fin 56, (Scalar.indexCast (BitVec.ofNat 32 n.val)).toNat = n.val := by decide +kernel
  exact e ⟨(i 0).val, h⟩
theorem wTe_eq (c : Dev nD) (t : Fin grid0.N) : wTe c (grid0.coords t) (tbl m 0) = te m (tile t) := by
  unfold wTe te
  refine congrArg (tbl m 0) (funext fun a => Fin.ext ?_)
  obtain rfl : a = (0 : Fin 1) := Subsingleton.elim (α := Fin 1) _ _
  show k0_off1 (grid0.coords t) 0 + 1 * 0 = t.val
  rw [off1_val, coords_val]; omega
theorem off2_val (i : grid0.Coords) : k0_off2 i 0 = (i 0).val - 1 := by
  have h : (i 0).val < 56 := (i 0).isLt
  have e : ∀ n : Fin 56, (Scalar.indexCast (Scalar.maxsi (Scalar.subi (BitVec.ofNat 32 n.val) 1#32) 0#32)).toNat = n.val - 1 := by decide +kernel
  exact e ⟨(i 0).val, h⟩
theorem wTp_eq (c : Dev nD) (t : Fin grid0.N) : wTp c (grid0.coords t) (tbl m 0) = te m ⟨t.val - 1, by have := point_lt t; omega⟩ := by
  unfold wTp te
  refine congrArg (tbl m 0) (funext fun a => Fin.ext ?_)
  obtain rfl : a = (0 : Fin 1) := Subsingleton.elim (α := Fin 1) _ _
  show k0_off2 (grid0.coords t) 0 + 1 * 0 = t.val - 1
  rw [off2_val, coords_val]; omega

/-- Tile `t` is used. -/
def Used (t : ℕ) : Prop := (t : ℤ) < (nv m).toInt
instance (t : ℕ) : Decidable (Used m t) := inferInstanceAs (Decidable ((t : ℤ) < (nv m).toInt))

theorem ne_extui (b : BitVec 1) : Scalar.cmpi .ne (Scalar.extui b : BitVec 32) 0#32 = b := by revert b; decide
theorem slt_iff {n : ℕ} (hn : n < 56) (w : BitVec 32) : Scalar.cmpi .slt (BitVec.ofNat 32 n) w = 1#1 ↔ (n : ℤ) < w.toInt := by
  have e : (BitVec.ofNat 32 n).toInt = (n : ℤ) := by
    have h : ∀ k : Fin 56, (BitVec.ofNat 32 k.val).toInt = (k.val : ℤ) := by decide +kernel
    exact h ⟨n, hn⟩
  have hb : ∀ b : Bool, BitVec.ofBool b = 1#1 ↔ b = true := by decide
  rw [← e, ← BitVec.slt_iff_toInt_lt]
  exact hb _
theorem cond2_iff (c : Dev nD) (t : Fin grid0.N) : k0_cond2 (grid0.coords t) (wNv c (tbl m 1)) = 1#1 ↔ Used m t.val := by
  rw [wNv_eq]
  have hp := point_lt t
  show Scalar.cmpi .ne (Scalar.extui (Scalar.cmpi .slt (BitVec.ofNat 32 (grid0.coords t 0).val) (nv m)) : BitVec 32) 0#32 = 1#1 ↔ _
  rw [ne_extui, coords_val, slt_iff hp]; rfl

theorem fresh_iff (c : Dev nD) (t : Fin grid0.N) : wFresh c (grid0.coords t) (tbl m 0) (tbl m 1) = 1#1
    ↔ Used m t.val ∧ (t.val = 0 ∨ te m (tile t) ≠ te m ⟨t.val - 1, by have := point_lt t; omega⟩) := by
  have hp := point_lt t
  unfold wFresh
  rw [ne_extui, wNv_eq, wTe_eq, wTp_eq, coords_val]
  have hand : ∀ a b : BitVec 1, Scalar.andi a b = 1#1 ↔ a = 1#1 ∧ b = 1#1 := by decide
  have hor : ∀ a b : BitVec 1, Scalar.ori a b = 1#1 ↔ a = 1#1 ∨ b = 1#1 := by decide
  have h0 : ∀ n : Fin 56, Scalar.cmpi .eq (BitVec.ofNat 32 n.val) 0#32 = 1#1 ↔ n.val = 0 := by decide +kernel
  have hne : ∀ a b : BitVec 32, Scalar.cmpi .ne a b = 1#1 ↔ a ≠ b := by
    intro a b
    have hb : ∀ b : Bool, BitVec.ofBool b = 1#1 ↔ b = true := by decide
    exact (hb _).trans bne_iff_ne
  rw [hand, hor, slt_iff hp, hne, h0 ⟨t.val, hp⟩]; rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev X0 (hO : Ok m) (c : Dev nD) (t : Fin (cfgM m hO).N) : Vec F S1024x1024 .bf16 := iblk m hO c 0 t
abbrev X1 (hO : Ok m) (c : Dev nD) (t : Fin (cfgM m hO).N) : Vec F S1x1x1024x512 .f32 := iblk m hO c 1 t
abbrev X2 (hO : Ok m) (c : Dev nD) (t : Fin (cfgM m hO).N) : Vec F S1x1x1024x512 .f32 := iblk m hO c 2 t
abbrev X3 (hO : Ok m) (c : Dev nD) (t : Fin (cfgM m hO).N) : Vec F S1x1x512x1024 .f32 := iblk m hO c 3 t

theorem index1 (hO : Ok m) (t : Fin (cfgM m hO).N) : ((cfgM m hO).win 1).index t = ![0, (te m (tile t)).toNat, 0, 0] := by
  show cc0_transform_1 k0_off1_inb numel1_S1 (tbl m) (grid0.coords t) = _
  rw [← wTe_eq m 0 t]; rfl
theorem index2 (hO : Ok m) (t : Fin (cfgM m hO).N) : ((cfgM m hO).win 2).index t = ![0, (te m (tile t)).toNat, 0, 0] := by
  show cc0_transform_2 k0_off1_inb numel1_S1 (tbl m) (grid0.coords t) = _
  rw [← wTe_eq m 0 t]; rfl
theorem index3 (hO : Ok m) (t : Fin (cfgM m hO).N) : ((cfgM m hO).win 3).index t = ![0, (te m (tile t)).toNat, 0, 0] := by
  show cc0_transform_3 k0_off1_inb numel1_S1 (tbl m) (grid0.coords t) = _
  rw [← wTe_eq m 0 t]; rfl

theorem te_lt (hO : Ok m) (j : Fin 56) : (te m j).toNat < 16 := by
  have ht : j.val < grid0.N := by rw [N_0]; exact j.isLt
  obtain ⟨h, -⟩ := hO.2.1 (grid0.coords ⟨j.val, ht⟩)
  have h1 := h 1
  rw [show cc0_transform_1 k0_off1_inb numel1_S1 (tbl m) (grid0.coords ⟨j.val, ht⟩) = ![0, (te m j).toNat, 0, 0] from index1 m hO ⟨j.val, ht⟩] at h1
  have h2 : ((te m j).toNat + 1) * 1 ≤ 16 := h1
  omega

/-- Weight block 1 at a point is the expert's own matrix. -/
theorem X1_apply (hO : Ok m) (c : Dev nD) (t : Fin (cfgM m hO).N) (y : S1x1x1024x512.Idx) :
    X1 m hO c t y = V m c main_arg3 (ix4 (0 : Fin 2) (⟨(te m (tile t)).toNat, te_lt m hO _⟩ : Fin 16) (y 2) (y 3)) := by
  show V m c main_arg3 ((((cfgM m hO).win 1).blk t).view.emb y) = _
  refine congrArg _ (funext fun a => Fin.ext ?_)
  refine (((cfgM m hO).win 1).rect_emb_val t y a).trans ?_
  rw [index1]
  have h0 : (y 0).val = 0 := by have : (y 0).val < 1 := (y 0).isLt; omega
  have h1 : (y 1).val = 0 := by have : (y 1).val < 1 := (y 1).isLt; omega
  match a with
  | ⟨0, _⟩ => show 0 * 1 + (y 0).val = 0; omega
  | ⟨1, _⟩ => show (te m (tile t)).toNat * 1 + (y 1).val = (te m (tile t)).toNat; omega
  | ⟨2, _⟩ => exact (congrArg (· + (y 2).val) (Nat.zero_mul _)).trans (Nat.zero_add _)
  | ⟨3, _⟩ => exact (congrArg (· + (y 3).val) (Nat.zero_mul _)).trans (Nat.zero_add _)
  | ⟨n + 4, h⟩ => exact absurd h (Nat.not_lt.2 (Nat.le_add_left _ _))
theorem X1_congr (hO : Ok m) (c : Dev nD) (t t' : Fin (cfgM m hO).N) (h : te m (tile t) = te m (tile t')) : X1 m hO c t = X1 m hO c t' := by
  funext y; rw [X1_apply, X1_apply]; simp only [h]
/-- Weight block 2 at a point is the expert's own matrix. -/
theorem X2_apply (hO : Ok m) (c : Dev nD) (t : Fin (cfgM m hO).N) (y : S1x1x1024x512.Idx) :
    X2 m hO c t y = V m c main_arg4 (ix4 (0 : Fin 2) (⟨(te m (tile t)).toNat, te_lt m hO _⟩ : Fin 16) (y 2) (y 3)) := by
  show V m c main_arg4 ((((cfgM m hO).win 2).blk t).view.emb y) = _
  refine congrArg _ (funext fun a => Fin.ext ?_)
  refine (((cfgM m hO).win 2).rect_emb_val t y a).trans ?_
  rw [index2]
  have h0 : (y 0).val = 0 := by have : (y 0).val < 1 := (y 0).isLt; omega
  have h1 : (y 1).val = 0 := by have : (y 1).val < 1 := (y 1).isLt; omega
  match a with
  | ⟨0, _⟩ => show 0 * 1 + (y 0).val = 0; omega
  | ⟨1, _⟩ => show (te m (tile t)).toNat * 1 + (y 1).val = (te m (tile t)).toNat; omega
  | ⟨2, _⟩ => exact (congrArg (· + (y 2).val) (Nat.zero_mul _)).trans (Nat.zero_add _)
  | ⟨3, _⟩ => exact (congrArg (· + (y 3).val) (Nat.zero_mul _)).trans (Nat.zero_add _)
  | ⟨n + 4, h⟩ => exact absurd h (Nat.not_lt.2 (Nat.le_add_left _ _))
theorem X2_congr (hO : Ok m) (c : Dev nD) (t t' : Fin (cfgM m hO).N) (h : te m (tile t) = te m (tile t')) : X2 m hO c t = X2 m hO c t' := by
  funext y; rw [X2_apply, X2_apply]; simp only [h]
/-- Weight block 3 at a point is the expert's own matrix. -/
theorem X3_apply (hO : Ok m) (c : Dev nD) (t : Fin (cfgM m hO).N) (y : S1x1x512x1024.Idx) :
    X3 m hO c t y = V m c main_arg5 (ix4 (0 : Fin 2) (⟨(te m (tile t)).toNat, te_lt m hO _⟩ : Fin 16) (y 2) (y 3)) := by
  show V m c main_arg5 ((((cfgM m hO).win 3).blk t).view.emb y) = _
  refine congrArg _ (funext fun a => Fin.ext ?_)
  refine (((cfgM m hO).win 3).rect_emb_val t y a).trans ?_
  rw [index3]
  have h0 : (y 0).val = 0 := by have : (y 0).val < 1 := (y 0).isLt; omega
  have h1 : (y 1).val = 0 := by have : (y 1).val < 1 := (y 1).isLt; omega
  match a with
  | ⟨0, _⟩ => show 0 * 1 + (y 0).val = 0; omega
  | ⟨1, _⟩ => show (te m (tile t)).toNat * 1 + (y 1).val = (te m (tile t)).toNat; omega
  | ⟨2, _⟩ => exact (congrArg (· + (y 2).val) (Nat.zero_mul _)).trans (Nat.zero_add _)
  | ⟨3, _⟩ => exact (congrArg (· + (y 3).val) (Nat.zero_mul _)).trans (Nat.zero_add _)
  | ⟨n + 4, h⟩ => exact absurd h (Nat.not_lt.2 (Nat.le_add_left _ _))
theorem X3_congr (hO : Ok m) (c : Dev nD) (t t' : Fin (cfgM m hO).N) (h : te m (tile t) = te m (tile t')) : X3 m hO c t = X3 m hO c t' := by
  funext y; rw [X3_apply, X3_apply]; simp only [h]

/-! ## What the points leave -/

/-- The output block after point `t`: the tile's feed-forward product with the rounded weights of the tile's own expert,
    or zero where the tile is not used. -/
def outAt (hO : Ok m) (c : Dev nD) (t : Fin (cfgM m hO).N) : Vec F S1024x1024 .bf16 :=
  if Used m t.val then k0_pay4 (X0 m hO c t) (k0_pay1 (X1 m hO c t)) (k0_pay2 (X2 m hO c t)) (k0_pay3 (X3 m hO c t)) else k0_pay5

/-- Before point `n` the scratches hold the rounded weights of the expert of the point before, if that tile is used. -/
def Inv (hO : Ok m) (c : Dev nD) (n : ℕ) (s0 : Vec F S1024x512 .bf16) (s1 : Vec F S1024x512 .bf16) (s2 : Vec F S512x1024 .bf16) : Prop :=
  ∀ t : Fin (cfgM m hO).N, t.val + 1 = n → Used m t.val → s0 = k0_pay1 (X1 m hO c t) ∧ s1 = k0_pay2 (X2 m hO c t) ∧ s2 = k0_pay3 (X3 m hO c t)

theorem used_pred {a b : ℕ} (h : a ≤ b) (hb : Used m b) : Used m a := by unfold Used at *; omega

/-- At a used point the weights the scratches end with are those of the tile's own expert, taken now or kept. -/
theorem keep_eq (hO : Ok m) (c : Dev nD) (t : Fin (cfgM m hO).N) (s0 : Vec F S1024x512 .bf16) (s1 : Vec F S1024x512 .bf16) (s2 : Vec F S512x1024 .bf16)
    (hI : Inv m hO c t.val s0 s1 s2) (hu : Used m t.val) :
    keep (wFresh c (grid0.coords t) (tbl m 0) (tbl m 1)) (k0_pay1 (X1 m hO c t)) s0 = k0_pay1 (X1 m hO c t)
    ∧ keep (wFresh c (grid0.coords t) (tbl m 0) (tbl m 1)) (k0_pay2 (X2 m hO c t)) s1 = k0_pay2 (X2 m hO c t)
    ∧ keep (wFresh c (grid0.coords t) (tbl m 0) (tbl m 1)) (k0_pay3 (X3 m hO c t)) s2 = k0_pay3 (X3 m hO c t) := by
  unfold keep
  by_cases hf : wFresh c (grid0.coords t) (tbl m 0) (tbl m 1) = 1#1
  · simp only [if_pos hf, and_self]
  · rw [if_neg hf, if_neg hf, if_neg hf]
    have hn := fun h => hf ((fresh_iff m c t).mpr ⟨hu, h⟩)
    have h0 : t.val ≠ 0 := fun h => hn (.inl h)
    have he : te m (tile t) = te m ⟨t.val - 1, by have := point_lt t; omega⟩ := by
      by_contra h; exact hn (.inr h)
    have ht := t.isLt
    let t' : Fin (cfgM m hO).N := ⟨t.val - 1, by omega⟩
    have hte : te m (tile t) = te m (tile t') := he
    obtain ⟨e0, e1, e2⟩ := hI t' (by show t.val - 1 + 1 = t.val; omega) (used_pred m (Nat.sub_le _ _) hu)
    rw [X1_congr m hO c t t' hte, X2_congr m hO c t t' hte, X3_congr m hO c t t' hte]
    exact ⟨e0, e1, e2⟩

/-- What a point stores in its output block. -/
theorem out_eq (hO : Ok m) (c : Dev nD) (t : Fin (cfgM m hO).N) (s0 : Vec F S1024x512 .bf16) (s1 : Vec F S1024x512 .bf16) (s2 : Vec F S512x1024 .bf16)
    (hI : Inv m hO c t.val s0 s1 s2) :
    keep (k0_cond2 (grid0.coords t) (wNv c (tbl m 1)))
      (k0_pay4 (X0 m hO c t) (keep (wFresh c (grid0.coords t) (tbl m 0) (tbl m 1)) (k0_pay1 (X1 m hO c t)) s0)
        (keep (wFresh c (grid0.coords t) (tbl m 0) (tbl m 1)) (k0_pay2 (X2 m hO c t)) s1)
        (keep (wFresh c (grid0.coords t) (tbl m 0) (tbl m 1)) (k0_pay3 (X3 m hO c t)) s2)) k0_pay5 = outAt m hO c t := by
  unfold outAt
  by_cases hu : Used m t.val
  · obtain ⟨e0, e1, e2⟩ := keep_eq m hO c t s0 s1 s2 hI hu
    rw [e0, e1, e2, if_pos hu]; unfold keep; rw [if_pos ((cond2_iff m c t).mpr hu)]
  · rw [if_neg hu]; unfold keep; rw [if_neg fun h => hu ((cond2_iff m c t).mp h)]

/-- The invariant after a point. -/
theorem inv_succ (hO : Ok m) (c : Dev nD) (t : Fin (cfgM m hO).N) (s0 : Vec F S1024x512 .bf16) (s1 : Vec F S1024x512 .bf16) (s2 : Vec F S512x1024 .bf16)
    (hI : Inv m hO c t.val s0 s1 s2) :
    Inv m hO c (t.val + 1) (keep (wFresh c (grid0.coords t) (tbl m 0) (tbl m 1)) (k0_pay1 (X1 m hO c t)) s0)
      (keep (wFresh c (grid0.coords t) (tbl m 0) (tbl m 1)) (k0_pay2 (X2 m hO c t)) s1)
      (keep (wFresh c (grid0.coords t) (tbl m 0) (tbl m 1)) (k0_pay3 (X3 m hO c t)) s2) := by
  intro t' h hu
  obtain rfl : t' = t := Fin.ext (by omega)
  exact keep_eq m hO c _ s0 s1 s2 hI hu

/-! ## The pipeline's proof data -/

abbrev scM0 : Memref sig .tc .vmem S1024x512 .bf16 := Memref.whole cc0_scratch0
abbrev scM1 : Memref sig .tc .vmem S1024x512 .bf16 := Memref.whole cc0_scratch1
abbrev scM2 : Memref sig .tc .vmem S512x1024 .bf16 := Memref.whole cc0_scratch2

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The region's invariant before position `n`: the scratches at contents the invariant admits, the generator register, the tables. -/
def Phi (hO : Ok m) (c : Dev nD) (n : ℕ) : sProp 𝕄 :=
  iprop(∃ s0 s1 s2, ⌜Inv m hO c n s0 s1 s2⌝ ∗ owns (c : Thread nD τ) scM0 fullShare s0 ∗ owns (c : Thread nD τ) scM1 fullShare s1 ∗ owns (c : Thread nD τ) scM2 fullShare s2
    ∗ (∃ r, prngReg c r) ∗ tbPt c tbM0 (tbl m 0) ∗ tbPt c tbM1 (tbl m 1))

/-- The proof data: each input's buffer keeps its block, the output's holds `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The output window is written back at every point. -/
theorem flush4 (hO : Ok m) : ∀ t : Fin (cfgM m hO).N, ((cfgM m hO).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-! ## The body at a point -/

abbrev ms0 (hO : Ok m) (t : Fin (cfgM m hO).N) : Memref sig .tc .vmem S1024x1024 .bf16 := spec0_0.stage ((cfgM m hO).slots t 0)
abbrev ms1 (hO : Ok m) (t : Fin (cfgM m hO).N) : Memref sig .tc .vmem S1x1x1024x512 .f32 := spec0_1.stage ((cfgM m hO).slots t 1)
abbrev ms2 (hO : Ok m) (t : Fin (cfgM m hO).N) : Memref sig .tc .vmem S1x1x1024x512 .f32 := spec0_2.stage ((cfgM m hO).slots t 2)
abbrev ms3 (hO : Ok m) (t : Fin (cfgM m hO).N) : Memref sig .tc .vmem S1x1x512x1024 .f32 := spec0_3.stage ((cfgM m hO).slots t 3)
abbrev ms4 (hO : Ok m) (t : Fin (cfgM m hO).N) : Memref sig .tc .vmem S1024x1024 .bf16 := spec0_4.stage ((cfgM m hO).slots t 4)
abbrev bodyAt (hO : Ok m) (t : Fin (cfgM m hO).N) : Prog (TpuEff nD τ sig (Elt F) Λ₀ .tc) PUnit :=
  cc0_moe_grouped (grid0.coords t) tbM0 htbM0 tbM1 htbM1 (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3)) (ms4 m hO t) (hstage0_4 (((cfgM m hO).slots t 4).cast nbuf0_4)) scM0 (Memref.isWhole_whole _) scM1 (Memref.isWhole_whole _) scM2 (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 2000000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = Phi m hO c (t.val + 1) from rfl, show (dats m hO 0 c).Φ t.castSucc = Phi m hO c t.val from rfl]
  unfold Phi
  iintro ⟨⟨%s0, %s1, %s2, %hI, HS0, HS1, HS2, Hg, HT0, HT1⟩, Ho, ⟨%d0, H0⟩, ⟨%d1, H1⟩, ⟨%d2, H2⟩, ⟨%d3, H3⟩, ⟨%d4, H4⟩⟩
  iapply (sound_run c (grid0.coords t) _ _ _ _ _ _ _ _ _ _ _ _ _ _ _ _ (X0 m hO c t) (X1 m hO c t) (X2 m hO c t) (X3 m hO c t) (tbl m 0) (tbl m 1) s0 s1 s2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · iexists _; iexists _; iexists _
    isplitr
    · ipureintro; exact inv_succ m hO c t s0 s1 s2 hI
    isplitl [HS0]; · iexact HS0
    isplitl [HS1]; · iexact HS1
    isplitl [HS2]; · iexact HS2
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  rw [out_eq m hO c t s0 s1 s2 hI]
  iexact H4

/-- The output window's buffer after a point: written back at every point, it is at `outAt` whether or not the point is idle. -/
theorem leaves4 (hO : Ok m) (c : Dev nD) (t : Fin (cfgM m hO).N) :
    (owns (c : Thread nD τ) (ms4 m hO t) fullShare ((dats m hO 0 c).after 4 t) : sProp 𝕄)
    ⊢ (match (cfgM m hO).idle 4 ((cfgM m hO).grid.coords t) with
      | true =>
        match ((cfgM m hO).win 4).flush t with
        | false => iprop(∃ d, owns (c : Thread nD τ) (((cfgM m hO).win 4).stage ((cfgM m hO).slots t 4)) fullShare ((dats m hO 0 c).before 4 t d))
        | true => owns (c : Thread nD τ) (((cfgM m hO).win 4).stage ((cfgM m hO).slots t 4)) fullShare ((dats m hO 0 c).after 4 t)
      | false => owns (c : Thread nD τ) (((cfgM m hO).win 4).stage ((cfgM m hO).slots t 4)) fullShare ((dats m hO 0 c).after 4 t) : sProp 𝕄) := by
  rw [flush4]
  cases (cfgM m hO).idle 4 ((cfgM m hO).grid.coords t) <;> exact .rfl

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => sep_mono .rfl (sep_mono .rfl (sep_mono .rfl (sep_mono .rfl (sep_mono .rfl (sep_mono .rfl (leaves4 m hO c t))))))

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq, PhiT_eq]
  unfold Phi
  iintro ⟨⟨⟨⟨%s0, HS0⟩, ⟨%s1, HS1⟩, ⟨%s2, HS2⟩⟩, Hg⟩, ⟨HT0, HT1⟩⟩
  iexists s0; iexists s1; iexists s2
  isplitr
  · ipureintro; exact fun t h => absurd h (Nat.succ_ne_zero _)
  isplitl [HS0]; · iexact HS0
  isplitl [HS1]; · iexact HS1
  isplitl [HS2]; · iexact HS2
  isplitl [Hg]; · iexact Hg
  isplitl [HT0]; · iexact HT0
  iexact HT1

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, PhiA_eq]
  unfold Phi
  iintro ⟨%s0, %s1, %s2, -, HS0, HS1, HS2, Hg, -⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every execution terminates, with the pipeline's arrays at what the proof data gives and every semaphore counter zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run with the arguments unchanged, the result array at the pipeline's and the counters zero. -/
theorem run_result (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc (Pipeline.arrRef spec0 4)) = (dats m hO 0 c).arrAt 4 (cfgM m hO).N)
      ∧ r.2.sem = fun _ => 0) :=
  (θ_run defs _ _).mono (fun _ ⟨h, hs⟩ => ⟨fun c => ⟨⟨(h c).2 main_arg0 (by decide : main_arg0 ∈ Pipeline.restRefs sig spec0),
      (h c).2 main_arg1 (by decide : main_arg1 ∈ Pipeline.restRefs sig spec0),
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3))⟩, (h c).1 4⟩, hs⟩) (run_main_quiescent m ρ hO)

/-- The frame: every execution terminates with the arguments unchanged and the counters zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hs⟩ => ⟨fun c => (h c).1, hs⟩) (run_result m ρ hO)

/-! ## The tables in range -/

/-- The row-block index of a point is below the number of row blocks. -/
theorem min_lt (n : ℕ) (hn : n < 56) (w : BitVec 32) (h : 1 ≤ w.toInt) :
    (Scalar.minsi (BitVec.ofNat 32 n) (Scalar.subi w 1#32)).toNat < 56 := by
  unfold Scalar.minsi Scalar.subi IntOp.minsi IntOp.subi
  have h1 : (BitVec.ofNat 32 n).toInt = n := by
    rw [BitVec.toInt_eq_toNat_of_lt (by rw [BitVec.toNat_ofNat]; omega), BitVec.toNat_ofNat]; omega
  have h0 : (BitVec.ofNat 32 n).toNat = n := by rw [BitVec.toNat_ofNat]; omega
  have h2 : w.toNat < 2147483648 := by
    rw [BitVec.toInt_eq_toNat_cond] at h; have := w.isLt; split at h <;> omega
  have h3 : w.toInt = w.toNat := BitVec.toInt_eq_toNat_of_lt (by omega)
  have h4 : (w - 1#32).toNat = w.toNat - 1 := by
    rw [BitVec.toNat_sub]; simp only [BitVec.toNat_ofNat]; omega
  have h5 : (w - 1#32).toInt = w.toNat - 1 := by
    rw [BitVec.toInt_eq_toNat_of_lt (by omega), h4]; omega
  split
  · omega
  · rename_i hs
    have : ¬ (n : ℤ) < w.toNat - 1 := by rw [← h1, ← h5]; simpa [BitVec.slt] using hs
    omega

/-- At a used point the row-block index is the point itself. -/
theorem min_used (n : ℕ) (hn : n < 56) (w : BitVec 32) (h : (n : ℤ) < w.toInt) :
    (Scalar.minsi (BitVec.ofNat 32 n) (Scalar.subi w 1#32)).toNat = n := by
  unfold Scalar.minsi Scalar.subi IntOp.minsi IntOp.subi
  have h1 : (BitVec.ofNat 32 n).toInt = n := by
    rw [BitVec.toInt_eq_toNat_of_lt (by rw [BitVec.toNat_ofNat]; omega), BitVec.toNat_ofNat]; omega
  have h0 : (BitVec.ofNat 32 n).toNat = n := by rw [BitVec.toNat_ofNat]; omega
  have h2 : w.toNat < 2147483648 := by
    rw [BitVec.toInt_eq_toNat_cond] at h; have := w.isLt; split at h <;> omega
  have h3 : w.toInt = w.toNat := BitVec.toInt_eq_toNat_of_lt (by omega)
  have h4 : (w - 1#32).toNat = w.toNat - 1 := by
    rw [BitVec.toNat_sub]; simp only [BitVec.toNat_ofNat]; omega
  have h5 : (w - 1#32).toInt = w.toNat - 1 := by
    rw [BitVec.toInt_eq_toNat_of_lt (by omega), h4]; omega
  split
  · omega
  · rename_i hs
    have : ¬ (n : ℤ) < w.toNat - 1 := by rw [← h1, ← h5]; simpa [BitVec.slt] using hs
    omega

theorem arr_nv (i : grid0.Coords) : cc0_transform_0 inb_S1_S1_0 numel1_S1 (tbl m) i
    = ![(Scalar.minsi (BitVec.ofNat 32 (i 0).val) (Scalar.subi (nv m) 1#32)).toNat, 0] := by
  rw [← wNv_eq m 0]; rfl
theorem wTe_coords (c : Dev nD) (i : grid0.Coords) : wTe c i (tbl m 0) = te m (i 0) := by
  unfold wTe te
  refine congrArg (tbl m 0) (funext fun a => Fin.ext ?_)
  obtain rfl : a = (0 : Fin 1) := Subsingleton.elim (α := Fin 1) _ _
  show k0_off1 i 0 + 1 * 0 = (i 0).val
  rw [off1_val]; omega
theorem arr_te1 (i : grid0.Coords) : cc0_transform_1 k0_off1_inb numel1_S1 (tbl m) i = ![0, (te m (i 0)).toNat, 0, 0] := by
  rw [← wTe_coords m 0 i]; rfl
theorem arr_te2 (i : grid0.Coords) : cc0_transform_2 k0_off1_inb numel1_S1 (tbl m) i = ![0, (te m (i 0)).toNat, 0, 0] := by
  rw [← wTe_coords m 0 i]; rfl
theorem arr_te3 (i : grid0.Coords) : cc0_transform_3 k0_off1_inb numel1_S1 (tbl m) i = ![0, (te m (i 0)).toNat, 0, 0] := by
  rw [← wTe_coords m 0 i]; rfl

/-- Experts below sixteen and at least one used tile: every block named lies inside its array. -/
theorem ok_of_range (hte : ∀ j, (te m j).toNat < 16) (hnv : 1 ≤ (nv m).toInt) : Ok m := by
  refine ⟨fun i => ?_, fun i => ?_, fun i => ?_, fun i => ?_⟩
  · refine ⟨fun a => ?_, .inr (Affine.block_words_dvd (of_decide_eq_true rfl) (by decide))⟩
    rw [arr_nv]
    have hi : (i 0).val < 56 := (i 0).isLt
    have h1 := min_lt (i 0).val hi (nv m) hnv
    match a with
    | ⟨0, _⟩ => show ((Scalar.minsi (BitVec.ofNat 32 (i 0).val) (Scalar.subi (nv m) 1#32)).toNat + 1) * 1024 ≤ 57344; omega
    | ⟨1, _⟩ => exact (by decide : (0 + 1) * 1024 ≤ 1024)
  · refine ⟨fun a => ?_, .inl rfl⟩
    rw [arr_te1]
    have h1 := hte (i 0)
    match a with
    | ⟨0, _⟩ => exact (by decide : (0 + 1) * 1 ≤ 2)
    | ⟨1, _⟩ => show ((te m (i 0)).toNat + 1) * 1 ≤ 16; omega
    | ⟨2, _⟩ => exact (by decide : (0 + 1) * 1024 ≤ 1024)
    | ⟨3, _⟩ => exact (by decide : (0 + 1) * 512 ≤ 512)
  · refine ⟨fun a => ?_, .inl rfl⟩
    rw [arr_te2]
    have h1 := hte (i 0)
    match a with
    | ⟨0, _⟩ => exact (by decide : (0 + 1) * 1 ≤ 2)
    | ⟨1, _⟩ => show ((te m (i 0)).toNat + 1) * 1 ≤ 16; omega
    | ⟨2, _⟩ => exact (by decide : (0 + 1) * 1024 ≤ 1024)
    | ⟨3, _⟩ => exact (by decide : (0 + 1) * 512 ≤ 512)
  · refine ⟨fun a => ?_, .inl rfl⟩
    rw [arr_te3]
    have h1 := hte (i 0)
    match a with
    | ⟨0, _⟩ => exact (by decide : (0 + 1) * 1 ≤ 2)
    | ⟨1, _⟩ => show ((te m (i 0)).toNat + 1) * 1 ≤ 16; omega
    | ⟨2, _⟩ => exact (by decide : (0 + 1) * 512 ≤ 512)
    | ⟨3, _⟩ => exact (by decide : (0 + 1) * 1024 ≤ 1024)

/-- A word between zero and fifteen as a signed number is below sixteen as a natural number. -/
theorem word_lt (w : BitVec 32) (h0 : (0#32).sle w = true) (h1 : w.slt 16#32 = true) : w.toNat < 16 := by
  have a0 : (0 : ℤ) ≤ w.toInt := by simpa [BitVec.sle] using h0
  have a1 : w.toInt < 16 := by simpa [BitVec.slt] using h1
  rw [BitVec.toInt_eq_toNat_cond] at a0 a1
  have := w.isLt
  split at a0 <;> omega

/-- The stated precondition, decoded. -/
theorem ok_of_pre (h : ∀ c : Dev nD, (Cert.Pre_tiles_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1)
    ∧ (Cert.Pre_tiles_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 = (fun _ => 1#1)) : Ok m := by
  refine ok_of_range m (fun j => ?_) ?_
  · have h1 := congrFun (h 0).1 (ix1 j)
    have h2 : BitVec.ofBool ((0#32).sle (te m j)) &&& BitVec.ofBool ((te m j).slt 16#32) = 1#1 := h1
    have b : ∀ p q : Bool, BitVec.ofBool p &&& BitVec.ofBool q = 1#1 → p = true ∧ q = true := by decide
    exact word_lt _ (b _ _ h2).1 (b _ _ h2).2
  · have h1 := congrFun (h 0).2 (ix1 (0 : Fin 1))
    have h2 : BitVec.ofBool ((1#32).sle (nv m)) = 1#1 := h1
    have b : ∀ p : Bool, BitVec.ofBool p = 1#1 → p = true := by decide
    simpa [BitVec.sle] using b _ h2

/-- The row block of a used point holds the point's own rows. -/
theorem X0_apply (hO : Ok m) (c : Dev nD) (t : Fin (cfgM m hO).N) (ht : Used m t.val) (y : S1024x1024.Idx) :
    X0 m hO c t y = V m c main_arg2 (ix2 (⟨t.val * 1024 + (y 0).val, by have := point_lt t; have : (y 0).val < 1024 := (y 0).isLt; omega⟩ : Fin 57344) (y 1)) := by
  show V m c main_arg2 ((((cfgM m hO).win 0).blk t).view.emb y) = _
  refine congrArg _ (funext fun a => Fin.ext ?_)
  refine (((cfgM m hO).win 0).rect_emb_val t y a).trans ?_
  have e : ((cfgM m hO).win 0).index t = ![t.val, 0] := by
    refine (arr_nv m (grid0.coords t)).trans ?_
    rw [coords_val, min_used t.val (point_lt t) (nv m) ht]
  rw [e]
  match a with
  | ⟨0, _⟩ => rfl
  | ⟨1, _⟩ => exact (congrArg (· + (y 1).val) (Nat.zero_mul _)).trans (Nat.zero_add _)

end Cert.MoeIdeal.Run

end
-- ==== Proof.MoeRef.lean ====
module

public import proofs.«01_k».proof.Proof.Gen.MoeRefIdeal.Run
public import Idealize.ShloMosaic.Lib.Pointwise

@[expose] public section

set_option maxRecDepth 16384

noncomputable section

namespace Cert.MoeRefIdeal.Out

open Cert.MoeRefIdeal Cert.MoeRefIdeal.Gen Idealize.ShloMosaic Idealize.ShloMosaic.TcCoe Idealize.SL.Sem

/-- The reference's result as the composition of its operations on the six arguments. -/
def term (te : IVec S56 32) (nv : IVec S1 32) (x : FVec Ideal S57344x1024 .bf16) (g u : FVec Ideal S2x16x1024x512 .f32)
    (d : FVec Ideal S2x16x512x1024 .f32) : FVec Ideal S57344x1024 .bf16 :=
  truncf .bf16 (Host.reduceAdd (mulf (broadcastInDim S16x57344x1024 ![0, 1, 2] bcast_S16x57344x1_S16x57344x1024_0_1_2 (id (broadcastInDim S16x57344x1 ![0, 1] bcast_S16x57344_S16x57344x1_0_1 (transpose S16x57344 [1, 0] (select (andi (broadcastInDim S57344x16 ![0, 1] bcast_S57344x1_S57344x16_0_1 (broadcastInDim S57344x1 ![0] bcast_S57344_S57344x1_0 (cmpi .slt (shapeCast _ (broadcastInDim S56x1024 ![0] bcast_S56_S56x1024_0 (iotaInDim S56 32 0)) shapeCasts_S56x1024_S57344) (broadcastInDim S57344 ![] bcast_S_S57344 (shapeCast _ nv shapeCasts_S1_S_))))) (cmpi .eq (broadcastInDim S57344x16 ![0, 1] bcast_S57344x1_S57344x16_0_1 (broadcastInDim S57344x1 ![0] bcast_S57344_S57344x1_0 (shapeCast _ (broadcastInDim S56x1024 ![0] bcast_S56_S56x1024_0 te) shapeCasts_S56x1024_S57344))) (broadcastInDim S57344x16 ![0, 1] bcast_S1x16_S57344x16_0_1 (broadcastInDim S1x16 ![1] bcast_S16_S1x16_1 (iotaInDim S16 32 0))))) (broadcastInDim S57344x16 ![] bcast_S_S57344x16 (constant S_ .f32 0x3F800000#32)) (broadcastInDim S57344x16 ![] bcast_S_S57344x16 (constant S_ .f32 0x00000000#32))) transposes_S57344x16_S16x57344_1_0)))) (Host.dotGeneral dot_S16x57344x512_S16x512x1024_S16x57344x1024_2_1_1_2_0_0 none (mulf (mulf (transpose S16x57344x512 [0, 2, 1] (Host.dotGeneral dot_S16x1024x512_S57344x1024_S16x512x57344_1_1_02_0_n_n none (shapeCast _ (extractStridedSlice S1x16x1024x512 ![0, 0, 0, 0] g slices_S2x16x1024x512_S1x16x1024x512_0_0_0_0) shapeCasts_S1x16x1024x512_S16x1024x512) (extf .f32 x bitsLt_bf16_f32)) transposes_S16x512x57344_S16x57344x512_0_2_1) (Host.divf (broadcastInDim S16x57344x512 ![] bcast_S_S16x57344x512 (constant S_ .f32 0x3F800000#32)) (addf (broadcastInDim S16x57344x512 ![] bcast_S_S16x57344x512 (constant S_ .f32 0x3F800000#32)) (Host.exp (Host.negf (transpose S16x57344x512 [0, 2, 1] (Host.dotGeneral dot_S16x1024x512_S57344x1024_S16x512x57344_1_1_02_0_n_n none (shapeCast _ (extractStridedSlice S1x16x1024x512 ![0, 0, 0, 0] g slices_S2x16x1024x512_S1x16x1024x512_0_0_0_0) shapeCasts_S1x16x1024x512_S16x1024x512) (extf .f32 x bitsLt_bf16_f32)) transposes_S16x512x57344_S16x57344x512_0_2_1)))))) (transpose S16x57344x512 [0, 2, 1] (Host.dotGeneral dot_S16x1024x512_S57344x1024_S16x512x57344_1_1_02_0_n_n none (shapeCast _ (extractStridedSlice S1x16x1024x512 ![0, 0, 0, 0] u slices_S2x16x1024x512_S1x16x1024x512_0_0_0_0) shapeCasts_S1x16x1024x512_S16x1024x512) (extf .f32 x bitsLt_bf16_f32)) transposes_S16x512x57344_S16x57344x512_0_2_1)) (shapeCast _ (extractStridedSlice S1x16x512x1024 ![0, 0, 0, 0] d slices_S2x16x512x1024_S1x16x512x1024_0_0_0_0) shapeCasts_S1x16x512x1024_S16x512x1024))) (constant S_ .f32 0x00000000#32) reducesTo_S16x57344x1024_S57344x1024_d0 h_S_) bitsLt_bf16_f32

/-- What one expert makes of one row: the gated product through the expert's three matrices, at one column. -/
def ffn (x : FVec Ideal S57344x1024 .bf16) (g u : FVec Ideal S2x16x1024x512 .f32) (d : FVec Ideal S2x16x512x1024 .f32)
    (e : Fin 16) (r : Fin 57344) (c : Fin 1024) : EReal :=
  ∑ k : Fin 512, ((∑ j : Fin 1024, g (ix4 (0 : Fin 2) e j k) * x (ix2 r j))
      * Ideal.logistic (∑ j : Fin 1024, g (ix4 (0 : Fin 2) e j k) * x (ix2 r j))
      * ∑ j : Fin 1024, u (ix4 (0 : Fin 2) e j k) * x (ix2 r j)) * d (ix4 (0 : Fin 2) e k c)

/-- The tile of a row. -/
abbrev tileOf (r : Fin 57344) : Fin 56 := ⟨r.val / 1024, by omega⟩

/-- The reference at an element: the sum over the experts of the expert's value where the tile is used and is the expert's, else of zero. -/
theorem term_apply (te : IVec S56 32) (nv : IVec S1 32) (x : FVec Ideal S57344x1024 .bf16) (g u : FVec Ideal S2x16x1024x512 .f32)
    (d : FVec Ideal S2x16x512x1024 .f32) (r : Fin 57344) (c : Fin 1024) : term te nv x g u d (ix2 r c)
      = ∑ e : Fin 16, Scalar.select
        (IntOp.andi (IntOp.cmpi CmpIPredicate.slt (BitVec.ofNat 32 (r.val / 1024)) (nv (ix1 (0 : Fin 1))))
          (IntOp.cmpi CmpIPredicate.eq (te (ix1 (tileOf r))) (BitVec.ofNat 32 e.val)))
        (ffn x g u d e r c) 0 := by
  pointwise [term, id, ffn, Ideal.logistic]

theorem toInt_row (r : Fin 57344) : (BitVec.ofNat 32 (r.val / 1024)).toInt = ((r.val / 1024 : ℕ) : ℤ) := by
  rw [BitVec.toInt_eq_toNat_of_lt (by rw [BitVec.toNat_ofNat]; omega), BitVec.toNat_ofNat]; omega

/-- A row of a used tile gets its own expert's value. -/
theorem term_used (te : IVec S56 32) (nv : IVec S1 32) (x : FVec Ideal S57344x1024 .bf16) (g u : FVec Ideal S2x16x1024x512 .f32)
    (d : FVec Ideal S2x16x512x1024 .f32) (r : Fin 57344) (c : Fin 1024) (h : ((r.val / 1024 : ℕ) : ℤ) < (nv (ix1 (0 : Fin 1))).toInt)
    (he : (te (ix1 (tileOf r))).toNat < 16) : term te nv x g u d (ix2 r c) = ffn x g u d ⟨(te (ix1 (tileOf r))).toNat, he⟩ r c := by
  rw [term_apply, Finset.sum_eq_single (⟨(te (ix1 (tileOf r))).toNat, he⟩ : Fin 16)]
  · rw [show IntOp.cmpi CmpIPredicate.slt (BitVec.ofNat 32 (r.val / 1024)) (nv (ix1 (0 : Fin 1))) = 1#1 from by
        simp only [IntOp.cmpi, BitVec.slt, toInt_row, h, decide_true]; rfl,
      show IntOp.cmpi CmpIPredicate.eq (te (ix1 (tileOf r))) (BitVec.ofNat 32 (te (ix1 (tileOf r))).toNat) = 1#1 from by
        rw [BitVec.ofNat_toNat, BitVec.setWidth_eq]; simp [IntOp.cmpi]]
    rfl
  · intro e _ hne
    rw [show IntOp.cmpi CmpIPredicate.eq (te (ix1 (tileOf r))) (BitVec.ofNat 32 e.val) = 0#1 from by
      have : te (ix1 (tileOf r)) ≠ BitVec.ofNat 32 e.val := fun hh => hne (Fin.ext (by
        show e.val = (te (ix1 (tileOf r))).toNat
        rw [hh, BitVec.toNat_ofNat]; omega))
      have hb : (te (ix1 (tileOf r)) == BitVec.ofNat 32 e.val) = false := beq_eq_false_iff_ne.2 this
      simp only [IntOp.cmpi, hb]; rfl]
    rw [show ∀ b : BitVec 1, IntOp.andi b 0#1 = 0#1 from by decide]
    rfl
  · intro hh; exact absurd (Finset.mem_univ _) hh

/-- A row of a tile past the used ones is zero. -/
theorem term_unused (te : IVec S56 32) (nv : IVec S1 32) (x : FVec Ideal S57344x1024 .bf16) (g u : FVec Ideal S2x16x1024x512 .f32)
    (d : FVec Ideal S2x16x512x1024 .f32) (r : Fin 57344) (c : Fin 1024) (h : ¬ ((r.val / 1024 : ℕ) : ℤ) < (nv (ix1 (0 : Fin 1))).toInt) :
    term te nv x g u d (ix2 r c) = 0 := by
  rw [term_apply]
  refine Finset.sum_eq_zero fun e _ => ?_
  rw [show IntOp.cmpi CmpIPredicate.slt (BitVec.ofNat 32 (r.val / 1024)) (nv (ix1 (0 : Fin 1))) = 0#1 from by
        simp only [IntOp.cmpi, BitVec.slt, toInt_row, h, decide_false]; rfl,
    show ∀ b : BitVec 1, IntOp.andi 0#1 b = 0#1 from by decide]
  rfl

end Cert.MoeRefIdeal.Out

end
-- ==== Proof.MoeValue.lean ====
module

public import proofs.«01_k».proof.Proof.MoeIdealRun
public import proofs.«01_k».proof.Proof.MoeRef

@[expose] public section

set_option maxRecDepth 16384

noncomputable section

namespace Cert.MoeIdeal.Run

open Cert.MoeIdeal Cert.MoeIdeal.Gen
open Idealize.ShloMosaic Idealize.ShloMosaic.TcCoe Idealize.SL.Sem
open Idealize.ShloMosaic.Pipeline (Dat Cfg Window)
open Cert.MoeRefIdeal.Out (term ffn tileOf term_used term_unused)

variable (m : (ℓ : Loc nD τ sig) → Buf (Elt Ideal) ℓ) (ρ : Dev nD → PrngReg)

/-- The body's product at an element. -/
theorem pay4_apply (x : Vec Ideal S1024x1024 .bf16) (g u : Vec Ideal S1x1x1024x512 .f32) (d : Vec Ideal S1x1x512x1024 .f32) (r c : Fin 1024) :
    k0_pay4 x (k0_pay1 g) (k0_pay2 u) (k0_pay3 d) (ix2 r c)
      = ∑ k : Fin 512, ((∑ j : Fin 1024, x (ix2 r j) * g (ix4 (0 : Fin 1) (0 : Fin 1) j k))
        * Ideal.logistic (∑ j : Fin 1024, x (ix2 r j) * g (ix4 (0 : Fin 1) (0 : Fin 1) j k))
        * ∑ j : Fin 1024, x (ix2 r j) * u (ix4 (0 : Fin 1) (0 : Fin 1) j k)) * d (ix4 (0 : Fin 1) (0 : Fin 1) k c) := by
  pointwise [k0_pay4, k0_pay1, k0_pay2, k0_pay3]

/-- The zero block at an element. -/
theorem pay5_apply (r c : Fin 1024) : k0_pay5 (F := Ideal) (ix2 r c) = 0 := by
  pointwise [k0_pay5]

/-- The reference's value of the kernel's own arguments. -/
def target (c : Dev nD) : FVec Ideal S57344x1024 .bf16 :=
  term (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The body's product on blocks that hold one expert's matrices and one tile's rows is the expert's value of the row. -/
theorem pay4_ffn (x : Vec Ideal S1024x1024 .bf16) (g u : Vec Ideal S1x1x1024x512 .f32) (d : Vec Ideal S1x1x512x1024 .f32)
    (X : FVec Ideal S57344x1024 .bf16) (G U : FVec Ideal S2x16x1024x512 .f32) (D : FVec Ideal S2x16x512x1024 .f32)
    (e : Fin 16) (R : Fin 57344) (r q : Fin 1024) (hx : ∀ j : Fin 1024, x (ix2 r j) = X (ix2 R j))
    (hg : ∀ (j : Fin 1024) (k : Fin 512), g (ix4 (0 : Fin 1) (0 : Fin 1) j k) = G (ix4 (0 : Fin 2) e j k))
    (hu : ∀ (j : Fin 1024) (k : Fin 512), u (ix4 (0 : Fin 1) (0 : Fin 1) j k) = U (ix4 (0 : Fin 2) e j k))
    (hd : ∀ (k : Fin 512), d (ix4 (0 : Fin 1) (0 : Fin 1) k q) = D (ix4 (0 : Fin 2) e k q)) :
    k0_pay4 x (k0_pay1 g) (k0_pay2 u) (k0_pay3 d) (ix2 r q) = ffn X G U D e R q := by
  rw [pay4_apply]
  refine Finset.sum_congr rfl fun k _ => ?_
  have e1 : (∑ j : Fin 1024, x (ix2 r j) * g (ix4 (0 : Fin 1) (0 : Fin 1) j k)) = ∑ j : Fin 1024, G (ix4 (0 : Fin 2) e j k) * X (ix2 R j) :=
    Finset.sum_congr rfl fun j _ => by rw [hx, hg]; exact mul_comm _ _
  have e2 : (∑ j : Fin 1024, x (ix2 r j) * u (ix4 (0 : Fin 1) (0 : Fin 1) j k)) = ∑ j : Fin 1024, U (ix4 (0 : Fin 2) e j k) * X (ix2 R j) :=
    Finset.sum_congr rfl fun j _ => by rw [hx, hu]; exact mul_comm _ _
  rw [e1, e2, hd]

/-- A point's block of the result is the reference's rows of that tile. -/
theorem outAt_apply (hO : Ok m) (c : Dev nD) (t : Fin (cfgM m hO).N) (r q : Fin 1024) :
    outAt m hO c t (ix2 r q) = target m c (ix2 (⟨t.val * 1024 + r.val, by have := point_lt t; omega⟩ : Fin 57344) q) := by
  obtain rfl : c = 0 := Subsingleton.elim _ _
  have hp := point_lt t
  have ht : tileOf (⟨t.val * 1024 + r.val, by omega⟩ : Fin 57344) = tile t := Fin.ext (by
    show (t.val * 1024 + r.val) / 1024 = t.val; omega)
  have hd : (t.val * 1024 + r.val) / 1024 = t.val := by omega
  unfold outAt target
  by_cases hu : Used m t.val
  · rw [if_pos hu]
    have he : (te m (tileOf (⟨t.val * 1024 + r.val, by omega⟩ : Fin 57344))).toNat < 16 := te_lt m hO _
    have hx : (⟨(te m (tileOf (⟨t.val * 1024 + r.val, by omega⟩ : Fin 57344))).toNat, he⟩ : Fin 16) = ⟨(te m (tile t)).toNat, te_lt m hO _⟩ :=
      Fin.ext (congrArg (fun j => (te m j).toNat) ht)
    refine Eq.trans ?_ (term_used _ _ _ _ _ _ (⟨t.val * 1024 + r.val, by omega⟩ : Fin 57344) q (by
      show (((t.val * 1024 + r.val) / 1024 : ℕ) : ℤ) < _
      rw [hd]; exact hu) he).symm
    refine Eq.trans ?_ (congrArg (fun e => ffn (m ((Dev.tc 0 : Thread nD τ).loc main_arg2)) (m ((Dev.tc 0 : Thread nD τ).loc main_arg3))
      (m ((Dev.tc 0 : Thread nD τ).loc main_arg4)) (m ((Dev.tc 0 : Thread nD τ).loc main_arg5)) e (⟨t.val * 1024 + r.val, by omega⟩ : Fin 57344) q) hx.symm)
    exact pay4_ffn _ _ _ _ _ _ _ _ _ _ r q (fun j => X0_apply m hO 0 t hu (ix2 r j)) (fun j k => X1_apply m hO 0 t (ix4 0 0 j k))
      (fun j k => X2_apply m hO 0 t (ix4 0 0 j k)) (fun k => X3_apply m hO 0 t (ix4 0 0 k q))
  · rw [if_neg hu]
    refine (pay5_apply r q).trans (term_unused _ _ _ _ _ _ (⟨t.val * 1024 + r.val, by omega⟩ : Fin 57344) q (by
      show ¬ (((t.val * 1024 + r.val) / 1024 : ℕ) : ℤ) < _
      rw [hd]; exact hu)).symm

/-- Where a point's block of the result lies. -/
theorem emb4 (hO : Ok m) (t : Fin (cfgM m hO).N) (y : S1024x1024.Idx) :
    (((cfgM m hO).win 4).blk t).view.emb y
      = ix2 (⟨t.val * 1024 + (y 0).val, by have := point_lt t; have : (y 0).val < 1024 := (y 0).isLt; omega⟩ : Fin 57344) (y 1) := by
  refine funext fun a => Fin.ext ?_
  refine (((cfgM m hO).win 4).rect_emb_val t y a).trans ?_
  have e : ((cfgM m hO).win 4).index t = ![t.val, 0] := by
    have h : (grid0.coords t 0).val < 56 := (grid0.coords t 0).isLt
    have e : ∀ n : Fin 56, (BitVec.ofNat 32 n.val).toNat = n.val := by decide +kernel
    show ![(BitVec.ofNat 32 (grid0.coords t 0).val).toNat, 0] = _
    rw [e ⟨_, h⟩]; show ![(grid0.coords t 0).val, 0] = _; rw [coords_val]
  rw [e]
  match a with
  | ⟨0, _⟩ => rfl
  | ⟨1, _⟩ => exact (congrArg (· + (y 1).val) (Nat.zero_mul _)).trans (Nat.zero_add _)

/-- Every element of the result lies in the block of its tile's point. -/
theorem cover4 (hO : Ok m) (i : S57344x1024.Idx) :
    ∃ t : Fin (cfgM m hO).N, ((cfgM m hO).win 4).flush t = true ∧ i ∈ (((cfgM m hO).win 4).blk t).view.set := by
  have hi : (i 0).val < 57344 := (i 0).isLt
  have ht : (i 0).val / 1024 < (cfgM m hO).N := by show _ < grid0.N; rw [N_0]; omega
  refine ⟨⟨(i 0).val / 1024, ht⟩, flush4 m hO _, ?_⟩
  have h1 := (((cfgM m hO).win 4).blk ⟨(i 0).val / 1024, ht⟩).view.emb_mem_set (ix2 (⟨(i 0).val % 1024, by omega⟩ : Fin 1024) (i 1))
  rw [emb4] at h1
  refine Eq.mp (congrArg (· ∈ _) ?_) h1
  refine funext fun a => Fin.ext ?_
  match a with
  | ⟨0, _⟩ => show (i 0).val / 1024 * 1024 + (i 0).val % 1024 = (i 0).val; omega
  | ⟨1, _⟩ => rfl

/-- The result array at the end is the reference's value. -/
theorem final (hO : Ok m) (c : Dev nD) : (dats m hO 0 c).arrAt 4 (cfgM m hO).N = target m c := by
  refine (dats m hO 0 c).arrAt_eq_of_emb 4 _ (fun t hf y => ?_) (cover4 m hO)
  show outAt m hO c t y = target m c ((((cfgM m hO).win 4).blk t).view.emb y)
  rw [emb4 m hO t y]
  exact (congrArg (outAt m hO c t) (eq_ix2 (y : S1024x1024.Idx))).trans (outAt_apply m hO c t _ _)

end Cert.MoeIdeal.Run

end
-- ==== Proof.WinBody.lean ====
/- What the window attention's kernel leaves in its output block at one grid point, as one function of the eleven input
   blocks (`body`): the stored piece is the whole block, every load reads a whole block, every scalar load one word. -/
module

public import proofs.«01_k».proof.Proof.Gen.WinIdeal.Value
public import Idealize.ShloMosaic.Lib.Pointwise

@[expose] public section

set_option maxRecDepth 16384

noncomputable section

namespace Cert.WinIdeal.Body

open Cert.WinIdeal Cert.WinIdeal.Gen Idealize.ShloMosaic Idealize.ShloMosaic.TcCoe Idealize.SL.Sem

/-- One of the eight words. -/
def word (x0 : Vec Ideal S8 .f32) (k : Fin 8) : Ideal .f32 := x0 (ix1 k)

/-- The constant by which the kernel scales the sinks. -/
abbrev lg : Ideal .f32 := Named.named κ "log2_e" 0x3FB8AA3B#32

/-- Rows of the first key/value head: the local scores. -/
def sl0 (x1 : Vec Ideal S1x128x512 .f32) (x2 x3 x4 : Vec Ideal S1x128x256 .bf16) (x10 : Vec Ideal S1x512x384 .f32) :
    FVec Ideal S512x384 .f32 := k0_pay10 (k0_pay2 x1) (k0_pay3 x10) (k0_pay4 x2 x3 x4)

/-- Rows of the first key/value head: the scores with the context's keys. -/
def sc0 (x1 : Vec Ideal S1x128x512 .f32) (x8 : Vec Ideal S1x256x256 .bf16) : FVec Ideal S512x256 .f32 :=
  k0_pay11 (k0_pay2 x1) x8

/-- Rows of the second key/value head: the local scores. -/
def sl1 (x1 : Vec Ideal S1x128x512 .f32) (x2 x3 x4 : Vec Ideal S1x128x256 .bf16) (x10 : Vec Ideal S1x512x384 .f32) :
    FVec Ideal S512x384 .f32 := k0_pay31 (k0_pay2 x1) (k0_pay3 x10) (k0_pay25 x2 x3 x4)

/-- Rows of the second key/value head: the scores with the context's keys. -/
def sc1 (x1 : Vec Ideal S1x128x512 .f32) (x8 : Vec Ideal S1x256x256 .bf16) : FVec Ideal S512x256 .f32 :=
  k0_pay32 (k0_pay2 x1) x8

/-- The local values of the first key/value head. -/
def vl0 (x5 x6 x7 : Vec Ideal S1x128x256 .bf16) : FVec Ideal S384x128 .bf16 := k0_pay8 (k0_pay5 x5) (k0_pay6 x6) (k0_pay7 x7)

/-- The local values of the second key/value head. -/
def vl1 (x5 x6 x7 : Vec Ideal S1x128x256 .bf16) : FVec Ideal S384x128 .bf16 := k0_pay29 (k0_pay26 x5) (k0_pay27 x6) (k0_pay28 x7)

/-- The row numbers. -/
abbrev rows : IVec S512x1 32 := iota .tc S512x1 32 [0] iota_S512x1_d0_w32

/-- The first head's sums: the denominators without the context. -/
def den0 (a : FVec Ideal S512x384 .f32) (b : FVec Ideal S512x256 .f32) (z : Fin 8 → Ideal .f32) : FVec Ideal S512x1 .f32 :=
  k0_pay18 a b rows (k0_pay12 (z 0)) k0_pay13 (z 1) lg (z 2) (z 3)
/-- The first head's local weighted values. -/
def num0 (v : FVec Ideal S384x128 .bf16) (a : FVec Ideal S512x384 .f32) (b : FVec Ideal S512x256 .f32) (z : Fin 8 → Ideal .f32) :
    FVec Ideal S512x128 .f32 := k0_pay19 v a b rows (k0_pay12 (z 0)) k0_pay13 (z 1) lg (z 2) (z 3)
/-- The first head's weights of the context. -/
def wc0 (a : FVec Ideal S512x384 .f32) (b : FVec Ideal S512x256 .f32) (z : Fin 8 → Ideal .f32) : FVec Ideal S512x256 .f32 :=
  k0_pay20 a b rows (k0_pay12 (z 0)) k0_pay13 (z 1) lg (z 2) (z 3)
/-- Their sums. -/
def ws0 (a : FVec Ideal S512x384 .f32) (b : FVec Ideal S512x256 .f32) (z : Fin 8 → Ideal .f32) : FVec Ideal S512 .f32 :=
  k0_pay21 a b rows (k0_pay12 (z 0)) k0_pay13 (z 1) lg (z 2) (z 3)
/-- The second head's sums: the denominators without the context. -/
def den1 (a : FVec Ideal S512x384 .f32) (b : FVec Ideal S512x256 .f32) (z : Fin 8 → Ideal .f32) : FVec Ideal S512x1 .f32 :=
  k0_pay39 a b rows (k0_pay33 (z 4)) k0_pay34 (z 5) lg (z 6) (z 7)
/-- The second head's local weighted values. -/
def num1 (v : FVec Ideal S384x128 .bf16) (a : FVec Ideal S512x384 .f32) (b : FVec Ideal S512x256 .f32) (z : Fin 8 → Ideal .f32) :
    FVec Ideal S512x128 .f32 := k0_pay40 v a b rows (k0_pay33 (z 4)) k0_pay34 (z 5) lg (z 6) (z 7)
/-- The second head's weights of the context. -/
def wc1 (a : FVec Ideal S512x384 .f32) (b : FVec Ideal S512x256 .f32) (z : Fin 8 → Ideal .f32) : FVec Ideal S512x256 .f32 :=
  k0_pay41 a b rows (k0_pay33 (z 4)) k0_pay34 (z 5) lg (z 6) (z 7)
/-- Their sums. -/
def ws1 (a : FVec Ideal S512x384 .f32) (b : FVec Ideal S512x256 .f32) (z : Fin 8 → Ideal .f32) : FVec Ideal S512 .f32 :=
  k0_pay42 a b rows (k0_pay33 (z 4)) k0_pay34 (z 5) lg (z 6) (z 7)

/-- The first head's quotients merged into the first 128 columns, from the scores and the values. -/
def lo0 (a : FVec Ideal S512x384 .f32) (b : FVec Ideal S512x256 .f32) (z : Fin 8 → Ideal .f32) (v : FVec Ideal S384x128 .bf16)
    (w : FVec Ideal S256x128 .bf16) : FVec Ideal S128x128 .f32 :=
  k0_pay23 w (den0 a b z) (num0 v a b z) (wc0 a b z) (ws0 a b z)
/-- The same for the next 128 columns. -/
def hi0 (a : FVec Ideal S512x384 .f32) (b : FVec Ideal S512x256 .f32) (z : Fin 8 → Ideal .f32) (v : FVec Ideal S384x128 .bf16)
    (w : FVec Ideal S256x128 .bf16) : FVec Ideal S128x128 .f32 :=
  k0_pay24 w (den0 a b z) (num0 v a b z) (wc0 a b z) (ws0 a b z)

/-- The whole block, from the scores and the values of both heads. -/
def joined (a : FVec Ideal S512x384 .f32) (b : FVec Ideal S512x256 .f32) (a' : FVec Ideal S512x384 .f32) (b' : FVec Ideal S512x256 .f32)
    (z : Fin 8 → Ideal .f32) (v v' : FVec Ideal S384x128 .bf16) (w w' : FVec Ideal S256x128 .bf16) : FVec Ideal S1x128x512 .bf16 :=
  k0_pay1 (lo0 a b z v w) (hi0 a b z v w) w' (den1 a' b' z) (num1 v' a' b' z) (wc1 a' b' z) (ws1 a' b' z)

/-- The output block as one function of the input blocks. -/
def body (x0 : Vec Ideal S8 .f32) (x1 : Vec Ideal S1x128x512 .f32) (x2 x3 x4 x5 x6 x7 : Vec Ideal S1x128x256 .bf16)
    (x8 x9 : Vec Ideal S1x256x256 .bf16) (x10 : Vec Ideal S1x512x384 .f32) : Vec Ideal S1x128x512 .bf16 :=
  joined (sl0 x1 x2 x3 x4 x10) (sc0 x1 x8) (sl1 x1 x2 x3 x4 x10) (sc1 x1 x8) (word x0) (vl0 x5 x6 x7) (vl1 x5 x6 x7)
    (k0_pay15 x9) (k0_pay36 x9)

theorem hz3 : (![0, 0, 0] : Fin 3 → Nat) = fun _ => 0 := funext fun a => by fin_cases a <;> rfl

/-- A load of a whole block reads the block. -/
theorem whole_load {s : Shape} {φ : EltTy} (arg : Memref sig .tc .vmem s φ) (h : arg.IsWhole) (x : Vec Ideal s φ)
    (off : Fin s.rank → Nat) (hoff : off = fun _ => 0) (inb : ∀ a, off a + s.size a ≤ s.size a) :
    View.readAt (Elt Ideal) arg.view (Rect.unit (s := s) off s.size inb).toLoadRect (h.unread x) = x := by
  rw [View.readAt_eq_ld, h.read_unread, View.ld_unit_zero hoff]

/-- The eight words as the loads of single words find them. -/
def loaded (arg : Memref sig .tc .smem S8 .f32) (h : arg.IsWhole) (x : Vec Ideal S8 .f32) (k : Fin 8) : Ideal .f32 :=
  match k with
    | 0 => View.readAt (Elt Ideal) arg.view (Rect.unit (s := S8) ![0] S1.size inb_S8_S1_0).toLoadRect (h.unread x) (Shape.Idx.first (numel1_S1.symm ▸ Nat.one_pos))
    | 1 => View.readAt (Elt Ideal) arg.view (Rect.unit (s := S8) ![1] S1.size inb_S8_S1_1).toLoadRect (h.unread x) (Shape.Idx.first (numel1_S1.symm ▸ Nat.one_pos))
    | 2 => View.readAt (Elt Ideal) arg.view (Rect.unit (s := S8) ![2] S1.size inb_S8_S1_2).toLoadRect (h.unread x) (Shape.Idx.first (numel1_S1.symm ▸ Nat.one_pos))
    | 3 => View.readAt (Elt Ideal) arg.view (Rect.unit (s := S8) ![3] S1.size inb_S8_S1_3).toLoadRect (h.unread x) (Shape.Idx.first (numel1_S1.symm ▸ Nat.one_pos))
    | 4 => View.readAt (Elt Ideal) arg.view (Rect.unit (s := S8) ![4] S1.size inb_S8_S1_4).toLoadRect (h.unread x) (Shape.Idx.first (numel1_S1.symm ▸ Nat.one_pos))
    | 5 => View.readAt (Elt Ideal) arg.view (Rect.unit (s := S8) ![5] S1.size inb_S8_S1_5).toLoadRect (h.unread x) (Shape.Idx.first (numel1_S1.symm ▸ Nat.one_pos))
    | 6 => View.readAt (Elt Ideal) arg.view (Rect.unit (s := S8) ![6] S1.size inb_S8_S1_6).toLoadRect (h.unread x) (Shape.Idx.first (numel1_S1.symm ▸ Nat.one_pos))
    | 7 => View.readAt (Elt Ideal) arg.view (Rect.unit (s := S8) ![7] S1.size inb_S8_S1_7).toLoadRect (h.unread x) (Shape.Idx.first (numel1_S1.symm ▸ Nat.one_pos))

/-- They are the block's words. -/
theorem loaded_eq (arg : Memref sig .tc .smem S8 .f32) (h : arg.IsWhole) (x : Vec Ideal S8 .f32) : loaded arg h x = word x := by
  have e : ∀ (k : Fin 8) (off : Fin 1 → Nat) (inb : ∀ a, off a + S1.size a ≤ S8.size a) (j : S1.Idx), off 0 = k.val →
      View.readAt (Elt Ideal) arg.view (Rect.unit (s := S8) off S1.size inb).toLoadRect (h.unread x) j = word x k := by
    intro k off inb j hk
    rw [View.readAt_eq_ld, h.read_unread]
    refine congrArg x (funext fun a => ?_)
    match a with
    | ⟨0, _⟩ =>
      apply Fin.ext
      have hj : (j 0).val < 1 := (j 0).isLt
      show off 0 + 1 * (j 0).val = k.val
      omega
  funext k
  match k with
  | 0 => exact e 0 _ _ _ rfl
  | 1 => exact e 1 _ _ _ rfl
  | 2 => exact e 2 _ _ _ rfl
  | 3 => exact e 3 _ _ _ rfl
  | 4 => exact e 4 _ _ _ rfl
  | 5 => exact e 5 _ _ _ rfl
  | 6 => exact e 6 _ _ _ rfl
  | 7 => exact e 7 _ _ _ rfl

set_option maxHeartbeats 2000000 in
/-- What the run leaves in the output's block is `body` of the input blocks. -/
theorem out_eq (c : Dev nD) (i : grid0.Coords) (arg2 : Memref sig .tc .smem S8 .f32) (harg2 : arg2.IsWhole) (arg3 : Memref sig .tc .vmem S1x128x512 .f32) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x512x384 .f32) (harg12 : arg12.IsWhole) (arg13 : Memref sig .tc .vmem S1x128x512 .bf16) (harg13 : arg13.IsWhole)
    (x0 : Vec Ideal S8 .f32) (x1 : Vec Ideal S1x128x512 .f32) (x2 x3 x4 x5 x6 x7 : Vec Ideal S1x128x256 .bf16)
    (x8 x9 : Vec Ideal S1x256x256 .bf16) (x10 : Vec Ideal S1x512x384 .f32) :
    out0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = body x0 x1 x2 x3 x4 x5 x6 x7 x8 x9 x10 := by
  unfold out0_A_11
  rw [View.read_writes_junk_eq_canon]
  have e1 := whole_load arg3 harg3 x1 ![0, 0, 0] hz3 inb_S1x128x512_S1x128x512_0_0_0
  have e2 := whole_load arg4 harg4 x2 ![0, 0, 0] hz3 inb_S1x128x256_S1x128x256_0_0_0
  have e3 := whole_load arg5 harg5 x3 ![0, 0, 0] hz3 inb_S1x128x256_S1x128x256_0_0_0
  have e4 := whole_load arg6 harg6 x4 ![0, 0, 0] hz3 inb_S1x128x256_S1x128x256_0_0_0
  have e5 := whole_load arg7 harg7 x5 ![0, 0, 0] hz3 inb_S1x128x256_S1x128x256_0_0_0
  have e6 := whole_load arg8 harg8 x6 ![0, 0, 0] hz3 inb_S1x128x256_S1x128x256_0_0_0
  have e7 := whole_load arg9 harg9 x7 ![0, 0, 0] hz3 inb_S1x128x256_S1x128x256_0_0_0
  have e8 := whole_load arg10 harg10 x8 ![0, 0, 0] hz3 inb_S1x256x256_S1x256x256_0_0_0
  have e9 := whole_load arg11 harg11 x9 ![0, 0, 0] hz3 inb_S1x256x256_S1x256x256_0_0_0
  have e10 := whole_load arg12 harg12 x10 ![0, 0, 0] hz3 inb_S1x512x384_S1x512x384_0_0_0
  have ew := loaded_eq arg2 harg2 x0
  show View.canon ([⟨Rect.unit ![0, 0, 0] S1x128x512.size inb_S1x128x512_S1x128x512_0_0_0,
      joined
        (sl0 (View.readAt (Elt Ideal) arg3.view (Rect.unit (s := S1x128x512) ![0, 0, 0] S1x128x512.size inb_S1x128x512_S1x128x512_0_0_0).toLoadRect (harg3.unread x1))
          (View.readAt (Elt Ideal) arg4.view (Rect.unit (s := S1x128x256) ![0, 0, 0] S1x128x256.size inb_S1x128x256_S1x128x256_0_0_0).toLoadRect (harg4.unread x2))
          (View.readAt (Elt Ideal) arg5.view (Rect.unit (s := S1x128x256) ![0, 0, 0] S1x128x256.size inb_S1x128x256_S1x128x256_0_0_0).toLoadRect (harg5.unread x3))
          (View.readAt (Elt Ideal) arg6.view (Rect.unit (s := S1x128x256) ![0, 0, 0] S1x128x256.size inb_S1x128x256_S1x128x256_0_0_0).toLoadRect (harg6.unread x4))
          (View.readAt (Elt Ideal) arg12.view (Rect.unit (s := S1x512x384) ![0, 0, 0] S1x512x384.size inb_S1x512x384_S1x512x384_0_0_0).toLoadRect (harg12.unread x10)))
        (sc0 (View.readAt (Elt Ideal) arg3.view (Rect.unit (s := S1x128x512) ![0, 0, 0] S1x128x512.size inb_S1x128x512_S1x128x512_0_0_0).toLoadRect (harg3.unread x1))
          (View.readAt (Elt Ideal) arg10.view (Rect.unit (s := S1x256x256) ![0, 0, 0] S1x256x256.size inb_S1x256x256_S1x256x256_0_0_0).toLoadRect (harg10.unread x8)))
        (sl1 (View.readAt (Elt Ideal) arg3.view (Rect.unit (s := S1x128x512) ![0, 0, 0] S1x128x512.size inb_S1x128x512_S1x128x512_0_0_0).toLoadRect (harg3.unread x1))
          (View.readAt (Elt Ideal) arg4.view (Rect.unit (s := S1x128x256) ![0, 0, 0] S1x128x256.size inb_S1x128x256_S1x128x256_0_0_0).toLoadRect (harg4.unread x2))
          (View.readAt (Elt Ideal) arg5.view (Rect.unit (s := S1x128x256) ![0, 0, 0] S1x128x256.size inb_S1x128x256_S1x128x256_0_0_0).toLoadRect (harg5.unread x3))
          (View.readAt (Elt Ideal) arg6.view (Rect.unit (s := S1x128x256) ![0, 0, 0] S1x128x256.size inb_S1x128x256_S1x128x256_0_0_0).toLoadRect (harg6.unread x4))
          (View.readAt (Elt Ideal) arg12.view (Rect.unit (s := S1x512x384) ![0, 0, 0] S1x512x384.size inb_S1x512x384_S1x512x384_0_0_0).toLoadRect (harg12.unread x10)))
        (sc1 (View.readAt (Elt Ideal) arg3.view (Rect.unit (s := S1x128x512) ![0, 0, 0] S1x128x512.size inb_S1x128x512_S1x128x512_0_0_0).toLoadRect (harg3.unread x1))
          (View.readAt (Elt Ideal) arg10.view (Rect.unit (s := S1x256x256) ![0, 0, 0] S1x256x256.size inb_S1x256x256_S1x256x256_0_0_0).toLoadRect (harg10.unread x8)))
        (loaded arg2 harg2 x0)
        (vl0 (View.readAt (Elt Ideal) arg7.view (Rect.unit (s := S1x128x256) ![0, 0, 0] S1x128x256.size inb_S1x128x256_S1x128x256_0_0_0).toLoadRect (harg7.unread x5))
          (View.readAt (Elt Ideal) arg8.view (Rect.unit (s := S1x128x256) ![0, 0, 0] S1x128x256.size inb_S1x128x256_S1x128x256_0_0_0).toLoadRect (harg8.unread x6))
          (View.readAt (Elt Ideal) arg9.view (Rect.unit (s := S1x128x256) ![0, 0, 0] S1x128x256.size inb_S1x128x256_S1x128x256_0_0_0).toLoadRect (harg9.unread x7)))
        (vl1 (View.readAt (Elt Ideal) arg7.view (Rect.unit (s := S1x128x256) ![0, 0, 0] S1x128x256.size inb_S1x128x256_S1x128x256_0_0_0).toLoadRect (harg7.unread x5))
          (View.readAt (Elt Ideal) arg8.view (Rect.unit (s := S1x128x256) ![0, 0, 0] S1x128x256.size inb_S1x128x256_S1x128x256_0_0_0).toLoadRect (harg8.unread x6))
          (View.readAt (Elt Ideal) arg9.view (Rect.unit (s := S1x128x256) ![0, 0, 0] S1x128x256.size inb_S1x128x256_S1x128x256_0_0_0).toLoadRect (harg9.unread x7)))
        (k0_pay15 (View.readAt (Elt Ideal) arg11.view (Rect.unit (s := S1x256x256) ![0, 0, 0] S1x256x256.size inb_S1x256x256_S1x256x256_0_0_0).toLoadRect (harg11.unread x9)))
        (k0_pay36 (View.readAt (Elt Ideal) arg11.view (Rect.unit (s := S1x256x256) ![0, 0, 0] S1x256x256.size inb_S1x256x256_S1x256x256_0_0_0).toLoadRect (harg11.unread x9)))⟩] :
      List (View.Piece (Elt Ideal) S1x128x512 .bf16)) = _
  rw [View.canon_unit_zero hz3, e1, e2, e3, e4, e5, e6, e7, e8, e9, e10, ew]
  rfl

end Cert.WinIdeal.Body
end
-- ==== Proof.WinWord.lean ====
/- 32-bit words that hold small integers: the operations of the position masks read as operations on integers. -/
module

public import Idealize.ShloMosaic.Lib.Pointwise

@[expose] public section

noncomputable section

namespace Cert.WinWord

open Idealize.ShloMosaic

/-- The word of an integer. -/
abbrev I (z : ℤ) : BitVec 32 := BitVec.ofInt 32 z

theorem toInt_I {z : ℤ} (h : -2147483648 ≤ z) (h' : z < 2147483648) : (I z).toInt = z := by
  rw [BitVec.toInt_ofInt]
  exact Int.bmod_eq_of_le (by norm_num; exact h) (by norm_num; exact h')

theorem ofNat_eq (n : ℕ) : BitVec.ofNat 32 n = I n := by
  exact (BitVec.ofInt_natCast 32 n).symm

theorem add (a b : ℤ) : IntOp.addi (I a) (I b) = I (a + b) := (BitVec.ofInt_add a b).symm
theorem mul (a b : ℤ) : IntOp.muli (I a) (I b) = I (a * b) := (BitVec.ofInt_mul a b).symm
theorem sub (a b : ℤ) : IntOp.subi (I a) (I b) = I (a - b) := by
  apply BitVec.eq_of_toInt_eq
  unfold IntOp.subi
  rw [BitVec.toInt_sub, BitVec.toInt_ofInt, BitVec.toInt_ofInt, BitVec.toInt_ofInt]
  simp

theorem abs {a : ℤ} (h : -2147483648 < a) (h' : a < 2147483648) : IntOp.absi (I a) = I |a| := by
  unfold IntOp.absi
  rw [BitVec.msb_eq_toInt, toInt_I h.le h']
  by_cases ha : a < 0
  · rw [if_pos (by simpa using ha), abs_of_neg ha]
    have := sub 0 a
    unfold IntOp.subi at this
    simpa using this
  · rw [if_neg (by simpa using ha), abs_of_nonneg (by omega)]

theorem rem (a b : ℕ) (h : a < 2147483648) (hb : 0 < b) (h' : b < 2147483648) : IntOp.remsi .host (I a) (I b) = I ((a % b : ℕ) : ℤ) := by
  have ta : (I a).toInt = a := toInt_I (by omega) (by omega)
  have tb : (I b).toInt = b := toInt_I (by omega) (by omega)
  unfold IntOp.remsi
  rw [if_neg]
  · apply BitVec.eq_of_toInt_eq
    rw [BitVec.toInt_srem, ta, tb, toInt_I (by omega) (by have := Nat.mod_lt a hb; omega)]
    rw [Int.tmod_eq_emod_of_nonneg (by omega)]
    exact (Int.natCast_emod a b).symm
  · unfold IntOp.SDivCorner
    rintro (h0 | ⟨h1, _⟩)
    · rw [h0] at tb; have := (BitVec.toInt_zero (w := 32)).symm.trans tb; omega
    · rw [h1] at ta; have e : (BitVec.intMin 32).toInt = -2147483648 := by decide
      omega

theorem sle {a b : ℤ} (ha : -2147483648 ≤ a) (ha' : a < 2147483648) (hb : -2147483648 ≤ b) (hb' : b < 2147483648) :
    IntOp.cmpi .sle (I a) (I b) = 1#1 ↔ a ≤ b := by
  simp only [IntOp.cmpi, BitVec.sle, toInt_I ha ha', toInt_I hb hb']
  by_cases h : a ≤ b <;> simp [h]

theorem sge {a b : ℤ} (ha : -2147483648 ≤ a) (ha' : a < 2147483648) (hb : -2147483648 ≤ b) (hb' : b < 2147483648) :
    IntOp.cmpi .sge (I a) (I b) = 1#1 ↔ b ≤ a := by
  simp only [IntOp.cmpi, BitVec.sle, toInt_I ha ha', toInt_I hb hb']
  by_cases h : b ≤ a <;> simp [h]

theorem slt {a b : ℤ} (ha : -2147483648 ≤ a) (ha' : a < 2147483648) (hb : -2147483648 ≤ b) (hb' : b < 2147483648) :
    IntOp.cmpi .slt (I a) (I b) = 1#1 ↔ a < b := by
  simp only [IntOp.cmpi, BitVec.slt, toInt_I ha ha', toInt_I hb hb']
  by_cases h : a < b <;> simp [h]

theorem ne {a b : ℤ} (ha : -2147483648 ≤ a) (ha' : a < 2147483648) (hb : -2147483648 ≤ b) (hb' : b < 2147483648) :
    IntOp.cmpi .ne (I a) (I b) = 1#1 ↔ a ≠ b := by
  by_cases h : a = b
  · simp [IntOp.cmpi, h]
  · have : I a ≠ I b := fun e => h (by rw [← toInt_I ha ha', e, toInt_I hb hb'])
    simp [IntOp.cmpi, h, bne_iff_ne.2 this]

theorem and_iff (x y : BitVec 1) : IntOp.andi x y = 1#1 ↔ x = 1#1 ∧ y = 1#1 := by
  rcases BitVec.eq_zero_or_eq_one x with rfl | rfl <;> rcases BitVec.eq_zero_or_eq_one y with rfl | rfl <;> decide

theorem or_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The reference's mask, on the integers: at row `r` of block `n` and key `t` of the window. -/
theorem reach_word (n r t : ℕ) (hn : n < 32) (hr : r < 128) (ht : t < 384) :
    IntOp.andi (IntOp.andi (IntOp.cmpi .sle (IntOp.absi (IntOp.subi (IntOp.addi (IntOp.muli (BitVec.ofNat 32 n) 128#32) (BitVec.ofNat 32 r))
        (IntOp.addi (IntOp.subi (IntOp.muli (BitVec.ofNat 32 n) 128#32) 128#32) (BitVec.ofNat 32 t)))) 128#32)
      (IntOp.cmpi .sge (IntOp.addi (IntOp.subi (IntOp.muli (BitVec.ofNat 32 n) 128#32) 128#32) (BitVec.ofNat 32 t)) 0#32))
      (IntOp.cmpi .slt (IntOp.addi (IntOp.subi (IntOp.muli (BitVec.ofNat 32 n) 128#32) 128#32) (BitVec.ofNat 32 t)) 4096#32) = 1#1
    ↔ (r ≤ t ∧ t ≤ r + 256) ∧ 128 ≤ n * 128 + t ∧ n * 128 + t - 128 < 4096 := by
  rw [show (128#32 : BitVec 32) = I 128 from rfl, show (0#32 : BitVec 32) = I 0 from rfl, show (4096#32 : BitVec 32) = I 4096 from rfl,
    ofNat_eq, ofNat_eq, ofNat_eq, mul, add, sub, add, sub, abs (by omega) (by omega), and_iff, and_iff,
    sle (by rw [le_abs]; omega) (by rw [abs_lt]; omega) (by omega) (by omega), sge (by omega) (by omega) (by omega) (by omega),
    slt (by omega) (by omega) (by omega) (by omega), abs_le]
  omega

/-- The kernel's mask table, on the integers: of table `p` (first block, inner block, last block) at stacked row `R` and key `t`. -/
theorem table_word (p R t : ℕ) (hp : p < 3) (hR : R < 512) (ht : t < 384) :
    IntOp.andi (IntOp.andi (IntOp.cmpi .sle (IntOp.absi (IntOp.subi (IntOp.remsi .host (BitVec.ofNat 32 R) 128#32)
        (IntOp.subi (BitVec.ofNat 32 t) 128#32))) 128#32)
      (IntOp.ori (IntOp.cmpi .ne (BitVec.ofNat 32 p) 0#32) (IntOp.cmpi .sge (IntOp.subi (BitVec.ofNat 32 t) 128#32) 0#32)))
      (IntOp.ori (IntOp.cmpi .ne (BitVec.ofNat 32 p) 2#32) (IntOp.cmpi .slt (IntOp.subi (BitVec.ofNat 32 t) 128#32) 128#32)) = 1#1
    ↔ (R % 128 ≤ t ∧ t ≤ R % 128 + 256) ∧ (p ≠ 0 ∨ 128 ≤ t) ∧ (p ≠ 2 ∨ t < 256) := by
  have hr : R % 128 < 128 := Nat.mod_lt _ (by norm_num)
  rw [show (128#32 : BitVec 32) = I (128 : ℕ) from rfl, show (0#32 : BitVec 32) = I 0 from rfl, show (2#32 : BitVec 32) = I 2 from rfl,
    ofNat_eq, ofNat_eq, ofNat_eq, rem R 128 (by omega) (by omega) (by omega)]
  generalize R % 128 = r at hr
  rw [sub, sub, abs (by omega) (by omega), and_iff, and_iff, or_iff, or_iff,
    sle (by rw [le_abs]; omega) (by rw [abs_lt]; omega) (by omega) (by omega), sge (by omega) (by omega) (by omega) (by omega),
    slt (by omega) (by omega) (by omega) (by omega), ne (by omega) (by omega) (by omega) (by omega),
    ne (by omega) (by omega) (by omega) (by omega), abs_le]
  omega

end Cert.WinWord
end
-- ==== Proof.WinKernel.lean ====
/- The window attention's kernel at one element of its block: the quotient of one stacked row, and where the stacked rows
   come from and go to. -/
module

public import proofs.«01_k».proof.Proof.WinBody
public import proofs.«01_k».proof.Proof.WinWord
public import Idealize.ShloMosaic.Lib.Pointwise

@[expose] public section

set_option maxRecDepth 16384

noncomputable section

namespace Cert.WinIdeal.Body

open Cert.WinIdeal Cert.WinIdeal.Gen Idealize.ShloMosaic Idealize.ShloMosaic.TcCoe Idealize.SL.Sem Cert.WinWord

/-- The column of the sinks, one head's at each 128 rows. -/
def col (z : Fin 8 → Ideal .f32) : FVec Ideal S512x1 .f32 := k0_pay14 rows (k0_pay12 (z 0)) k0_pay13 (z 1) lg (z 2) (z 3)

/-- The largest score of each row. -/
def top (a : FVec Ideal S512x384 .f32) (b : FVec Ideal S512x256 .f32) (z : Fin 8 → Ideal .f32) : FVec Ideal S512x1 .f32 :=
  k0_pay16 a b rows (k0_pay12 (z 0)) k0_pay13 (z 1) lg (z 2) (z 3)

/-- A row number within bounds, as the kernel tests it. -/
theorem within (R lo hi : ℕ) (hR : R < 512) (hl : lo < 1024) (hh : hi < 1024) :
    IntOp.andi (IntOp.cmpi .sge (BitVec.ofNat 32 R) (BitVec.ofNat 32 lo)) (IntOp.cmpi .slt (BitVec.ofNat 32 R) (BitVec.ofNat 32 hi)) = 1#1
      ↔ lo ≤ R ∧ R < hi := by
  rw [ofNat_eq, ofNat_eq, ofNat_eq, and_iff, sge (by omega) (by omega) (by omega) (by omega), slt (by omega) (by omega) (by omega) (by omega)]
  omega

theorem sel_pos {α : Type} {c : BitVec 1} {x y : α} (h : c = 1#1) : Scalar.select c x y = x := if_pos h

theorem sel_neg {α : Type} {c : BitVec 1} {x y : α} (h : ¬c = 1#1) : Scalar.select c x y = y := if_neg h

/-- The column at a row of head `j`. -/
theorem col_apply (z : Fin 8 → Ideal .f32) (j : Fin 4) (r : Fin 128) (e : Fin 1) :
    col z (ix2 (⟨j.val * 128 + r.val, by omega⟩ : Fin 512) e) = z ⟨j.val, by omega⟩ * lg := by
  have h : ∀ R : Fin 512, col z (ix2 R e) =
      Scalar.select (IntOp.andi (IntOp.cmpi .sge (BitVec.ofNat 32 R.val) (BitVec.ofNat 32 384)) (IntOp.cmpi .slt (BitVec.ofNat 32 R.val) (BitVec.ofNat 32 512))) (z 3 * lg)
      (Scalar.select (IntOp.andi (IntOp.cmpi .sge (BitVec.ofNat 32 R.val) (BitVec.ofNat 32 256)) (IntOp.cmpi .slt (BitVec.ofNat 32 R.val) (BitVec.ofNat 32 384))) (z 2 * lg)
      (Scalar.select (IntOp.andi (IntOp.cmpi .sge (BitVec.ofNat 32 R.val) (BitVec.ofNat 32 128)) (IntOp.cmpi .slt (BitVec.ofNat 32 R.val) (BitVec.ofNat 32 256))) (z 1 * lg)
      (Scalar.select (IntOp.andi (IntOp.cmpi .sge (BitVec.ofNat 32 R.val) (BitVec.ofNat 32 0)) (IntOp.cmpi .slt (BitVec.ofNat 32 R.val) (BitVec.ofNat 32 128))) (z 0 * lg)
        (Ideal.ofBits .f32 0x00000000#32)))) := by
    intro R
    pointwise [col, k0_pay14, k0_pay12, k0_pay13, id]
  rw [h]
  have := r.isLt
  match j with
  | 0 =>
    rw [sel_neg (by rw [within _ _ _ (by dsimp; omega) (by omega) (by omega)]; dsimp; omega), sel_neg (by rw [within _ _ _ (by dsimp; omega) (by omega) (by omega)]; dsimp; omega),
      sel_neg (by rw [within _ _ _ (by dsimp; omega) (by omega) (by omega)]; dsimp; omega), sel_pos (by rw [within _ _ _ (by dsimp; omega) (by omega) (by omega)]; dsimp; omega)]
    rfl
  | 1 =>
    rw [sel_neg (by rw [within _ _ _ (by dsimp; omega) (by omega) (by omega)]; dsimp; omega), sel_neg (by rw [within _ _ _ (by dsimp; omega) (by omega) (by omega)]; dsimp; omega),
      sel_pos (by rw [within _ _ _ (by dsimp; omega) (by omega) (by omega)]; dsimp; omega)]
    rfl
  | 2 =>
    rw [sel_neg (by rw [within _ _ _ (by dsimp; omega) (by omega) (by omega)]; dsimp; omega), sel_pos (by rw [within _ _ _ (by dsimp; omega) (by omega) (by omega)]; dsimp; omega)]
    rfl
  | 3 =>
    rw [sel_pos (by rw [within _ _ _ (by dsimp; omega) (by omega) (by omega)]; dsimp; omega)]
    rfl

/-- The largest score of a row. -/
theorem top_apply (a : FVec Ideal S512x384 .f32) (b : FVec Ideal S512x256 .f32) (z : Fin 8 → Ideal .f32) (R : Fin 512) (e : Fin 1) :
    top a b z (ix2 R e) = max (max (Finset.fold max (Ideal.ofBits .f32 0xFF800000#32) (fun t : Fin 384 => a (ix2 R t)) Finset.univ)
      (Finset.fold max (Ideal.ofBits .f32 0xFF800000#32) (fun u : Fin 256 => b (ix2 R u)) Finset.univ)) (col z (ix2 R e)) := by
  have h : top a b z = maximumf (maximumf
      (shapeCast S512x1 (multiReduction (F := Ideal) (φ := .f32) .maximumf [1] S512 a 0xFF800000#32 reduces_S512x384_S512 (.inl rfl) rfl) shapeCasts_S512_S512x1)
      (shapeCast S512x1 (multiReduction (F := Ideal) (φ := .f32) .maximumf [1] S512 b 0xFF800000#32 reduces_S512x256_S512 (.inl rfl) rfl) shapeCasts_S512_S512x1)) (col z) := rfl
  rw [h]
  pointwise [id]

/-- The denominator without the context. -/
theorem den0_apply (a : FVec Ideal S512x384 .f32) (b : FVec Ideal S512x256 .f32) (z : Fin 8 → Ideal .f32) (R : Fin 512) (e : Fin 1) :
    den0 a b z (ix2 R e) = Ideal.exp2 (col z (ix2 R e) - top a b z (ix2 R e)) + ∑ t : Fin 384, Ideal.exp2 (a (ix2 R t) - top a b z (ix2 R (0 : Fin 1))) := by
  have h : den0 a b z = addf (exp2 (subf (col z) (top a b z))) (shapeCast S512x1 (multiReduction (F := Ideal) (φ := .f32) .add [1] S512
      (exp2 (subf a (broadcastTo S512x384 (top a b z) broadcasts_S512x1_S512x384))) 0x00000000#32 reduces_S512x384_S512 (.inl rfl) rfl) shapeCasts_S512_S512x1) := rfl
  rw [h]
  pointwise [id]
  rfl

/-- The local weighted values. -/
theorem num0_apply (v : FVec Ideal S384x128 .bf16) (a : FVec Ideal S512x384 .f32) (b : FVec Ideal S512x256 .f32) (z : Fin 8 → Ideal .f32) (R : Fin 512) (l : Fin 128) :
    num0 v a b z (ix2 R l) = ∑ t : Fin 384, Ideal.exp2 (a (ix2 R t) - top a b z (ix2 R (0 : Fin 1))) * v (ix2 t l) := by
  have h : num0 v a b z = matmul dot_S512x384_S384x128_S512x128_1_0_0_1_n_n none
      (truncf .bf16 (exp2 (subf a (broadcastTo S512x384 (top a b z) broadcasts_S512x1_S512x384))) bitsLt_bf16_f32) v (constant S512x128 .f32 0x00000000#32) := rfl
  rw [h]
  pointwise [id]
  rfl

/-- The context's weights. -/
theorem wc0_apply (a : FVec Ideal S512x384 .f32) (b : FVec Ideal S512x256 .f32) (z : Fin 8 → Ideal .f32) (R : Fin 512) (u : Fin 256) :
    wc0 a b z (ix2 R u) = Ideal.exp2 (b (ix2 R u) - top a b z (ix2 R (0 : Fin 1))) := by
  have h : wc0 a b z = exp2 (subf b (broadcastTo S512x256 (top a b z) broadcasts_S512x1_S512x256)) := rfl
  rw [h]
  pointwise [id]
  rfl

/-- Their sum. -/
theorem ws0_apply (a : FVec Ideal S512x384 .f32) (b : FVec Ideal S512x256 .f32) (z : Fin 8 → Ideal .f32) (R : Fin 512) :
    ws0 a b z (ix1 R) = ∑ u : Fin 256, wc0 a b z (ix2 R u) := by
  have h : ws0 a b z = multiReduction (F := Ideal) (φ := .f32) .add [1] S512 (wc0 a b z) 0x00000000#32 reduces_S512x256_S512 (.inl rfl) rfl := rfl
  rw [h]
  pointwise [id]

/-- The quotient of a row. -/
theorem pay22_apply (w : FVec Ideal S256x128 .bf16) (d : FVec Ideal S512x1 .f32) (n : FVec Ideal S512x128 .f32) (c : FVec Ideal S512x256 .f32)
    (s : FVec Ideal S512 .f32) (R : Fin 512) (l : Fin 128) :
    k0_pay22 w d n c s (ix2 R l) = Ideal.div (n (ix2 R l) + ∑ u : Fin 256, c (ix2 R u) * w (ix2 u l)) (d (ix2 R (0 : Fin 1)) + s (ix1 R)) := by
  pointwise [k0_pay22, id]

/-- The first two heads' rows merged into 128 columns. -/
theorem pay23_apply (w : FVec Ideal S256x128 .bf16) (d : FVec Ideal S512x1 .f32) (n : FVec Ideal S512x128 .f32) (c : FVec Ideal S512x256 .f32)
    (s : FVec Ideal S512 .f32) (r : Fin 128) (l : Fin 128) :
    k0_pay23 w d n c s (ix2 r l) = k0_pay22 w d n c s (ix2 (⟨l.val / 64 * 128 + r.val, by omega⟩ : Fin 512) l) := by
  have h : k0_pay23 w d n c s (ix2 r l) = Scalar.select (IntOp.cmpi .slt (BitVec.ofNat 32 l.val) (BitVec.ofNat 32 64))
      (k0_pay22 w d n c s (ix2 (⟨r.val, by omega⟩ : Fin 512) l)) (k0_pay22 w d n c s (ix2 (⟨128 + r.val, by omega⟩ : Fin 512) l)) := by
    unfold k0_pay23
    generalize k0_pay22 w d n c s = y
    pointwise [id]
  rw [h]
  have e := slt (a := l.val) (b := (64 : ℕ)) (by omega) (by omega) (by omega) (by omega)
  rw [← ofNat_eq, ← ofNat_eq] at e
  by_cases hl : l.val < 64
  · rw [sel_pos (e.2 (by omega))]
    exact congrArg (fun x => k0_pay22 w d n c s (ix2 x l)) (Fin.ext (by dsimp only; omega))
  · rw [sel_neg (fun q => hl (by have := e.1 q; omega))]
    exact congrArg (fun x => k0_pay22 w d n c s (ix2 x l)) (Fin.ext (by dsimp only; omega))

/-- The other two heads' rows merged into 128 columns. -/
theorem pay24_apply (w : FVec Ideal S256x128 .bf16) (d : FVec Ideal S512x1 .f32) (n : FVec Ideal S512x128 .f32) (c : FVec Ideal S512x256 .f32)
    (s : FVec Ideal S512 .f32) (r : Fin 128) (l : Fin 128) :
    k0_pay24 w d n c s (ix2 r l) = k0_pay22 w d n c s (ix2 (⟨(2 + l.val / 64) * 128 + r.val, by omega⟩ : Fin 512) l) := by
  have h : k0_pay24 w d n c s (ix2 r l) = Scalar.select (IntOp.cmpi .slt (BitVec.ofNat 32 l.val) (BitVec.ofNat 32 64))
      (k0_pay22 w d n c s (ix2 (⟨256 + r.val, by omega⟩ : Fin 512) l)) (k0_pay22 w d n c s (ix2 (⟨256 + (128 + r.val), by omega⟩ : Fin 512) l)) := by
    unfold k0_pay24
    generalize k0_pay22 w d n c s = y
    pointwise [id]
  rw [h]
  have e := slt (a := l.val) (b := (64 : ℕ)) (by omega) (by omega) (by omega) (by omega)
  rw [← ofNat_eq, ← ofNat_eq] at e
  by_cases hl : l.val < 64
  · rw [sel_pos (e.2 (by omega))]
    exact congrArg (fun x => k0_pay22 w d n c s (ix2 x l)) (Fin.ext (by dsimp only; omega))
  · rw [sel_neg (fun q => hl (by have := e.1 q; omega))]
    exact congrArg (fun x => k0_pay22 w d n c s (ix2 x l)) (Fin.ext (by dsimp only; omega))

/-- The quotient of head `j` (of one key/value head) at row `r` and column `l`. -/
def quot (a : FVec Ideal S512x384 .f32) (b : FVec Ideal S512x256 .f32) (z : Fin 8 → Ideal .f32) (v : FVec Ideal S384x128 .bf16)
    (w : FVec Ideal S256x128 .bf16) : FVec Ideal S512x128 .f32 := k0_pay22 w (den0 a b z) (num0 v a b z) (wc0 a b z) (ws0 a b z)

/-- The quotient, written out. -/
theorem quot_apply (a : FVec Ideal S512x384 .f32) (b : FVec Ideal S512x256 .f32) (z : Fin 8 → Ideal .f32) (v : FVec Ideal S384x128 .bf16)
    (w : FVec Ideal S256x128 .bf16) (R : Fin 512) (l : Fin 128) (M : EReal) (hM : M = top a b z (ix2 R (0 : Fin 1))) :
    quot a b z v w (ix2 R l) = Ideal.div (∑ t : Fin 384, Ideal.exp2 (a (ix2 R t) - M) * v (ix2 t l) + ∑ u : Fin 256, Ideal.exp2 (b (ix2 R u) - M) * w (ix2 u l))
      (Ideal.exp2 (col z (ix2 R (0 : Fin 1)) - M) + ∑ t : Fin 384, Ideal.exp2 (a (ix2 R t) - M) + ∑ u : Fin 256, Ideal.exp2 (b (ix2 R u) - M)) := by
  rw [quot, pay22_apply, den0_apply, num0_apply, ws0_apply]
  simp only [wc0_apply, ← hM]

/-- Four groups of 128 columns side by side. -/
def sides (p0 p1 p2 p3 : FVec Ideal S128x128 .f32) : FVec Ideal S1x128x512 .bf16 :=
  shapeCast S1x128x512 (truncf .bf16 (concatenate S128x512 1 [⟨S128x128, p0⟩, ⟨S128x128, p1⟩, ⟨S128x128, p2⟩, ⟨S128x128, p3⟩]
    concatenates_S128x128_S128x128_S128x128_S128x128_S128x512_d1) bitsLt_bf16_f32) shapeCasts_S128x512_S1x128x512

/-- The block is the four groups side by side. -/
theorem joined_eq (a : FVec Ideal S512x384 .f32) (b : FVec Ideal S512x256 .f32) (a' : FVec Ideal S512x384 .f32) (b' : FVec Ideal S512x256 .f32)
    (z : Fin 8 → Ideal .f32) (v v' : FVec Ideal S384x128 .bf16) (w w' : FVec Ideal S256x128 .bf16) :
    joined a b a' b' z v v' w w' = sides (lo0 a b z v w) (hi0 a b z v w) (lo0 a' b' (fun k => z (k + 4)) v' w') (hi0 a' b' (fun k => z (k + 4)) v' w') := rfl

theorem sides_apply (p0 p1 p2 p3 : FVec Ideal S128x128 .f32) (e : Fin 1) (r : Fin 128) (c : Fin 512) :
    sides p0 p1 p2 p3 (ix3 e r c) = if c.val < 128 then p0 (ix2 r ⟨c.val % 128, by omega⟩) else if c.val < 256 then p1 (ix2 r ⟨c.val % 128, by omega⟩)
      else if c.val < 384 then p2 (ix2 r ⟨c.val % 128, by omega⟩) else p3 (ix2 r ⟨c.val % 128, by omega⟩) := by
  pointwise [sides, id]
  by_cases h0 : c.val < 128
  · rw [dif_pos h0, if_pos h0]
    exact congrArg (fun x => p0 (ix2 r x)) (Fin.ext (by dsimp only; omega))
  rw [dif_neg h0, if_neg h0]
  by_cases h1 : c.val < 256
  · rw [dif_pos (by omega), if_pos h1]
    exact congrArg (fun x => p1 (ix2 r x)) (Fin.ext (by dsimp only; omega))
  rw [dif_neg (by omega), if_neg h1]
  by_cases h2 : c.val < 384
  · rw [dif_pos (by omega), if_pos h2]
    exact congrArg (fun x => p2 (ix2 r x)) (Fin.ext (by dsimp only; omega))
  rw [dif_neg (by omega), if_neg h2]
  exact congrArg (fun x => p3 (ix2 r x)) (Fin.ext (by dsimp only; omega))

end Cert.WinIdeal.Body
end
-- ==== Proof.WinStack.lean ====
/- The window attention's kernel at one element of its block: the stacked queries, the blocks of keys and values side by
   side, the scores, and the whole block's element as one quotient. -/
module

public import proofs.«01_k».proof.Proof.WinKernel

@[expose] public section

set_option maxRecDepth 16384

noncomputable section

namespace Cert.WinIdeal.Body

open Cert.WinIdeal Cert.WinIdeal.Gen Idealize.ShloMosaic Idealize.ShloMosaic.TcCoe Idealize.SL.Sem Cert.WinWord

/-- The constant by which the kernel scales the queries. -/
abbrev qm : Ideal .f32 := Named.named κ "q_mult" 0x3E38AA3B#32

/-- A sum over 128 lanes of which one half counts. -/
theorem half_sum (p : ℕ) (hp : p < 2) (f g : Fin 128 → EReal) :
    (∑ l : Fin 128, (if l.val / 64 = p then f l else 0) * g l) = ∑ d : Fin 64, f ⟨p * 64 + d.val, by omega⟩ * g ⟨p * 64 + d.val, by omega⟩ := by
  have e : (∑ l : Fin (64 + 64), (if l.val / 64 = p then f l else 0) * g l) = ∑ d : Fin 64, f ⟨p * 64 + d.val, by omega⟩ * g ⟨p * 64 + d.val, by omega⟩ := by
    rw [Fin.sum_univ_add]
    rcases (by omega : p = 0 ∨ p = 1) with rfl | rfl
    · rw [Finset.sum_eq_zero (s := Finset.univ) (f := fun i : Fin 64 => (if (Fin.natAdd 64 i).val / 64 = 0 then f (Fin.natAdd 64 i) else 0) * g (Fin.natAdd 64 i)), add_zero]
      · refine Finset.sum_congr rfl fun d _ => ?_
        have hd := d.isLt
        have hi : (Fin.castAdd 64 d : Fin 128) = ⟨0 * 64 + d.val, by omega⟩ := Fin.ext (by show d.val = 0 * 64 + d.val; omega)
        rw [if_pos (by show d.val / 64 = 0; omega)]
        exact congrArg (fun x => f x * g x) hi
      · intro d _
        rw [if_neg (by show ¬(64 + d.val) / 64 = 0; omega), zero_mul]
    · rw [Finset.sum_eq_zero (s := Finset.univ) (f := fun i : Fin 64 => (if (Fin.castAdd 64 i).val / 64 = 1 then f (Fin.castAdd 64 i) else 0) * g (Fin.castAdd 64 i)), zero_add]
      · refine Finset.sum_congr rfl fun d _ => ?_
        have hd := d.isLt
        have hi : (Fin.natAdd 64 d : Fin 128) = ⟨1 * 64 + d.val, by omega⟩ := Fin.ext (by show 64 + d.val = 1 * 64 + d.val; omega)
        rw [if_pos (by show (64 + d.val) / 64 = 1; omega)]
        exact congrArg (fun x => f x * g x) hi
      · intro d _
        have hd := d.isLt
        rw [if_neg (by show ¬d.val / 64 = 1; omega), zero_mul]
  exact e

theorem zero_word : Ideal.ofBits .bf16 0x0000#16 = 0 := by simp [Ideal.ofBits, Ideal.ieee]
theorem zero_word32 : Ideal.ofBits .f32 0x00000000#32 = 0 := by simp [Ideal.ofBits, Ideal.ieee]

/-- One group of 128 columns of the queries in two halves, one above the other. -/
def halves (y : FVec Ideal S128x128 .bf16) : FVec Ideal S256x128 .bf16 :=
  concatenate S256x128 0 [⟨S128x128, select (cmpi .slt (iota .tc S128x128 32 [1] iota_S128x128_d1_w32) (broadcast S128x128 64#32)) y (broadcast S128x128 (Scalar.ofBits .bf16 0x0000#16))⟩,
    ⟨S128x128, select (cmpi .slt (iota .tc S128x128 32 [1] iota_S128x128_d1_w32) (broadcast S128x128 64#32)) (broadcast S128x128 (Scalar.ofBits .bf16 0x0000#16)) y⟩] concatenates_S128x128_S128x128_S256x128_d0

theorem halves_apply (y : FVec Ideal S128x128 .bf16) (p : Fin 2) (r l : Fin 128) :
    halves y (ix2 (⟨p.val * 128 + r.val, by omega⟩ : Fin 256) l) = if l.val / 64 = p.val then y (ix2 r l) else 0 := by
  have h : ∀ R : Fin 256, halves y (ix2 R l) = if h : R.val < 128 then
        Scalar.select (IntOp.cmpi .slt (BitVec.ofNat 32 l.val) (BitVec.ofNat 32 64)) (y (ix2 ⟨R.val, h⟩ l)) (Ideal.ofBits .bf16 0x0000#16)
      else Scalar.select (IntOp.cmpi .slt (BitVec.ofNat 32 l.val) (BitVec.ofNat 32 64)) (Ideal.ofBits .bf16 0x0000#16) (y (ix2 ⟨R.val - 128, by omega⟩ l)) := by
    intro R
    pointwise [halves, id]
  rw [h, zero_word]
  have e := slt (a := l.val) (b := (64 : ℕ)) (by omega) (by omega) (by omega) (by omega)
  rw [← ofNat_eq, ← ofNat_eq] at e
  have hr := r.isLt
  have hl := l.isLt
  match p with
  | 0 =>
    rw [dif_pos (by dsimp; omega)]
    by_cases c : l.val < 64
    · rw [sel_pos (e.2 (by omega)), if_pos (by dsimp; omega)]
      exact congrArg (fun x => y (ix2 x l)) (Fin.ext (by dsimp; omega))
    · rw [sel_neg (fun q => c (by have := e.1 q; omega)), if_neg (by dsimp; omega)]
  | 1 =>
    rw [dif_neg (by dsimp; omega)]
    by_cases c : l.val < 64
    · rw [sel_pos (e.2 (by omega)), if_neg (by dsimp; omega)]
    · rw [sel_neg (fun q => c (by have := e.1 q; omega)), if_pos (by dsimp; omega)]
      exact congrArg (fun x => y (ix2 x l)) (Fin.ext (by dsimp; omega))

/-- The stacked queries of the key/value head `g`. -/
def stack (g : Fin 2) (y : FVec Ideal S128x512 .bf16) : FVec Ideal S512x128 .bf16 :=
  match g with
  | 0 => k0_pay9 y
  | 1 => k0_pay30 y

theorem stack_apply (g : Fin 2) (y : FVec Ideal S128x512 .bf16) (j : Fin 4) (r l : Fin 128) :
    stack g y (ix2 (⟨j.val * 128 + r.val, by omega⟩ : Fin 512) l)
      = if l.val / 64 = j.val % 2 then y (ix2 r (⟨g.val * 256 + j.val / 2 * 128 + l.val, by omega⟩ : Fin 512)) else 0 := by
  have hr := r.isLt
  have hj := j.isLt
  have hl := l.isLt
  have key : ∀ (u0 u1 : FVec Ideal S128x128 .bf16) (x : FVec Ideal S512x128 .bf16),
      x = concatenate S512x128 0 [⟨S256x128, halves u0⟩, ⟨S256x128, halves u1⟩] concatenates_S256x128_S256x128_S512x128_d0 →
      u0 (ix2 r l) = y (ix2 r (⟨g.val * 256 + 0 * 128 + l.val, by omega⟩ : Fin 512)) →
      u1 (ix2 r l) = y (ix2 r (⟨g.val * 256 + 1 * 128 + l.val, by omega⟩ : Fin 512)) →
      x (ix2 (⟨j.val * 128 + r.val, by omega⟩ : Fin 512) l)
      = if l.val / 64 = j.val % 2 then y (ix2 r (⟨g.val * 256 + j.val / 2 * 128 + l.val, by omega⟩ : Fin 512)) else 0 := by
    intro u0 u1 x hx h0 h1
    have h : x (ix2 (⟨j.val * 128 + r.val, by omega⟩ : Fin 512) l) = if h : j.val * 128 + r.val < 256 then halves u0 (ix2 ⟨j.val * 128 + r.val, h⟩ l)
        else halves u1 (ix2 ⟨j.val * 128 + r.val - 256, by omega⟩ l) := by
      rw [hx]
      generalize halves u0 = a
      generalize halves u1 = b
      pointwise [id]
    rw [h]
    by_cases c : j.val < 2
    · rw [dif_pos (by omega)]
      have e := halves_apply u0 ⟨j.val % 2, by omega⟩ r l
      rw [h0] at e
      have ei : (⟨j.val * 128 + r.val, by omega⟩ : Fin 256) = ⟨j.val % 2 * 128 + r.val, by omega⟩ := Fin.ext (by dsimp only; omega)
      rw [ei, e]
      have ec : (⟨g.val * 256 + 0 * 128 + l.val, by omega⟩ : Fin 512) = ⟨g.val * 256 + j.val / 2 * 128 + l.val, by omega⟩ := Fin.ext (by dsimp only; omega)
      rw [ec]
    · rw [dif_neg (by omega)]
      have e := halves_apply u1 ⟨j.val % 2, by omega⟩ r l
      rw [h1] at e
      have ei : (⟨j.val * 128 + r.val - 256, by omega⟩ : Fin 256) = ⟨j.val % 2 * 128 + r.val, by omega⟩ := Fin.ext (by dsimp only; omega)
      rw [ei, e]
      have ec : (⟨g.val * 256 + 1 * 128 + l.val, by omega⟩ : Fin 512) = ⟨g.val * 256 + j.val / 2 * 128 + l.val, by omega⟩ := Fin.ext (by dsimp only; omega)
      rw [ec]
  obtain rfl | rfl : g = 0 ∨ g = 1 := by have := g.isLt; rcases (by omega : g.val = 0 ∨ g.val = 1) with h | h <;> [left; right] <;> exact Fin.ext h
  · refine key (extractStridedSlice S128x128 ![0, 0] y slices_S128x512_o0_0_S128x128) (extractStridedSlice S128x128 ![0, 128] y slices_S128x512_o0_128_S128x128) (stack 0 y) rfl ?_ ?_
    · have h : extractStridedSlice S128x128 ![0, 0] y slices_S128x512_o0_0_S128x128 (ix2 r l) = y (ix2 r (⟨l.val, by omega⟩ : Fin 512)) := by pointwise [id]
      exact h.trans (congrArg (fun x => y (ix2 r x)) (Fin.ext (by dsimp; omega)))
    · have h : extractStridedSlice S128x128 ![0, 128] y slices_S128x512_o0_128_S128x128 (ix2 r l) = y (ix2 r (⟨128 + l.val, by omega⟩ : Fin 512)) := by pointwise [id]
      exact h.trans (congrArg (fun x => y (ix2 r x)) (Fin.ext (by simp)))
  · refine key (extractStridedSlice S128x128 ![0, 256] y slices_S128x512_o0_256_S128x128) (extractStridedSlice S128x128 ![0, 384] y slices_S128x512_o0_384_S128x128) (stack 1 y) rfl ?_ ?_
    · have h : extractStridedSlice S128x128 ![0, 256] y slices_S128x512_o0_256_S128x128 (ix2 r l) = y (ix2 r (⟨256 + l.val, by omega⟩ : Fin 512)) := by pointwise [id]
      exact h.trans (congrArg (fun x => y (ix2 r x)) (Fin.ext (by simp)))
    · have h : extractStridedSlice S128x128 ![0, 384] y slices_S128x512_o0_384_S128x128 (ix2 r l) = y (ix2 r (⟨384 + l.val, by omega⟩ : Fin 512)) := by pointwise [id]
      exact h.trans (congrArg (fun x => y (ix2 r x)) (Fin.ext (by simp)))

/-- Three blocks of 128 rows one after the other, at a row and a lane. -/
def three (x y z : Vec Ideal S1x128x256 .bf16) (t : Fin 384) (l : Fin 256) : EReal :=
  if h : t.val < 128 then x (ix3 0 ⟨t.val, h⟩ l) else if h' : t.val - 128 < 128 then y (ix3 0 ⟨t.val - 128, h'⟩ l) else z (ix3 0 ⟨t.val - 128 - 128, by omega⟩ l)

/-- The keys of the key/value head `g`. -/
def keys (g : Fin 2) (x y z : Vec Ideal S1x128x256 .bf16) : FVec Ideal S384x128 .bf16 :=
  match g with
  | 0 => k0_pay4 x y z
  | 1 => k0_pay25 x y z

/-- The values of the key/value head `g`. -/
def vals (g : Fin 2) (x y z : Vec Ideal S1x128x256 .bf16) : FVec Ideal S384x128 .bf16 :=
  match g with
  | 0 => vl0 x y z
  | 1 => vl1 x y z

theorem vals_eq (g : Fin 2) (x y z : Vec Ideal S1x128x256 .bf16) : vals g x y z = keys g x y z := by
  match g with
  | 0 => rfl
  | 1 => rfl

theorem dif3 {x y z : Vec Ideal S1x128x256 .bf16} {t : Fin 384} {l l' : Fin 256} (h : l = l') :
    three x y z t l = three x y z t l' := by rw [h]

theorem keys_apply (g : Fin 2) (x y z : Vec Ideal S1x128x256 .bf16) (t : Fin 384) (l : Fin 128) :
    keys g x y z (ix2 t l) = three x y z t ⟨g.val * 128 + l.val, by omega⟩ := by
  match g with
  | 0 =>
    have h : k0_pay4 x y z (ix2 t l) = three x y z t ⟨l.val, by omega⟩ := by
      unfold three
      pointwise [k0_pay4, id]
    exact h.trans (dif3 (Fin.ext (by dsimp; omega)))
  | 1 =>
    have h : k0_pay25 x y z (ix2 t l) = three x y z t ⟨128 + l.val, by omega⟩ := by
      unfold three
      pointwise [k0_pay25, id]
    exact h.trans (dif3 (Fin.ext (by simp)))

/-- The context's keys or values of the key/value head `g`. -/
def cols (g : Fin 2) (x : Vec Ideal S1x256x256 .bf16) : FVec Ideal S256x128 .bf16 :=
  match g with
  | 0 => k0_pay15 x
  | 1 => k0_pay36 x

theorem cols_apply (g : Fin 2) (x : Vec Ideal S1x256x256 .bf16) (u : Fin 256) (l : Fin 128) :
    cols g x (ix2 u l) = x (ix3 0 u ⟨g.val * 128 + l.val, by omega⟩) := by
  match g with
  | 0 =>
    have h : k0_pay15 x (ix2 u l) = x (ix3 0 u ⟨l.val, by omega⟩) := by pointwise [k0_pay15, id]
    exact h.trans (congrArg (fun i => x (ix3 0 u i)) (Fin.ext (by dsimp; omega)))
  | 1 =>
    have h : k0_pay36 x (ix2 u l) = x (ix3 0 u ⟨128 + l.val, by omega⟩) := by pointwise [k0_pay36, id]
    exact h.trans (congrArg (fun i => x (ix3 0 u i)) (Fin.ext (by simp)))

/-- The local scores of the key/value head `g`. -/
def slg (g : Fin 2) (x1 : Vec Ideal S1x128x512 .f32) (x2 x3 x4 : Vec Ideal S1x128x256 .bf16) (x10 : Vec Ideal S1x512x384 .f32) :
    FVec Ideal S512x384 .f32 :=
  match g with
  | 0 => sl0 x1 x2 x3 x4 x10
  | 1 => sl1 x1 x2 x3 x4 x10

/-- The scores of the key/value head `g` with the context. -/
def scg (g : Fin 2) (x1 : Vec Ideal S1x128x512 .f32) (x8 : Vec Ideal S1x256x256 .bf16) : FVec Ideal S512x256 .f32 :=
  match g with
  | 0 => sc0 x1 x8
  | 1 => sc1 x1 x8

theorem pay2_apply (x1 : Vec Ideal S1x128x512 .f32) (r : Fin 128) (c : Fin 512) : k0_pay2 x1 (ix2 r c) = x1 (ix3 0 r c) * qm := by
  pointwise [k0_pay2, id]

/-- The product of the stacked queries with keys, at an element. -/
theorem prod_apply (g : Fin 2) (x1 : Vec Ideal S1x128x512 .f32) (f : Fin 128 → EReal) (j : Fin 4) (r : Fin 128) :
    (∑ l : Fin 128, stack g (k0_pay2 x1) (ix2 (⟨j.val * 128 + r.val, by omega⟩ : Fin 512) l) * f l)
      = ∑ d : Fin 64, x1 (ix3 0 r (⟨g.val * 256 + j.val * 64 + d.val, by omega⟩ : Fin 512)) * qm * f ⟨j.val % 2 * 64 + d.val, by omega⟩ := by
  have hj := j.isLt
  have hg := g.isLt
  rw [Finset.sum_congr rfl fun l _ => congrArg (· * f l) (stack_apply g (k0_pay2 x1) j r l)]
  refine (half_sum (j.val % 2) (by omega) (fun l => k0_pay2 x1 (ix2 r (⟨g.val * 256 + j.val / 2 * 128 + l.val, by omega⟩ : Fin 512))) f).trans ?_
  refine Finset.sum_congr rfl fun d _ => ?_
  have hd := d.isLt
  dsimp only
  rw [pay2_apply]
  have ei : (⟨g.val * 256 + j.val / 2 * 128 + (j.val % 2 * 64 + d.val), by omega⟩ : Fin 512) = ⟨g.val * 256 + j.val * 64 + d.val, by omega⟩ :=
    Fin.ext (by dsimp only; omega)
  rw [ei]

theorem slg_apply (g : Fin 2) (x1 : Vec Ideal S1x128x512 .f32) (x2 x3 x4 : Vec Ideal S1x128x256 .bf16) (x10 : Vec Ideal S1x512x384 .f32)
    (j : Fin 4) (r : Fin 128) (t : Fin 384) :
    slg g x1 x2 x3 x4 x10 (ix2 (⟨j.val * 128 + r.val, by omega⟩ : Fin 512) t)
      = (∑ d : Fin 64, x1 (ix3 0 r (⟨g.val * 256 + j.val * 64 + d.val, by omega⟩ : Fin 512)) * qm * three x2 x3 x4 t ⟨g.val * 128 + (j.val % 2 * 64 + d.val), by omega⟩)
        + k0_pay3 x10 (ix2 (⟨j.val * 128 + r.val, by omega⟩ : Fin 512) t) := by
  have h : slg g x1 x2 x3 x4 x10 = addf (matmul dot_S512x128_S384x128_S512x384_1_1_0_0_n_n none (stack g (k0_pay2 x1)) (keys g x2 x3 x4)
      (constant S512x384 .f32 0x00000000#32)) (k0_pay3 x10) := by
    match g with
    | 0 => rfl
    | 1 => rfl
  have e := prod_apply g x1 (fun l => keys g x2 x3 x4 (ix2 t l)) j r
  rw [h]
  generalize stack g (k0_pay2 x1) = a at e
  generalize k0_pay3 x10 = m
  have h2 : ∀ R : Fin 512, addf (matmul dot_S512x128_S384x128_S512x384_1_1_0_0_n_n none a (keys g x2 x3 x4)
      (constant S512x384 .f32 0x00000000#32)) m (ix2 R t) = (∑ l : Fin 128, a (ix2 R l) * keys g x2 x3 x4 (ix2 t l)) + m (ix2 R t) := by
    intro R
    generalize keys g x2 x3 x4 = b
    pointwise [id]
  rw [h2, e]
  simp only [keys_apply]

theorem scg_apply (g : Fin 2) (x1 : Vec Ideal S1x128x512 .f32) (x8 : Vec Ideal S1x256x256 .bf16) (j : Fin 4) (r : Fin 128) (u : Fin 256) :
    scg g x1 x8 (ix2 (⟨j.val * 128 + r.val, by omega⟩ : Fin 512) u)
      = ∑ d : Fin 64, x1 (ix3 0 r (⟨g.val * 256 + j.val * 64 + d.val, by omega⟩ : Fin 512)) * qm * x8 (ix3 0 u ⟨g.val * 128 + (j.val % 2 * 64 + d.val), by omega⟩) := by
  have h : scg g x1 x8 = matmul dot_S512x128_S256x128_S512x256_1_1_0_0_n_n none (stack g (k0_pay2 x1)) (cols g x8)
      (constant S512x256 .f32 0x00000000#32) := by
    match g with
    | 0 => rfl
    | 1 => rfl
  have e := prod_apply g x1 (fun l => cols g x8 (ix2 u l)) j r
  rw [h]
  generalize stack g (k0_pay2 x1) = a at e
  have h2 : ∀ R : Fin 512, matmul dot_S512x128_S256x128_S512x256_1_1_0_0_n_n none a (cols g x8)
      (constant (F := Ideal) S512x256 .f32 0x00000000#32) (ix2 R u) = ∑ l : Fin 128, a (ix2 R l) * cols g x8 (ix2 u l) := by
    intro R
    generalize cols g x8 = b
    pointwise [id]
  rw [h2, e]
  simp only [cols_apply]

/-- The block at row `r` and column `c` is the quotient of head `c / 64 % 4` of the key/value head `c / 256`. -/
theorem body_quot (x0 : Vec Ideal S8 .f32) (x1 : Vec Ideal S1x128x512 .f32) (x2 x3 x4 x5 x6 x7 : Vec Ideal S1x128x256 .bf16)
    (x8 x9 : Vec Ideal S1x256x256 .bf16) (x10 : Vec Ideal S1x512x384 .f32) (e : Fin 1) (r : Fin 128) (c : Fin 512) (g : Fin 2) (j : Fin 4)
    (hg : g.val = c.val / 256) (hj : j.val = c.val / 64 % 4) :
    body x0 x1 x2 x3 x4 x5 x6 x7 x8 x9 x10 (ix3 e r c)
      = quot (slg g x1 x2 x3 x4 x10) (scg g x1 x8) (fun k => word x0 (k + if g = 0 then 0 else 4)) (vals g x5 x6 x7) (cols g x9)
          (ix2 (⟨j.val * 128 + r.val, by omega⟩ : Fin 512) ⟨c.val % 128, by omega⟩) := by
  have hc := c.isLt
  rw [body, joined_eq, sides_apply]
  have hrow : ∀ (y : FVec Ideal S512x128 .f32) (R R' : Fin 512) (l : Fin 128), R.val = R'.val → y (ix2 R l) = y (ix2 R' l) := by
    intro y R R' l h
    rw [Fin.ext h]
  by_cases h0 : c.val < 128
  · rw [if_pos h0]
    obtain rfl : g = 0 := Fin.ext (by dsimp; omega)
    exact (pay23_apply _ _ _ _ _ r _).trans (hrow _ _ _ _ (by dsimp only; omega))
  rw [if_neg h0]
  by_cases h1 : c.val < 256
  · rw [if_pos h1]
    obtain rfl : g = 0 := Fin.ext (by dsimp; omega)
    exact (pay24_apply _ _ _ _ _ r _).trans (hrow _ _ _ _ (by dsimp only; omega))
  rw [if_neg h1]
  obtain rfl : g = 1 := Fin.ext (by dsimp; omega)
  by_cases h2 : c.val < 384
  · rw [if_pos h2]
    exact (pay23_apply _ _ _ _ _ r _).trans (hrow _ _ _ _ (by dsimp only; omega))
  · rw [if_neg h2]
    exact (pay24_apply _ _ _ _ _ r _).trans (hrow _ _ _ _ (by dsimp only; omega))

end Cert.WinIdeal.Body
end
-- ==== Proof.WinHost.lean ====
/- The arrays that the window attention's launch reads: what the host operations before it leave, at an index. -/
module

public import proofs.«01_k».proof.Proof.WinStack
public import Idealize.ShloMosaic.Lib.StableHlo.ReadAt

@[expose] public section

set_option maxRecDepth 16384

noncomputable section

namespace Cert.WinIdeal.Host

open Cert.WinIdeal Cert.WinIdeal.Gen Idealize.ShloMosaic Idealize.ShloMosaic.TcCoe Idealize.SL.Sem Cert.WinWord
open Cert.WinIdeal.Body (sel_pos sel_neg)

variable (m : (ℓ : Loc nD τ sig) → Buf (Elt Ideal) ℓ)

/-- Two halves of 64 columns, each twice, read at a column. -/
theorem twice {α : Type} (f : Fin 128 → α) (l : Fin 256) :
    (if h : l.val < 64 then f ⟨l.val, by omega⟩ else if h : l.val - 64 < 64 then f ⟨l.val - 64, by omega⟩
      else if h : l.val - 64 - 64 < 64 then f ⟨64 + (l.val - 64 - 64), by omega⟩ else f ⟨64 + (l.val - 64 - 64 - 64), by omega⟩)
      = f ⟨l.val / 128 * 64 + l.val % 64, by omega⟩ := by
  have hl := l.isLt
  split_ifs <;> exact congrArg f (Fin.ext (by dsimp only; omega))

/-- The doubled heads of the keys. -/
theorem V3 (c : Dev nD) (b : Fin 4) (s : Fin 4096) (l : Fin 256) :
    V m c main_v3 (ix3 b s l) = m ((c.tc : Thread nD τ).loc main_arg1) (ix3 b s (⟨l.val / 128 * 64 + l.val % 64, by omega⟩ : Fin 128)) := by
  unfold V
  simp only [List.flatten_cons, List.flatten_nil, List.append_nil, List.cons_append, List.nil_append]
  after_reads_at
  after_reads_at
  exact twice (fun i => m ((c.tc : Thread nD τ).loc main_arg1) (ix3 b s i)) l

/-- The doubled heads of the values. -/
theorem V7 (c : Dev nD) (b : Fin 4) (s : Fin 4096) (l : Fin 256) :
    V m c main_v7 (ix3 b s l) = m ((c.tc : Thread nD τ).loc main_arg2) (ix3 b s (⟨l.val / 128 * 64 + l.val % 64, by omega⟩ : Fin 128)) := by
  unfold V
  simp only [List.flatten_cons, List.flatten_nil, List.append_nil, List.cons_append, List.nil_append]
  after_reads_at
  after_reads_at
  exact twice (fun i => m ((c.tc : Thread nD τ).loc main_arg2) (ix3 b s i)) l

/-- The doubled heads of the context's keys. -/
theorem V11 (c : Dev nD) (b : Fin 4) (s : Fin 256) (l : Fin 256) :
    V m c main_v11 (ix3 b s l) = m ((c.tc : Thread nD τ).loc main_arg3) (ix3 b s (⟨l.val / 128 * 64 + l.val % 64, by omega⟩ : Fin 128)) := by
  unfold V
  simp only [List.flatten_cons, List.flatten_nil, List.append_nil, List.cons_append, List.nil_append]
  after_reads_at
  after_reads_at
  exact twice (fun i => m ((c.tc : Thread nD τ).loc main_arg3) (ix3 b s i)) l

/-- The doubled heads of the context's values. -/
theorem V15 (c : Dev nD) (b : Fin 4) (s : Fin 256) (l : Fin 256) :
    V m c main_v15 (ix3 b s l) = m ((c.tc : Thread nD τ).loc main_arg4) (ix3 b s (⟨l.val / 128 * 64 + l.val % 64, by omega⟩ : Fin 128)) := by
  unfold V
  simp only [List.flatten_cons, List.flatten_nil, List.append_nil, List.cons_append, List.nil_append]
  after_reads_at
  after_reads_at
  exact twice (fun i => m ((c.tc : Thread nD τ).loc main_arg4) (ix3 b s i)) l

/-- The mask table. -/
theorem V39 (c : Dev nD) (p : Fin 3) (R : Fin 512) (t : Fin 384) :
    V m c main_v39 (ix3 p R t) = (if (R.val % 128 ≤ t.val ∧ t.val ≤ R.val % 128 + 256) ∧ (p.val ≠ 0 ∨ 128 ≤ t.val) ∧ (p.val ≠ 2 ∨ t.val < 256) then (1 : EReal) else 0) := by
  unfold V
  simp only [List.flatten_cons, List.flatten_nil, List.append_nil, List.cons_append, List.nil_append]
  after_reads_at
  have h := table_word p.val R.val t.val p.isLt R.isLt t.isLt
  split_ifs with hc
  · exact sel_pos (h.2 hc)
  · exact sel_neg (fun e => hc (h.1 e))

/-- The launch has 128 points. -/
theorem point_lt (t : Fin cfg0.N) : t.val < 128 := t.isLt

/-- The blocks of the scalars. -/
theorem index0 : ∀ t : Fin cfg0.N, win0_0.index t = ![0] := (by decide +kernel : ∀ t : Fin grid0.N, win0_0.index t = ![0])
/-- The blocks of window 1. -/
theorem index1 : ∀ t : Fin cfg0.N, win0_1.index t = ![t.val / 32, t.val % 32, 0] :=
  (by decide +kernel : ∀ t : Fin grid0.N, win0_1.index t = ![t.val / 32, t.val % 32, 0])
/-- The blocks of window 2. -/
theorem index2 : ∀ t : Fin cfg0.N, win0_2.index t = ![t.val / 32, t.val % 32 - 1, 0] :=
  (by decide +kernel : ∀ t : Fin grid0.N, win0_2.index t = ![t.val / 32, t.val % 32 - 1, 0])
/-- The blocks of window 3. -/
theorem index3 : ∀ t : Fin cfg0.N, win0_3.index t = ![t.val / 32, t.val % 32, 0] :=
  (by decide +kernel : ∀ t : Fin grid0.N, win0_3.index t = ![t.val / 32, t.val % 32, 0])
/-- The blocks of window 4. -/
theorem index4 : ∀ t : Fin cfg0.N, win0_4.index t = ![t.val / 32, min (t.val % 32 + 1) 31, 0] :=
  (by decide +kernel : ∀ t : Fin grid0.N, win0_4.index t = ![t.val / 32, min (t.val % 32 + 1) 31, 0])
/-- The blocks of window 5. -/
theorem index5 : ∀ t : Fin cfg0.N, win0_5.index t = ![t.val / 32, t.val % 32 - 1, 0] :=
  (by decide +kernel : ∀ t : Fin grid0.N, win0_5.index t = ![t.val / 32, t.val % 32 - 1, 0])
/-- The blocks of window 6. -/
theorem index6 : ∀ t : Fin cfg0.N, win0_6.index t = ![t.val / 32, t.val % 32, 0] :=
  (by decide +kernel : ∀ t : Fin grid0.N, win0_6.index t = ![t.val / 32, t.val % 32, 0])
/-- The blocks of window 7. -/
theorem index7 : ∀ t : Fin cfg0.N, win0_7.index t = ![t.val / 32, min (t.val % 32 + 1) 31, 0] :=
  (by decide +kernel : ∀ t : Fin grid0.N, win0_7.index t = ![t.val / 32, min (t.val % 32 + 1) 31, 0])
/-- The blocks of window 8. -/
theorem index8 : ∀ t : Fin cfg0.N, win0_8.index t = ![t.val / 32, 0, 0] :=
  (by decide +kernel : ∀ t : Fin grid0.N, win0_8.index t = ![t.val / 32, 0, 0])
/-- The blocks of window 9. -/
theorem index9 : ∀ t : Fin cfg0.N, win0_9.index t = ![t.val / 32, 0, 0] :=
  (by decide +kernel : ∀ t : Fin grid0.N, win0_9.index t = ![t.val / 32, 0, 0])
/-- The blocks of window 10. -/
theorem index10 : ∀ t : Fin cfg0.N, win0_10.index t = ![if t.val % 32 = 0 then 0 else if t.val % 32 = 31 then 2 else 1, 0, 0] :=
  (by decide +kernel : ∀ t : Fin grid0.N, win0_10.index t = ![if t.val % 32 = 0 then 0 else if t.val % 32 = 31 then 2 else 1, 0, 0])
/-- The blocks of window 11. -/
theorem index11 : ∀ t : Fin cfg0.N, win0_11.index t = ![t.val / 32, t.val % 32, 0] :=
  (by decide +kernel : ∀ t : Fin grid0.N, win0_11.index t = ![t.val / 32, t.val % 32, 0])

/-- The block of the scalars. -/
theorem blk0 (c : Dev nD) (t : Fin cfg0.N) (k : Fin 8) : iblk m c 0 t (ix1 k) = V m c main_arg5 (ix1 k) := by
  show V m c main_arg5 (((cfg0.win 0).blk t).view.emb (ix1 k)) = _
  refine congrArg (V m c main_arg5) (funext fun a => Fin.ext ?_)
  refine ((cfg0.win 0).rect_emb_val t _ a).trans ?_
  show win0_0.index t a * _ + _ = _
  rw [index0]
  match a with
  | ⟨0, _⟩ => exact (congrArg (· + k.val) (Nat.zero_mul _)).trans (Nat.zero_add _)

/-- The block of window 1. -/
theorem blk1 (c : Dev nD) (t : Fin cfg0.N) (e : Fin 1) (r : Fin 128) (q : Fin 512) :
    iblk m c 1 t (ix3 e r q) = V m c main_arg0 (ix3 (⟨t.val / 32, by have := point_lt t; omega⟩ : Fin 4) (⟨(t.val % 32) * 128 + r.val, by have := r.isLt; omega⟩ : Fin 4096) q) := by
  have he := e.isLt
  show V m c main_arg0 (((cfg0.win 1).blk t).view.emb (ix3 e r q)) = _
  refine congrArg (V m c main_arg0) (funext fun a => Fin.ext ?_)
  refine ((cfg0.win 1).rect_emb_val t _ a).trans ?_
  show win0_1.index t a * _ + _ = _
  rw [index1]
  match a with
  | ⟨0, _⟩ => show (t.val / 32) * 1 + e.val = t.val / 32; omega
  | ⟨1, _⟩ => show (t.val % 32) * 128 + r.val = (t.val % 32) * 128 + r.val; omega
  | ⟨2, _⟩ => show 0 * 512 + q.val = q.val; omega

/-- The block of window 2. -/
theorem blk2 (c : Dev nD) (t : Fin cfg0.N) (e : Fin 1) (r : Fin 128) (q : Fin 256) :
    iblk m c 2 t (ix3 e r q) = V m c main_v3 (ix3 (⟨t.val / 32, by have := point_lt t; omega⟩ : Fin 4) (⟨(t.val % 32 - 1) * 128 + r.val, by have := r.isLt; omega⟩ : Fin 4096) q) := by
  have he := e.isLt
  show V m c main_v3 (((cfg0.win 2).blk t).view.emb (ix3 e r q)) = _
  refine congrArg (V m c main_v3) (funext fun a => Fin.ext ?_)
  refine ((cfg0.win 2).rect_emb_val t _ a).trans ?_
  show win0_2.index t a * _ + _ = _
  rw [index2]
  match a with
  | ⟨0, _⟩ => show (t.val / 32) * 1 + e.val = t.val / 32; omega
  | ⟨1, _⟩ => show (t.val % 32 - 1) * 128 + r.val = (t.val % 32 - 1) * 128 + r.val; omega
  | ⟨2, _⟩ => show 0 * 256 + q.val = q.val; omega

/-- The block of window 3. -/
theorem blk3 (c : Dev nD) (t : Fin cfg0.N) (e : Fin 1) (r : Fin 128) (q : Fin 256) :
    iblk m c 3 t (ix3 e r q) = V m c main_v3 (ix3 (⟨t.val / 32, by have := point_lt t; omega⟩ : Fin 4) (⟨(t.val % 32) * 128 + r.val, by have := r.isLt; omega⟩ : Fin 4096) q) := by
  have he := e.isLt
  show V m c main_v3 (((cfg0.win 3).blk t).view.emb (ix3 e r q)) = _
  refine congrArg (V m c main_v3) (funext fun a => Fin.ext ?_)
  refine ((cfg0.win 3).rect_emb_val t _ a).trans ?_
  show win0_3.index t a * _ + _ = _
  rw [index3]
  match a with
  | ⟨0, _⟩ => show (t.val / 32) * 1 + e.val = t.val / 32; omega
  | ⟨1, _⟩ => show (t.val % 32) * 128 + r.val = (t.val % 32) * 128 + r.val; omega
  | ⟨2, _⟩ => show 0 * 256 + q.val = q.val; omega

/-- The block of window 4. -/
theorem blk4 (c : Dev nD) (t : Fin cfg0.N) (e : Fin 1) (r : Fin 128) (q : Fin 256) :
    iblk m c 4 t (ix3 e r q) = V m c main_v3 (ix3 (⟨t.val / 32, by have := point_lt t; omega⟩ : Fin 4) (⟨(min (t.val % 32 + 1) 31) * 128 + r.val, by have := r.isLt; omega⟩ : Fin 4096) q) := by
  have he := e.isLt
  show V m c main_v3 (((cfg0.win 4).blk t).view.emb (ix3 e r q)) = _
  refine congrArg (V m c main_v3) (funext fun a => Fin.ext ?_)
  refine ((cfg0.win 4).rect_emb_val t _ a).trans ?_
  show win0_4.index t a * _ + _ = _
  rw [index4]
  match a with
  | ⟨0, _⟩ => show (t.val / 32) * 1 + e.val = t.val / 32; omega
  | ⟨1, _⟩ => show (min (t.val % 32 + 1) 31) * 128 + r.val = (min (t.val % 32 + 1) 31) * 128 + r.val; omega
  | ⟨2, _⟩ => show 0 * 256 + q.val = q.val; omega

/-- The block of window 5. -/
theorem blk5 (c : Dev nD) (t : Fin cfg0.N) (e : Fin 1) (r : Fin 128) (q : Fin 256) :
    iblk m c 5 t (ix3 e r q) = V m c main_v7 (ix3 (⟨t.val / 32, by have := point_lt t; omega⟩ : Fin 4) (⟨(t.val % 32 - 1) * 128 + r.val, by have := r.isLt; omega⟩ : Fin 4096) q) := by
  have he := e.isLt
  show V m c main_v7 (((cfg0.win 5).blk t).view.emb (ix3 e r q)) = _
  refine congrArg (V m c main_v7) (funext fun a => Fin.ext ?_)
  refine ((cfg0.win 5).rect_emb_val t _ a).trans ?_
  show win0_5.index t a * _ + _ = _
  rw [index5]
  match a with
  | ⟨0, _⟩ => show (t.val / 32) * 1 + e.val = t.val / 32; omega
  | ⟨1, _⟩ => show (t.val % 32 - 1) * 128 + r.val = (t.val % 32 - 1) * 128 + r.val; omega
  | ⟨2, _⟩ => show 0 * 256 + q.val = q.val; omega

/-- The block of window 6. -/
theorem blk6 (c : Dev nD) (t : Fin cfg0.N) (e : Fin 1) (r : Fin 128) (q : Fin 256) :
    iblk m c 6 t (ix3 e r q) = V m c main_v7 (ix3 (⟨t.val / 32, by have := point_lt t; omega⟩ : Fin 4) (⟨(t.val % 32) * 128 + r.val, by have := r.isLt; omega⟩ : Fin 4096) q) := by
  have he := e.isLt
  show V m c main_v7 (((cfg0.win 6).blk t).view.emb (ix3 e r q)) = _
  refine congrArg (V m c main_v7) (funext fun a => Fin.ext ?_)
  refine ((cfg0.win 6).rect_emb_val t _ a).trans ?_
  show win0_6.index t a * _ + _ = _
  rw [index6]
  match a with
  | ⟨0, _⟩ => show (t.val / 32) * 1 + e.val = t.val / 32; omega
  | ⟨1, _⟩ => show (t.val % 32) * 128 + r.val = (t.val % 32) * 128 + r.val; omega
  | ⟨2, _⟩ => show 0 * 256 + q.val = q.val; omega

/-- The block of window 7. -/
theorem blk7 (c : Dev nD) (t : Fin cfg0.N) (e : Fin 1) (r : Fin 128) (q : Fin 256) :
    iblk m c 7 t (ix3 e r q) = V m c main_v7 (ix3 (⟨t.val / 32, by have := point_lt t; omega⟩ : Fin 4) (⟨(min (t.val % 32 + 1) 31) * 128 + r.val, by have := r.isLt; omega⟩ : Fin 4096) q) := by
  have he := e.isLt
  show V m c main_v7 (((cfg0.win 7).blk t).view.emb (ix3 e r q)) = _
  refine congrArg (V m c main_v7) (funext fun a => Fin.ext ?_)
  refine ((cfg0.win 7).rect_emb_val t _ a).trans ?_
  show win0_7.index t a * _ + _ = _
  rw [index7]
  match a with
  | ⟨0, _⟩ => show (t.val / 32) * 1 + e.val = t.val / 32; omega
  | ⟨1, _⟩ => show (min (t.val % 32 + 1) 31) * 128 + r.val = (min (t.val % 32 + 1) 31) * 128 + r.val; omega
  | ⟨2, _⟩ => show 0 * 256 + q.val = q.val; omega

/-- The block of window 8. -/
theorem blk8 (c : Dev nD) (t : Fin cfg0.N) (e : Fin 1) (r : Fin 256) (q : Fin 256) :
    iblk m c 8 t (ix3 e r q) = V m c main_v11 (ix3 (⟨t.val / 32, by have := point_lt t; omega⟩ : Fin 4) (⟨r.val, by have := r.isLt; omega⟩ : Fin 256) q) := by
  have he := e.isLt
  show V m c main_v11 (((cfg0.win 8).blk t).view.emb (ix3 e r q)) = _
  refine congrArg (V m c main_v11) (funext fun a => Fin.ext ?_)
  refine ((cfg0.win 8).rect_emb_val t _ a).trans ?_
  show win0_8.index t a * _ + _ = _
  rw [index8]
  match a with
  | ⟨0, _⟩ => show (t.val / 32) * 1 + e.val = t.val / 32; omega
  | ⟨1, _⟩ => show (0) * 256 + r.val = r.val; omega
  | ⟨2, _⟩ => show 0 * 256 + q.val = q.val; omega

/-- The block of window 9. -/
theorem blk9 (c : Dev nD) (t : Fin cfg0.N) (e : Fin 1) (r : Fin 256) (q : Fin 256) :
    iblk m c 9 t (ix3 e r q) = V m c main_v15 (ix3 (⟨t.val / 32, by have := point_lt t; omega⟩ : Fin 4) (⟨r.val, by have := r.isLt; omega⟩ : Fin 256) q) := by
  have he := e.isLt
  show V m c main_v15 (((cfg0.win 9).blk t).view.emb (ix3 e r q)) = _
  refine congrArg (V m c main_v15) (funext fun a => Fin.ext ?_)
  refine ((cfg0.win 9).rect_emb_val t _ a).trans ?_
  show win0_9.index t a * _ + _ = _
  rw [index9]
  match a with
  | ⟨0, _⟩ => show (t.val / 32) * 1 + e.val = t.val / 32; omega
  | ⟨1, _⟩ => show (0) * 256 + r.val = r.val; omega
  | ⟨2, _⟩ => show 0 * 256 + q.val = q.val; omega

/-- The block of window 10. -/
theorem blk10 (c : Dev nD) (t : Fin cfg0.N) (e : Fin 1) (r : Fin 512) (q : Fin 384) :
    iblk m c 10 t (ix3 e r q) = V m c main_v39 (ix3 (⟨if t.val % 32 = 0 then 0 else if t.val % 32 = 31 then 2 else 1, by have := point_lt t; split_ifs <;> omega⟩ : Fin 3) (⟨r.val, by have := r.isLt; omega⟩ : Fin 512) q) := by
  have he := e.isLt
  show V m c main_v39 (((cfg0.win 10).blk t).view.emb (ix3 e r q)) = _
  refine congrArg (V m c main_v39) (funext fun a => Fin.ext ?_)
  refine ((cfg0.win 10).rect_emb_val t _ a).trans ?_
  show win0_10.index t a * _ + _ = _
  rw [index10]
  match a with
  | ⟨0, _⟩ => show (if t.val % 32 = 0 then 0 else if t.val % 32 = 31 then 2 else 1) * 1 + e.val = if t.val % 32 = 0 then 0 else if t.val % 32 = 31 then 2 else 1; omega
  | ⟨1, _⟩ => show (0) * 512 + r.val = r.val; omega
  | ⟨2, _⟩ => show 0 * 384 + q.val = q.val; omega

/-- Where a point's block of the result lies. -/
theorem emb11 (t : Fin cfg0.N) (e : Fin 1) (r : Fin 128) (q : Fin 512) :
    ((cfg0.win 11).blk t).view.emb (ix3 e r q)
      = ix3 (⟨t.val / 32, by have := point_lt t; omega⟩ : Fin 4) (⟨t.val % 32 * 128 + r.val, by have := r.isLt; omega⟩ : Fin 4096) q := by
  have he := e.isLt
  refine funext fun a => Fin.ext ?_
  refine ((cfg0.win 11).rect_emb_val t _ a).trans ?_
  show win0_11.index t a * _ + _ = _
  rw [index11]
  match a with
  | ⟨0, _⟩ => show t.val / 32 * 1 + e.val = t.val / 32; omega
  | ⟨1, _⟩ => rfl
  | ⟨2, _⟩ => show 0 * 512 + q.val = q.val; omega

/-- Every element of the result lies in the block of its batch and row block. -/
theorem cover11 (i : S4x4096x512.Idx) :
    ∃ t : Fin cfg0.N, (cfg0.win 11).flush t = true ∧ i ∈ ((cfg0.win 11).blk t).view.set := by
  have h0 : (i 0).val < 4 := (i 0).isLt
  have h1 : (i 1).val < 4096 := (i 1).isLt
  have ht : (i 0).val * 32 + (i 1).val / 128 < cfg0.N := by show _ < 128; omega
  refine ⟨⟨(i 0).val * 32 + (i 1).val / 128, ht⟩, flush0_11 _, ?_⟩
  have h := ((cfg0.win 11).blk ⟨(i 0).val * 32 + (i 1).val / 128, ht⟩).view.emb_mem_set (ix3 (0 : Fin 1) (⟨(i 1).val % 128, by omega⟩ : Fin 128) (i 2))
  refine Eq.mp (congrArg (· ∈ _) ((emb11 ⟨(i 0).val * 32 + (i 1).val / 128, ht⟩ (0 : Fin 1) (⟨(i 1).val % 128, by omega⟩ : Fin 128) (i 2)).trans ?_)) h
  refine funext fun a => Fin.ext ?_
  match a with
  | ⟨0, _⟩ => show ((i 0).val * 32 + (i 1).val / 128) / 32 = (i 0).val; omega
  | ⟨1, _⟩ => show ((i 0).val * 32 + (i 1).val / 128) % 32 * 128 + (i 1).val % 128 = (i 1).val; omega
  | ⟨2, _⟩ => rfl

end Cert.WinIdeal.Host
end
-- ==== Proof.WinRef.lean ====
/- The window attention's reference at an element. Its result is the composition of its operations (`term`), cut into the
   three windows of the keys and the values, the reach, the scores, the joint softmax and the weighted values; each is read
   at an index. -/
module

public import proofs.«01_k».proof.Proof.Gen.WinRefIdeal.Run
public import Idealize.ShloMosaic.Lib.Pointwise

@[expose] public section

set_option maxRecDepth 16384

noncomputable section

namespace Cert.WinRefIdeal.Out

open Cert.WinRefIdeal Cert.WinRefIdeal.Gen Idealize.ShloMosaic Idealize.ShloMosaic.TcCoe Idealize.SL.Sem

/-- The three blocks of 128 rows around each block, of an array padded by 128 rows of zeros at both ends. -/
def window (x : FVec Ideal S4x4096x128 .f32) : FVec Ideal S4x32x384x2x64 .f32 :=
  ((concatenate S4x32x384x2x64 2 [⟨S4x32x128x2x64, ((extractStridedSlice S4x32x128x2x64 ![0, 0, 0, 0, 0] (shapeCast _ (pad S4x4352x2x64 ![0, 128, 0, 0] ![0, 128, 0, 0] ![0, 0, 0, 0] (shapeCast _ x shapeCasts_S4x4096x128_S4x4096x2x64) (sitofp .f32 (constantI S_ 32 0#32)) pads_S4x4096x2x64_S4x4352x2x64_000_1281280_000_000 h_S_) shapeCasts_S4x4352x2x64_S4x34x128x2x64) slices_S4x34x128x2x64_S4x32x128x2x64_0_0_0_0_0))⟩, ⟨S4x32x128x2x64, ((extractStridedSlice S4x32x128x2x64 ![0, 1, 0, 0, 0] (shapeCast _ (pad S4x4352x2x64 ![0, 128, 0, 0] ![0, 128, 0, 0] ![0, 0, 0, 0] (shapeCast _ x shapeCasts_S4x4096x128_S4x4096x2x64) (sitofp .f32 (constantI S_ 32 0#32)) pads_S4x4096x2x64_S4x4352x2x64_000_1281280_000_000 h_S_) shapeCasts_S4x4352x2x64_S4x34x128x2x64) slices_S4x34x128x2x64_S4x32x128x2x64_0_1_0_0_0))⟩, ⟨S4x32x128x2x64, ((extractStridedSlice S4x32x128x2x64 ![0, 2, 0, 0, 0] (shapeCast _ (pad S4x4352x2x64 ![0, 128, 0, 0] ![0, 128, 0, 0] ![0, 0, 0, 0] (shapeCast _ x shapeCasts_S4x4096x128_S4x4096x2x64) (sitofp .f32 (constantI S_ 32 0#32)) pads_S4x4096x2x64_S4x4352x2x64_000_1281280_000_000 h_S_) shapeCasts_S4x4352x2x64_S4x34x128x2x64) slices_S4x34x128x2x64_S4x32x128x2x64_0_2_0_0_0))⟩] concatenates_S4x32x128x2x64_S4x32x128x2x64_S4x32x128x2x64_S4x32x384x2x64_d2))

/-- Which rows of the window a row may attend to. -/
def reach : IVec S4x32x2x4x128x384 1 :=
  (broadcastInDim S4x32x2x4x128x384 ![0, 1, 2, 3, 4, 5] bcast_S1x32x1x1x128x384_S4x32x2x4x128x384_0_1_2_3_4_5 (broadcastInDim S1x32x1x1x128x384 ![1, 4, 5] bcast_S32x128x384_S1x32x1x1x128x384_1_4_5 (andi (andi (cmpi .sle (absi (subi (broadcastInDim S32x128x384 ![0, 1, 2] bcast_S32x128x1_S32x128x384_0_1_2 (broadcastInDim S32x128x1 ![0, 1] bcast_S32x128_S32x128x1_0_1 (addi (broadcastInDim S32x128 ![0, 1] bcast_S32x1_S32x128_0_1 (broadcastInDim S32x1 ![0] bcast_S32_S32x1_0 (muli (iotaInDim S32 32 0) (broadcastInDim S32 ![] bcast_S_S32 (constantI S_ 32 128#32))))) (broadcastInDim S32x128 ![0, 1] bcast_S1x128_S32x128_0_1 (broadcastInDim S1x128 ![1] bcast_S128_S1x128_1 (iotaInDim S128 32 0)))))) (broadcastInDim S32x128x384 ![0, 1, 2] bcast_S32x1x384_S32x128x384_0_1_2 (broadcastInDim S32x1x384 ![0, 2] bcast_S32x384_S32x1x384_0_2 (addi (broadcastInDim S32x384 ![0, 1] bcast_S32x1_S32x384_0_1 (broadcastInDim S32x1 ![0] bcast_S32_S32x1_0 (subi (muli (iotaInDim S32 32 0) (broadcastInDim S32 ![] bcast_S_S32 (constantI S_ 32 128#32))) (broadcastInDim S32 ![] bcast_S_S32 (constantI S_ 32 128#32))))) (broadcastInDim S32x384 ![0, 1] bcast_S1x384_S32x384_0_1 (broadcastInDim S1x384 ![1] bcast_S384_S1x384_1 (iotaInDim S384 32 0)))))))) (broadcastInDim S32x128x384 ![] bcast_S_S32x128x384 (constantI S_ 32 128#32))) (broadcastInDim S32x128x384 ![0, 1, 2] bcast_S32x1x384_S32x128x384_0_1_2 (cmpi .sge (broadcastInDim S32x1x384 ![0, 2] bcast_S32x384_S32x1x384_0_2 (addi (broadcastInDim S32x384 ![0, 1] bcast_S32x1_S32x384_0_1 (broadcastInDim S32x1 ![0] bcast_S32_S32x1_0 (subi (muli (iotaInDim S32 32 0) (broadcastInDim S32 ![] bcast_S_S32 (constantI S_ 32 128#32))) (broadcastInDim S32 ![] bcast_S_S32 (constantI S_ 32 128#32))))) (broadcastInDim S32x384 ![0, 1] bcast_S1x384_S32x384_0_1 (broadcastInDim S1x384 ![1] bcast_S384_S1x384_1 (iotaInDim S384 32 0))))) (broadcastInDim S32x1x384 ![] bcast_S_S32x1x384 (constantI S_ 32 0#32))))) (broadcastInDim S32x128x384 ![0, 1, 2] bcast_S32x1x384_S32x128x384_0_1_2 (cmpi .slt (broadcastInDim S32x1x384 ![0, 2] bcast_S32x384_S32x1x384_0_2 (addi (broadcastInDim S32x384 ![0, 1] bcast_S32x1_S32x384_0_1 (broadcastInDim S32x1 ![0] bcast_S32_S32x1_0 (subi (muli (iotaInDim S32 32 0) (broadcastInDim S32 ![] bcast_S_S32 (constantI S_ 32 128#32))) (broadcastInDim S32 ![] bcast_S_S32 (constantI S_ 32 128#32))))) (broadcastInDim S32x384 ![0, 1] bcast_S1x384_S32x384_0_1 (broadcastInDim S1x384 ![1] bcast_S384_S1x384_1 (iotaInDim S384 32 0))))) (broadcastInDim S32x1x384 ![] bcast_S_S32x1x384 (constantI S_ 32 4096#32)))))))

/-- The local scores, −∞ out of reach. -/
def loc (q : FVec Ideal S4x4096x512 .f32) (k : FVec Ideal S4x4096x128 .f32) : FVec Ideal S4x32x2x4x128x384 .f32 :=
  ((select reach (mulf (transpose S4x32x2x4x128x384 [0, 1, 2, 5, 4, 3] (Host.dotGeneral dot_S4x32x384x2x64_S4x32x128x2x4x64_S4x32x2x384x128x4_4_5_2_24_013_013 none (window k) (shapeCast _ (shapeCast _ q shapeCasts_S4x4096x512_S4x4096x8x64) shapeCasts_S4x4096x8x64_S4x32x128x2x4x64)) transposes_S4x32x2x384x128x4_S4x32x2x4x128x384_0_1_2_5_4_3) (broadcastInDim S4x32x2x4x128x384 ![] bcast_S_S4x32x2x4x128x384 (constant S_ .f32 0x3E000000#32))) (broadcastInDim S4x32x2x4x128x384 ![] bcast_S_S4x32x2x4x128x384 (id (constant S_ .f32 0xFF800000#32)))))

/-- The scores with the context's keys. -/
def ctx (q : FVec Ideal S4x4096x512 .f32) (kc : FVec Ideal S4x256x128 .f32) : FVec Ideal S4x32x2x4x128x256 .f32 :=
  ((mulf (transpose S4x32x2x4x128x256 [0, 3, 1, 5, 4, 2] (Host.dotGeneral dot_S4x256x2x64_S4x32x128x2x4x64_S4x2x256x32x128x4_3_5_1_124_02_03 none (shapeCast _ kc shapeCasts_S4x256x128_S4x256x2x64) (shapeCast _ (shapeCast _ q shapeCasts_S4x4096x512_S4x4096x8x64) shapeCasts_S4x4096x8x64_S4x32x128x2x4x64)) transposes_S4x2x256x32x128x4_S4x32x2x4x128x256_0_3_1_5_4_2) (broadcastInDim S4x32x2x4x128x256 ![] bcast_S_S4x32x2x4x128x256 (constant S_ .f32 0x3E000000#32))))

/-- Each head's sink, at every row. -/
def sinks (s : FVec Ideal S8 .f32) : FVec Ideal S4x32x2x4x128x1 .f32 :=
  ((broadcastInDim S4x32x2x4x128x1 ![0, 1, 2, 3, 4, 5] bcast_S1x1x2x4x1x1_S4x32x2x4x128x1_0_1_2_3_4_5 (shapeCast _ s shapeCasts_S8_S1x1x2x4x1x1)))

/-- The scores of one row side by side: local, context, sink. -/
def scores (q : FVec Ideal S4x4096x512 .f32) (k : FVec Ideal S4x4096x128 .f32) (kc : FVec Ideal S4x256x128 .f32) (s : FVec Ideal S8 .f32) :
    FVec Ideal S4x32x2x4x128x641 .f32 :=
  ((concatenate S4x32x2x4x128x641 5 [⟨S4x32x2x4x128x384, (loc q k)⟩, ⟨S4x32x2x4x128x256, ctx q kc⟩, ⟨S4x32x2x4x128x1, sinks s⟩] concatenates_S4x32x2x4x128x384_S4x32x2x4x128x256_S4x32x2x4x128x1_S4x32x2x4x128x641_d5))

/-- Their largest. -/
def top (y : FVec Ideal S4x32x2x4x128x641 .f32) : FVec Ideal S4x32x2x4x128 .f32 :=
  (maximumf (broadcastInDim S4x32x2x4x128 ![] bcast_S_S4x32x2x4x128 (constant S_ .f32 0xFF800000#32)) (Host.reduce FloatOps.maximumf y (constant S_ .f32 0xFF800000#32) reducesTo_S4x32x2x4x128x641_S4x32x2x4x128_d5 h_S_))

/-- The exponentials of the scores less the largest. -/
def weight (y : FVec Ideal S4x32x2x4x128x641 .f32) : FVec Ideal S4x32x2x4x128x641 .f32 :=
  (Host.exp (subf y (broadcastInDim S4x32x2x4x128x641 ![0, 1, 2, 3, 4, 5] bcast_S4x32x2x4x128x1_S4x32x2x4x128x641_0_1_2_3_4_5 (broadcastInDim S4x32x2x4x128x1 ![0, 1, 2, 3, 4] bcast_S4x32x2x4x128_S4x32x2x4x128x1_0_1_2_3_4 (top y)))))

/-- The softmax. -/
def probs (y : FVec Ideal S4x32x2x4x128x641 .f32) : FVec Ideal S4x32x2x4x128x641 .f32 :=
  (Host.divf (weight y) (broadcastInDim S4x32x2x4x128x641 ![0, 1, 2, 3, 4, 5] bcast_S4x32x2x4x128x1_S4x32x2x4x128x641_0_1_2_3_4_5 (broadcastInDim S4x32x2x4x128x1 ![0, 1, 2, 3, 4] bcast_S4x32x2x4x128_S4x32x2x4x128x1_0_1_2_3_4 (Host.reduceAdd (weight y) (constant S_ .f32 0x00000000#32) reducesTo_S4x32x2x4x128x641_S4x32x2x4x128_d5 h_S_))))

/-- The values weighted by given probabilities. -/
def weighted (p : FVec Ideal S4x32x2x4x128x641 .f32) (v : FVec Ideal S4x4096x128 .f32) (vc : FVec Ideal S4x256x128 .f32) :
    FVec Ideal S4x4096x512 .bf16 :=
  truncf .bf16 (shapeCast _ (addf (transpose S4x32x128x2x4x64 [0, 1, 5, 2, 4, 3] (Host.dotGeneral dot_S4x32x384x2x64_S4x32x2x4x128x384_S4x32x2x64x4x128_2_5_4_34_013_012 none (window v) (extractStridedSlice S4x32x2x4x128x384 ![0, 0, 0, 0, 0, 0] p slices_S4x32x2x4x128x641_S4x32x2x4x128x384_0_0_0_0_0_0)) transposes_S4x32x2x64x4x128_S4x32x128x2x4x64_0_1_5_2_4_3) (transpose S4x32x128x2x4x64 [0, 3, 5, 1, 4, 2] (Host.dotGeneral dot_S4x256x2x64_S4x32x2x4x128x256_S4x2x64x32x4x128_1_5_3_134_02_02 none (shapeCast _ vc shapeCasts_S4x256x128_S4x256x2x64) (extractStridedSlice S4x32x2x4x128x256 ![0, 0, 0, 0, 0, 384] p slices_S4x32x2x4x128x641_S4x32x2x4x128x256_0_0_0_0_0_384)) transposes_S4x2x64x32x4x128_S4x32x128x2x4x64_0_3_5_1_4_2)) shapeCasts_S4x32x128x2x4x64_S4x4096x512) bitsLt_bf16_f32

/-- The reference's result as the composition of its operations on the six arguments. -/
def term (q : FVec Ideal S4x4096x512 .f32) (k v : FVec Ideal S4x4096x128 .f32) (kc vc : FVec Ideal S4x256x128 .f32) (s : FVec Ideal S8 .f32) :
    FVec Ideal S4x4096x512 .bf16 := weighted (probs (scores q k kc s)) v vc

/-- What the run leaves is `term` of the arguments. -/
theorem res_eq (m : (ℓ : Loc nD τ sig) → Buf (Elt Ideal) ℓ) (c : Dev nD) :
    Cert.WinRefIdeal.Value.res_out0 m c = term (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- The local scores at an element. -/
theorem loc_apply (q : FVec Ideal S4x4096x512 .f32) (k : FVec Ideal S4x4096x128 .f32) (b : Fin 4) (n : Fin 32) (g : Fin 2) (j : Fin 4) (r : Fin 128) (t : Fin 384) :
    loc q k (ix6 b n g j r t) = Scalar.select (reach (ix6 b n g j r t))
      ((∑ x : Fin 64, window k (ix5 b n t g x) * q (ix3 b ⟨n.val * 128 + r.val, by omega⟩ ⟨g.val * 256 + j.val * 64 + x.val, by omega⟩)) *
        Ideal.ofBits FTy.f32 0x3E000000#32) (Ideal.ofBits FTy.f32 0xFF800000#32) := by
  pointwise [loc, id]

/-- The context's scores at an element. -/
theorem ctx_apply (q : FVec Ideal S4x4096x512 .f32) (k : FVec Ideal S4x256x128 .f32) (b : Fin 4) (n : Fin 32) (g : Fin 2) (j : Fin 4) (r : Fin 128) (t : Fin 256) :
    ctx q k (ix6 b n g j r t) = (∑ x : Fin 64, k (ix3 b t ⟨g.val * 64 + x.val, by omega⟩)
      * q (ix3 b ⟨n.val * 128 + r.val, by omega⟩ ⟨g.val * 256 + j.val * 64 + x.val, by omega⟩)) * Ideal.ofBits FTy.f32 0x3E000000#32 := by
  pointwise [ctx, id]

/-- The sinks at an element. -/
theorem sinks_apply (s : FVec Ideal S8 .f32) (b : Fin 4) (n : Fin 32) (g : Fin 2) (j : Fin 4) (r : Fin 128) (t : Fin 1) :
    sinks s (ix6 b n g j r t) = s (ix1 ⟨g.val * 4 + j.val, by omega⟩) := by
  pointwise [sinks, id]

/-- The scores side by side, at an element. -/
theorem scores_apply (q : FVec Ideal S4x4096x512 .f32) (k : FVec Ideal S4x4096x128 .f32) (kc : FVec Ideal S4x256x128 .f32) (s : FVec Ideal S8 .f32)
    (b : Fin 4) (n : Fin 32) (g : Fin 2) (j : Fin 4) (r : Fin 128) (t : Fin 641) :
    scores q k kc s (ix6 b n g j r t) = if h : t.val < 384 then loc q k (ix6 b n g j r ⟨t.val, h⟩)
      else if h' : t.val - 384 < 256 then ctx q kc (ix6 b n g j r ⟨t.val - 384, h'⟩)
      else sinks s (ix6 b n g j r ⟨t.val - 384 - 256, by omega⟩) := by
  pointwise [scores, id]

/-- The exponential at an element. -/
theorem weight_apply (y : FVec Ideal S4x32x2x4x128x641 .f32) (b : Fin 4) (n : Fin 32) (g : Fin 2) (j : Fin 4) (r : Fin 128) (t : Fin 641) :
    weight y (ix6 b n g j r t) = Ideal.exp (y (ix6 b n g j r t) - top y (ix5 b n g j r)) := by
  pointwise [weight, id]

/-- The weighted values at an element. -/
theorem weighted_apply (p : FVec Ideal S4x32x2x4x128x641 .f32) (v : FVec Ideal S4x4096x128 .f32) (vc : FVec Ideal S4x256x128 .f32) (b : Fin 4) (s : Fin 4096) (c : Fin 512) :
    weighted p v vc (ix3 b s c)
      = ∑ t : Fin 384, window v (ix5 b (⟨s.val / 128, by omega⟩ : Fin 32) t (⟨c.val / 256, by omega⟩ : Fin 2) (⟨c.val % 64, by omega⟩ : Fin 64)) *
          p (ix6 b (⟨s.val / 128, by omega⟩ : Fin 32) (⟨c.val / 256, by omega⟩ : Fin 2) (⟨c.val / 64 % 4, by omega⟩ : Fin 4) (⟨s.val % 128, by omega⟩ : Fin 128) (⟨t.val, by omega⟩ : Fin 641))
      + ∑ u : Fin 256, vc (ix3 b u (⟨c.val / 256 * 64 + c.val % 64, by omega⟩ : Fin 128)) *
          p (ix6 b (⟨s.val / 128, by omega⟩ : Fin 32) (⟨c.val / 256, by omega⟩ : Fin 2) (⟨c.val / 64 % 4, by omega⟩ : Fin 4) (⟨s.val % 128, by omega⟩ : Fin 128) (⟨384 + u.val, by omega⟩ : Fin 641)) := by
  pointwise [weighted, id]

end Cert.WinRefIdeal.Out
end
-- ==== Proof.WinRefRow.lean ====
/- The rows of the window attention's reference: the window, the reach, the largest score and the sum of a row at an index. -/
module

public import proofs.«01_k».proof.Proof.WinRef
public import proofs.«01_k».proof.Proof.WinWord

@[expose] public section

set_option maxRecDepth 16384

noncomputable section

namespace Cert.WinRefIdeal.Out

open Cert.WinRefIdeal Cert.WinRefIdeal.Gen Idealize.ShloMosaic Idealize.ShloMosaic.TcCoe Idealize.SL.Sem

/-- Two conditional values with equivalent conditions and equal branches. -/
theorem dite_same {P Q : Prop} [Decidable P] [Decidable Q] (e : P ↔ Q) (u : P → EReal) (w : Q → EReal) (z : EReal)
    (huw : ∀ (p : P) (q : Q), u p = w q) : (if h : P then u h else z) = if h : Q then w h else z := by
  by_cases p : P
  · rw [dif_pos p, dif_pos (e.1 p)]; exact huw _ _
  · rw [dif_neg p, dif_neg fun q => p (e.2 q)]

/-- The window at an element: the row of the array, zero outside it. -/
theorem window_apply (x : FVec Ideal S4x4096x128 .f32) (b : Fin 4) (n : Fin 32) (t : Fin 384) (g : Fin 2) (d : Fin 64) :
    window x (ix5 b n t g d) = if h : 128 ≤ n.val * 128 + t.val ∧ n.val * 128 + t.val - 128 < 4096 then
      x (ix3 b ⟨n.val * 128 + t.val - 128, h.2⟩ ⟨g.val * 64 + d.val, by omega⟩) else FloatOps.sitofp FTy.f32 0#32 := by
  pointwise [window, id]
  by_cases h1 : t.val < 128
  · rw [dif_pos h1]
  · rw [dif_neg h1]
    by_cases h2 : t.val - 128 < 128
    · rw [dif_pos h2]
      exact dite_same (by omega) _ _ _ fun p q => congrArg (fun i => x (ix3 b i (⟨g.val * 64 + d.val, by omega⟩ : Fin 128))) (Fin.ext (by dsimp only; omega))
    · rw [dif_neg h2]
      exact dite_same (by omega) _ _ _ fun p q => congrArg (fun i => x (ix3 b i (⟨g.val * 64 + d.val, by omega⟩ : Fin 128))) (Fin.ext (by dsimp only; omega))

/-- Reach, as an inequality on the positions. -/
theorem reach_apply (b : Fin 4) (n : Fin 32) (g : Fin 2) (j : Fin 4) (r : Fin 128) (t : Fin 384) :
    reach (ix6 b n g j r t) = 1#1 ↔ (r.val ≤ t.val ∧ t.val ≤ r.val + 256) ∧ 128 ≤ n.val * 128 + t.val ∧ n.val * 128 + t.val - 128 < 4096 := by
  pointwise [reach, id]
  exact Cert.WinWord.reach_word _ _ _ n.isLt r.isLt t.isLt

/-- The indices that a reduction over the last of six axes reads for one result. -/
theorem fiber {n0 n1 n2 n3 n4 n5 : ℕ} (h : (⟨6, ![n0, n1, n2, n3, n4, n5]⟩ : Shape).ReducesTo [5] ⟨5, ![n0, n1, n2, n3, n4]⟩)
    (b : Fin n0) (n : Fin n1) (g : Fin n2) (j : Fin n3) (r : Fin n4)
    (i : (⟨6, ![n0, n1, n2, n3, n4, n5]⟩ : Shape).Idx) : h.drop i = ix5 b n g j r ↔ ∃ t : Fin n5, ix6 b n g j r t = i := by
  constructor
  · intro e
    refine ⟨i 5, ?_⟩
    funext a; apply Fin.ext
    match a with
    | ⟨0, _⟩ => exact (congrArg Fin.val (congrFun e ⟨0, Nat.lt_of_sub_eq_succ rfl⟩)).symm
    | ⟨1, _⟩ => exact (congrArg Fin.val (congrFun e ⟨1, Nat.lt_of_sub_eq_succ rfl⟩)).symm
    | ⟨2, _⟩ => exact (congrArg Fin.val (congrFun e ⟨2, Nat.lt_of_sub_eq_succ rfl⟩)).symm
    | ⟨3, _⟩ => exact (congrArg Fin.val (congrFun e ⟨3, Nat.lt_of_sub_eq_succ rfl⟩)).symm
    | ⟨4, _⟩ => exact (congrArg Fin.val (congrFun e ⟨4, Nat.lt_of_sub_eq_succ rfl⟩)).symm
    | ⟨5, _⟩ => rfl
  · rintro ⟨t, rfl⟩
    funext a
    apply Fin.ext
    match a with
    | ⟨0, _⟩ => rfl
    | ⟨1, _⟩ => rfl
    | ⟨2, _⟩ => rfl
    | ⟨3, _⟩ => rfl
    | ⟨4, _⟩ => rfl

/-- The indices along the last axis differ. -/
theorem last_inj {n0 n1 n2 n3 n4 n5 : ℕ} (b : Fin n0) (n : Fin n1) (g : Fin n2) (j : Fin n3) (r : Fin n4) :
    Function.Injective fun t : Fin n5 => (ix6 b n g j r t : (⟨6, ![n0, n1, n2, n3, n4, n5]⟩ : Shape).Idx) := fun t t' e =>
  congrFun e 5

/-- A maximum over the last of six axes. -/
theorem reduce_max {n0 n1 n2 n3 n4 n5 : ℕ} {u : Shape} (h : (⟨6, ![n0, n1, n2, n3, n4, n5]⟩ : Shape).ReducesTo [5] ⟨5, ![n0, n1, n2, n3, n4]⟩)
    (y : FVec Ideal ⟨6, ![n0, n1, n2, n3, n4, n5]⟩ .f32) (init : FVec Ideal u .f32) (hu : 0 < u.numel)
    (b : Fin n0) (n : Fin n1) (g : Fin n2) (j : Fin n3) (r : Fin n4) :
    Host.reduce FloatOps.maximumf y init h hu (ix5 b n g j r)
      = Finset.fold max (init (Shape.Idx.first hu)) (fun t : Fin n5 => y (ix6 b n g j r t)) Finset.univ := by
  refine (Host.reduce_eq_fold (FloatOps.maximumf (F := Ideal) (φ := .f32)) y _ _ _ _).trans ?_
  exact Finset.fold_filter_eq_fold_of_fiber _ _ _ (last_inj b n g j r) (fiber _ b n g j r) _ _

/-- A sum over the last of six axes. -/
theorem reduce_sum {n0 n1 n2 n3 n4 n5 : ℕ} (h : (⟨6, ![n0, n1, n2, n3, n4, n5]⟩ : Shape).ReducesTo [5] ⟨5, ![n0, n1, n2, n3, n4]⟩)
    (y : FVec Ideal ⟨6, ![n0, n1, n2, n3, n4, n5]⟩ .f32)
    (b : Fin n0) (n : Fin n1) (g : Fin n2) (j : Fin n3) (r : Fin n4) :
    Ideal.hostReduceAdd h y 0 (ix5 b n g j r) = ∑ t : Fin n5, y (ix6 b n g j r t) := by
  unfold Ideal.hostReduceAdd
  rw [zero_add]
  exact Finset.sum_filter_eq_sum_of_fiber _ _ (last_inj b n g j r) (fiber _ b n g j r) _

/-- The largest score of a row. -/
theorem top_apply (y : FVec Ideal S4x32x2x4x128x641 .f32) (b : Fin 4) (n : Fin 32) (g : Fin 2) (j : Fin 4) (r : Fin 128) :
    top y (ix5 b n g j r) = max (Ideal.ofBits FTy.f32 0xFF800000#32)
      (Finset.fold max (Ideal.ofBits FTy.f32 0xFF800000#32) (fun t : Fin 641 => y (ix6 b n g j r t)) Finset.univ) := by
  have e := reduce_max (reducesTo_S4x32x2x4x128x641_S4x32x2x4x128_d5) y (constant (F := Ideal) S_ .f32 0xFF800000#32) h_S_ b n g j r
  unfold top
  rw [maximumf_apply, e]
  refine congrArg₂ (fun a b : EReal => max a b) ?_ rfl
  pointwise

/-- The softmax at an element. -/
theorem probs_apply (y : FVec Ideal S4x32x2x4x128x641 .f32) (b : Fin 4) (n : Fin 32) (g : Fin 2) (j : Fin 4) (r : Fin 128) (t : Fin 641) :
    probs y (ix6 b n g j r t) = Ideal.div (weight y (ix6 b n g j r t)) (∑ t : Fin 641, weight y (ix6 b n g j r t)) := by
  have e : probs y (ix6 b n g j r t) = Ideal.div (weight y (ix6 b n g j r t))
      (Ideal.hostReduceAdd reducesTo_S4x32x2x4x128x641_S4x32x2x4x128_d5 (weight y) 0 (ix5 b n g j r)) := by pointwise [probs, id]
  rw [e]
  exact congrArg (Ideal.div _) (reduce_sum _ _ b n g j r)

end Cert.WinRefIdeal.Out
end
-- ==== Proof.WinMath.lean ====
/- One row of a softmax with a sink, taken in two ways over the extended reals: the exponentials of the scores less their
   largest, divided by their sum before the values are weighted; and powers of two of the scores scaled by 1/ln 2, whose
   weighted sums are divided once. Scores are real or, out of reach, −∞. -/
module

public import Idealize.ShloMosaic.Lib.Pointwise

@[expose] public section

noncomputable section

namespace Cert.WinMath

open Idealize.ShloMosaic

/-- The scale of the kernel's scores: 1 / ln 2. -/
def lam : ℝ := (Real.log 2)⁻¹

theorem lam_pos : 0 < lam := inv_pos.2 (Real.log_pos (by norm_num))

/-- Scaling by a positive real keeps the order. -/
theorem mono : Monotone fun x : EReal => x * (lam : EReal) := fun _ _ h =>
  mul_le_mul_of_nonneg_right h (EReal.coe_nonneg.2 lam_pos.le)

theorem scale_bot : (⊥ : EReal) * (lam : EReal) = ⊥ := EReal.bot_mul_coe_of_pos lam_pos

/-- A power of two of a scaled difference is the exponential of the difference. -/
theorem exp2_scaled (a μ : ℝ) : Ideal.exp2 (((a * lam : ℝ) : EReal) - ((μ * lam : ℝ) : EReal)) = Ideal.exp ((a : EReal) - (μ : EReal)) := by
  rw [← EReal.coe_sub, ← EReal.coe_sub, Ideal.exp2_coe, Ideal.exp_coe]
  congr 1
  show Real.rpow 2 _ = _
  rw [show Real.rpow 2 (a * lam - μ * lam) = (2 : ℝ) ^ (a * lam - μ * lam) from rfl, Real.rpow_def_of_pos (by norm_num : (0:ℝ) < 2)]
  congr 1
  have h : Real.log 2 ≠ 0 := (Real.log_pos (by norm_num)).ne'
  unfold lam
  field_simp

/-- A fold of maxima from −∞ is the supremum. -/
theorem fold_eq_sup {n : ℕ} (f : Fin n → EReal) : Finset.fold max ⊥ f Finset.univ = Finset.univ.sup f := rfl

/-- The scaled supremum. -/
theorem sup_scaled {n : ℕ} (f f' : Fin n → EReal) (h : ∀ t, f' t = f t * (lam : EReal)) :
    Finset.univ.sup f' = Finset.univ.sup f * (lam : EReal) := by
  have : f' = (fun x : EReal => x * (lam : EReal)) ∘ f := funext h
  rw [this]
  exact (Finset.comp_sup_eq_sup_comp_of_is_total (fun x : EReal => x * (lam : EReal)) mono scale_bot).symm

/-- A sum times a nonnegative real is the sum of the products. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- A sum of reals is real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The two ways agree. `L`, `C`, `z` are the scores with the window, the context and the sink, `L'`, `C'`, `z'` the scaled
    ones; the values out of reach are free. -/
theorem softmax_eq {n p : ℕ} (L L' V V' : Fin n → EReal) (C C' W : Fin p → EReal) (z z' : EReal)
    (hL : ∀ t, (L t = ⊥ ∧ L' t = ⊥) ∨ ∃ a : ℝ, L t = (a : EReal) ∧ L' t = ((a * lam : ℝ) : EReal) ∧ V t = V' t)
    (hC : ∀ u, ∃ a : ℝ, C u = (a : EReal) ∧ C' u = ((a * lam : ℝ) : EReal))
    (hz : ∃ a : ℝ, z = (a : EReal) ∧ z' = ((a * lam : ℝ) : EReal)) (M M' D D' : EReal)
    (hM : M = max (max (Finset.univ.sup L) (Finset.univ.sup C)) z)
    (hM' : M' = max (max (Finset.univ.sup L') (Finset.univ.sup C')) z')
    (hD : D = ∑ t, Ideal.exp (L t - M) + ∑ u, Ideal.exp (C u - M) + Ideal.exp (z - M))
    (hD' : D' = Ideal.exp2 (z' - M') + ∑ t, Ideal.exp2 (L' t - M') + ∑ u, Ideal.exp2 (C' u - M')) :
    Ideal.div (∑ t, Ideal.exp2 (L' t - M') * V' t + ∑ u, Ideal.exp2 (C' u - M') * W u) D'
      = ∑ t, V t * Ideal.div (Ideal.exp (L t - M)) D + ∑ u, W u * Ideal.div (Ideal.exp (C u - M)) D := by
  obtain ⟨za, hz1, hz2⟩ := hz
  have sc : ∀ a : ℝ, ((a * lam : ℝ) : EReal) = (a : EReal) * (lam : EReal) := fun a => EReal.coe_mul a lam
  have e1 : Finset.univ.sup L' = Finset.univ.sup L * (lam : EReal) := sup_scaled L L' fun t => by
    rcases hL t with ⟨h1, h2⟩ | ⟨a, h1, h2, _⟩
    · rw [h1, h2, scale_bot]
    · rw [h1, h2, sc]
  have e2 : Finset.univ.sup C' = Finset.univ.sup C * (lam : EReal) := sup_scaled C C' fun u => by
    obtain ⟨a, h1, h2⟩ := hC u
    rw [h1, h2, sc]
  have e3 : M' = M * (lam : EReal) := by
    rw [hM', hM, e1, e2, hz1, hz2, sc, mono.map_max, mono.map_max]
  have hbot : M ≠ ⊥ := by
    rw [hM, hz1]
    exact ne_of_gt (lt_of_lt_of_le (EReal.bot_lt_coe za) (le_max_right _ _))
  have htop : M ≠ ⊤ := by
    rw [hM, hz1]
    refine ne_of_lt (max_lt (max_lt ?_ ?_) (EReal.coe_lt_top za))
    · refine (Finset.sup_lt_iff bot_lt_top).2 fun t _ => ?_
      rcases hL t with ⟨h1, _⟩ | ⟨a, h1, _, _⟩
      · rw [h1]; exact bot_lt_top
      · rw [h1]; exact EReal.coe_lt_top a
    · refine (Finset.sup_lt_iff bot_lt_top).2 fun u _ => ?_
      obtain ⟨a, h1, _⟩ := hC u
      rw [h1]; exact EReal.coe_lt_top a
  obtain ⟨μ, hμ⟩ : ∃ μ : ℝ, M = (μ : EReal) := ⟨M.toReal, (EReal.coe_toReal htop hbot).symm⟩
  have hμ' : M' = ((μ * lam : ℝ) : EReal) := by rw [e3, hμ, sc]
  have ex : ∀ a : ℝ, Ideal.exp ((a : EReal) - M) = ((Real.exp (a - μ) : ℝ) : EReal) := fun a => by
    rw [hμ, ← EReal.coe_sub, Ideal.exp_coe]
  have ex' : ∀ a : ℝ, Ideal.exp2 (((a * lam : ℝ) : EReal) - M') = ((Real.exp (a - μ) : ℝ) : EReal) := fun a => by
    rw [hμ', exp2_scaled, ← hμ, ex]
  have eb : Ideal.exp (⊥ - M) = ((0 : ℝ) : EReal) := by rw [EReal.bot_sub, Ideal.exp_bot]; rfl
  have eb' : Ideal.exp2 (⊥ - M') = ((0 : ℝ) : EReal) := by rw [EReal.bot_sub, Ideal.exp2_bot]; rfl
  have wL : ∀ t, ∃ w : ℝ, 0 ≤ w ∧ Ideal.exp (L t - M) = (w : EReal) ∧ Ideal.exp2 (L' t - M') = (w : EReal) ∧ (w = 0 ∨ V t = V' t) := by
    intro t
    rcases hL t with ⟨h1, h2⟩ | ⟨a, h1, h2, h3⟩
    · exact ⟨0, le_rfl, by rw [h1, eb], by rw [h2, eb'], Or.inl rfl⟩
    · exact ⟨_, (Real.exp_pos _).le, by rw [h1, ex], by rw [h2, ex'], Or.inr h3⟩
  have wC : ∀ u, ∃ w : ℝ, 0 ≤ w ∧ Ideal.exp (C u - M) = (w : EReal) ∧ Ideal.exp2 (C' u - M') = (w : EReal) := by
    intro u
    obtain ⟨a, h1, h2⟩ := hC u
    exact ⟨_, (Real.exp_pos _).le, by rw [h1, ex], by rw [h2, ex']⟩
  choose f f0 f1 f2 f3 using wL
  choose g g0 g1 g2 using wC
  have hDd : D = ((∑ t, f t + ∑ u, g u + Real.exp (za - μ) : ℝ) : EReal) := by
    rw [hD, hz1, ex, Finset.sum_congr rfl fun t _ => f1 t, Finset.sum_congr rfl fun u _ => g1 u, sum_coe, sum_coe,
      EReal.coe_add, EReal.coe_add]
  have hDd' : D' = ((∑ t, f t + ∑ u, g u + Real.exp (za - μ) : ℝ) : EReal) := by
    rw [hD', hz2, ex', Finset.sum_congr rfl fun t _ => f2 t, Finset.sum_congr rfl fun u _ => g2 u, sum_coe, sum_coe,
      ← EReal.coe_add, ← EReal.coe_add]
    congr 1
    ring
  have hd : 0 < ∑ t, f t + ∑ u, g u + Real.exp (za - μ) :=
    add_pos_of_nonneg_of_pos (add_nonneg (Finset.sum_nonneg fun t _ => f0 t) (Finset.sum_nonneg fun u _ => g0 u)) (Real.exp_pos _)
  generalize ∑ t, f t + ∑ u, g u + Real.exp (za - μ) = d at hDd hDd' hd
  rw [hDd, hDd', Ideal.div_coe hd.ne']
  have hr : (0 : ℝ) ≤ 1 / d := (one_div_pos.2 hd).le
  rw [EReal.right_distrib_of_nonneg_of_ne_top (EReal.coe_nonneg.2 hr) (EReal.coe_ne_top _), sum_mul_real _ _ _ hr, sum_mul_real _ _ _ hr]
  refine congrArg₂ (· + ·) (Finset.sum_congr rfl fun t _ => ?_) (Finset.sum_congr rfl fun u _ => ?_)
  · rw [Ideal.div_coe hd.ne', f1, f2]
    rcases f3 t with h | h
    · rw [h]; simp
    · rw [h, mul_comm (f t : EReal) (V' t), mul_assoc]
  · rw [Ideal.div_coe hd.ne', g1, g2, mul_comm (g u : EReal) (W u), mul_assoc]

end Cert.WinMath
end
-- ==== Proof.WinRefTerm.lean ====
/- The window attention's reference at an element: a softmax over the 384 rows of the window, the 256 rows of the context
   and the sink, whose first 640 weights weigh the values. -/
module

public import proofs.«01_k».proof.Proof.WinRefRow
public import proofs.«01_k».proof.Proof.WinMath

@[expose] public section

set_option maxRecDepth 16384

noncomputable section

namespace Cert.WinRefIdeal.Out

open Cert.WinRefIdeal Cert.WinRefIdeal.Gen Idealize.ShloMosaic Idealize.ShloMosaic.TcCoe Idealize.SL.Sem

/-- A sum over 641 places in three parts. -/
theorem sum_split (f : Fin 641 → EReal) :
    ∑ i, f i = ∑ t : Fin 384, f ⟨t.val, by omega⟩ + ∑ u : Fin 256, f ⟨384 + u.val, by omega⟩ + f ⟨640, by omega⟩ := by
  have e : (∑ i : Fin (384 + 256 + 1), f i) = ∑ t : Fin 384, f ⟨t.val, by omega⟩ + ∑ u : Fin 256, f ⟨384 + u.val, by omega⟩ + f ⟨640, by omega⟩ := by
    rw [Fin.sum_univ_add, Fin.sum_univ_add, Fin.sum_univ_one]
    rfl
  exact e

/-- A supremum over 641 places in three parts. -/
theorem sup_split (f : Fin 641 → EReal) :
    Finset.univ.sup f = max (max (Finset.univ.sup fun t : Fin 384 => f ⟨t.val, by omega⟩) (Finset.univ.sup fun u : Fin 256 => f ⟨384 + u.val, by omega⟩))
      (f ⟨640, by omega⟩) := by
  refine le_antisymm (Finset.sup_le fun i _ => ?_) (max_le (max_le (Finset.sup_le fun t _ => ?_) (Finset.sup_le fun u _ => ?_)) ?_)
  · have hi := i.isLt
    by_cases h : i.val < 384
    · exact le_max_of_le_left (le_max_of_le_left (Finset.le_sup (f := fun t : Fin 384 => f ⟨t.val, by omega⟩) (Finset.mem_univ (⟨i.val, h⟩ : Fin 384))))
    by_cases h' : i.val < 640
    · refine le_max_of_le_left (le_max_of_le_right (le_trans (le_of_eq (congrArg f (Fin.ext (by dsimp only; omega))))
        (Finset.le_sup (f := fun u : Fin 256 => f ⟨384 + u.val, by omega⟩) (Finset.mem_univ (⟨i.val - 384, by omega⟩ : Fin 256)))))
    · exact le_max_of_le_right (le_of_eq (congrArg f (Fin.ext (by dsimp only; omega))))
  · exact Finset.le_sup (Finset.mem_univ _)
  · exact Finset.le_sup (Finset.mem_univ _)
  · exact Finset.le_sup (Finset.mem_univ _)

theorem bot_word : Ideal.ofBits FTy.f32 0xFF800000#32 = ⊥ := by simp [Ideal.ofBits, Ideal.ieee]

/-- The largest score of a row, in three parts. -/
theorem top_split (y : FVec Ideal S4x32x2x4x128x641 .f32) (b : Fin 4) (n : Fin 32) (g : Fin 2) (j : Fin 4) (r : Fin 128) :
    top y (ix5 b n g j r) = max (max (Finset.univ.sup fun t : Fin 384 => y (ix6 b n g j r ⟨t.val, by omega⟩))
      (Finset.univ.sup fun u : Fin 256 => y (ix6 b n g j r ⟨384 + u.val, by omega⟩))) (y (ix6 b n g j r ⟨640, by omega⟩)) := by
  rw [top_apply, bot_word]
  refine (max_eq_right bot_le).trans ?_
  exact sup_split fun t => y (ix6 b n g j r t)

variable (q : FVec Ideal S4x4096x512 .f32) (k v : FVec Ideal S4x4096x128 .f32) (kc vc : FVec Ideal S4x256x128 .f32) (s : FVec Ideal S8 .f32)

theorem scores_loc (b : Fin 4) (n : Fin 32) (g : Fin 2) (j : Fin 4) (r : Fin 128) (t : Fin 384) :
    scores q k kc s (ix6 b n g j r ⟨t.val, by omega⟩) = loc q k (ix6 b n g j r t) := by
  rw [scores_apply, dif_pos t.isLt]

theorem scores_ctx (b : Fin 4) (n : Fin 32) (g : Fin 2) (j : Fin 4) (r : Fin 128) (u : Fin 256) :
    scores q k kc s (ix6 b n g j r ⟨384 + u.val, by omega⟩) = ctx q kc (ix6 b n g j r u) := by
  have hu := u.isLt
  rw [scores_apply, dif_neg (by dsimp only; omega), dif_pos (by dsimp only; omega)]
  exact congrArg (fun x => ctx q kc (ix6 b n g j r x)) (Fin.ext (by dsimp only; omega))

theorem scores_sink (b : Fin 4) (n : Fin 32) (g : Fin 2) (j : Fin 4) (r : Fin 128) :
    scores q k kc s (ix6 b n g j r ⟨640, by omega⟩) = s (ix1 ⟨g.val * 4 + j.val, by omega⟩) := by
  rw [scores_apply, dif_neg (by dsimp only; omega), dif_neg (by dsimp only; omega), sinks_apply]

/-- The reference's result at batch `b`, row `r` of block `n`, head `j` of the key/value head `g` and column `d`, for the
    scores `L`, `C`, `z` of the row, their largest `M` and the sum `D` of the exponentials. -/
theorem term_row (b : Fin 4) (S : Fin 4096) (c : Fin 512) (n : Fin 32) (r : Fin 128) (g : Fin 2) (j : Fin 4) (d : Fin 64)
    (hn : n.val = S.val / 128) (hr : r.val = S.val % 128) (hg : g.val = c.val / 256) (hj : j.val = c.val / 64 % 4) (hd : d.val = c.val % 64)
    (L : Fin 384 → EReal) (C : Fin 256 → EReal) (z M D : EReal) (hL : L = fun t => loc q k (ix6 b n g j r t)) (hC : C = fun u => ctx q kc (ix6 b n g j r u))
    (hz : z = s (ix1 ⟨g.val * 4 + j.val, by omega⟩)) (hM : M = max (max (Finset.univ.sup L) (Finset.univ.sup C)) z)
    (hD : D = ∑ t, Ideal.exp (L t - M) + ∑ u, Ideal.exp (C u - M) + Ideal.exp (z - M)) :
    term q k v kc vc s (ix3 b S c) = ∑ t : Fin 384, window v (ix5 b n t g d) * Ideal.div (Ideal.exp (L t - M)) D
      + ∑ u : Fin 256, vc (ix3 b u ⟨g.val * 64 + d.val, by omega⟩) * Ideal.div (Ideal.exp (C u - M)) D := by
  have en : (⟨S.val / 128, by omega⟩ : Fin 32) = n := Fin.ext hn.symm
  have er : (⟨S.val % 128, by omega⟩ : Fin 128) = r := Fin.ext hr.symm
  have eg : (⟨c.val / 256, by omega⟩ : Fin 2) = g := Fin.ext hg.symm
  have ej : (⟨c.val / 64 % 4, by omega⟩ : Fin 4) = j := Fin.ext hj.symm
  have ed : (⟨c.val % 64, by omega⟩ : Fin 64) = d := Fin.ext hd.symm
  have ec : (⟨c.val / 256 * 64 + c.val % 64, by omega⟩ : Fin 128) = ⟨g.val * 64 + d.val, by omega⟩ := Fin.ext (by dsimp only; rw [hg, hd])
  unfold term
  rw [weighted_apply]
  simp only [en, er, eg, ej, ed, ec]
  have hT : top (scores q k kc s) (ix5 b n g j r) = M := by
    rw [top_split, scores_sink, hM, hL, hC, hz]
    simp only [scores_loc, scores_ctx]
  have wl : ∀ t : Fin 384, weight (scores q k kc s) (ix6 b n g j r ⟨t.val, by omega⟩) = Ideal.exp (L t - M) := by
    intro t
    rw [weight_apply, hT, scores_loc, hL]
  have wc : ∀ u : Fin 256, weight (scores q k kc s) (ix6 b n g j r ⟨384 + u.val, by omega⟩) = Ideal.exp (C u - M) := by
    intro u
    rw [weight_apply, hT, scores_ctx, hC]
  have wz : weight (scores q k kc s) (ix6 b n g j r ⟨640, by omega⟩) = Ideal.exp (z - M) := by
    rw [weight_apply, hT, scores_sink, hz]
  have hS : (∑ t : Fin 641, weight (scores q k kc s) (ix6 b n g j r t)) = D := by
    rw [sum_split, hD, wz]
    simp only [wl, wc]
  refine congrArg₂ (fun a b : EReal => a + b) (Finset.sum_congr rfl fun t _ => ?_) (Finset.sum_congr rfl fun u _ => ?_)
  · rw [probs_apply, hS, wl]
  · rw [probs_apply, hS, wc]

end Cert.WinRefIdeal.Out
end
-- ==== Proof.WinRow.lean ====
/- One row of the window attention: where the scores are finite the kernel's quotient of sums of powers of two, on blocks
   that hold the window's rows, is the reference's softmax of the row. -/
module

public import proofs.«01_k».proof.Proof.WinStack
public import proofs.«01_k».proof.Proof.WinRefTerm

@[expose] public section

set_option maxRecDepth 16384

noncomputable section

namespace Cert.WinIdeal.Body

open Cert.WinIdeal Cert.WinIdeal.Gen Idealize.ShloMosaic Idealize.ShloMosaic.TcCoe Idealize.SL.Sem Cert.WinMath
open Cert.WinRefIdeal.Out (term term_row loc ctx window loc_apply ctx_apply window_apply reach reach_apply bot_word)

theorem qm_val : qm = (((8 * Real.log 2)⁻¹ : ℝ) : EReal) :=
  IdealRules.named_const.ideal_named_scalar _ _ _ _ rfl

theorem lg_val : lg = ((lam : ℝ) : EReal) :=
  IdealRules.named_const.ideal_named_scalar _ _ _ _ rfl

theorem mask_val : (Named.named (F := Ideal) κ "mask" (φ := .f32) 0xF149F2CA#32 : Ideal .f32) = ⊥ :=
  IdealRules.named_const.ideal_named_scalar _ _ _ _ rfl

theorem eighth : Ideal.ofBits FTy.f32 0x3E000000#32 = ((1 / 8 : ℝ) : EReal) := by
  simp [Ideal.ofBits, Ideal.ieee, -EReal.coe_mul]
  norm_num

/-- What the kernel adds to a score: nothing where the table holds a one, the mask where it holds a zero. -/
theorem pay3_apply (x10 : Vec Ideal S1x512x384 .f32) (R : Fin 512) (t : Fin 384) (P : Prop) [Decidable P]
    (h : x10 (ix3 0 R t) = if P then (1 : EReal) else 0) : k0_pay3 x10 (ix2 R t) = if P then (0 : EReal) else ⊥ := by
  have e : k0_pay3 x10 (ix2 R t) = Scalar.select (Ideal.cmp .ogt (x10 (ix3 0 R t)) (Ideal.ofBits .f32 0x00000000#32))
      (Ideal.ofBits .f32 0x00000000#32) (Named.named (F := Ideal) κ "mask" (φ := .f32) 0xF149F2CA#32) := by
    pointwise [k0_pay3, id]
  rw [e, h, zero_word32, mask_val]
  by_cases hP : P
  · rw [if_pos hP, if_pos hP]
    exact sel_pos (by simp [Ideal.cmp])
  · rw [if_neg hP, if_neg hP]
    exact sel_neg (by simp [Ideal.cmp])

/-- A score as the kernel scales it is the reference's times 1 / ln 2. -/
theorem scaled (q k : Fin 64 → ℝ) :
    (∑ d, ((q d : ℝ) : EReal) * qm * ((k d : ℝ) : EReal)) = (((∑ d, k d * q d) * (1 / 8) * lam : ℝ) : EReal)
      ∧ (∑ d, ((k d : ℝ) : EReal) * ((q d : ℝ) : EReal)) * Ideal.ofBits FTy.f32 0x3E000000#32 = (((∑ d, k d * q d) * (1 / 8) : ℝ) : EReal) := by
  constructor
  · rw [qm_val]
    simp only [← EReal.coe_mul]
    rw [sum_coe]
    congr 1
    rw [Finset.sum_mul, Finset.sum_mul]
    refine Finset.sum_congr rfl fun d _ => ?_
    rw [lam, mul_inv]
    ring
  · rw [eighth]
    simp only [← EReal.coe_mul]
    rw [sum_coe, ← EReal.coe_mul]

/-- Which of the eight sinks a head's is. -/
theorem head_word : ∀ (g : Fin 2) (j : Fin 4), ((⟨j.val, by omega⟩ : Fin 8) + if g = 0 then 0 else 4) = ⟨g.val * 4 + j.val, by omega⟩ := by
  decide

variable (q : FVec Ideal S4x4096x512 .f32) (k v : FVec Ideal S4x4096x128 .f32) (kc vc : FVec Ideal S4x256x128 .f32) (s : FVec Ideal S8 .f32)

/-- The kernel's block at a row and a column, on blocks that hold the window's rows, is the reference's result there. -/
theorem body_term (qr : S4x4096x512.Idx → ℝ) (kr : S4x4096x128.Idx → ℝ) (kcr : S4x256x128.Idx → ℝ) (sr : S8.Idx → ℝ)
    (hq : ∀ i, q i = ((qr i : ℝ) : EReal)) (hk : ∀ i, k i = ((kr i : ℝ) : EReal)) (hkc : ∀ i, kc i = ((kcr i : ℝ) : EReal))
    (hs : ∀ i, s i = ((sr i : ℝ) : EReal))
    (x0 : Vec Ideal S8 .f32) (x1 : Vec Ideal S1x128x512 .f32) (x2 x3 x4 x5 x6 x7 : Vec Ideal S1x128x256 .bf16)
    (x8 x9 : Vec Ideal S1x256x256 .bf16) (x10 : Vec Ideal S1x512x384 .f32) (b : Fin 4) (n : Fin 32)
    (h0 : ∀ i : Fin 8, x0 (ix1 i) = s (ix1 i))
    (h1 : ∀ (r : Fin 128) (c : Fin 512), x1 (ix3 0 r c) = q (ix3 b (⟨n.val * 128 + r.val, by omega⟩ : Fin 4096) c))
    (hK : ∀ t : Fin 384, ∃ p : Fin 4096, (∀ l : Fin 256, three x2 x3 x4 t l = k (ix3 b p (⟨l.val / 128 * 64 + l.val % 64, by omega⟩ : Fin 128)))
      ∧ (128 ≤ n.val * 128 + t.val ∧ n.val * 128 + t.val - 128 < 4096 → p.val = n.val * 128 + t.val - 128))
    (hV : ∀ t : Fin 384, ∃ p : Fin 4096, (∀ l : Fin 256, three x5 x6 x7 t l = v (ix3 b p (⟨l.val / 128 * 64 + l.val % 64, by omega⟩ : Fin 128)))
      ∧ (128 ≤ n.val * 128 + t.val ∧ n.val * 128 + t.val - 128 < 4096 → p.val = n.val * 128 + t.val - 128))
    (h8 : ∀ (u l : Fin 256), x8 (ix3 0 u l) = kc (ix3 b u (⟨l.val / 128 * 64 + l.val % 64, by omega⟩ : Fin 128)))
    (h9 : ∀ (u l : Fin 256), x9 (ix3 0 u l) = vc (ix3 b u (⟨l.val / 128 * 64 + l.val % 64, by omega⟩ : Fin 128)))
    (h10 : ∀ (R : Fin 512) (t : Fin 384), x10 (ix3 0 R t)
      = if (R.val % 128 ≤ t.val ∧ t.val ≤ R.val % 128 + 256) ∧ 128 ≤ n.val * 128 + t.val ∧ n.val * 128 + t.val - 128 < 4096 then (1 : EReal) else 0)
    (r : Fin 128) (c : Fin 512) :
    body x0 x1 x2 x3 x4 x5 x6 x7 x8 x9 x10 (ix3 0 r c) = term q k v kc vc s (ix3 b (⟨n.val * 128 + r.val, by omega⟩ : Fin 4096) c) := by
  have hc := c.isLt
  have hn := n.isLt
  have hr := r.isLt
  obtain ⟨g, hg⟩ : ∃ g : Fin 2, g.val = c.val / 256 := ⟨⟨c.val / 256, by omega⟩, rfl⟩
  obtain ⟨j, hj⟩ : ∃ j : Fin 4, j.val = c.val / 64 % 4 := ⟨⟨c.val / 64 % 4, by omega⟩, rfl⟩
  obtain ⟨d, hd⟩ : ∃ d : Fin 64, d.val = c.val % 64 := ⟨⟨c.val % 64, by omega⟩, rfl⟩
  have hg' := g.isLt
  have hj' := j.isLt
  have hd' := d.isLt
  rw [body_quot _ _ _ _ _ _ _ _ _ _ _ _ _ _ g j hg hj, quot_apply _ _ _ _ _ _ _ _ rfl,
    term_row q k v kc vc s b _ c n r g j d (by dsimp only; omega) (by dsimp only; omega) hg hj hd _ _ _ _ _ rfl rfl rfl rfl rfl]
  have lane : ∀ x : Fin 64, (⟨(g.val * 128 + (j.val % 2 * 64 + x.val)) / 128 * 64 + (g.val * 128 + (j.val % 2 * 64 + x.val)) % 64, by omega⟩ : Fin 128)
      = ⟨g.val * 64 + x.val, by omega⟩ := fun x => Fin.ext (by dsimp only; omega)
  have vlane : (⟨(g.val * 128 + c.val % 128) / 128 * 64 + (g.val * 128 + c.val % 128) % 64, by omega⟩ : Fin 128) = ⟨g.val * 64 + d.val, by omega⟩ :=
    Fin.ext (by dsimp only; omega)
  have ev : ∀ t : Fin 384, vals g x5 x6 x7 (ix2 t ⟨c.val % 128, by omega⟩) = three x5 x6 x7 t ⟨g.val * 128 + c.val % 128, by omega⟩ := fun t => by
    rw [vals_eq, keys_apply]
  have ew : ∀ u : Fin 256, cols g x9 (ix2 u ⟨c.val % 128, by omega⟩) = vc (ix3 b u ⟨g.val * 64 + d.val, by omega⟩) := fun u => by
    rw [cols_apply, h9, vlane]
  simp only [ew]
  refine softmax_eq _ _ _ _ _ _ (fun u : Fin 256 => vc (ix3 b u ⟨g.val * 64 + d.val, by omega⟩)) _ _ (fun t => ?_) (fun u => ?_) ?_ _ _ _ _ rfl ?_ rfl rfl
  · rw [slg_apply, pay3_apply x10 _ t _ (h10 _ t), loc_apply]
    obtain ⟨p, hp, hp'⟩ := hK t
    simp only [hp, lane, h1, hq, hk]
    have eR : (j.val * 128 + r.val) % 128 = r.val := by omega
    rw [(scaled (fun x => qr (ix3 b (⟨n.val * 128 + r.val, by omega⟩ : Fin 4096) (⟨g.val * 256 + j.val * 64 + x.val, by omega⟩ : Fin 512)))
      (fun x => kr (ix3 b p (⟨g.val * 64 + x.val, by omega⟩ : Fin 128)))).1]
    by_cases hP : (r.val ≤ t.val ∧ t.val ≤ r.val + 256) ∧ 128 ≤ n.val * 128 + t.val ∧ n.val * 128 + t.val - 128 < 4096
    · refine Or.inr ⟨(∑ x : Fin 64, kr (ix3 b p (⟨g.val * 64 + x.val, by omega⟩ : Fin 128))
        * qr (ix3 b (⟨n.val * 128 + r.val, by omega⟩ : Fin 4096) (⟨g.val * 256 + j.val * 64 + x.val, by omega⟩ : Fin 512))) * (1 / 8), ?_, ?_, ?_⟩
      · rw [sel_pos ((reach_apply b n g j r t).2 hP)]
        have ep : p = ⟨n.val * 128 + t.val - 128, hP.2.2⟩ := Fin.ext (hp' hP.2)
        have ewin : ∀ x : Fin 64, window k (ix5 b n t g x) = ((kr (ix3 b p (⟨g.val * 64 + x.val, by omega⟩ : Fin 128)) : ℝ) : EReal) := fun x => by
          rw [window_apply, dif_pos hP.2, hk, ← ep]
        simp only [ewin]
        exact (scaled _ _).2
      · rw [if_pos (by rw [eR]; exact hP), add_zero]
      · obtain ⟨p2, hp2, hp2'⟩ := hV t
        have ep : p2 = ⟨n.val * 128 + t.val - 128, hP.2.2⟩ := Fin.ext (hp2' hP.2)
        rw [ev, hp2, vlane, window_apply, dif_pos hP.2, ← ep]
    · refine Or.inl ⟨?_, ?_⟩
      · rw [sel_neg (fun h => hP ((reach_apply b n g j r t).1 h)), bot_word]
      · rw [if_neg (by rw [eR]; exact hP)]
        exact EReal.add_bot _
  · rw [scg_apply, ctx_apply]
    simp only [h8, lane, h1, hq, hkc]
    exact ⟨_, (scaled _ _).2, (scaled _ _).1⟩
  · rw [col_apply, lg_val]
    refine ⟨sr (ix1 ⟨g.val * 4 + j.val, by omega⟩), hs _, ?_⟩
    have e := head_word g j
    rw [word, e, h0, hs, EReal.coe_mul]
  · rw [top_apply, bot_word]
    rfl

end Cert.WinIdeal.Body
end
-- ==== Proof.WinValue.lean ====
/- The window attention's result array is the reference's value of its arguments where the scores are finite. -/
module

public import proofs.«01_k».proof.Proof.WinHost
public import proofs.«01_k».proof.Proof.WinRow
public import proofs.«01_k».proof.Proof.Gen.Pre_finite_scores
public import proofs.«01_k».proof.Defs
public import Idealize.ShloMosaic.Lib.Pipeline.ValueKit.Geometry

@[expose] public section

set_option maxRecDepth 16384

noncomputable section

namespace Cert.WinIdeal.Run

open Cert.WinIdeal Cert.WinIdeal.Gen Idealize.ShloMosaic Idealize.ShloMosaic.TcCoe Idealize.SL.Sem Cert.WinIdeal.Body Cert.WinIdeal.Host
open Idealize.ShloMosaic.Pipeline (Dat Cfg Window)
open Cert.WinRefIdeal.Out (term)

variable (m : (ℓ : Loc nD τ sig) → Buf (Elt Ideal) ℓ) (ρ : Dev nD → PrngReg)

/-- An extended real below the infinite one in size is a real. -/
theorem real_of_lt (x : EReal) (h : Ideal.cmp .olt (max x (-x)) (Ideal.ofBits .f32 0x7F800000#32) = 1#1) : ∃ a : ℝ, x = (a : EReal) := by
  have ht : Ideal.ofBits FTy.f32 0x7F800000#32 = ⊤ := by simp [Ideal.ofBits, Ideal.ieee]
  rw [ht] at h
  have h' : max x (-x) < ⊤ := by
    by_contra hn
    simp [Ideal.cmp, hn] at h
  induction x with
  | bot => simp at h'
  | top => simp at h'
  | coe a => exact ⟨a, rfl⟩

/-- The arrays that make up the scores hold reals. -/
theorem reals (hp : Cert.Pre_WinIdeal_finite_scores (hPre_finite_scores := Cert.Pre_finite_scores.Gen.facts) m) (c : Dev nD) :
    (∀ i, ∃ a : ℝ, (m ((c.tc : Thread nD τ).loc main_arg0) : FVec Ideal S4x4096x512 .f32) i = (a : EReal))
    ∧ (∀ i, ∃ a : ℝ, (m ((c.tc : Thread nD τ).loc main_arg1) : FVec Ideal S4x4096x128 .f32) i = (a : EReal))
    ∧ (∀ i, ∃ a : ℝ, (m ((c.tc : Thread nD τ).loc main_arg3) : FVec Ideal S4x256x128 .f32) i = (a : EReal))
    ∧ (∀ i, ∃ a : ℝ, (m ((c.tc : Thread nD τ).loc main_arg5) : FVec Ideal S8 .f32) i = (a : EReal)) := by
  obtain ⟨h0, h1, h3, h5⟩ := hp c
  exact ⟨fun i => real_of_lt _ (congrFun h0 i), fun i => real_of_lt _ (congrFun h1 i), fun i => real_of_lt _ (congrFun h3 i), fun i => real_of_lt _ (congrFun h5 i)⟩

/-- The reference's value of the kernel's own arguments. -/
def target (c : Dev nD) : FVec Ideal S4x4096x512 .bf16 :=
  term (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Three neighbouring blocks of rows side by side: each row is a row of the array, the window's own wherever that exists. -/
theorem three_rows (x y z : Vec Ideal S1x128x256 .bf16) (A : Fin 4096 → Fin 256 → EReal) (n : Fin 32)
    (hx : ∀ (r : Fin 128) (l : Fin 256), x (ix3 0 r l) = A (⟨(n.val - 1) * 128 + r.val, by omega⟩ : Fin 4096) l)
    (hy : ∀ (r : Fin 128) (l : Fin 256), y (ix3 0 r l) = A (⟨n.val * 128 + r.val, by omega⟩ : Fin 4096) l)
    (hz : ∀ (r : Fin 128) (l : Fin 256), z (ix3 0 r l) = A (⟨(min (n.val + 1) 31) * 128 + r.val, by omega⟩ : Fin 4096) l) (t : Fin 384) :
    ∃ p : Fin 4096, (∀ l : Fin 256, three x y z t l = A p l)
      ∧ (128 ≤ n.val * 128 + t.val ∧ n.val * 128 + t.val - 128 < 4096 → p.val = n.val * 128 + t.val - 128) := by
  have hn := n.isLt
  have ht := t.isLt
  unfold three
  by_cases h : t.val < 128
  · refine ⟨_, fun l => by rw [dif_pos h]; exact hx _ _, fun hP => ?_⟩
    show (n.val - 1) * 128 + t.val = _
    omega
  by_cases h' : t.val - 128 < 128
  · refine ⟨_, fun l => by rw [dif_neg h, dif_pos h']; exact hy _ _, fun hP => ?_⟩
    show n.val * 128 + (t.val - 128) = _
    omega
  · refine ⟨_, fun l => by rw [dif_neg h, dif_neg h']; exact hz _ _, fun hP => ?_⟩
    show (min (n.val + 1) 31) * 128 + (t.val - 128 - 128) = _
    omega

/-- A point's block of the result is the reference's rows of that block. -/
theorem out_apply (hp : Cert.Pre_WinIdeal_finite_scores (hPre_finite_scores := Cert.Pre_finite_scores.Gen.facts) m) (c : Dev nD)
    (t : Fin cfg0.N) (r : Fin 128) (q : Fin 512) :
    outsAt0 m c t (ix3 0 r q) = target m c (ix3 (⟨t.val / 32, by have := point_lt t; omega⟩ : Fin 4) (⟨t.val % 32 * 128 + r.val, by omega⟩ : Fin 4096) q) := by
  have ht := point_lt t
  obtain ⟨f0, f1, f3, f5⟩ := reals m hp c
  choose qr hq using f0
  choose kr hk using f1
  choose kcr hkc using f3
  choose sr hs using f5
  unfold outsAt0 target
  rw [out_eq]
  refine body_term _ _ _ _ _ _ qr kr kcr sr hq hk hkc hs _ _ _ _ _ _ _ _ _ _ _ ⟨t.val / 32, by omega⟩ ⟨t.val % 32, by omega⟩ ?_ ?_ ?_ ?_ ?_ ?_ ?_ r q
  · intro i
    rw [blk0, V_main_arg5]
  · intro r c'
    rw [blk1, V_main_arg0]
  · exact three_rows _ _ _ (fun p l => m ((c.tc : Thread nD τ).loc main_arg1) (ix3 (⟨t.val / 32, by omega⟩ : Fin 4) p (⟨l.val / 128 * 64 + l.val % 64, by omega⟩ : Fin 128)))
      ⟨t.val % 32, by omega⟩ (fun r l => by rw [blk2, V3]) (fun r l => by rw [blk3, V3]) (fun r l => by rw [blk4, V3])
  · exact three_rows _ _ _ (fun p l => m ((c.tc : Thread nD τ).loc main_arg2) (ix3 (⟨t.val / 32, by omega⟩ : Fin 4) p (⟨l.val / 128 * 64 + l.val % 64, by omega⟩ : Fin 128)))
      ⟨t.val % 32, by omega⟩ (fun r l => by rw [blk5, V7]) (fun r l => by rw [blk6, V7]) (fun r l => by rw [blk7, V7])
  · intro u l
    rw [blk8, V11]
  · intro u l
    rw [blk9, V15]
  · intro R x
    have hx := x.isLt
    rw [blk10, V39]
    refine if_congr ?_ rfl rfl
    dsimp only
    by_cases h0 : t.val % 32 = 0
    · rw [if_pos h0]
      omega
    rw [if_neg h0]
    by_cases h1 : t.val % 32 = 31
    · rw [if_pos h1]
      omega
    · rw [if_neg h1]
      omega

/-- The same at any index of the block. -/
theorem out_emb (hp : Cert.Pre_WinIdeal_finite_scores (hPre_finite_scores := Cert.Pre_finite_scores.Gen.facts) m) (c : Dev nD)
    (t : Fin cfg0.N) (y : S1x128x512.Idx) : outsAt0 m c t y = target m c (((cfg0.win 11).blk t).view.emb y) := by
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out_apply m hp c t (y 1) (y 2)).trans (congrArg (target m c) (emb11 t 0 (y 1) (y 2)).symm)

/-- The result array at the end is the reference's value. -/
theorem final (hp : Cert.Pre_WinIdeal_finite_scores (hPre_finite_scores := Cert.Pre_finite_scores.Gen.facts) m) (c : Dev nD) :
    (dats m 0 c).arrAt 11 cfg0.N = target m c := by
  refine (dats m 0 c).arrAt_eq_of_emb 11 (target m c) (fun t _ y => ?_) cover11
  show (dats m 0 c).after 11 t y = _
  rw [after0_11]
  exact out_emb m hp c t y

end Cert.WinIdeal.Run
end
-- ==== Proof.FullBody.lean ====
/- What the full attention's kernel leaves in its output block at one grid point, as one function of the five input blocks
   (`body`): the loop over the blocks of keys is a recursion (`state`) on what it carries. -/
module

public import proofs.«01_k».proof.Proof.Gen.FullIdeal.Value
public import Idealize.ShloMosaic.Lib.Pointwise

@[expose] public section

set_option maxRecDepth 16384

noncomputable section

namespace Cert.FullIdeal.Body

open Cert.FullIdeal Cert.FullIdeal.Gen Idealize.ShloMosaic Idealize.ShloMosaic.TcCoe Idealize.SL.Sem

/-- The block of rows that trip `k` reads of the first key/value head. -/
def rows0 (k : Fin k0_t1_loop.trips) (x : Vec Ideal S1x4096x256 .bf16) : Vec Ideal S1x512x128 .bf16 :=
  View.ld x (Rect.unit (s := S1x4096x256) (k0_off1 k) S1x512x128.size (k0_off1_inb k))

/-- The block of rows that trip `k` reads of the second key/value head. -/
def rows1 (k : Fin k0_t1_loop.trips) (x : Vec Ideal S1x4096x256 .bf16) : Vec Ideal S1x512x128 .bf16 :=
  View.ld x (Rect.unit (s := S1x4096x256) (k0_off2 k) S1x512x128.size (k0_off2_inb k))

/-- One trip of the loop over the blocks of keys. -/
def step (y0 y1 : FVec Ideal S2048x128 .bf16) (x1 x2 : Vec Ideal S1x4096x256 .bf16) (k : Fin k0_t1_loop.trips)
    (a : FVec Ideal S2048x128 .f32 × FVec Ideal S2048x128 .f32) : FVec Ideal S2048x128 .f32 × FVec Ideal S2048x128 .f32 :=
  (k0_pay9 y0 a.1 (rows0 k x1) (rows0 k x2), k0_pay10 y1 a.2 (rows1 k x1) (rows1 k x2))

/-- What the loop carries before trip `n`. -/
def state (y0 y1 : FVec Ideal S2048x128 .bf16) (x1 x2 : Vec Ideal S1x4096x256 .bf16) (a : FVec Ideal S2048x128 .f32 × FVec Ideal S2048x128 .f32) :
    ℕ → FVec Ideal S2048x128 .f32 × FVec Ideal S2048x128 .f32
  | 0 => a
  | n + 1 => if h : n < k0_t1_loop.trips then step y0 y1 x1 x2 ⟨n, h⟩ (state y0 y1 x1 x2 a n) else state y0 y1 x1 x2 a n

/-- What the loop starts from: the context's share. -/
def start (y0 y1 : FVec Ideal S2048x128 .bf16) (x3 x4 : Vec Ideal S1x256x256 .bf16) : FVec Ideal S2048x128 .f32 × FVec Ideal S2048x128 .f32 :=
  (k0_pay7 y0 (k0_pay5 (F := Ideal)) (k0_pay6 x3) x4, k0_pay8 y1 (k0_pay5 (F := Ideal)) x3 x4)

/-- The stored block, from what the loop ends with. -/
def close (a : FVec Ideal S2048x128 .f32 × FVec Ideal S2048x128 .f32) : FVec Ideal S1x512x512 .bf16 :=
  k0_pay1 a.2 (k0_pay11 a.1) (k0_pay12 a.1)

/-- The output block as one function of the input blocks. -/
def body (x0 : Vec Ideal S1x512x512 .f32) (x1 x2 : Vec Ideal S1x4096x256 .bf16) (x3 x4 : Vec Ideal S1x256x256 .bf16) : Vec Ideal S1x512x512 .bf16 :=
  close (state (k0_pay3 x0) (k0_pay4 x0) x1 x2 (start (k0_pay3 x0) (k0_pay4 x0) x3 x4) k0_t1_loop.trips)

theorem hz3 : (![0, 0, 0] : Fin 3 → Nat) = fun _ => 0 := funext fun a => by fin_cases a <;> rfl

/-- A load of a whole block reads the block. -/
theorem whole_load {s : Shape} {φ : EltTy} (arg : Memref sig .tc .vmem s φ) (h : arg.IsWhole) (x : Vec Ideal s φ)
    (off : Fin s.rank → Nat) (hoff : off = fun _ => 0) (inb : ∀ a, off a + s.size a ≤ s.size a) :
    View.readAt (Elt Ideal) arg.view (Rect.unit (s := s) off s.size inb).toLoadRect (h.unread x) = x := by
  rw [View.readAt_eq_ld, h.read_unread, View.ld_unit_zero hoff]

/-- What one trip yields. -/
theorem trip_eq (𝒱 : Variants) (c : Dev nD) (bd : Option 𝒱.V) (i : grid0.Coords) (arg2 : Memref sig .tc .vmem S1x512x512 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x512x512 .bf16) (harg7 : arg7.IsWhole)
    (v21 v38 : FVec Ideal S2048x128 .bf16) (v39 : FVec Ideal S2048x128 .f32) (v41 : FVec Ideal S256x256 .bf16)
    (x1 x2 : Vec Ideal S1x4096x256 .bf16) (k : Fin k0_t1_loop.trips) (acc : FVec Ideal S2048x128 .f32 × FVec Ideal S2048x128 .f32) :
    tripR_k0_t1 (F := Ideal) 𝒱 c bd i arg2 harg2 arg3 harg3 arg4 harg4 arg5 harg5 arg6 harg6 arg7 harg7 v21 v38 v39 v41 (harg3.unread x1) (harg4.unread x2) k acc
      = step v21 v38 x1 x2 k acc := by
  have h : tripR_k0_t1 (F := Ideal) 𝒱 c bd i arg2 harg2 arg3 harg3 arg4 harg4 arg5 harg5 arg6 harg6 arg7 harg7 v21 v38 v39 v41 (harg3.unread x1) (harg4.unread x2) k acc
      = (k0_pay9 v21 acc.1 (View.readAt (Elt Ideal) arg3.view (Rect.unit (s := S1x4096x256) (k0_off1 k) S1x512x128.size (k0_off1_inb k)).toLoadRect (harg3.unread x1))
          (View.readAt (Elt Ideal) arg4.view (Rect.unit (s := S1x4096x256) (k0_off1 k) S1x512x128.size (k0_off1_inb k)).toLoadRect (harg4.unread x2)),
        k0_pay10 v38 acc.2 (View.readAt (Elt Ideal) arg3.view (Rect.unit (s := S1x4096x256) (k0_off2 k) S1x512x128.size (k0_off2_inb k)).toLoadRect (harg3.unread x1))
          (View.readAt (Elt Ideal) arg4.view (Rect.unit (s := S1x4096x256) (k0_off2 k) S1x512x128.size (k0_off2_inb k)).toLoadRect (harg4.unread x2))) := by
    unfold tripR_k0_t1 trip_k0_t1
    rfl
  rw [h]
  simp only [View.readAt_eq_ld, harg3.read_unread, harg4.read_unread]
  rfl

/-- What the loop carries is `state`. -/
theorem state_eq (𝒱 : Variants) (c : Dev nD) (bd : Option 𝒱.V) (i : grid0.Coords) (arg2 : Memref sig .tc .vmem S1x512x512 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x512x512 .bf16) (harg7 : arg7.IsWhole)
    (v21 v38 : FVec Ideal S2048x128 .bf16) (v39 : FVec Ideal S2048x128 .f32) (v41 : FVec Ideal S256x256 .bf16)
    (x1 x2 : Vec Ideal S1x4096x256 .bf16) (init : FVec Ideal S2048x128 .f32 × FVec Ideal S2048x128 .f32) (n : ℕ) :
    st_k0_t1 (F := Ideal) 𝒱 c bd i arg2 harg2 arg3 harg3 arg4 harg4 arg5 harg5 arg6 harg6 arg7 harg7 v21 v38 v39 v41 (harg3.unread x1) (harg4.unread x2) init n
      = state v21 v38 x1 x2 init n := by
  induction n with
  | zero => rfl
  | succ n ih =>
    rw [st_k0_t1.eq_2, ih]
    unfold st_k0_t1Step
    rw [state.eq_2]
    by_cases h : n < k0_t1_loop.trips
    · rw [dif_pos h, dif_pos h]
      exact trip_eq ..
    · rw [dif_neg h, dif_neg h]

set_option maxHeartbeats 2000000 in
/-- What the run leaves in the output's block is `body` of the input blocks. -/
theorem out_eq (c : Dev nD) (i : grid0.Coords) (arg2 : Memref sig .tc .vmem S1x512x512 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x512x512 .bf16) (harg7 : arg7.IsWhole)
    (x0 : Vec Ideal S1x512x512 .f32) (x1 x2 : Vec Ideal S1x4096x256 .bf16) (x3 x4 : Vec Ideal S1x256x256 .bf16) :
    out0_A_5 (F := Ideal) c i arg2 harg2 arg3 harg3 arg4 harg4 arg5 harg5 arg6 harg6 arg7 harg7 x0 x1 x2 x3 x4 = body x0 x1 x2 x3 x4 := by
  unfold out0_A_5
  rw [View.read_writes_junk_eq_canon]
  have e0 := whole_load arg2 harg2 x0 ![0, 0, 0] hz3 inb_S1x512x512_S1x512x512_0_0_0
  have e3 := whole_load arg5 harg5 x3 ![0, 0, 0] hz3 inb_S1x256x256_S1x256x256_0_0_0
  have e4 := whole_load arg6 harg6 x4 ![0, 0, 0] hz3 inb_S1x256x256_S1x256x256_0_0_0
  let l0 := View.readAt (Elt Ideal) arg2.view (Rect.unit (s := S1x512x512) ![0, 0, 0] S1x512x512.size inb_S1x512x512_S1x512x512_0_0_0).toLoadRect (harg2.unread x0)
  let l3 := View.readAt (Elt Ideal) arg5.view (Rect.unit (s := S1x256x256) ![0, 0, 0] S1x256x256.size inb_S1x256x256_S1x256x256_0_0_0).toLoadRect (harg5.unread x3)
  let l4 := View.readAt (Elt Ideal) arg6.view (Rect.unit (s := S1x256x256) ![0, 0, 0] S1x256x256.size inb_S1x256x256_S1x256x256_0_0_0).toLoadRect (harg6.unread x4)
  show View.canon ([⟨Rect.unit ![0, 0, 0] S1x512x512.size inb_S1x512x512_S1x512x512_0_0_0,
      close (st_k0_t1 (F := Ideal) Variants.none c none i arg2 harg2 arg3 harg3 arg4 harg4 arg5 harg5 arg6 harg6 arg7 harg7
        (k0_pay3 l0) (k0_pay4 l0) (k0_pay5 (F := Ideal)) (k0_pay6 l3) (harg3.unread x1) (harg4.unread x2) (start (k0_pay3 l0) (k0_pay4 l0) l3 l4) k0_t1_loop.trips)⟩] :
      List (View.Piece (Elt Ideal) S1x512x512 .bf16)) = _
  rw [View.canon_unit_zero hz3, state_eq]
  show close (state (k0_pay3 l0) (k0_pay4 l0) x1 x2 (start (k0_pay3 l0) (k0_pay4 l0) l3 l4) k0_t1_loop.trips) = _
  rw [show l0 = x0 from e0, show l3 = x3 from e3, show l4 = x4 from e4]
  rfl

end Cert.FullIdeal.Body
end
-- ==== Proof.FullHost.lean ====
/- The arrays that the full attention's launch reads: what the host operations before it leave, at an index. -/
module

public import proofs.«01_k».proof.Proof.FullBody
public import proofs.«01_k».proof.Proof.WinHost

@[expose] public section

set_option maxRecDepth 16384

noncomputable section

namespace Cert.FullIdeal.Host

open Cert.FullIdeal Cert.FullIdeal.Gen Idealize.ShloMosaic Idealize.ShloMosaic.TcCoe Idealize.SL.Sem
open Cert.WinIdeal.Host (twice)

variable (m : (ℓ : Loc nD τ sig) → Buf (Elt Ideal) ℓ)

/-- The doubled heads of the keys. -/
theorem V3 (c : Dev nD) (b : Fin 4) (s : Fin 4096) (l : Fin 256) :
    V m c main_v3 (ix3 b s l) = m ((c.tc : Thread nD τ).loc main_arg1) (ix3 b s (⟨l.val / 128 * 64 + l.val % 64, by omega⟩ : Fin 128)) := by
  unfold V
  after_reads_at
  after_reads_at
  exact twice (fun i => m ((c.tc : Thread nD τ).loc main_arg1) (ix3 b s i)) l

/-- The doubled heads of the values. -/
theorem V7 (c : Dev nD) (b : Fin 4) (s : Fin 4096) (l : Fin 256) :
    V m c main_v7 (ix3 b s l) = m ((c.tc : Thread nD τ).loc main_arg2) (ix3 b s (⟨l.val / 128 * 64 + l.val % 64, by omega⟩ : Fin 128)) := by
  unfold V
  after_reads_at
  after_reads_at
  exact twice (fun i => m ((c.tc : Thread nD τ).loc main_arg2) (ix3 b s i)) l

/-- The doubled heads of the context's keys. -/
theorem V11 (c : Dev nD) (b : Fin 4) (s : Fin 256) (l : Fin 256) :
    V m c main_v11 (ix3 b s l) = m ((c.tc : Thread nD τ).loc main_arg3) (ix3 b s (⟨l.val / 128 * 64 + l.val % 64, by omega⟩ : Fin 128)) := by
  unfold V
  after_reads_at
  after_reads_at
  exact twice (fun i => m ((c.tc : Thread nD τ).loc main_arg3) (ix3 b s i)) l

/-- The doubled heads of the context's values. -/
theorem V15 (c : Dev nD) (b : Fin 4) (s : Fin 256) (l : Fin 256) :
    V m c main_v15 (ix3 b s l) = m ((c.tc : Thread nD τ).loc main_arg4) (ix3 b s (⟨l.val / 128 * 64 + l.val % 64, by omega⟩ : Fin 128)) := by
  unfold V
  after_reads_at
  after_reads_at
  exact twice (fun i => m ((c.tc : Thread nD τ).loc main_arg4) (ix3 b s i)) l

/-- The launch has 32 points. -/
theorem point_lt (t : Fin cfg0.N) : t.val < 32 := t.isLt

/-- The blocks of window 0. -/
theorem index0 : ∀ t : Fin cfg0.N, win0_0.index t = ![t.val / 8, t.val % 8, 0] :=
  (by decide +kernel : ∀ t : Fin grid0.N, win0_0.index t = ![t.val / 8, t.val % 8, 0])
/-- The blocks of window 1. -/
theorem index1 : ∀ t : Fin cfg0.N, win0_1.index t = ![t.val / 8, 0, 0] :=
  (by decide +kernel : ∀ t : Fin grid0.N, win0_1.index t = ![t.val / 8, 0, 0])
/-- The blocks of window 2. -/
theorem index2 : ∀ t : Fin cfg0.N, win0_2.index t = ![t.val / 8, 0, 0] :=
  (by decide +kernel : ∀ t : Fin grid0.N, win0_2.index t = ![t.val / 8, 0, 0])
/-- The blocks of window 3. -/
theorem index3 : ∀ t : Fin cfg0.N, win0_3.index t = ![t.val / 8, 0, 0] :=
  (by decide +kernel : ∀ t : Fin grid0.N, win0_3.index t = ![t.val / 8, 0, 0])
/-- The blocks of window 4. -/
theorem index4 : ∀ t : Fin cfg0.N, win0_4.index t = ![t.val / 8, 0, 0] :=
  (by decide +kernel : ∀ t : Fin grid0.N, win0_4.index t = ![t.val / 8, 0, 0])
/-- The blocks of window 5. -/
theorem index5 : ∀ t : Fin cfg0.N, win0_5.index t = ![t.val / 8, t.val % 8, 0] :=
  (by decide +kernel : ∀ t : Fin grid0.N, win0_5.index t = ![t.val / 8, t.val % 8, 0])

/-- The block of window 0. -/
theorem blk0 (c : Dev nD) (t : Fin cfg0.N) (e : Fin 1) (r : Fin 512) (q : Fin 512) :
    iblk m c 0 t (ix3 e r q) = V m c main_arg0 (ix3 (⟨t.val / 8, by have := point_lt t; omega⟩ : Fin 4) (⟨t.val % 8 * 512 + r.val, by have := r.isLt; omega⟩ : Fin 4096) q) := by
  have he := e.isLt
  show V m c main_arg0 (((cfg0.win 0).blk t).view.emb (ix3 e r q)) = _
  refine congrArg (V m c main_arg0) (funext fun a => Fin.ext ?_)
  refine ((cfg0.win 0).rect_emb_val t _ a).trans ?_
  show win0_0.index t a * _ + _ = _
  rw [index0]
  match a with
  | ⟨0, _⟩ => show (t.val / 8) * 1 + e.val = t.val / 8; omega
  | ⟨1, _⟩ => show (t.val % 8) * 512 + r.val = t.val % 8 * 512 + r.val; omega
  | ⟨2, _⟩ => show 0 * 512 + q.val = q.val; omega

/-- The block of window 1. -/
theorem blk1 (c : Dev nD) (t : Fin cfg0.N) (e : Fin 1) (r : Fin 4096) (q : Fin 256) :
    iblk m c 1 t (ix3 e r q) = V m c main_v3 (ix3 (⟨t.val / 8, by have := point_lt t; omega⟩ : Fin 4) (⟨r.val, by have := r.isLt; omega⟩ : Fin 4096) q) := by
  have he := e.isLt
  show V m c main_v3 (((cfg0.win 1).blk t).view.emb (ix3 e r q)) = _
  refine congrArg (V m c main_v3) (funext fun a => Fin.ext ?_)
  refine ((cfg0.win 1).rect_emb_val t _ a).trans ?_
  show win0_1.index t a * _ + _ = _
  rw [index1]
  match a with
  | ⟨0, _⟩ => show (t.val / 8) * 1 + e.val = t.val / 8; omega
  | ⟨1, _⟩ => show (0) * 4096 + r.val = r.val; omega
  | ⟨2, _⟩ => show 0 * 256 + q.val = q.val; omega

/-- The block of window 2. -/
theorem blk2 (c : Dev nD) (t : Fin cfg0.N) (e : Fin 1) (r : Fin 4096) (q : Fin 256) :
    iblk m c 2 t (ix3 e r q) = V m c main_v7 (ix3 (⟨t.val / 8, by have := point_lt t; omega⟩ : Fin 4) (⟨r.val, by have := r.isLt; omega⟩ : Fin 4096) q) := by
  have he := e.isLt
  show V m c main_v7 (((cfg0.win 2).blk t).view.emb (ix3 e r q)) = _
  refine congrArg (V m c main_v7) (funext fun a => Fin.ext ?_)
  refine ((cfg0.win 2).rect_emb_val t _ a).trans ?_
  show win0_2.index t a * _ + _ = _
  rw [index2]
  match a with
  | ⟨0, _⟩ => show (t.val / 8) * 1 + e.val = t.val / 8; omega
  | ⟨1, _⟩ => show (0) * 4096 + r.val = r.val; omega
  | ⟨2, _⟩ => show 0 * 256 + q.val = q.val; omega

/-- The block of window 3. -/
theorem blk3 (c : Dev nD) (t : Fin cfg0.N) (e : Fin 1) (r : Fin 256) (q : Fin 256) :
    iblk m c 3 t (ix3 e r q) = V m c main_v11 (ix3 (⟨t.val / 8, by have := point_lt t; omega⟩ : Fin 4) (⟨r.val, by have := r.isLt; omega⟩ : Fin 256) q) := by
  have he := e.isLt
  show V m c main_v11 (((cfg0.win 3).blk t).view.emb (ix3 e r q)) = _
  refine congrArg (V m c main_v11) (funext fun a => Fin.ext ?_)
  refine ((cfg0.win 3).rect_emb_val t _ a).trans ?_
  show win0_3.index t a * _ + _ = _
  rw [index3]
  match a with
  | ⟨0, _⟩ => show (t.val / 8) * 1 + e.val = t.val / 8; omega
  | ⟨1, _⟩ => show (0) * 256 + r.val = r.val; omega
  | ⟨2, _⟩ => show 0 * 256 + q.val = q.val; omega

/-- The block of window 4. -/
theorem blk4 (c : Dev nD) (t : Fin cfg0.N) (e : Fin 1) (r : Fin 256) (q : Fin 256) :
    iblk m c 4 t (ix3 e r q) = V m c main_v15 (ix3 (⟨t.val / 8, by have := point_lt t; omega⟩ : Fin 4) (⟨r.val, by have := r.isLt; omega⟩ : Fin 256) q) := by
  have he := e.isLt
  show V m c main_v15 (((cfg0.win 4).blk t).view.emb (ix3 e r q)) = _
  refine congrArg (V m c main_v15) (funext fun a => Fin.ext ?_)
  refine ((cfg0.win 4).rect_emb_val t _ a).trans ?_
  show win0_4.index t a * _ + _ = _
  rw [index4]
  match a with
  | ⟨0, _⟩ => show (t.val / 8) * 1 + e.val = t.val / 8; omega
  | ⟨1, _⟩ => show (0) * 256 + r.val = r.val; omega
  | ⟨2, _⟩ => show 0 * 256 + q.val = q.val; omega

/-- Where a point's block of the result lies. -/
theorem emb5 (t : Fin cfg0.N) (e : Fin 1) (r : Fin 512) (q : Fin 512) :
    ((cfg0.win 5).blk t).view.emb (ix3 e r q)
      = ix3 (⟨t.val / 8, by have := point_lt t; omega⟩ : Fin 4) (⟨t.val % 8 * 512 + r.val, by have := r.isLt; omega⟩ : Fin 4096) q := by
  have he := e.isLt
  refine funext fun a => Fin.ext ?_
  refine ((cfg0.win 5).rect_emb_val t _ a).trans ?_
  show win0_5.index t a * _ + _ = _
  rw [index5]
  match a with
  | ⟨0, _⟩ => show t.val / 8 * 1 + e.val = t.val / 8; omega
  | ⟨1, _⟩ => rfl
  | ⟨2, _⟩ => show 0 * 512 + q.val = q.val; omega

/-- Every element of the result lies in the block of its batch and row block. -/
theorem cover5 (i : S4x4096x512.Idx) :
    ∃ t : Fin cfg0.N, (cfg0.win 5).flush t = true ∧ i ∈ ((cfg0.win 5).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_5 _, ?_⟩
  have h := ((cfg0.win 5).blk ⟨(i 0).val * 8 + (i 1).val / 512, ht⟩).view.emb_mem_set (ix3 (0 : Fin 1) (⟨(i 1).val % 512, by omega⟩ : Fin 512) (i 2))
  refine Eq.mp (congrArg (· ∈ _) ((emb5 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

end Cert.FullIdeal.Host
end
-- ==== Proof.FullStack.lean ====
/- The full attention's kernel at one element of its block: the stacked queries, the context's share, the trips over the
   blocks of keys, and the element of the output block as a quotient of two sums. -/
module

public import proofs.«01_k».proof.Proof.FullBody
public import proofs.«01_k».proof.Proof.WinStack

@[expose] public section

set_option maxRecDepth 16384

noncomputable section

namespace Cert.FullIdeal.Body

open Cert.FullIdeal Cert.FullIdeal.Gen Idealize.ShloMosaic Idealize.ShloMosaic.TcCoe Idealize.SL.Sem Cert.WinWord
open Cert.WinIdeal.Body (sel_pos sel_neg half_sum zero_word zero_word32)

/-- The constant by which the kernel scales the queries. -/
abbrev qm : Ideal .f32 := Named.named κ "q_mult" 0x3E38AA3B#32

theorem one_word : Ideal.ofBits .bf16 0x3F80#16 = 1 := by
  simp [Ideal.ofBits, Ideal.ieee, -EReal.coe_mul]; norm_num

theorem one_word32 : Ideal.ofBits .f32 0x3F800000#32 = 1 := by
  simp [Ideal.ofBits, Ideal.ieee, -EReal.coe_mul]; norm_num

/-- A selection of the first 64 lanes. -/
theorem sel64 {α : Type} (l : Fin 128) (x y : α) :
    Scalar.select (IntOp.cmpi .slt (BitVec.ofNat 32 l.val) (BitVec.ofNat 32 64)) x y = if l.val < 64 then x else y := by
  have e := slt (a := l.val) (b := (64 : ℕ)) (by omega) (by omega) (by omega) (by omega)
  rw [← ofNat_eq, ← ofNat_eq] at e
  by_cases c : l.val < 64
  · rw [sel_pos (e.2 (by omega)), if_pos c]
  · rw [sel_neg (fun q => c (by have := e.1 q; omega)), if_neg c]

/-- One group of 128 columns of the queries in two halves, one above the other. -/
def halves (y : FVec Ideal S512x128 .bf16) : FVec Ideal S1024x128 .bf16 :=
  concatenate S1024x128 0 [⟨S512x128, select (cmpi .slt (iota .tc S512x128 32 [1] iota_S512x128_d1_w32) (broadcast S512x128 64#32)) y (broadcast S512x128 (Scalar.ofBits .bf16 0x0000#16))⟩,
    ⟨S512x128, select (cmpi .slt (iota .tc S512x128 32 [1] iota_S512x128_d1_w32) (broadcast S512x128 64#32)) (broadcast S512x128 (Scalar.ofBits .bf16 0x0000#16)) y⟩] concatenates_S512x128_S512x128_S1024x128_d0

theorem halves_apply (y : FVec Ideal S512x128 .bf16) (p : Fin 2) (r : Fin 512) (l : Fin 128) :
    halves y (ix2 (⟨p.val * 512 + r.val, by omega⟩ : Fin 1024) l) = if l.val / 64 = p.val then y (ix2 r l) else 0 := by
  have h : ∀ R : Fin 1024, halves y (ix2 R l) = if h : R.val < 512 then
        Scalar.select (IntOp.cmpi .slt (BitVec.ofNat 32 l.val) (BitVec.ofNat 32 64)) (y (ix2 ⟨R.val, h⟩ l)) (Ideal.ofBits .bf16 0x0000#16)
      else Scalar.select (IntOp.cmpi .slt (BitVec.ofNat 32 l.val) (BitVec.ofNat 32 64)) (Ideal.ofBits .bf16 0x0000#16) (y (ix2 ⟨R.val - 512, by omega⟩ l)) := by
    intro R
    pointwise [halves, id]
  rw [h, zero_word]
  simp only [sel64]
  have hr := r.isLt
  have hl := l.isLt
  match p with
  | 0 =>
    rw [dif_pos (by dsimp; omega)]
    by_cases c : l.val < 64
    · rw [if_pos c, if_pos (by dsimp; omega)]
      exact congrArg (fun x => y (ix2 x l)) (Fin.ext (by dsimp; omega))
    · rw [if_neg c, if_neg (by dsimp; omega)]
  | 1 =>
    rw [dif_neg (by dsimp; omega)]
    by_cases c : l.val < 64
    · rw [if_pos c, if_neg (by dsimp; omega)]
    · rw [if_neg c, if_pos (by dsimp; omega)]
      exact congrArg (fun x => y (ix2 x l)) (Fin.ext (by dsimp; omega))

/-- The stacked queries of the key/value head `g`. -/
def stack (g : Fin 2) (x : Vec Ideal S1x512x512 .f32) : FVec Ideal S2048x128 .bf16 :=
  match g with
  | 0 => k0_pay3 x
  | 1 => k0_pay4 x

theorem pay2_apply (x : Vec Ideal S1x512x512 .f32) (r : Fin 512) (c : Fin 512) : k0_pay2 x (ix2 r c) = x (ix3 0 r c) * qm := by
  pointwise [k0_pay2, id]

/-- The first stack is made of the first two groups of columns. -/
theorem stack_zero (x : Vec Ideal S1x512x512 .f32) : stack 0 x = concatenate S2048x128 0 [⟨S1024x128, halves (extractStridedSlice S512x128 ![0, 0] (k0_pay2 x) slices_S512x512_o0_0_S512x128)⟩,
    ⟨S1024x128, halves (extractStridedSlice S512x128 ![0, 128] (k0_pay2 x) slices_S512x512_o0_128_S512x128)⟩] concatenates_S1024x128_S1024x128_S2048x128_d0 := by
  unfold stack
  dsimp only
  unfold k0_pay3
  generalize k0_pay2 x = y
  rfl

/-- The second stack is made of the last two. -/
theorem stack_one (x : Vec Ideal S1x512x512 .f32) : stack 1 x = concatenate S2048x128 0 [⟨S1024x128, halves (extractStridedSlice S512x128 ![0, 256] (k0_pay2 x) slices_S512x512_o0_256_S512x128)⟩,
    ⟨S1024x128, halves (extractStridedSlice S512x128 ![0, 384] (k0_pay2 x) slices_S512x512_o0_384_S512x128)⟩] concatenates_S1024x128_S1024x128_S2048x128_d0 := by
  unfold stack
  dsimp only
  unfold k0_pay4
  generalize k0_pay2 x = y
  rfl

theorem stack_apply (g : Fin 2) (x : Vec Ideal S1x512x512 .f32) (j : Fin 4) (r : Fin 512) (l : Fin 128) :
    stack g x (ix2 (⟨j.val * 512 + r.val, by omega⟩ : Fin 2048) l)
      = if l.val / 64 = j.val % 2 then x (ix3 0 r (⟨g.val * 256 + j.val / 2 * 128 + l.val, by omega⟩ : Fin 512)) * qm else 0 := by
  have hr := r.isLt
  have hj := j.isLt
  have hl := l.isLt
  rw [← pay2_apply]
  have key : ∀ (y : FVec Ideal S512x512 .bf16) (u0 u1 : FVec Ideal S512x128 .bf16) (x : FVec Ideal S2048x128 .bf16),
      x = concatenate S2048x128 0 [⟨S1024x128, halves u0⟩, ⟨S1024x128, halves u1⟩] concatenates_S1024x128_S1024x128_S2048x128_d0 →
      u0 (ix2 r l) = y (ix2 r (⟨g.val * 256 + 0 * 128 + l.val, by omega⟩ : Fin 512)) →
      u1 (ix2 r l) = y (ix2 r (⟨g.val * 256 + 1 * 128 + l.val, by omega⟩ : Fin 512)) →
      x (ix2 (⟨j.val * 512 + r.val, by omega⟩ : Fin 2048) l)
      = if l.val / 64 = j.val % 2 then y (ix2 r (⟨g.val * 256 + j.val / 2 * 128 + l.val, by omega⟩ : Fin 512)) else 0 := by
    intro y u0 u1 x hx h0 h1
    have h : x (ix2 (⟨j.val * 512 + r.val, by omega⟩ : Fin 2048) l) = if h : j.val * 512 + r.val < 1024 then halves u0 (ix2 ⟨j.val * 512 + r.val, h⟩ l)
        else halves u1 (ix2 ⟨j.val * 512 + r.val - 1024, by omega⟩ l) := by
      rw [hx]
      generalize halves u0 = a
      generalize halves u1 = b
      pointwise [id]
    rw [h]
    by_cases c : j.val < 2
    · rw [dif_pos (by omega)]
      have e := halves_apply u0 ⟨j.val % 2, by omega⟩ r l
      rw [h0] at e
      have ei : (⟨j.val * 512 + r.val, by omega⟩ : Fin 1024) = ⟨j.val % 2 * 512 + r.val, by omega⟩ := Fin.ext (by dsimp only; omega)
      rw [ei, e]
      have ec : (⟨g.val * 256 + 0 * 128 + l.val, by omega⟩ : Fin 512) = ⟨g.val * 256 + j.val / 2 * 128 + l.val, by omega⟩ := Fin.ext (by dsimp only; omega)
      rw [ec]
    · rw [dif_neg (by omega)]
      have e := halves_apply u1 ⟨j.val % 2, by omega⟩ r l
      rw [h1] at e
      have ei : (⟨j.val * 512 + r.val - 1024, by omega⟩ : Fin 1024) = ⟨j.val % 2 * 512 + r.val, by omega⟩ := Fin.ext (by dsimp only; omega)
      rw [ei, e]
      have ec : (⟨g.val * 256 + 1 * 128 + l.val, by omega⟩ : Fin 512) = ⟨g.val * 256 + j.val / 2 * 128 + l.val, by omega⟩ := Fin.ext (by dsimp only; omega)
      rw [ec]
  have cut : ∀ (y : FVec Ideal S512x512 .bf16),
      extractStridedSlice S512x128 ![0, 0] y slices_S512x512_o0_0_S512x128 (ix2 r l) = y (ix2 r (⟨l.val, by omega⟩ : Fin 512))
      ∧ extractStridedSlice S512x128 ![0, 128] y slices_S512x512_o0_128_S512x128 (ix2 r l) = y (ix2 r (⟨128 + l.val, by omega⟩ : Fin 512))
      ∧ extractStridedSlice S512x128 ![0, 256] y slices_S512x512_o0_256_S512x128 (ix2 r l) = y (ix2 r (⟨256 + l.val, by omega⟩ : Fin 512))
      ∧ extractStridedSlice S512x128 ![0, 384] y slices_S512x512_o0_384_S512x128 (ix2 r l) = y (ix2 r (⟨384 + l.val, by omega⟩ : Fin 512)) := by
    intro y
    refine ⟨?_, ?_, ?_, ?_⟩ <;> pointwise [id]
  obtain ⟨c0, c1, c2, c3⟩ := cut (k0_pay2 x)
  obtain rfl | rfl : g = 0 ∨ g = 1 := by have := g.isLt; rcases (by omega : g.val = 0 ∨ g.val = 1) with h | h <;> [left; right] <;> exact Fin.ext h
  · have hs := stack_zero x
    generalize stack 0 x = z at hs ⊢
    generalize k0_pay2 x = y at hs c0 c1 ⊢
    refine key y _ _ z hs ?_ ?_
    · exact c0.trans (congrArg (fun i => y (ix2 r i)) (Fin.ext (by dsimp; omega)))
    · exact c1.trans (congrArg (fun i => y (ix2 r i)) (Fin.ext (by simp)))
  · have hs := stack_one x
    generalize stack 1 x = z at hs ⊢
    generalize k0_pay2 x = y at hs c2 c3 ⊢
    refine key y _ _ z hs ?_ ?_
    · exact c2.trans (congrArg (fun i => y (ix2 r i)) (Fin.ext (by simp)))
    · exact c3.trans (congrArg (fun i => y (ix2 r i)) (Fin.ext (by simp)))

/-- What is carried for the key/value head `g`. -/
def pick (g : Fin 2) (a : FVec Ideal S2048x128 .f32 × FVec Ideal S2048x128 .f32) : FVec Ideal S2048x128 .f32 :=
  match g with
  | 0 => a.1
  | 1 => a.2

/-- The context's share at a row and a lane. -/
theorem start_apply (g : Fin 2) (x : Vec Ideal S1x512x512 .f32) (x3 x4 : Vec Ideal S1x256x256 .bf16) (R : Fin 2048) (l : Fin 128) :
    pick g (start (stack 0 x) (stack 1 x) x3 x4) (ix2 R l)
      = ∑ u : Fin 256, Ideal.exp2 (∑ l' : Fin 128, stack g x (ix2 R l') * x3 (ix3 0 u ⟨g.val * 128 + l'.val, by omega⟩)) *
          (if l.val < 64 then x4 (ix3 0 u ⟨g.val * 128 + l.val, by omega⟩) else 1) := by
  have h : ∀ (y : FVec Ideal S2048x128 .bf16),
      k0_pay7 y (k0_pay5 (F := Ideal)) (k0_pay6 x3) x4 (ix2 R l)
        = Ideal.ofBits .f32 0x00000000#32 + ∑ u : Fin 256, Ideal.exp2 (∑ l' : Fin 128, y (ix2 R l') * x3 (ix3 0 u ⟨l'.val, by omega⟩)) *
          Scalar.select (IntOp.cmpi .slt (BitVec.ofNat 32 l.val) (BitVec.ofNat 32 64)) (x4 (ix3 0 u ⟨l.val, by omega⟩)) (Ideal.ofBits .bf16 0x3F80#16)
      ∧ k0_pay8 y (k0_pay5 (F := Ideal)) x3 x4 (ix2 R l)
        = Ideal.ofBits .f32 0x00000000#32 + ∑ u : Fin 256, Ideal.exp2 (∑ l' : Fin 128, y (ix2 R l') * x3 (ix3 0 u ⟨128 + l'.val, by omega⟩)) *
          Scalar.select (IntOp.cmpi .slt (BitVec.ofNat 32 l.val) (BitVec.ofNat 32 64)) (x4 (ix3 0 u ⟨128 + l.val, by omega⟩)) (Ideal.ofBits .bf16 0x3F80#16) := by
    intro y
    refine ⟨?_, ?_⟩
    · pointwise [k0_pay7, k0_pay5, k0_pay6, id]
      rfl
    · pointwise [k0_pay8, k0_pay5, id]
      rfl
  simp only [sel64, one_word, zero_word32, zero_add] at h
  obtain rfl | rfl : g = 0 ∨ g = 1 := by have := g.isLt; rcases (by omega : g.val = 0 ∨ g.val = 1) with h | h <;> [left; right] <;> exact Fin.ext h
  · refine ((h (stack 0 x)).1).trans (Finset.sum_congr rfl fun u _ => ?_)
    have e : ∀ l : Fin 128, (⟨l.val, by omega⟩ : Fin 256) = ⟨(0 : Fin 2).val * 128 + l.val, by simp; omega⟩ := fun l => Fin.ext (by simp)
    simp only [e]
  · refine ((h (stack 1 x)).2).trans (Finset.sum_congr rfl fun u _ => ?_)
    have e : ∀ l : Fin 128, (⟨128 + l.val, by omega⟩ : Fin 256) = ⟨(1 : Fin 2).val * 128 + l.val, by simp; omega⟩ := fun l => Fin.ext (by simp)
    simp only [e]

/-- The loop makes eight trips. -/
theorem trips_eq : k0_t1_loop.trips = 8 := by decide

theorem rows0_apply (k : Fin k0_t1_loop.trips) (x : Vec Ideal S1x4096x256 .bf16) (t : Fin 512) (l : Fin 128) :
    rows0 k x (ix3 0 t l) = x (ix3 0 (⟨512 * k.val + t.val, by have := k.isLt; have := trips_eq; omega⟩ : Fin 4096) (⟨l.val, by omega⟩ : Fin 256)) := by
  refine congrArg x (funext fun a => Fin.ext ?_)
  show k0_off1 k a + 1 * (ix3 (0 : Fin 1) t l a).val = _
  rw [k0_off1_eq]
  match a with
  | ⟨0, _⟩ => rfl
  | ⟨1, _⟩ => show 512 * k.val + 1 * t.val = 512 * k.val + t.val; omega
  | ⟨2, _⟩ => show 0 + 1 * l.val = l.val; omega

theorem rows1_apply (k : Fin k0_t1_loop.trips) (x : Vec Ideal S1x4096x256 .bf16) (t : Fin 512) (l : Fin 128) :
    rows1 k x (ix3 0 t l) = x (ix3 0 (⟨512 * k.val + t.val, by have := k.isLt; have := trips_eq; omega⟩ : Fin 4096) (⟨128 + l.val, by omega⟩ : Fin 256)) := by
  refine congrArg x (funext fun a => Fin.ext ?_)
  show k0_off2 k a + 1 * (ix3 (0 : Fin 1) t l a).val = _
  rw [k0_off2_eq]
  match a with
  | ⟨0, _⟩ => rfl
  | ⟨1, _⟩ => show 512 * k.val + 1 * t.val = 512 * k.val + t.val; omega
  | ⟨2, _⟩ => show 128 + 1 * l.val = 128 + l.val; omega

/-- One key's share at a row and a lane. -/
def share (g : Fin 2) (x : Vec Ideal S1x512x512 .f32) (x1 x2 : Vec Ideal S1x4096x256 .bf16) (R : Fin 2048) (l : Fin 128) (p : Fin 4096) : EReal :=
  Ideal.exp2 (∑ l' : Fin 128, stack g x (ix2 R l') * x1 (ix3 0 p ⟨g.val * 128 + l'.val, by omega⟩)) *
    (if l.val < 64 then x2 (ix3 0 p ⟨g.val * 128 + l.val, by omega⟩) else 1)

/-- One trip adds the shares of its 512 keys. -/
theorem step_apply (g : Fin 2) (x : Vec Ideal S1x512x512 .f32) (x1 x2 : Vec Ideal S1x4096x256 .bf16) (k : Fin k0_t1_loop.trips)
    (a : FVec Ideal S2048x128 .f32 × FVec Ideal S2048x128 .f32) (R : Fin 2048) (l : Fin 128) :
    pick g (step (stack 0 x) (stack 1 x) x1 x2 k a) (ix2 R l)
      = pick g a (ix2 R l) + ∑ t : Fin 512, share g x x1 x2 R l (⟨512 * k.val + t.val, by have := k.isLt; have := trips_eq; omega⟩ : Fin 4096) := by
  have h : ∀ (y : FVec Ideal S2048x128 .bf16) (b : FVec Ideal S2048x128 .f32) (kb vb : Vec Ideal S1x512x128 .bf16),
      k0_pay9 y b kb vb (ix2 R l)
        = b (ix2 R l) + ∑ t : Fin 512, Ideal.exp2 (∑ l' : Fin 128, y (ix2 R l') * kb (ix3 0 t l')) *
          Scalar.select (IntOp.cmpi .slt (BitVec.ofNat 32 l.val) (BitVec.ofNat 32 64)) (vb (ix3 0 t l)) (Ideal.ofBits .bf16 0x3F80#16) := by
    intro y b kb vb
    pointwise [k0_pay9, id]
    rfl
  simp only [sel64, one_word] at h
  unfold share
  obtain rfl | rfl : g = 0 ∨ g = 1 := by have := g.isLt; rcases (by omega : g.val = 0 ∨ g.val = 1) with h | h <;> [left; right] <;> exact Fin.ext h
  · refine (h (stack 0 x) a.1 (rows0 k x1) (rows0 k x2)).trans (congrArg (a.1 (ix2 R l) + ·) (Finset.sum_congr rfl fun t _ => ?_))
    have e : ∀ l : Fin 128, (⟨l.val, by omega⟩ : Fin 256) = ⟨(0 : Fin 2).val * 128 + l.val, by simp; omega⟩ := fun l => Fin.ext (by simp)
    simp only [rows0_apply, e]
  · refine (h (stack 1 x) a.2 (rows1 k x1) (rows1 k x2)).trans (congrArg (a.2 (ix2 R l) + ·) (Finset.sum_congr rfl fun t _ => ?_))
    have e : ∀ l : Fin 128, (⟨128 + l.val, by omega⟩ : Fin 256) = ⟨(1 : Fin 2).val * 128 + l.val, by simp; omega⟩ := fun l => Fin.ext (by simp)
    simp only [rows1_apply, e]

/-- What is carried before trip `n`: the start and the shares of the first `512 * n` keys. -/
theorem state_apply (g : Fin 2) (x : Vec Ideal S1x512x512 .f32) (x1 x2 : Vec Ideal S1x4096x256 .bf16)
    (a : FVec Ideal S2048x128 .f32 × FVec Ideal S2048x128 .f32) (R : Fin 2048) (l : Fin 128) (n : ℕ) (hn : n ≤ 8) :
    pick g (state (stack 0 x) (stack 1 x) x1 x2 a n) (ix2 R l)
      = pick g a (ix2 R l) + ∑ p ∈ Finset.range (512 * n), if h : p < 4096 then share g x x1 x2 R l ⟨p, h⟩ else 0 := by
  induction n with
  | zero => simp [state]
  | succ n ih =>
    rw [state.eq_2, dif_pos (by rw [trips_eq]; omega), step_apply, ih (by omega), Nat.mul_succ, Finset.sum_range_add, add_assoc]
    refine congrArg (fun z => pick g a (ix2 R l) + (_ + z)) ?_
    rw [Finset.sum_range]
    refine Finset.sum_congr rfl fun t _ => ?_
    rw [dif_pos (by have := t.isLt; omega)]

/-- What the loop ends with at a row and a lane. -/
theorem final_apply (g : Fin 2) (x : Vec Ideal S1x512x512 .f32) (x1 x2 : Vec Ideal S1x4096x256 .bf16)
    (a : FVec Ideal S2048x128 .f32 × FVec Ideal S2048x128 .f32) (R : Fin 2048) (l : Fin 128) :
    pick g (state (stack 0 x) (stack 1 x) x1 x2 a k0_t1_loop.trips) (ix2 R l)
      = pick g a (ix2 R l) + ∑ p : Fin 4096, share g x x1 x2 R l p := by
  rw [trips_eq, state_apply _ _ _ _ _ _ _ _ le_rfl, Finset.sum_range]
  refine congrArg (pick g a (ix2 R l) + ·) (Finset.sum_congr rfl fun t _ => ?_)
  rw [dif_pos t.isLt]

/-- The dot product of a stacked query's row: the 64 columns of its head. -/
theorem dot_apply (g : Fin 2) (x : Vec Ideal S1x512x512 .f32) (j : Fin 4) (r : Fin 512) (f : Fin 128 → EReal) :
    (∑ l : Fin 128, stack g x (ix2 (⟨j.val * 512 + r.val, by omega⟩ : Fin 2048) l) * f l)
      = ∑ d : Fin 64, x (ix3 0 r (⟨g.val * 256 + j.val * 64 + d.val, by omega⟩ : Fin 512)) * qm * f ⟨j.val % 2 * 64 + d.val, by omega⟩ := by
  have hj := j.isLt
  simp only [stack_apply]
  rw [half_sum (j.val % 2) (by omega) (fun l => x (ix3 0 r (⟨g.val * 256 + j.val / 2 * 128 + l.val, by omega⟩ : Fin 512)) * qm) f]
  refine Finset.sum_congr rfl fun d _ => ?_
  have e : (⟨g.val * 256 + j.val / 2 * 128 + (j.val % 2 * 64 + d.val), by omega⟩ : Fin 512) = ⟨g.val * 256 + j.val * 64 + d.val, by omega⟩ :=
    Fin.ext (by dsimp only; omega)
  dsimp only
  rw [e]

/-- The carried sums times the inverses of their denominators, which lie 64 lanes away. -/
def norm (a : FVec Ideal S2048x128 .f32) : FVec Ideal S2048x128 .f32 := k0_pay11 a

theorem norm_apply (a : FVec Ideal S2048x128 .f32) (R : Fin 2048) (l : Fin 128) (h : l.val < 64) :
    norm a (ix2 R l) = a (ix2 R l) * Ideal.div 1 (a (ix2 R ⟨l.val + 64, by omega⟩)) := by
  have e : norm a (ix2 R l) = a (ix2 R l) * Ideal.div (Ideal.ofBits .f32 0x3F800000#32) (a (ix2 R ⟨(l.val + 128 - 64) % 128, Nat.mod_lt _ (by decide)⟩)) := by
    pointwise [norm, k0_pay11, id]
  rw [e, one_word32]
  exact congrArg (fun i => a (ix2 R l) * Ideal.div 1 (a (ix2 R i))) (Fin.ext (by dsimp only; omega))

/-- Two heads side by side: the first's lanes, then the second's moved 64 lanes on. -/
def merge (p q : FVec Ideal S512x128 .f32) : FVec Ideal S512x128 .f32 :=
  select (cmpi .slt (iota .tc S512x128 32 [1] iota_S512x128_d1_w32) (broadcast S512x128 64#32)) p (dynamicRotate 1 64#32 none q rotates_S512x128_d1)

theorem merge_apply (p q : FVec Ideal S512x128 .f32) (r : Fin 512) (l : Fin 128) :
    merge p q (ix2 r l) = if l.val < 64 then p (ix2 r l) else q (ix2 r ⟨l.val - 64, by omega⟩) := by
  have e : merge p q (ix2 r l) = Scalar.select (IntOp.cmpi .slt (BitVec.ofNat 32 l.val) (BitVec.ofNat 32 64)) (p (ix2 r l))
      (q (ix2 r ⟨(l.val + 128 - 64) % 128, Nat.mod_lt _ (by decide)⟩)) := by
    pointwise [merge, id]
  rw [e, sel64]
  by_cases c : l.val < 64
  · rw [if_pos c, if_pos c]
  · rw [if_neg c, if_neg c]
    exact congrArg (fun i => q (ix2 r i)) (Fin.ext (by dsimp only; omega))

/-- The two pairs of heads of one key/value head. -/
def pair0 (a : FVec Ideal S2048x128 .f32) : FVec Ideal S512x128 .f32 :=
  merge (extractStridedSlice S512x128 ![0, 0] a slices_S2048x128_o0_0_S512x128) (extractStridedSlice S512x128 ![512, 0] a slices_S2048x128_o512_0_S512x128)
/-- The second pair. -/
def pair1 (a : FVec Ideal S2048x128 .f32) : FVec Ideal S512x128 .f32 :=
  merge (extractStridedSlice S512x128 ![1024, 0] a slices_S2048x128_o1024_0_S512x128) (extractStridedSlice S512x128 ![1536, 0] a slices_S2048x128_o1536_0_S512x128)

theorem cut_apply (a : FVec Ideal S2048x128 .f32) (r : Fin 512) (l : Fin 128) :
    extractStridedSlice S512x128 ![0, 0] a slices_S2048x128_o0_0_S512x128 (ix2 r l) = a (ix2 (⟨r.val, by omega⟩ : Fin 2048) l)
    ∧ extractStridedSlice S512x128 ![512, 0] a slices_S2048x128_o512_0_S512x128 (ix2 r l) = a (ix2 (⟨512 + r.val, by omega⟩ : Fin 2048) l)
    ∧ extractStridedSlice S512x128 ![1024, 0] a slices_S2048x128_o1024_0_S512x128 (ix2 r l) = a (ix2 (⟨1024 + r.val, by omega⟩ : Fin 2048) l)
    ∧ extractStridedSlice S512x128 ![1536, 0] a slices_S2048x128_o1536_0_S512x128 (ix2 r l) = a (ix2 (⟨1536 + r.val, by omega⟩ : Fin 2048) l) := by
  refine ⟨?_, ?_, ?_, ?_⟩ <;> pointwise [id]

theorem pair_apply (a : FVec Ideal S2048x128 .f32) (r : Fin 512) (l : Fin 128) :
    pair0 a (ix2 r l) = a (ix2 (⟨l.val / 64 * 512 + r.val, by omega⟩ : Fin 2048) ⟨l.val % 64, by omega⟩)
    ∧ pair1 a (ix2 r l) = a (ix2 (⟨(2 + l.val / 64) * 512 + r.val, by omega⟩ : Fin 2048) ⟨l.val % 64, by omega⟩) := by
  have hl := l.isLt
  unfold pair0 pair1
  rw [merge_apply, merge_apply]
  by_cases c : l.val < 64
  · rw [if_pos c, if_pos c, (cut_apply a r l).1, (cut_apply a r l).2.2.1]
    exact ⟨congrArg₂ (fun i k => a (ix2 i k)) (Fin.ext (by dsimp only; omega)) (Fin.ext (by dsimp only; omega)),
      congrArg₂ (fun i k => a (ix2 i k)) (Fin.ext (by dsimp only; omega)) (Fin.ext (by dsimp only; omega))⟩
  · rw [if_neg c, if_neg c, (cut_apply a r _).2.1, (cut_apply a r _).2.2.2]
    exact ⟨congrArg₂ (fun i k => a (ix2 i k)) (Fin.ext (by dsimp only; omega)) (Fin.ext (by dsimp only; omega)),
      congrArg₂ (fun i k => a (ix2 i k)) (Fin.ext (by dsimp only; omega)) (Fin.ext (by dsimp only; omega))⟩

/-- Four pairs of heads as one block. -/
def quad (p0 p1 p2 p3 : FVec Ideal S512x128 .f32) : FVec Ideal S1x512x512 .bf16 :=
  shapeCast S1x512x512 (truncf .bf16 (concatenate S512x512 1 [⟨S512x128, p0⟩, ⟨S512x128, p1⟩, ⟨S512x128, p2⟩, ⟨S512x128, p3⟩] concatenates_S512x128_S512x128_S512x128_S512x128_S512x512_d1) bitsLt_bf16_f32 : FVec Ideal S512x512 .bf16) shapeCasts_S512x512_S1x512x512

theorem close_eq (a : FVec Ideal S2048x128 .f32 × FVec Ideal S2048x128 .f32) :
    close a = quad (pair0 (norm a.1)) (pair1 (norm a.1)) (pair0 (norm a.2)) (pair1 (norm a.2)) := rfl

theorem quad_apply (p0 p1 p2 p3 : FVec Ideal S512x128 .f32) (r : Fin 512) (c : Fin 512) :
    quad p0 p1 p2 p3 (ix3 0 r c) = if h : c.val < 128 then p0 (ix2 r ⟨c.val, h⟩) else if h : c.val - 128 < 128 then p1 (ix2 r ⟨c.val - 128, h⟩)
      else if h : c.val - 128 - 128 < 128 then p2 (ix2 r ⟨c.val - 128 - 128, h⟩) else p3 (ix2 r ⟨c.val - 128 - 128 - 128, by omega⟩) := by
  pointwise [quad, id]

/-- The stored block at a row and a column: the weighted sum of the column's head times the inverse of the sum of the weights. -/
theorem close_apply (a : FVec Ideal S2048x128 .f32 × FVec Ideal S2048x128 .f32) (r : Fin 512) (c : Fin 512) (g : Fin 2) (j : Fin 4) (d : Fin 64)
    (hg : g.val = c.val / 256) (hj : j.val = c.val / 64 % 4) (hd : d.val = c.val % 64) :
    close a (ix3 0 r c) = pick g a (ix2 (⟨j.val * 512 + r.val, by omega⟩ : Fin 2048) ⟨d.val, by omega⟩) *
      Ideal.div 1 (pick g a (ix2 (⟨j.val * 512 + r.val, by omega⟩ : Fin 2048) ⟨d.val + 64, by omega⟩)) := by
  have hc := c.isLt
  rw [close_eq, quad_apply]
  have fin : ∀ (b : FVec Ideal S2048x128 .f32) (R : Fin 2048) (l : Fin 128), R.val = j.val * 512 + r.val → l.val = d.val → pick g a = b →
      norm b (ix2 R l) = pick g a (ix2 (⟨j.val * 512 + r.val, by omega⟩ : Fin 2048) ⟨d.val, by omega⟩) *
      Ideal.div 1 (pick g a (ix2 (⟨j.val * 512 + r.val, by omega⟩ : Fin 2048) ⟨d.val + 64, by omega⟩)) := by
    intro b R l hR hl hb
    have hd' := d.isLt
    rw [show R = (⟨j.val * 512 + r.val, by omega⟩ : Fin 2048) from Fin.ext hR, show l = (⟨d.val, by omega⟩ : Fin 128) from Fin.ext hl,
      norm_apply _ _ _ hd', hb]
  have g0 : c.val < 256 → pick g a = a.1 := fun h => by rw [show g = 0 from Fin.ext (by simp; omega)]; rfl
  have g1 : ¬c.val < 256 → pick g a = a.2 := fun h => by rw [show g = 1 from Fin.ext (by simp; omega)]; rfl
  split_ifs with h1 h2 h3
  · rw [(pair_apply _ _ _).1]
    exact fin _ _ _ (by dsimp only; omega) (by dsimp only; omega) (g0 (by omega))
  · rw [(pair_apply _ _ _).2]
    exact fin _ _ _ (by dsimp only; omega) (by dsimp only; omega) (g0 (by omega))
  · rw [(pair_apply _ _ _).1]
    exact fin _ _ _ (by dsimp only; omega) (by dsimp only; omega) (g1 (by omega))
  · rw [(pair_apply _ _ _).2]
    exact fin _ _ _ (by dsimp only; omega) (by dsimp only; omega) (g1 (by omega))

end Cert.FullIdeal.Body
end
-- ==== Proof.FullRef.lean ====
/- The full attention's reference at an element. Its result is the composition of its operations (`term`), cut into the rows
   of the context and the sequence, the scores, the softmax and the weighted values; each is read at an index. -/
module

public import proofs.«01_k».proof.Proof.Gen.FullRefIdeal.Run
public import Idealize.ShloMosaic.Lib.Pointwise

@[expose] public section

set_option maxRecDepth 16384

noncomputable section

namespace Cert.FullRefIdeal.Out

open Cert.FullRefIdeal Cert.FullRefIdeal.Gen Idealize.ShloMosaic Idealize.ShloMosaic.TcCoe Idealize.SL.Sem

/-- The context's rows and, after them, the sequence's rows, by head. -/
def rows (xc : FVec Ideal S4x256x128 .f32) (x : FVec Ideal S4x4096x128 .f32) : FVec Ideal S4x4352x2x64 .f32 :=
  concatenate S4x4352x2x64 1 [⟨S4x256x2x64, (shapeCast _ xc shapeCasts_S4x256x128_S4x256x2x64)⟩, ⟨S4x4096x2x64, (shapeCast _ x shapeCasts_S4x4096x128_S4x4096x2x64)⟩] concatenates_S4x256x2x64_S4x4096x2x64_S4x4352x2x64_d1

/-- The scores of every query with every row. -/
def scores (q : FVec Ideal S4x4096x512 .f32) (r : FVec Ideal S4x4352x2x64 .f32) : FVec Ideal S4x2x4x4096x4352 .f32 :=
  mulf (transpose S4x2x4x4096x4352 [0, 1, 4, 3, 2] (Host.dotGeneral dot_S4x4352x2x64_S4x4096x2x4x64_S4x2x4352x4096x4_3_4_1_13_02_02 none r (shapeCast _ (shapeCast _ q shapeCasts_S4x4096x512_S4x4096x8x64) shapeCasts_S4x4096x8x64_S4x4096x2x4x64)) transposes_S4x2x4352x4096x4_S4x2x4x4096x4352_0_1_4_3_2) (broadcastInDim S4x2x4x4096x4352 ![] bcast_S_S4x2x4x4096x4352 (constant S_ .f32 0x3E000000#32))

/-- Their largest. -/
def top (y : FVec Ideal S4x2x4x4096x4352 .f32) : FVec Ideal S4x2x4x4096 .f32 :=
  maximumf (broadcastInDim S4x2x4x4096 ![] bcast_S_S4x2x4x4096 (constant S_ .f32 0xFF800000#32)) (Host.reduce FloatOps.maximumf y (constant S_ .f32 0xFF800000#32) reducesTo_S4x2x4x4096x4352_S4x2x4x4096_d4 h_S_)

/-- The exponentials of the scores less the largest. -/
def weight (y : FVec Ideal S4x2x4x4096x4352 .f32) : FVec Ideal S4x2x4x4096x4352 .f32 :=
  Host.exp (subf y (broadcastInDim S4x2x4x4096x4352 ![0, 1, 2, 3, 4] bcast_S4x2x4x4096x1_S4x2x4x4096x4352_0_1_2_3_4 (broadcastInDim S4x2x4x4096x1 ![0, 1, 2, 3] bcast_S4x2x4x4096_S4x2x4x4096x1_0_1_2_3 (top y))))

/-- The softmax. -/
def probs (y : FVec Ideal S4x2x4x4096x4352 .f32) : FVec Ideal S4x2x4x4096x4352 .f32 :=
  Host.divf (weight y) (broadcastInDim S4x2x4x4096x4352 ![0, 1, 2, 3, 4] bcast_S4x2x4x4096x1_S4x2x4x4096x4352_0_1_2_3_4 (broadcastInDim S4x2x4x4096x1 ![0, 1, 2, 3] bcast_S4x2x4x4096_S4x2x4x4096x1_0_1_2_3 (Host.reduceAdd (weight y) (constant S_ .f32 0x00000000#32) reducesTo_S4x2x4x4096x4352_S4x2x4x4096_d4 h_S_)))

/-- The rows weighted by given probabilities. -/
def weighted (p : FVec Ideal S4x2x4x4096x4352 .f32) (r : FVec Ideal S4x4352x2x64 .f32) : FVec Ideal S4x4096x512 .bf16 :=
  truncf .bf16 (shapeCast _ (transpose S4x4096x2x4x64 [0, 4, 1, 3, 2] (Host.dotGeneral dot_S4x4352x2x64_S4x2x4x4096x4352_S4x2x64x4x4096_1_4_3_23_02_01 none r p) transposes_S4x2x64x4x4096_S4x4096x2x4x64_0_4_1_3_2) shapeCasts_S4x4096x2x4x64_S4x4096x512) bitsLt_bf16_f32

/-- The reference's result as the composition of its operations on the five arguments. -/
def term (q : FVec Ideal S4x4096x512 .f32) (k v : FVec Ideal S4x4096x128 .f32) (kc vc : FVec Ideal S4x256x128 .f32) :
    FVec Ideal S4x4096x512 .bf16 := weighted (probs (scores q (rows kc k))) (rows vc v)

/-- What the run leaves is `term` of the arguments. -/
theorem res_eq (m : (ℓ : Loc nD τ sig) → Buf (Elt Ideal) ℓ) (c : Dev nD) :
    Cert.FullRefIdeal.Value.res_out0 m c = term (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The rows at an element. -/
theorem rows_apply (xc : FVec Ideal S4x256x128 .f32) (x : FVec Ideal S4x4096x128 .f32) (b : Fin 4) (i : Fin 4352) (g : Fin 2) (d : Fin 64) :
    rows xc x (ix4 b i g d) = if h : i.val < 256 then xc (ix3 b ⟨i.val, h⟩ ⟨g.val * 64 + d.val, by omega⟩)
      else x (ix3 b ⟨i.val - 256, by omega⟩ ⟨g.val * 64 + d.val, by omega⟩) := by
  pointwise [rows, id]

/-- The scores at an element. -/
theorem scores_apply (q : FVec Ideal S4x4096x512 .f32) (r : FVec Ideal S4x4352x2x64 .f32) (b : Fin 4) (g : Fin 2) (j : Fin 4) (s : Fin 4096) (i : Fin 4352) :
    scores q r (ix5 b g j s i) = (∑ x : Fin 64, r (ix4 b i g x) * q (ix3 b s ⟨g.val * 256 + j.val * 64 + x.val, by omega⟩)) *
        Ideal.ofBits FTy.f32 0x3E000000#32 := by
  pointwise [scores, id]

/-- The exponential at an element. -/
theorem weight_apply (y : FVec Ideal S4x2x4x4096x4352 .f32) (b : Fin 4) (g : Fin 2) (j : Fin 4) (s : Fin 4096) (i : Fin 4352) :
    weight y (ix5 b g j s i) = Ideal.exp (y (ix5 b g j s i) - top y (ix4 b g j s)) := by
  pointwise [weight, id]

/-- The weighted rows at an element. -/
theorem weighted_apply (p : FVec Ideal S4x2x4x4096x4352 .f32) (r : FVec Ideal S4x4352x2x64 .f32) (b : Fin 4) (s : Fin 4096) (c : Fin 512) :
    weighted p r (ix3 b s c)
      = ∑ i : Fin 4352, r (ix4 b i (⟨c.val / 256, by omega⟩ : Fin 2) (⟨c.val % 64, by omega⟩ : Fin 64)) *
          p (ix5 b (⟨c.val / 256, by omega⟩ : Fin 2) (⟨c.val / 64 % 4, by omega⟩ : Fin 4) s i) := by
  pointwise [weighted, id]

/-- The indices that a reduction over the last of five axes reads for one result. -/
theorem fiber {n0 n1 n2 n3 n4 : ℕ} (h : (⟨5, ![n0, n1, n2, n3, n4]⟩ : Shape).ReducesTo [4] ⟨4, ![n0, n1, n2, n3]⟩)
    (b : Fin n0) (g : Fin n1) (j : Fin n2) (s : Fin n3)
    (i : (⟨5, ![n0, n1, n2, n3, n4]⟩ : Shape).Idx) : h.drop i = ix4 b g j s ↔ ∃ t : Fin n4, ix5 b g j s t = i := by
  constructor
  · intro e
    refine ⟨i 4, ?_⟩
    funext a; apply Fin.ext
    match a with
    | ⟨0, _⟩ => exact (congrArg Fin.val (congrFun e ⟨0, Nat.lt_of_sub_eq_succ rfl⟩)).symm
    | ⟨1, _⟩ => exact (congrArg Fin.val (congrFun e ⟨1, Nat.lt_of_sub_eq_succ rfl⟩)).symm
    | ⟨2, _⟩ => exact (congrArg Fin.val (congrFun e ⟨2, Nat.lt_of_sub_eq_succ rfl⟩)).symm
    | ⟨3, _⟩ => exact (congrArg Fin.val (congrFun e ⟨3, Nat.lt_of_sub_eq_succ rfl⟩)).symm
    | ⟨4, _⟩ => rfl
  · rintro ⟨t, rfl⟩
    funext a
    apply Fin.ext
    match a with
    | ⟨0, _⟩ => rfl
    | ⟨1, _⟩ => rfl
    | ⟨2, _⟩ => rfl
    | ⟨3, _⟩ => rfl

/-- The indices along the last axis differ. -/
theorem last_inj {n0 n1 n2 n3 n4 : ℕ} (b : Fin n0) (g : Fin n1) (j : Fin n2) (s : Fin n3) :
    Function.Injective fun t : Fin n4 => (ix5 b g j s t : (⟨5, ![n0, n1, n2, n3, n4]⟩ : Shape).Idx) := fun t t' e =>
  congrFun e 4

/-- A maximum over the last of five axes. -/
theorem reduce_max {n0 n1 n2 n3 n4 : ℕ} {u : Shape} (h : (⟨5, ![n0, n1, n2, n3, n4]⟩ : Shape).ReducesTo [4] ⟨4, ![n0, n1, n2, n3]⟩)
    (y : FVec Ideal ⟨5, ![n0, n1, n2, n3, n4]⟩ .f32) (init : FVec Ideal u .f32) (hu : 0 < u.numel)
    (b : Fin n0) (g : Fin n1) (j : Fin n2) (s : Fin n3) :
    Host.reduce FloatOps.maximumf y init h hu (ix4 b g j s)
      = Finset.fold max (init (Shape.Idx.first hu)) (fun t : Fin n4 => y (ix5 b g j s t)) Finset.univ := by
  refine (Host.reduce_eq_fold (FloatOps.maximumf (F := Ideal) (φ := .f32)) y _ _ _ _).trans ?_
  exact Finset.fold_filter_eq_fold_of_fiber _ _ _ (last_inj b g j s) (fiber _ b g j s) _ _

/-- A sum over the last of five axes. -/
theorem reduce_sum {n0 n1 n2 n3 n4 : ℕ} (h : (⟨5, ![n0, n1, n2, n3, n4]⟩ : Shape).ReducesTo [4] ⟨4, ![n0, n1, n2, n3]⟩)
    (y : FVec Ideal ⟨5, ![n0, n1, n2, n3, n4]⟩ .f32)
    (b : Fin n0) (g : Fin n1) (j : Fin n2) (s : Fin n3) :
    Ideal.hostReduceAdd h y 0 (ix4 b g j s) = ∑ t : Fin n4, y (ix5 b g j s t) := by
  unfold Ideal.hostReduceAdd
  rw [zero_add]
  exact Finset.sum_filter_eq_sum_of_fiber _ _ (last_inj b g j s) (fiber _ b g j s) _

theorem bot_word : Ideal.ofBits FTy.f32 0xFF800000#32 = ⊥ := by simp [Ideal.ofBits, Ideal.ieee]

/-- The largest score of a row. -/
theorem top_apply (y : FVec Ideal S4x2x4x4096x4352 .f32) (b : Fin 4) (g : Fin 2) (j : Fin 4) (s : Fin 4096) :
    top y (ix4 b g j s) = Finset.univ.sup fun t : Fin 4352 => y (ix5 b g j s t) := by
  have e := reduce_max (reducesTo_S4x2x4x4096x4352_S4x2x4x4096_d4) y (constant (F := Ideal) S_ .f32 0xFF800000#32) h_S_ b g j s
  have h : top y (ix4 b g j s) = max (Ideal.ofBits FTy.f32 0xFF800000#32)
      (Finset.fold max (Ideal.ofBits FTy.f32 0xFF800000#32) (fun t : Fin 4352 => y (ix5 b g j s t)) Finset.univ) := by
    unfold top
    rw [maximumf_apply, e]
    refine congrArg₂ (fun a b : EReal => max a b) ?_ rfl
    pointwise
  rw [h, bot_word]
  exact max_eq_right bot_le

/-- The softmax at an element. -/
theorem probs_apply (y : FVec Ideal S4x2x4x4096x4352 .f32) (b : Fin 4) (g : Fin 2) (j : Fin 4) (s : Fin 4096) (t : Fin 4352) :
    probs y (ix5 b g j s t) = Ideal.div (weight y (ix5 b g j s t)) (∑ t : Fin 4352, weight y (ix5 b g j s t)) := by
  have e : probs y (ix5 b g j s t) = Ideal.div (weight y (ix5 b g j s t))
      (Ideal.hostReduceAdd reducesTo_S4x2x4x4096x4352_S4x2x4x4096_d4 (weight y) 0 (ix4 b g j s)) := by pointwise [probs, id]
  rw [e]
  exact congrArg (Ideal.div _) (reduce_sum _ _ b g j s)

/-- The reference's result at batch `b`, row `s`, head `j` of the key/value head `g` and column `d`, for the scores `X` of
    the row, their largest `M` and the sum `D` of the exponentials. -/
theorem term_row (q : FVec Ideal S4x4096x512 .f32) (k v : FVec Ideal S4x4096x128 .f32) (kc vc : FVec Ideal S4x256x128 .f32)
    (b : Fin 4) (s : Fin 4096) (c : Fin 512) (g : Fin 2) (j : Fin 4) (d : Fin 64)
    (hg : g.val = c.val / 256) (hj : j.val = c.val / 64 % 4) (hd : d.val = c.val % 64)
    (X : Fin 4352 → EReal) (M D : EReal) (hX : X = fun i => scores q (rows kc k) (ix5 b g j s i))
    (hM : M = Finset.univ.sup X) (hD : D = ∑ i, Ideal.exp (X i - M)) :
    term q k v kc vc (ix3 b s c) = ∑ i : Fin 4352, rows vc v (ix4 b i g d) * Ideal.div (Ideal.exp (X i - M)) D := by
  have eg : (⟨c.val / 256, by omega⟩ : Fin 2) = g := Fin.ext hg.symm
  have ej : (⟨c.val / 64 % 4, by omega⟩ : Fin 4) = j := Fin.ext hj.symm
  have ed : (⟨c.val % 64, by omega⟩ : Fin 64) = d := Fin.ext hd.symm
  unfold term
  rw [weighted_apply]
  simp only [eg, ej, ed]
  have w : ∀ i : Fin 4352, weight (scores q (rows kc k)) (ix5 b g j s i) = Ideal.exp (X i - M) := by
    intro i
    rw [weight_apply, top_apply, hM, hX]
  refine Finset.sum_congr rfl fun i _ => ?_
  rw [probs_apply, w, hD]
  simp only [w]

end Cert.FullRefIdeal.Out
end
-- ==== Proof.FullMath.lean ====
/- One row of a softmax, taken in two ways over the extended reals: the exponentials of the scores less their largest,
   divided by their sum before the values are weighted; and powers of two of the scores scaled by 1/ln 2, whose weighted sum
   is multiplied by the inverse of their sum. The scores are real, the values anything. -/
module

public import proofs.«01_k».proof.Proof.WinMath

@[expose] public section

noncomputable section

namespace Cert.FullMath

open Idealize.ShloMosaic Cert.WinMath

/-- A power of two of a scaled real is its exponential. -/
theorem exp2_lam (a : ℝ) : Ideal.exp2 ((a * lam : ℝ) : EReal) = ((Real.exp a : ℝ) : EReal) := by
  have h := exp2_scaled a 0
  rw [zero_mul, EReal.coe_zero, sub_zero, sub_zero, Ideal.exp_coe] at h
  exact h

/-- The two ways agree. -/
theorem softmax_eq {n : ℕ} (i0 : Fin n) (X X' V : Fin n → EReal) (hX : ∀ i, ∃ a : ℝ, X i = (a : EReal) ∧ X' i = ((a * lam : ℝ) : EReal))
    (M D : EReal) (hM : M = Finset.univ.sup X) (hD : D = ∑ i, Ideal.exp (X i - M)) :
    (∑ i, Ideal.exp2 (X' i) * V i) * Ideal.div 1 (∑ i, Ideal.exp2 (X' i)) = ∑ i, V i * Ideal.div (Ideal.exp (X i - M)) D := by
  choose a ha ha' using hX
  have hbot : M ≠ ⊥ := by
    rw [hM]
    refine ne_of_gt (lt_of_lt_of_le (EReal.bot_lt_coe (a i0)) ?_)
    rw [← ha]
    exact Finset.le_sup (Finset.mem_univ i0)
  have htop : M ≠ ⊤ := by
    rw [hM]
    refine ne_of_lt ((Finset.sup_lt_iff bot_lt_top).2 fun i _ => ?_)
    rw [ha]
    exact EReal.coe_lt_top _
  obtain ⟨μ, hμ⟩ : ∃ μ : ℝ, M = (μ : EReal) := ⟨M.toReal, (EReal.coe_toReal htop hbot).symm⟩
  have e2 : ∀ i, Ideal.exp2 (X' i) = ((Real.exp (a i) : ℝ) : EReal) := fun i => by rw [ha', exp2_lam]
  have e1 : ∀ i, Ideal.exp (X i - M) = ((Real.exp (a i) * Real.exp (-μ) : ℝ) : EReal) := fun i => by
    rw [ha, hμ, ← EReal.coe_sub, Ideal.exp_coe, sub_eq_add_neg, Real.exp_add]
  have hE : 0 < ∑ i, Real.exp (a i) := Finset.sum_pos (fun i _ => Real.exp_pos _) ⟨i0, Finset.mem_univ _⟩
  have hD' : D = (((∑ i, Real.exp (a i)) * Real.exp (-μ) : ℝ) : EReal) := by
    rw [hD, Finset.sum_congr rfl fun i _ => e1 i, sum_coe, Finset.sum_mul]
  have hS : (∑ i, Ideal.exp2 (X' i)) = ((∑ i, Real.exp (a i) : ℝ) : EReal) := by
    rw [Finset.sum_congr rfl fun i _ => e2 i, sum_coe]
  rw [hS, hD']
  generalize ∑ i, Real.exp (a i) = E at hE
  have hm := Real.exp_pos (-μ)
  rw [Ideal.div_coe hE.ne', one_mul, sum_mul_real _ _ _ (one_div_pos.2 hE).le]
  refine Finset.sum_congr rfl fun i _ => ?_
  rw [Ideal.div_coe (mul_pos hE hm).ne', e1, e2, ← EReal.coe_mul, mul_comm (Real.exp (a i) : EReal) (V i), mul_assoc, ← EReal.coe_mul]
  congr 2
  field_simp

/-- A sum over 4352 places: the first 256 and the others. -/
theorem sum_split (f : Fin 4352 → EReal) :
    ∑ i, f i = ∑ u : Fin 256, f ⟨u.val, by omega⟩ + ∑ t : Fin 4096, f ⟨256 + t.val, by omega⟩ := by
  have e : (∑ i : Fin (256 + 4096), f i) = ∑ u : Fin 256, f ⟨u.val, by omega⟩ + ∑ t : Fin 4096, f ⟨256 + t.val, by omega⟩ := by
    rw [Fin.sum_univ_add]
    rfl
  exact e

end Cert.FullMath
end
-- ==== Proof.FullRow.lean ====
/- One row of the full attention: where the scores are finite the kernel's quotient of sums of powers of two is the
   reference's softmax of the row. -/
module

public import proofs.«01_k».proof.Proof.FullStack
public import proofs.«01_k».proof.Proof.FullRef
public import proofs.«01_k».proof.Proof.FullMath

@[expose] public section

set_option maxRecDepth 16384

noncomputable section

namespace Cert.FullIdeal.Body

open Cert.FullIdeal Cert.FullIdeal.Gen Idealize.ShloMosaic Idealize.ShloMosaic.TcCoe Idealize.SL.Sem Cert.WinMath Cert.FullMath
open Cert.FullRefIdeal.Out (term term_row rows scores rows_apply scores_apply)

theorem qm_val : qm = (((8 * Real.log 2)⁻¹ : ℝ) : EReal) :=
  IdealRules.named_const.ideal_named_scalar _ _ _ _ rfl

theorem eighth : Ideal.ofBits FTy.f32 0x3E000000#32 = ((1 / 8 : ℝ) : EReal) := by
  simp [Ideal.ofBits, Ideal.ieee, -EReal.coe_mul]
  norm_num

/-- A score as the kernel scales it is the reference's times 1 / ln 2. -/
theorem scaled (q k : Fin 64 → ℝ) :
    ∃ a : ℝ, (∑ d, ((k d : ℝ) : EReal) * ((q d : ℝ) : EReal)) * Ideal.ofBits FTy.f32 0x3E000000#32 = (a : EReal)
      ∧ (∑ d, ((q d : ℝ) : EReal) * qm * ((k d : ℝ) : EReal)) = ((a * lam : ℝ) : EReal) := by
  refine ⟨(∑ d, k d * q d) * (1 / 8), ?_, ?_⟩
  · rw [eighth]
    simp only [← EReal.coe_mul]
    rw [sum_coe, ← EReal.coe_mul]
  · rw [qm_val]
    simp only [← EReal.coe_mul]
    rw [sum_coe]
    congr 1
    rw [Finset.sum_mul, Finset.sum_mul]
    refine Finset.sum_congr rfl fun d _ => ?_
    rw [lam, mul_inv]
    ring

variable (q : FVec Ideal S4x4096x512 .f32) (k v : FVec Ideal S4x4096x128 .f32) (kc vc : FVec Ideal S4x256x128 .f32)

/-- The kernel's block at a row and a column, on blocks that hold the arrays' rows, is the reference's result there. -/
theorem body_term (qr : S4x4096x512.Idx → ℝ) (kr : S4x4096x128.Idx → ℝ) (kcr : S4x256x128.Idx → ℝ)
    (hq : ∀ i, q i = ((qr i : ℝ) : EReal)) (hk : ∀ i, k i = ((kr i : ℝ) : EReal)) (hkc : ∀ i, kc i = ((kcr i : ℝ) : EReal))
    (x0 : Vec Ideal S1x512x512 .f32) (x1 x2 : Vec Ideal S1x4096x256 .bf16) (x3 x4 : Vec Ideal S1x256x256 .bf16) (b : Fin 4) (n : Fin 8)
    (h0 : ∀ (r : Fin 512) (c : Fin 512), x0 (ix3 0 r c) = q (ix3 b (⟨n.val * 512 + r.val, by omega⟩ : Fin 4096) c))
    (h1 : ∀ (t : Fin 4096) (l : Fin 256), x1 (ix3 0 t l) = k (ix3 b t (⟨l.val / 128 * 64 + l.val % 64, by omega⟩ : Fin 128)))
    (h2 : ∀ (t : Fin 4096) (l : Fin 256), x2 (ix3 0 t l) = v (ix3 b t (⟨l.val / 128 * 64 + l.val % 64, by omega⟩ : Fin 128)))
    (h3 : ∀ (u l : Fin 256), x3 (ix3 0 u l) = kc (ix3 b u (⟨l.val / 128 * 64 + l.val % 64, by omega⟩ : Fin 128)))
    (h4 : ∀ (u l : Fin 256), x4 (ix3 0 u l) = vc (ix3 b u (⟨l.val / 128 * 64 + l.val % 64, by omega⟩ : Fin 128)))
    (r : Fin 512) (c : Fin 512) :
    body x0 x1 x2 x3 x4 (ix3 0 r c) = term q k v kc vc (ix3 b (⟨n.val * 512 + r.val, by omega⟩ : Fin 4096) c) := by
  have hc := c.isLt
  have hn := n.isLt
  have hr := r.isLt
  obtain ⟨g, hg⟩ : ∃ g : Fin 2, g.val = c.val / 256 := ⟨⟨c.val / 256, by omega⟩, rfl⟩
  obtain ⟨j, hj⟩ : ∃ j : Fin 4, j.val = c.val / 64 % 4 := ⟨⟨c.val / 64 % 4, by omega⟩, rfl⟩
  obtain ⟨d, hd⟩ : ∃ d : Fin 64, d.val = c.val % 64 := ⟨⟨c.val % 64, by omega⟩, rfl⟩
  have hg' := g.isLt
  have hj' := j.isLt
  have hd' := d.isLt
  have lane : ∀ x : Fin 64, (⟨(g.val * 128 + (j.val % 2 * 64 + x.val)) / 128 * 64 + (g.val * 128 + (j.val % 2 * 64 + x.val)) % 64, by omega⟩ : Fin 128)
      = ⟨g.val * 64 + x.val, by omega⟩ := fun x => Fin.ext (by dsimp only; omega)
  have vlane : (⟨(g.val * 128 + d.val) / 128 * 64 + (g.val * 128 + d.val) % 64, by omega⟩ : Fin 128) = ⟨g.val * 64 + d.val, by omega⟩ :=
    Fin.ext (by dsimp only; omega)
  -- the scores as the kernel scales them and the values, over the joined places
  let X' : Fin 4352 → EReal := fun i => if h : i.val < 256 then
      ∑ x : Fin 64, q (ix3 b (⟨n.val * 512 + r.val, by omega⟩ : Fin 4096) (⟨g.val * 256 + j.val * 64 + x.val, by omega⟩ : Fin 512)) * qm *
        kc (ix3 b ⟨i.val, h⟩ (⟨g.val * 64 + x.val, by omega⟩ : Fin 128))
    else ∑ x : Fin 64, q (ix3 b (⟨n.val * 512 + r.val, by omega⟩ : Fin 4096) (⟨g.val * 256 + j.val * 64 + x.val, by omega⟩ : Fin 512)) * qm *
        k (ix3 b ⟨i.val - 256, by omega⟩ (⟨g.val * 64 + x.val, by omega⟩ : Fin 128))
  let W : Fin 4352 → EReal := fun i => rows vc v (ix4 b i g d)
  have hX : ∀ i, ∃ a : ℝ, scores q (rows kc k) (ix5 b g j (⟨n.val * 512 + r.val, by omega⟩ : Fin 4096) i) = (a : EReal) ∧ X' i = ((a * lam : ℝ) : EReal) := by
    intro i
    rw [scores_apply]
    by_cases h : i.val < 256
    · obtain ⟨a, ha, ha'⟩ := scaled (fun x => qr (ix3 b (⟨n.val * 512 + r.val, by omega⟩ : Fin 4096) (⟨g.val * 256 + j.val * 64 + x.val, by omega⟩ : Fin 512)))
        (fun x => kcr (ix3 b ⟨i.val, h⟩ (⟨g.val * 64 + x.val, by omega⟩ : Fin 128)))
      refine ⟨a, ?_, ?_⟩
      · simp only [rows_apply, dif_pos h, hkc, hq]
        exact ha
      · simp only [X', dif_pos h, hkc, hq]
        exact ha'
    · obtain ⟨a, ha, ha'⟩ := scaled (fun x => qr (ix3 b (⟨n.val * 512 + r.val, by omega⟩ : Fin 4096) (⟨g.val * 256 + j.val * 64 + x.val, by omega⟩ : Fin 512)))
        (fun x => kr (ix3 b ⟨i.val - 256, by omega⟩ (⟨g.val * 64 + x.val, by omega⟩ : Fin 128)))
      refine ⟨a, ?_, ?_⟩
      · simp only [rows_apply, dif_neg h, hk, hq]
        exact ha
      · simp only [X', dif_neg h, hk, hq]
        exact ha'
  rw [term_row q k v kc vc b _ c g j d hg hj hd _ _ _ rfl rfl rfl, ← softmax_eq ⟨0, by omega⟩ _ X' W hX _ _ rfl rfl]
  unfold body
  rw [close_apply _ r c g j d hg hj hd]
  have eC : ∀ u : Fin 256, (∑ l' : Fin 128, stack g x0 (ix2 (⟨j.val * 512 + r.val, by omega⟩ : Fin 2048) l') * x3 (ix3 0 u ⟨g.val * 128 + l'.val, by omega⟩))
      = X' ⟨u.val, by omega⟩ := fun u => by
    rw [dot_apply g x0 j r (fun l' => x3 (ix3 0 u ⟨g.val * 128 + l'.val, by omega⟩))]
    simp only [h3, lane, h0]
    simp only [X', dif_pos u.isLt]
  have eL : ∀ t : Fin 4096, (∑ l' : Fin 128, stack g x0 (ix2 (⟨j.val * 512 + r.val, by omega⟩ : Fin 2048) l') * x1 (ix3 0 t ⟨g.val * 128 + l'.val, by omega⟩))
      = X' ⟨256 + t.val, by omega⟩ := fun t => by
    rw [dot_apply g x0 j r (fun l' => x1 (ix3 0 t ⟨g.val * 128 + l'.val, by omega⟩))]
    simp only [h1, lane, h0]
    have ht : ¬(256 + t.val < 256) := by omega
    have et : ∀ h, (⟨256 + t.val - 256, h⟩ : Fin 4096) = t := fun h => Fin.ext (by dsimp only; omega)
    simp only [X', dif_neg ht, et]
  have vC : ∀ u : Fin 256, x4 (ix3 0 u ⟨g.val * 128 + d.val, by omega⟩) = W ⟨u.val, by omega⟩ := fun u => by
    rw [h4, vlane]
    simp only [W, rows_apply, dif_pos u.isLt]
  have vL : ∀ t : Fin 4096, x2 (ix3 0 t ⟨g.val * 128 + d.val, by omega⟩) = W ⟨256 + t.val, by omega⟩ := fun t => by
    rw [h2, vlane]
    have ht : ¬(256 + t.val < 256) := by omega
    have et : ∀ h, (⟨256 + t.val - 256, h⟩ : Fin 4096) = t := fun h => Fin.ext (by dsimp only; omega)
    simp only [W, rows_apply, dif_neg ht, et]
  have num : pick g (state (stack 0 x0) (stack 1 x0) x1 x2 (start (stack 0 x0) (stack 1 x0) x3 x4) k0_t1_loop.trips) (ix2 (⟨j.val * 512 + r.val, by omega⟩ : Fin 2048) ⟨d.val, by omega⟩)
      = ∑ i, Ideal.exp2 (X' i) * W i := by
    have hl : ((⟨d.val, by omega⟩ : Fin 128)).val < 64 := hd'
    rw [final_apply, start_apply, Cert.FullMath.sum_split]
    unfold share
    simp only [eC, eL, if_pos hd', vC, vL]
  have den : pick g (state (stack 0 x0) (stack 1 x0) x1 x2 (start (stack 0 x0) (stack 1 x0) x3 x4) k0_t1_loop.trips) (ix2 (⟨j.val * 512 + r.val, by omega⟩ : Fin 2048) ⟨d.val + 64, by omega⟩)
      = ∑ i, Ideal.exp2 (X' i) := by
    have hl : ¬(d.val + 64 < 64) := by omega
    rw [final_apply, start_apply, Cert.FullMath.sum_split]
    unfold share
    simp only [eC, eL, if_neg hl, mul_one]
  refine congrArg₂ (fun x y : EReal => x * Ideal.div 1 y) ?_ ?_
  · exact num
  · exact den

end Cert.FullIdeal.Body
end
-- ==== Proof.FullValue.lean ====
/- The full attention's result array is the reference's value of its arguments where the scores are finite. -/
module

public import proofs.«01_k».proof.Proof.FullHost
public import proofs.«01_k».proof.Proof.FullRow
public import proofs.«01_k».proof.Proof.WinValue
public import proofs.«01_k».proof.Proof.Gen.Pre_finite_logits
public import proofs.«01_k».proof.Defs
public import Idealize.ShloMosaic.Lib.Pipeline.ValueKit.Geometry

@[expose] public section

set_option maxRecDepth 16384

noncomputable section

namespace Cert.FullIdeal.Run

open Cert.FullIdeal Cert.FullIdeal.Gen Idealize.ShloMosaic Idealize.ShloMosaic.TcCoe Idealize.SL.Sem Cert.FullIdeal.Body Cert.FullIdeal.Host
open Idealize.ShloMosaic.Pipeline (Dat Cfg Window)
open Cert.FullRefIdeal.Out (term)
open Cert.WinIdeal.Run (real_of_lt)

variable (m : (ℓ : Loc nD τ sig) → Buf (Elt Ideal) ℓ) (ρ : Dev nD → PrngReg)

/-- The arrays that make up the scores hold reals. -/
theorem reals (hp : Cert.Pre_FullIdeal_finite_logits (hPre_finite_logits := Cert.Pre_finite_logits.Gen.facts) m) (c : Dev nD) :
    (∀ i, ∃ a : ℝ, (m ((c.tc : Thread nD τ).loc main_arg0) : FVec Ideal S4x4096x512 .f32) i = (a : EReal))
    ∧ (∀ i, ∃ a : ℝ, (m ((c.tc : Thread nD τ).loc main_arg1) : FVec Ideal S4x4096x128 .f32) i = (a : EReal))
    ∧ (∀ i, ∃ a : ℝ, (m ((c.tc : Thread nD τ).loc main_arg3) : FVec Ideal S4x256x128 .f32) i = (a : EReal)) := by
  obtain ⟨h0, h1, h3⟩ := hp c
  exact ⟨fun i => real_of_lt _ (congrFun h0 i), fun i => real_of_lt _ (congrFun h1 i), fun i => real_of_lt _ (congrFun h3 i)⟩

/-- The reference's value of the kernel's own arguments. -/
def target (c : Dev nD) : FVec Ideal S4x4096x512 .bf16 :=
  term (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block of the result is the reference's rows of that block. -/
theorem out_apply (hp : Cert.Pre_FullIdeal_finite_logits (hPre_finite_logits := Cert.Pre_finite_logits.Gen.facts) m) (c : Dev nD)
    (t : Fin cfg0.N) (r : Fin 512) (q : Fin 512) :
    outsAt0 m c t (ix3 0 r q) = target m c (ix3 (⟨t.val / 8, by have := point_lt t; omega⟩ : Fin 4) (⟨t.val % 8 * 512 + r.val, by omega⟩ : Fin 4096) q) := by
  have ht := point_lt t
  obtain ⟨f0, f1, f3⟩ := reals m hp c
  choose qr hq using f0
  choose kr hk using f1
  choose kcr hkc using f3
  unfold outsAt0 target
  rw [out_eq]
  refine body_term _ _ _ _ _ qr kr kcr hq hk hkc _ _ _ _ _ ⟨t.val / 8, by omega⟩ ⟨t.val % 8, by omega⟩ ?_ ?_ ?_ ?_ ?_ r q
  · intro r c'
    rw [blk0, V_main_arg0]
  · intro u l
    rw [blk1, V3]
  · intro u l
    rw [blk2, V7]
  · intro u l
    rw [blk3, V11]
  · intro u l
    rw [blk4, V15]

/-- The same at any index of the block. -/
theorem out_emb (hp : Cert.Pre_FullIdeal_finite_logits (hPre_finite_logits := Cert.Pre_finite_logits.Gen.facts) m) (c : Dev nD)
    (t : Fin cfg0.N) (y : S1x512x512.Idx) : outsAt0 m c t y = target m c (((cfg0.win 5).blk t).view.emb y) := by
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out_apply m hp c t (y 1) (y 2)).trans (congrArg (target m c) (emb5 t 0 (y 1) (y 2)).symm)

/-- The result array at the end is the reference's value. -/
theorem final (hp : Cert.Pre_FullIdeal_finite_logits (hPre_finite_logits := Cert.Pre_finite_logits.Gen.facts) m) (c : Dev nD) :
    (dats m 0 c).arrAt 5 cfg0.N = target m c := by
  refine (dats m 0 c).arrAt_eq_of_emb 5 (target m c) (fun t _ y => ?_) cover5
  show (dats m 0 c).after 5 t y = _
  rw [after0_5]
  exact out_emb m hp c t y

end Cert.FullIdeal.Run
end
-- ==== Proof.ProjRef.lean ====
/- The projection's reference at an element: the modulated tokens, their product with the weights, and the rotation of the
   query and key heads, cut out of the composition of its operations and read at an index. -/
module

public import proofs.«01_k».proof.Proof.Gen.ProjRefIdeal.Run
public import Idealize.ShloMosaic.Lib.Pointwise

@[expose] public section

set_option maxRecDepth 16384

noncomputable section

namespace Cert.ProjRefIdeal.Out

open Cert.ProjRefIdeal Cert.ProjRefIdeal.Gen Cert.ProjRefIdeal.Value Idealize.ShloMosaic Idealize.ShloMosaic.TcCoe Idealize.SL.Sem

/-- The tokens, normalised and modulated. -/
def hidden (x : FVec Ideal S4x4096x1024 .f32) (g : FVec Ideal S1024 .f32) (sh sc : FVec Ideal S4x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x4096x1024 ![0, 1, 2] bcast_S4x1x1024_S4x4096x1024_0_1_2 (broadcastInDim S4x1x1024 ![0, 2] bcast_S4x1024_S4x1x1024_0_2 sh))

/-- Their product with the weights. -/
def product (x : FVec Ideal S4x4096x1024 .f32) (g : FVec Ideal S1024 .f32) (sh sc : FVec Ideal S4x1024 .f32) (w : FVec Ideal S1024x2304 .f32) :
    FVec Ideal S4x4096x2304 .f32 :=
  Host.dotGeneral dot_S4x4096x1024_S1024x2304_S4x4096x2304_2_0_01_1_n_n none (hidden x g sh sc) w

/-- The angles of the grid rows. -/
def rowAngles : FVec Ideal S4096x1x16 .f32 :=
  broadcastInDim S4096x1x16 ![0, 2] bcast_S4096x16_S4096x1x16_0_2 (mulf (broadcastInDim S4096x16 ![0, 1] bcast_S4096x1_S4096x16_0_1 (broadcastInDim S4096x1 ![0] bcast_S4096_S4096x1_0 (sitofp .f32 (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))

/-- The angles of the grid columns. -/
def colAngles : FVec Ideal S4096x1x16 .f32 :=
  broadcastInDim S4096x1x16 ![0, 2] bcast_S4096x16_S4096x1x16_0_2 (mulf (broadcastInDim S4096x16 ![0, 1] bcast_S4096x1_S4096x16_0_1 (broadcastInDim S4096x1 ![0] bcast_S4096_S4096x1_0 (sitofp .f32 (select (andi (cmpi .ne (cmpi .slt (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32))) (broadcastInDim S4096 ![] bcast_S_S4096 (cmpi .slt (select (cmpi .eq (id (constantI S_ 32 64#32)) (constantI S_ 32 0#32)) (constantI S_ 32 1#32) (id (constantI S_ 32 64#32))) (constantI S_ 32 0#32)))) (cmpi .ne (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32)))) (addi (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (select (cmpi .eq (id (constantI S_ 32 64#32)) (constantI S_ 32 0#32)) (constantI S_ 32 1#32) (id (constantI S_ 32 64#32))))) (Host.remsi (iotaInDim S4096 32 0) (broadcastInDim S4096 ![] bcast_S_S4096 (select (cmpi .eq (id (constantI S_ 32 64#32)) (constantI S_ 32 0#32)) (constantI S_ 32 1#32) (id (constantI S_ 32 64#32))))))))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))

/-- The eight query heads, turned. -/
def turned8 (z : FVec Ideal S4x4096x8x64 .f32) (r c : FVec Ideal S4096x1x16 .f32) : FVec Ideal S4x4096x512 .f32 :=
  shapeCast _ (concatenate S4x4096x8x64 3 [⟨S4x4096x8x32, (concatenate S4x4096x8x32 3 [⟨S4x4096x8x16, (subf (mulf (extractStridedSlice S4x4096x8x16 ![0, 0, 0, 0] (extractStridedSlice S4x4096x8x32 ![0, 0, 0, 0] z slices_S4x4096x8x64_S4x4096x8x32_0_0_0_0) slices_S4x4096x8x32_S4x4096x8x16_0_0_0_0) (broadcastInDim S4x4096x8x16 ![0, 1, 2, 3] bcast_S1x4096x1x16_S4x4096x8x16_0_1_2_3 (broadcastInDim S1x4096x1x16 ![1, 2, 3] bcast_S4096x1x16_S1x4096x1x16_1_2_3 (Host.cos r)))) (mulf (extractStridedSlice S4x4096x8x16 ![0, 0, 0, 16] (extractStridedSlice S4x4096x8x32 ![0, 0, 0, 0] z slices_S4x4096x8x64_S4x4096x8x32_0_0_0_0) slices_S4x4096x8x32_S4x4096x8x16_0_0_0_16) (broadcastInDim S4x4096x8x16 ![0, 1, 2, 3] bcast_S1x4096x1x16_S4x4096x8x16_0_1_2_3 (broadcastInDim S1x4096x1x16 ![1, 2, 3] bcast_S4096x1x16_S1x4096x1x16_1_2_3 (Host.sin r)))))⟩, ⟨S4x4096x8x16, (addf (mulf (extractStridedSlice S4x4096x8x16 ![0, 0, 0, 16] (extractStridedSlice S4x4096x8x32 ![0, 0, 0, 0] z slices_S4x4096x8x64_S4x4096x8x32_0_0_0_0) slices_S4x4096x8x32_S4x4096x8x16_0_0_0_16) (broadcastInDim S4x4096x8x16 ![0, 1, 2, 3] bcast_S1x4096x1x16_S4x4096x8x16_0_1_2_3 (broadcastInDim S1x4096x1x16 ![1, 2, 3] bcast_S4096x1x16_S1x4096x1x16_1_2_3 (Host.cos r)))) (mulf (extractStridedSlice S4x4096x8x16 ![0, 0, 0, 0] (extractStridedSlice S4x4096x8x32 ![0, 0, 0, 0] z slices_S4x4096x8x64_S4x4096x8x32_0_0_0_0) slices_S4x4096x8x32_S4x4096x8x16_0_0_0_0) (broadcastInDim S4x4096x8x16 ![0, 1, 2, 3] bcast_S1x4096x1x16_S4x4096x8x16_0_1_2_3 (broadcastInDim S1x4096x1x16 ![1, 2, 3] bcast_S4096x1x16_S1x4096x1x16_1_2_3 (Host.sin r)))))⟩] concatenates_S4x4096x8x16_S4x4096x8x16_S4x4096x8x32_d3)⟩, ⟨S4x4096x8x32, (concatenate S4x4096x8x32 3 [⟨S4x4096x8x16, (subf (mulf (extractStridedSlice S4x4096x8x16 ![0, 0, 0, 0] (extractStridedSlice S4x4096x8x32 ![0, 0, 0, 32] z slices_S4x4096x8x64_S4x4096x8x32_0_0_0_32) slices_S4x4096x8x32_S4x4096x8x16_0_0_0_0) (broadcastInDim S4x4096x8x16 ![0, 1, 2, 3] bcast_S1x4096x1x16_S4x4096x8x16_0_1_2_3 (broadcastInDim S1x4096x1x16 ![1, 2, 3] bcast_S4096x1x16_S1x4096x1x16_1_2_3 (Host.cos c)))) (mulf (extractStridedSlice S4x4096x8x16 ![0, 0, 0, 16] (extractStridedSlice S4x4096x8x32 ![0, 0, 0, 32] z slices_S4x4096x8x64_S4x4096x8x32_0_0_0_32) slices_S4x4096x8x32_S4x4096x8x16_0_0_0_16) (broadcastInDim S4x4096x8x16 ![0, 1, 2, 3] bcast_S1x4096x1x16_S4x4096x8x16_0_1_2_3 (broadcastInDim S1x4096x1x16 ![1, 2, 3] bcast_S4096x1x16_S1x4096x1x16_1_2_3 (Host.sin c)))))⟩, ⟨S4x4096x8x16, (addf (mulf (extractStridedSlice S4x4096x8x16 ![0, 0, 0, 16] (extractStridedSlice S4x4096x8x32 ![0, 0, 0, 32] z slices_S4x4096x8x64_S4x4096x8x32_0_0_0_32) slices_S4x4096x8x32_S4x4096x8x16_0_0_0_16) (broadcastInDim S4x4096x8x16 ![0, 1, 2, 3] bcast_S1x4096x1x16_S4x4096x8x16_0_1_2_3 (broadcastInDim S1x4096x1x16 ![1, 2, 3] bcast_S4096x1x16_S1x4096x1x16_1_2_3 (Host.cos c)))) (mulf (extractStridedSlice S4x4096x8x16 ![0, 0, 0, 0] (extractStridedSlice S4x4096x8x32 ![0, 0, 0, 32] z slices_S4x4096x8x64_S4x4096x8x32_0_0_0_32) slices_S4x4096x8x32_S4x4096x8x16_0_0_0_0) (broadcastInDim S4x4096x8x16 ![0, 1, 2, 3] bcast_S1x4096x1x16_S4x4096x8x16_0_1_2_3 (broadcastInDim S1x4096x1x16 ![1, 2, 3] bcast_S4096x1x16_S1x4096x1x16_1_2_3 (Host.sin c)))))⟩] concatenates_S4x4096x8x16_S4x4096x8x16_S4x4096x8x32_d3)⟩] concatenates_S4x4096x8x32_S4x4096x8x32_S4x4096x8x64_d3) shapeCasts_S4x4096x8x64_S4x4096x512

/-- The two key heads, turned. -/
def turned2 (z : FVec Ideal S4x4096x2x64 .f32) (r c : FVec Ideal S4096x1x16 .f32) : FVec Ideal S4x4096x2x64 .f32 :=
  concatenate S4x4096x2x64 3 [⟨S4x4096x2x32, (concatenate S4x4096x2x32 3 [⟨S4x4096x2x16, (subf (mulf (extractStridedSlice S4x4096x2x16 ![0, 0, 0, 0] (extractStridedSlice S4x4096x2x32 ![0, 0, 0, 0] z slices_S4x4096x2x64_S4x4096x2x32_0_0_0_0) slices_S4x4096x2x32_S4x4096x2x16_0_0_0_0) (broadcastInDim S4x4096x2x16 ![0, 1, 2, 3] bcast_S1x4096x1x16_S4x4096x2x16_0_1_2_3 (broadcastInDim S1x4096x1x16 ![1, 2, 3] bcast_S4096x1x16_S1x4096x1x16_1_2_3 (Host.cos r)))) (mulf (extractStridedSlice S4x4096x2x16 ![0, 0, 0, 16] (extractStridedSlice S4x4096x2x32 ![0, 0, 0, 0] z slices_S4x4096x2x64_S4x4096x2x32_0_0_0_0) slices_S4x4096x2x32_S4x4096x2x16_0_0_0_16) (broadcastInDim S4x4096x2x16 ![0, 1, 2, 3] bcast_S1x4096x1x16_S4x4096x2x16_0_1_2_3 (broadcastInDim S1x4096x1x16 ![1, 2, 3] bcast_S4096x1x16_S1x4096x1x16_1_2_3 (Host.sin r)))))⟩, ⟨S4x4096x2x16, (addf (mulf (extractStridedSlice S4x4096x2x16 ![0, 0, 0, 16] (extractStridedSlice S4x4096x2x32 ![0, 0, 0, 0] z slices_S4x4096x2x64_S4x4096x2x32_0_0_0_0) slices_S4x4096x2x32_S4x4096x2x16_0_0_0_16) (broadcastInDim S4x4096x2x16 ![0, 1, 2, 3] bcast_S1x4096x1x16_S4x4096x2x16_0_1_2_3 (broadcastInDim S1x4096x1x16 ![1, 2, 3] bcast_S4096x1x16_S1x4096x1x16_1_2_3 (Host.cos r)))) (mulf (extractStridedSlice S4x4096x2x16 ![0, 0, 0, 0] (extractStridedSlice S4x4096x2x32 ![0, 0, 0, 0] z slices_S4x4096x2x64_S4x4096x2x32_0_0_0_0) slices_S4x4096x2x32_S4x4096x2x16_0_0_0_0) (broadcastInDim S4x4096x2x16 ![0, 1, 2, 3] bcast_S1x4096x1x16_S4x4096x2x16_0_1_2_3 (broadcastInDim S1x4096x1x16 ![1, 2, 3] bcast_S4096x1x16_S1x4096x1x16_1_2_3 (Host.sin r)))))⟩] concatenates_S4x4096x2x16_S4x4096x2x16_S4x4096x2x32_d3)⟩, ⟨S4x4096x2x32, (concatenate S4x4096x2x32 3 [⟨S4x4096x2x16, (subf (mulf (extractStridedSlice S4x4096x2x16 ![0, 0, 0, 0] (extractStridedSlice S4x4096x2x32 ![0, 0, 0, 32] z slices_S4x4096x2x64_S4x4096x2x32_0_0_0_32) slices_S4x4096x2x32_S4x4096x2x16_0_0_0_0) (broadcastInDim S4x4096x2x16 ![0, 1, 2, 3] bcast_S1x4096x1x16_S4x4096x2x16_0_1_2_3 (broadcastInDim S1x4096x1x16 ![1, 2, 3] bcast_S4096x1x16_S1x4096x1x16_1_2_3 (Host.cos c)))) (mulf (extractStridedSlice S4x4096x2x16 ![0, 0, 0, 16] (extractStridedSlice S4x4096x2x32 ![0, 0, 0, 32] z slices_S4x4096x2x64_S4x4096x2x32_0_0_0_32) slices_S4x4096x2x32_S4x4096x2x16_0_0_0_16) (broadcastInDim S4x4096x2x16 ![0, 1, 2, 3] bcast_S1x4096x1x16_S4x4096x2x16_0_1_2_3 (broadcastInDim S1x4096x1x16 ![1, 2, 3] bcast_S4096x1x16_S1x4096x1x16_1_2_3 (Host.sin c)))))⟩, ⟨S4x4096x2x16, (addf (mulf (extractStridedSlice S4x4096x2x16 ![0, 0, 0, 16] (extractStridedSlice S4x4096x2x32 ![0, 0, 0, 32] z slices_S4x4096x2x64_S4x4096x2x32_0_0_0_32) slices_S4x4096x2x32_S4x4096x2x16_0_0_0_16) (broadcastInDim S4x4096x2x16 ![0, 1, 2, 3] bcast_S1x4096x1x16_S4x4096x2x16_0_1_2_3 (broadcastInDim S1x4096x1x16 ![1, 2, 3] bcast_S4096x1x16_S1x4096x1x16_1_2_3 (Host.cos c)))) (mulf (extractStridedSlice S4x4096x2x16 ![0, 0, 0, 0] (extractStridedSlice S4x4096x2x32 ![0, 0, 0, 32] z slices_S4x4096x2x64_S4x4096x2x32_0_0_0_32) slices_S4x4096x2x32_S4x4096x2x16_0_0_0_0) (broadcastInDim S4x4096x2x16 ![0, 1, 2, 3] bcast_S1x4096x1x16_S4x4096x2x16_0_1_2_3 (broadcastInDim S1x4096x1x16 ![1, 2, 3] bcast_S4096x1x16_S1x4096x1x16_1_2_3 (Host.sin c)))))⟩] concatenates_S4x4096x2x16_S4x4096x2x16_S4x4096x2x32_d3)⟩] concatenates_S4x4096x2x32_S4x4096x2x32_S4x4096x2x64_d3

/-- Two heads, each handed on twice. -/
def twice (z : FVec Ideal S4x4096x2x64 .f32) : FVec Ideal S4x4096x256 .bf16 :=
  truncf .bf16 (shapeCast _ ((concatenate S4x4096x4x64 2 [⟨S4x4096x1x64, ((extractStridedSlice S4x4096x1x64 ![0, 0, 0, 0] (z) slices_S4x4096x2x64_S4x4096x1x64_0_0_0_0))⟩, ⟨S4x4096x1x64, ((extractStridedSlice S4x4096x1x64 ![0, 0, 0, 0] (z) slices_S4x4096x2x64_S4x4096x1x64_0_0_0_0))⟩, ⟨S4x4096x1x64, ((extractStridedSlice S4x4096x1x64 ![0, 0, 1, 0] (z) slices_S4x4096x2x64_S4x4096x1x64_0_0_1_0))⟩, ⟨S4x4096x1x64, ((extractStridedSlice S4x4096x1x64 ![0, 0, 1, 0] (z) slices_S4x4096x2x64_S4x4096x1x64_0_0_1_0))⟩] concatenates_S4x4096x1x64_S4x4096x1x64_S4x4096x1x64_S4x4096x1x64_S4x4096x4x64_d2)) shapeCasts_S4x4096x4x64_S4x4096x256) bitsLt_bf16_f32

/-- The indices that a reduction over the last of three axes reads for one result. -/
theorem fiber {n0 n1 n2 : ℕ} (h : (⟨3, ![n0, n1, n2]⟩ : Shape).ReducesTo [2] ⟨2, ![n0, n1]⟩)
    (b : Fin n0) (s : Fin n1) (i : (⟨3, ![n0, n1, n2]⟩ : Shape).Idx) : h.drop i = ix2 b s ↔ ∃ t : Fin n2, ix3 b s t = i := by
  constructor
  · intro e
    refine ⟨i 2, ?_⟩
    funext a; apply Fin.ext
    match a with
    | ⟨0, _⟩ => exact (congrArg Fin.val (congrFun e ⟨0, Nat.lt_of_sub_eq_succ rfl⟩)).symm
    | ⟨1, _⟩ => exact (congrArg Fin.val (congrFun e ⟨1, Nat.lt_of_sub_eq_succ rfl⟩)).symm
    | ⟨2, _⟩ => rfl
  · rintro ⟨t, rfl⟩
    funext a
    apply Fin.ext
    match a with
    | ⟨0, _⟩ => rfl
    | ⟨1, _⟩ => rfl

/-- A sum over the last of three axes. -/
theorem reduce_sum {n0 n1 n2 : ℕ} (h : (⟨3, ![n0, n1, n2]⟩ : Shape).ReducesTo [2] ⟨2, ![n0, n1]⟩)
    (y : FVec Ideal ⟨3, ![n0, n1, n2]⟩ .f32) (b : Fin n0) (s : Fin n1) :
    Ideal.hostReduceAdd h y 0 (ix2 b s) = ∑ t : Fin n2, y (ix3 b s t) := by
  unfold Ideal.hostReduceAdd
  rw [zero_add]
  exact Finset.sum_filter_eq_sum_of_fiber _ _ (fun t t' e => congrFun e 2) (fiber _ b s) _

/-- One row of tokens, normalised and modulated: the row over the root of its mean square, times the gain and one plus the
    scale, plus the shift. -/
def row (x g sh sc : Fin 1024 → EReal) (k : Fin 1024) : EReal :=
  x k * Ideal.rsqrt (Ideal.div (∑ t : Fin 1024, x t * x t) (Ideal.ofBits FTy.f32 0x44800000#32) + Ideal.ofBits FTy.f32 0x358637BD#32) * g k *
    (Ideal.ofBits FTy.f32 0x3F800000#32 + sc k) + sh k

/-- The normalised and modulated tokens at an element. -/
theorem hidden_apply (x : FVec Ideal S4x4096x1024 .f32) (g : FVec Ideal S1024 .f32) (sh sc : FVec Ideal S4x1024 .f32) (b : Fin 4) (s : Fin 4096) (k : Fin 1024) :
    hidden x g sh sc (ix3 b s k) = row (fun t => x (ix3 b s t)) (fun t => g (ix1 t)) (fun t => sh (ix2 b t)) (fun t => sc (ix2 b t)) k := by
  unfold row
  have e := reduce_sum reducesTo_S4x4096x1024_S4x4096_d2 (mulf x x) b s
  have h : hidden x g sh sc (ix3 b s k) = x (ix3 b s k) * Ideal.rsqrt (Ideal.div (Ideal.hostReduceAdd reducesTo_S4x4096x1024_S4x4096_d2 (mulf x x) 0 (ix2 b s)) (Ideal.ofBits FTy.f32 0x44800000#32) + Ideal.ofBits FTy.f32 0x358637BD#32) * g (ix1 k) *
    (Ideal.ofBits FTy.f32 0x3F800000#32 + sc (ix2 b k)) + sh (ix2 b k) := by
    pointwise [hidden, id]
  rw [h, e]
  rfl

/-- The product at an element. -/
theorem product_apply (x : FVec Ideal S4x4096x1024 .f32) (g : FVec Ideal S1024 .f32) (sh sc : FVec Ideal S4x1024 .f32) (w : FVec Ideal S1024x2304 .f32)
    (b : Fin 4) (s : Fin 4096) (c : Fin 2304) :
    product x g sh sc w (ix3 b s c)
      = ∑ k : Fin 1024, row (fun t => x (ix3 b s t)) (fun t => g (ix1 t)) (fun t => sh (ix2 b t)) (fun t => sc (ix2 b t)) k * w (ix2 k c) := by
  have h : product x g sh sc w (ix3 b s c) = ∑ k : Fin 1024, hidden x g sh sc (ix3 b s k) * w (ix2 k c) := by
    unfold product
    generalize hidden x g sh sc = y
    pointwise
  rw [h]
  simp only [hidden_apply]

/-- One head turned: of the first 32 columns the two halves are turned by the angles `r`, of the last 32 by the angles `c`. -/
def headTurn (p : Fin 64 → EReal) (r c : Fin 16 → EReal) (d : Fin 64) : EReal :=
  if h : d.val < 32 then
    if h' : d.val < 16 then p d * Ideal.cos (r ⟨d.val, h'⟩) - p ⟨16 + d.val, by omega⟩ * Ideal.sin (r ⟨d.val, h'⟩)
    else p d * Ideal.cos (r ⟨d.val - 16, by omega⟩) + p ⟨d.val - 16, by omega⟩ * Ideal.sin (r ⟨d.val - 16, by omega⟩)
  else
    if h' : d.val - 32 < 16 then p d * Ideal.cos (c ⟨d.val - 32, h'⟩) - p ⟨16 + d.val, by omega⟩ * Ideal.sin (c ⟨d.val - 32, h'⟩)
    else p d * Ideal.cos (c ⟨d.val - 32 - 16, by omega⟩) + p ⟨d.val - 16, by omega⟩ * Ideal.sin (c ⟨d.val - 32 - 16, by omega⟩)

/-- Places of a head that agree read the same. -/
theorem at_eq (p : Fin 64 → EReal) {i j : ℕ} (hi : i < 64) (hj : j < 64) (e : i = j) : p ⟨i, hi⟩ = p ⟨j, hj⟩ := by subst e; rfl

/-- The turned head, as the concatenations leave it. -/
theorem headTurn_eq (p : Fin 64 → EReal) (r c : Fin 16 → EReal) (d : ℕ) (hd : d < 64) :
    (if h : d < 32 then
      if h' : d < 16 then p ⟨d, hd⟩ * Ideal.cos (r ⟨d, h'⟩) - p ⟨16 + d, by omega⟩ * Ideal.sin (r ⟨d, h'⟩)
      else p ⟨16 + (d - 16), by omega⟩ * Ideal.cos (r ⟨d - 16, by omega⟩) + p ⟨d - 16, by omega⟩ * Ideal.sin (r ⟨d - 16, by omega⟩)
    else
      if h' : d - 32 < 16 then p ⟨32 + (d - 32), by omega⟩ * Ideal.cos (c ⟨d - 32, h'⟩) - p ⟨32 + (16 + (d - 32)), by omega⟩ * Ideal.sin (c ⟨d - 32, h'⟩)
      else p ⟨32 + (16 + (d - 32 - 16)), by omega⟩ * Ideal.cos (c ⟨d - 32 - 16, by omega⟩) + p ⟨32 + (d - 32 - 16), by omega⟩ * Ideal.sin (c ⟨d - 32 - 16, by omega⟩))
      = headTurn p r c ⟨d, hd⟩ := by
  unfold headTurn
  by_cases h : d < 32
  · by_cases h' : d < 16
    · rw [dif_pos h, dif_pos h', dif_pos h, dif_pos h']
    · rw [dif_pos h, dif_neg h', dif_pos h, dif_neg h', at_eq p (i := 16 + (d - 16)) (j := d) _ hd (by omega)]
  · by_cases h' : d - 32 < 16
    · rw [dif_neg h, dif_pos h', dif_neg h, dif_pos h', at_eq p (i := 32 + (d - 32)) (j := d) _ hd (by omega),
        at_eq p (i := 32 + (16 + (d - 32))) (j := 16 + d) _ (by omega) (by omega)]
    · rw [dif_neg h, dif_neg h', dif_neg h, dif_neg h', at_eq p (i := 32 + (16 + (d - 32 - 16))) (j := d) _ hd (by omega),
        at_eq p (i := 32 + (d - 32 - 16)) (j := d - 16) _ (by omega) (by omega)]

/-- The turned query heads at an element. -/
theorem turned8_apply (z : FVec Ideal S4x4096x8x64 .f32) (r c : FVec Ideal S4096x1x16 .f32) (b : Fin 4) (s : Fin 4096) (l : Fin 512) :
    turned8 z r c (ix3 b s l) = headTurn (fun d => z (ix4 b s (⟨l.val / 64, by omega⟩ : Fin 8) d)) (fun i => r (ix3 s 0 i)) (fun i => c (ix3 s 0 i))
      ⟨l.val % 64, by omega⟩ := by
  rw [← headTurn_eq]
  pointwise [turned8, id]

/-- The turned key heads at an element. -/
theorem turned2_apply (z : FVec Ideal S4x4096x2x64 .f32) (r c : FVec Ideal S4096x1x16 .f32) (b : Fin 4) (s : Fin 4096) (h : Fin 2) (d : Fin 64) :
    turned2 z r c (ix4 b s h d) = headTurn (fun d => z (ix4 b s h d)) (fun i => r (ix3 s 0 i)) (fun i => c (ix3 s 0 i)) d := by
  refine Eq.trans ?_ (headTurn_eq _ _ _ d.val d.isLt)
  pointwise [turned2, id]

/-- The doubled heads at an element. -/
theorem twice_apply (z : FVec Ideal S4x4096x2x64 .f32) (b : Fin 4) (s : Fin 4096) (l : Fin 256) :
    twice z (ix3 b s l) = z (ix4 b s (⟨l.val / 128, by omega⟩ : Fin 2) (⟨l.val % 64, by omega⟩ : Fin 64)) := by
  have hl := l.isLt
  have key : ∀ (i : ℕ) (hi : i < 2), i = l.val / 128 → z (ix4 b s (⟨i, hi⟩ : Fin 2) (⟨l.val % 64, by omega⟩ : Fin 64)) =
      z (ix4 b s (⟨l.val / 128, by omega⟩ : Fin 2) (⟨l.val % 64, by omega⟩ : Fin 64)) := by
    intro i hi e
    subst e
    rfl
  pointwise [twice, id]
  split_ifs <;> exact key _ _ (by omega)

/-- The results as functions of the five arguments. -/
def query (x : FVec Ideal S4x4096x1024 .f32) (g : FVec Ideal S1024 .f32) (sh sc : FVec Ideal S4x1024 .f32) (w : FVec Ideal S1024x2304 .f32) : FVec Ideal S4x4096x512 .f32 :=
  turned8 (shapeCast _ (extractStridedSlice S4x4096x512 ![0, 0, 0] (product x g sh sc w) slices_S4x4096x2304_S4x4096x512_0_0_0) shapeCasts_S4x4096x512_S4x4096x8x64) rowAngles colAngles
/-- The keys. -/
def key (x : FVec Ideal S4x4096x1024 .f32) (g : FVec Ideal S1024 .f32) (sh sc : FVec Ideal S4x1024 .f32) (w : FVec Ideal S1024x2304 .f32) : FVec Ideal S4x4096x256 .bf16 :=
  twice (turned2 (shapeCast _ (extractStridedSlice S4x4096x128 ![0, 0, 512] (product x g sh sc w) slices_S4x4096x2304_S4x4096x128_0_0_512) shapeCasts_S4x4096x128_S4x4096x2x64) rowAngles colAngles)
/-- The values. -/
def value (x : FVec Ideal S4x4096x1024 .f32) (g : FVec Ideal S1024 .f32) (sh sc : FVec Ideal S4x1024 .f32) (w : FVec Ideal S1024x2304 .f32) : FVec Ideal S4x4096x256 .bf16 :=
  twice (shapeCast _ (extractStridedSlice S4x4096x128 ![0, 0, 640] (product x g sh sc w) slices_S4x4096x2304_S4x4096x128_0_0_640) shapeCasts_S4x4096x128_S4x4096x2x64)
/-- The neighbourhood's queries. -/
def query' (x : FVec Ideal S4x4096x1024 .f32) (g : FVec Ideal S1024 .f32) (sh sc : FVec Ideal S4x1024 .f32) (w : FVec Ideal S1024x2304 .f32) : FVec Ideal S4x4096x512 .f32 :=
  extractStridedSlice S4x4096x512 ![0, 0, 768] (product x g sh sc w) slices_S4x4096x2304_S4x4096x512_0_0_768
/-- The neighbourhood's keys. -/
def key' (x : FVec Ideal S4x4096x1024 .f32) (g : FVec Ideal S1024 .f32) (sh sc : FVec Ideal S4x1024 .f32) (w : FVec Ideal S1024x2304 .f32) : FVec Ideal S4x4096x512 .bf16 :=
  truncf .bf16 (extractStridedSlice S4x4096x512 ![0, 0, 1280] (product x g sh sc w) slices_S4x4096x2304_S4x4096x512_0_0_1280) bitsLt_bf16_f32
/-- The neighbourhood's values. -/
def value' (x : FVec Ideal S4x4096x1024 .f32) (g : FVec Ideal S1024 .f32) (sh sc : FVec Ideal S4x1024 .f32) (w : FVec Ideal S1024x2304 .f32) : FVec Ideal S4x4096x512 .bf16 :=
  truncf .bf16 (extractStridedSlice S4x4096x512 ![0, 0, 1792] (product x g sh sc w) slices_S4x4096x2304_S4x4096x512_0_0_1792) bitsLt_bf16_f32

/-- The element of the product at batch `b`, row `s` and column `c` of the weights. -/
def dotAt (x : FVec Ideal S4x4096x1024 .f32) (g : FVec Ideal S1024 .f32) (sh sc : FVec Ideal S4x1024 .f32) (w : FVec Ideal S1024x2304 .f32) (b : Fin 4) (s : Fin 4096) (c : Fin 2304) : EReal :=
  ∑ k : Fin 1024, row (fun t => x (ix3 b s t)) (fun t => g (ix1 t)) (fun t => sh (ix2 b t)) (fun t => sc (ix2 b t)) k * w (ix2 k c)

variable (x : FVec Ideal S4x4096x1024 .f32) (g : FVec Ideal S1024 .f32) (sh sc : FVec Ideal S4x1024 .f32) (w : FVec Ideal S1024x2304 .f32)
  (b : Fin 4) (s : Fin 4096)

/-- The queries at an element. -/
theorem query_apply (l : Fin 512) : query x g sh sc w (ix3 b s l)
    = headTurn (fun d => dotAt x g sh sc w b s ⟨l.val / 64 * 64 + d.val, by omega⟩) (fun i => rowAngles (ix3 s 0 i)) (fun i => colAngles (ix3 s 0 i)) ⟨l.val % 64, by omega⟩ := by
  unfold query
  rw [turned8_apply]
  refine congrArg (fun p => headTurn p _ _ _) (funext fun d => ?_)
  refine Eq.trans ?_ (product_apply x g sh sc w b s ⟨l.val / 64 * 64 + d.val, by omega⟩)
  generalize product x g sh sc w = y
  pointwise

/-- The keys at an element. -/
theorem key_apply (l : Fin 256) : key x g sh sc w (ix3 b s l)
    = headTurn (fun d => dotAt x g sh sc w b s ⟨512 + (l.val / 128 * 64 + d.val), by omega⟩) (fun i => rowAngles (ix3 s 0 i)) (fun i => colAngles (ix3 s 0 i)) ⟨l.val % 64, by omega⟩ := by
  unfold key
  rw [twice_apply, turned2_apply]
  refine congrArg (fun p => headTurn p _ _ _) (funext fun d => ?_)
  refine Eq.trans ?_ (product_apply x g sh sc w b s ⟨512 + (l.val / 128 * 64 + d.val), by omega⟩)
  generalize product x g sh sc w = y
  pointwise

/-- The values at an element. -/
theorem value_apply (l : Fin 256) : value x g sh sc w (ix3 b s l) = dotAt x g sh sc w b s ⟨640 + (l.val / 128 * 64 + l.val % 64), by omega⟩ := by
  unfold value
  rw [twice_apply]
  refine Eq.trans ?_ (product_apply x g sh sc w b s ⟨640 + (l.val / 128 * 64 + l.val % 64), by omega⟩)
  generalize product x g sh sc w = y
  pointwise

/-- The neighbourhood's queries at an element. -/
theorem query'_apply (l : Fin 512) : query' x g sh sc w (ix3 b s l) = dotAt x g sh sc w b s ⟨768 + l.val, by omega⟩ := by
  refine Eq.trans ?_ (product_apply x g sh sc w b s ⟨768 + l.val, by omega⟩)
  unfold query'
  generalize product x g sh sc w = y
  pointwise

/-- The neighbourhood's keys at an element. -/
theorem key'_apply (l : Fin 512) : key' x g sh sc w (ix3 b s l) = dotAt x g sh sc w b s ⟨1280 + l.val, by omega⟩ := by
  refine Eq.trans ?_ (product_apply x g sh sc w b s ⟨1280 + l.val, by omega⟩)
  unfold key'
  generalize product x g sh sc w = y
  pointwise

/-- The neighbourhood's values at an element. -/
theorem value'_apply (l : Fin 512) : value' x g sh sc w (ix3 b s l) = dotAt x g sh sc w b s ⟨1792 + l.val, by omega⟩ := by
  refine Eq.trans ?_ (product_apply x g sh sc w b s ⟨1792 + l.val, by omega⟩)
  unfold value'
  generalize product x g sh sc w = y
  pointwise

/-- What the run leaves are these functions of the arguments. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v97) = query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v173) = key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v181) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25) = query' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v182) = key' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v183) = value' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h0, h1, h2, h3, h4, h5, h6⟩ := h c
    exact ⟨⟨h0.trans rfl, h1.trans rfl, h2.trans rfl, h3.trans rfl, h4.trans rfl, h5.trans rfl⟩, h6⟩)
    (Cert.ProjRefIdeal.Value.run (F := Ideal) m ρ)

end Cert.ProjRefIdeal.Out
end
-- ==== Proof.ProjTables.lean ====
/- The arrays that the projection's launch reads: what the host operations before it leave, at an index. -/
module

public import proofs.«01_k».proof.Proof.Gen.ProjIdeal.Value
public import proofs.«01_k».proof.Proof.ProjRef
public import Idealize.ShloMosaic.Lib.StableHlo.ReadAt
public import Idealize.ShloMosaic.Lib.Pointwise
public import proofs.«01_k».proof.Proof.WinHost

@[expose] public section

set_option maxRecDepth 16384

noncomputable section

namespace Cert.ProjIdeal.Host

open Cert.ProjIdeal Cert.ProjIdeal.Gen Idealize.ShloMosaic Idealize.ShloMosaic.TcCoe Idealize.SL.Sem

/-- Operations one list after another. -/
theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

variable (m : (ℓ : Loc nD τ sig) → Buf (Elt Ideal) ℓ)

/-- The contents before the launch, stage by stage. -/
theorem stages (c : Dev nD) (b : Ref sig .tc) : V m c b =
    StableHlo.after hostOps0_4 (StableHlo.after hostOps0_3 (StableHlo.after hostOps0_2 (StableHlo.after hostOps0_1 (StableHlo.after hostOps0 (fun b => m (c, b)))))) (Proc.devRef .tc b) := by
  unfold V
  rw [List.flatten_cons, List.flatten_cons, List.flatten_cons, List.flatten_cons, List.flatten_cons, List.flatten_nil,
    after_append, after_append, after_append, after_append, List.append_nil]

variable (U : Valuation τ sig (Elt Ideal))

/-- The frequency of the place `i` of a quarter of a head. -/
def freq (i : ℕ) : EReal :=
  Ideal.pow (Ideal.ofBits FTy.f32 1176256512#32)
    (Ideal.div (-(Ideal.ofBits FTy.f32 1073741824#32 * FloatOps.sitofp (F := Ideal) FTy.f32 (BitVec.ofNat 32 i))) (Ideal.ofBits FTy.f32 1107296256#32))

/-- The grid row of a token, as the words compute it. -/
def rowPos (w z : BitVec 32) : EReal :=
  FloatOps.sitofp (F := Ideal) FTy.f32 (Scalar.select
    (IntOp.andi
      (IntOp.cmpi CmpIPredicate.ne (if w = 0 then 0 else if w.msb = true then -1 else 1 : BitVec 32) (if z = 0 then 0 else if z.msb = true then -1 else 1 : BitVec 32))
      (IntOp.cmpi CmpIPredicate.ne (IntOp.remsi ArithUnit.host w z) 0#32))
    (IntOp.subi (IntOp.divsi ArithUnit.host w z) 1#32)
    (IntOp.divsi ArithUnit.host w z))

/-- The grid column of a token, as the words compute it, from the divisor where it is not zero. -/
def colWord (w z : BitVec 32) : BitVec 32 :=
  Scalar.select
    (IntOp.andi
      (IntOp.cmpi CmpIPredicate.ne (IntOp.cmpi CmpIPredicate.slt (IntOp.remsi ArithUnit.host w z) 0#32) (IntOp.cmpi CmpIPredicate.slt z 0#32))
      (IntOp.cmpi CmpIPredicate.ne (IntOp.remsi ArithUnit.host w z) 0#32))
    (IntOp.addi (IntOp.remsi ArithUnit.host w z) z)
    (IntOp.remsi ArithUnit.host w z)

/-- The divisor, where it is not zero. -/
def unit' (z : BitVec 32) : BitVec 32 := Scalar.select (IntOp.cmpi CmpIPredicate.eq z 0#32) 1#32 z

/-- The reference's angle of a grid row. -/
theorem rowAngles_at (s : Fin 4096) (i : Fin 16) : Cert.ProjRefIdeal.Out.rowAngles (ix3 s 0 i) = rowPos (BitVec.ofNat 32 s.val) 64#32 * freq i.val := by
  pointwise [Cert.ProjRefIdeal.Out.rowAngles, id]
  rfl

/-- The reference's angle of a grid column. -/
theorem colAngles_at (s : Fin 4096) (i : Fin 16) : Cert.ProjRefIdeal.Out.colAngles (ix3 s 0 i) =
    FloatOps.sitofp (F := Ideal) FTy.f32 (colWord (BitVec.ofNat 32 s.val) (unit' 64#32)) * freq i.val := by
  pointwise [Cert.ProjRefIdeal.Out.colAngles, id]
  rfl

/-- The cosines of a head's 64 places. -/
def cosAt (r c : Fin 16 → EReal) (d : Fin 64) : EReal :=
  if h : d.val < 16 then Ideal.cos (r ⟨d.val, h⟩)
  else if h : d.val - 16 < 16 then Ideal.cos (r ⟨d.val - 16, h⟩)
  else if h : d.val - 16 - 16 < 16 then Ideal.cos (c ⟨d.val - 16 - 16, h⟩)
  else Ideal.cos (c ⟨d.val - 16 - 16 - 16, by omega⟩)

/-- The signed sines of a head's 64 places. -/
def sinAt (r c : Fin 16 → EReal) (d : Fin 64) : EReal :=
  if h : d.val < 16 then -Ideal.sin (r ⟨d.val, h⟩)
  else if h : d.val - 16 < 16 then Ideal.sin (r ⟨d.val - 16, h⟩)
  else if h : d.val - 16 - 16 < 16 then -Ideal.sin (c ⟨d.val - 16 - 16, h⟩)
  else Ideal.sin (c ⟨d.val - 16 - 16 - 16, by omega⟩)

/-- The table of cosines, from the positions. -/
theorem cos_stage (s : Fin 4096) (l : Fin 128) : StableHlo.after hostOps0_4 U (Proc.devRef .tc main_v51) (ix2 s l) =
    cosAt (fun i => (show EReal from U (Proc.devRef .tc main_v14) (ix1 s)) * freq i.val)
      (fun i => FloatOps.sitofp (F := Ideal) FTy.f32 (U (Proc.devRef .tc main_v15) (ix1 s)) * freq i.val) ⟨l.val % 64, by omega⟩ := by
  after_reads_at
  after_reads_at
  rfl

/-- The table of signed sines, from the positions. -/
theorem sin_stage (s : Fin 4096) (l : Fin 128) : StableHlo.after hostOps0_4 U (Proc.devRef .tc main_v54) (ix2 s l) =
    sinAt (fun i => (show EReal from U (Proc.devRef .tc main_v14) (ix1 s)) * freq i.val)
      (fun i => FloatOps.sitofp (F := Ideal) FTy.f32 (U (Proc.devRef .tc main_v15) (ix1 s)) * freq i.val) ⟨l.val % 64, by omega⟩ := by
  after_reads_at
  after_reads_at
  rfl

/-- The rows' positions as numbers. -/
theorem row_stage (s : Fin 4096) : StableHlo.after hostOps0_2 (StableHlo.after hostOps0_1 U) (Proc.devRef .tc main_v14) (ix1 s) =
    rowPos (U (Proc.devRef .tc main_v12) (ix1 s)) (U (Proc.devRef .tc main_c) ix0) := by
  have h : ∀ U : Valuation τ sig (Elt Ideal), StableHlo.after hostOps0_2 U (Proc.devRef .tc main_v14) (ix1 s) =
      FloatOps.sitofp (F := Ideal) FTy.f32 (U (Proc.devRef .tc main_v13) (ix1 s)) := by
    intro U; after_reads_at
  refine (h _).trans ?_
  unfold rowPos
  refine congrArg (FloatOps.sitofp (F := Ideal) FTy.f32) ?_
  after_reads_at
  rfl

/-- The columns' positions as words. -/
theorem col_stage (s : Fin 4096) : StableHlo.after hostOps0_3 U (Proc.devRef .tc main_v15) (ix1 s) =
    colWord (U (Proc.devRef .tc main_v12) (ix1 s)) (unit' (U (Proc.devRef .tc main_c_0) ix0)) := by
  after_reads_at
  rfl

/-- The columns' stage leaves the rows' positions. -/
theorem keep_v14 : StableHlo.after hostOps0_3 U (Proc.devRef .tc main_v14) = U (Proc.devRef .tc main_v14) := by after_reads_simp
/-- The rows' stages leave the tokens' numbers. -/
theorem keep_v12 : StableHlo.after hostOps0_2 (StableHlo.after hostOps0_1 U) (Proc.devRef .tc main_v12) = U (Proc.devRef .tc main_v12) := by after_reads_simp
/-- The columns' divisor. -/
theorem c0_stage : StableHlo.after hostOps0_2 U (Proc.devRef .tc main_c_0) ix0 = 64#32 := by after_reads_at
/-- The rows' divisor. -/
theorem c_stage : StableHlo.after hostOps0 U (Proc.devRef .tc main_c) ix0 = 64#32 := by after_reads_at
/-- The tokens' numbers. -/
theorem v12_stage (s : Fin 4096) : StableHlo.after hostOps0 U (Proc.devRef .tc main_v12) (ix1 s) = BitVec.ofNat 32 s.val := by after_reads_at

/-- The table of cosines that the launch reads. -/
theorem cosTable (c : Dev nD) (s : Fin 4096) (l : Fin 128) : V m c main_v51 (ix2 s l) =
    cosAt (fun i => Cert.ProjRefIdeal.Out.rowAngles (ix3 s 0 i)) (fun i => Cert.ProjRefIdeal.Out.colAngles (ix3 s 0 i)) ⟨l.val % 64, by omega⟩ := by
  rw [stages, cos_stage, keep_v14, col_stage, row_stage, keep_v12, c0_stage, c_stage, v12_stage]
  simp only [rowAngles_at, colAngles_at]

/-- The table of signed sines that the launch reads. -/
theorem sinTable (c : Dev nD) (s : Fin 4096) (l : Fin 128) : V m c main_v54 (ix2 s l) =
    sinAt (fun i => Cert.ProjRefIdeal.Out.rowAngles (ix3 s 0 i)) (fun i => Cert.ProjRefIdeal.Out.colAngles (ix3 s 0 i)) ⟨l.val % 64, by omega⟩ := by
  rw [stages, sin_stage, keep_v14, col_stage, row_stage, keep_v12, c0_stage, c_stage, v12_stage]
  simp only [rowAngles_at, colAngles_at]

end Cert.ProjIdeal.Host
end
-- ==== Proof.ProjBody.lean ====
/- What the projection's kernel leaves in its output blocks at one grid point, at an element. -/
module

public import proofs.«01_k».proof.Proof.Gen.ProjIdeal.Value
public import proofs.«01_k».proof.Proof.ProjRef
public import proofs.«01_k».proof.Proof.WinKernel
public import Idealize.ShloMosaic.Lib.Pointwise

@[expose] public section

set_option maxRecDepth 16384

noncomputable section

namespace Cert.ProjIdeal.Body

open Cert.ProjIdeal Cert.ProjIdeal.Gen Idealize.ShloMosaic Idealize.ShloMosaic.TcCoe Idealize.SL.Sem
open Cert.WinIdeal.Body (sel_pos sel_neg)

/-- The divisor of the columns. -/
def width : BitVec 32 := Scalar.select (Scalar.cmpi .eq 32#32 0#32) 1#32 32#32

/-- Whether a column is in the first half of its 32, as the words compute it. -/
def half (c : ℕ) : BitVec 1 :=
  IntOp.cmpi .slt (Scalar.select
    (IntOp.andi (IntOp.xori (IntOp.cmpi .slt (IntOp.remsi ArithUnit.vector (BitVec.ofNat 32 c) width) 0#32) (Scalar.cmpi .slt width 0#32))
      (IntOp.cmpi .ne (IntOp.remsi .vector (BitVec.ofNat 32 c) width) 0#32))
    (IntOp.addi (IntOp.remsi .vector (BitVec.ofNat 32 c) width) width) (IntOp.remsi .vector (BitVec.ofNat 32 c) width)) 16#32

/-- The word tells the first half of each 32 columns. -/
theorem half_eq : ∀ l : Fin 512, half l.val = if l.val % 32 < 16 then 1#1 else 0#1 := by
  decide +kernel

/-- The choice between two values by a column's half. -/
theorem sel_half {α : Type} (c : ℕ) (hc : c < 512) (x y : α) : Scalar.select (half c) x y = if c % 32 < 16 then x else y := by
  have h := half_eq ⟨c, hc⟩
  dsimp only at h
  by_cases h' : c % 32 < 16
  · rw [if_pos h', sel_pos (h.trans (if_pos h'))]
  · rw [if_neg h']
    refine sel_neg (fun e => ?_)
    rw [h, if_neg h'] at e
    exact absurd e (by decide)

/-- Four copies of a table of two equal halves. -/
theorem quad (A : Fin 64 → EReal) (c : ℕ) (hc : c < 512) :
    (if h : c < 128 then A ⟨c % 64, by omega⟩ else if h : c - 128 < 128 then A ⟨(c - 128) % 64, by omega⟩
      else if h : c - 128 - 128 < 128 then A ⟨(c - 128 - 128) % 64, by omega⟩ else A ⟨(c - 128 - 128 - 128) % 64, by omega⟩) = A ⟨c % 64, by omega⟩ := by
  split_ifs <;> first | rfl | exact congrArg A (Fin.ext (by dsimp only; omega))

/-- Two copies of a table of two equal halves. -/
theorem pair (A : Fin 64 → EReal) (c : ℕ) (hc : c < 256) :
    (if h : c < 128 then A ⟨c % 64, by omega⟩ else A ⟨(c - 128) % 64, by omega⟩) = A ⟨c % 64, by omega⟩ := by
  split_ifs <;> first | rfl | exact congrArg A (Fin.ext (by dsimp only; omega))

/-- One head turned by its tables, the way the kernel turns it. -/
def turn (q A B : Fin 64 → EReal) (d : Fin 64) : EReal :=
  q d * A d + (if h : d.val % 32 < 16 then q ⟨d.val + 16, by omega⟩ else q ⟨d.val - 16, by omega⟩) * B d

/-- The product at an element. -/
def prod (x : Vec Ideal S1x512x1024 .f32) (g : Vec Ideal S1x1024 .f32) (sh sc : Vec Ideal S1x1x1024 .f32) (w : Vec Ideal S1024x2560 .bf16) (r : Fin 512) (c : Fin 2560) : EReal :=
  ∑ k, Cert.ProjRefIdeal.Out.row (fun t => x (ix3 0 r t)) (fun t => g (ix2 0 t)) (fun t => sh (ix3 0 0 t)) (fun t => sc (ix3 0 0 t)) k * w (ix2 k c)

/-- The kernel's product is the product. -/
theorem pay2_apply (x : Vec Ideal S1x512x1024 .f32) (g : Vec Ideal S1x1024 .f32) (sc sh : Vec Ideal S1x1x1024 .f32) (w : Vec Ideal S1024x2560 .bf16) (r : Fin 512) (c : Fin 2560) :
    k0_pay2 x g sc sh w (ix2 r c) = prod x g sh sc w r c := by
  unfold prod Cert.ProjRefIdeal.Out.row
  pointwise [k0_pay2, id]

/-- The queries' columns of the product. -/
theorem pay3_apply (x : Vec Ideal S1x512x1024 .f32) (g : Vec Ideal S1x1024 .f32) (sc sh : Vec Ideal S1x1x1024 .f32) (w : Vec Ideal S1024x2560 .bf16) (r : Fin 512) (c : Fin 512) :
    k0_pay3 x g sc sh w (ix2 r c) = prod x g sh sc w r ⟨c.val, by omega⟩ := by
  rw [← pay2_apply]
  unfold k0_pay3
  generalize k0_pay2 x g sc sh w = y
  pointwise [id]

/-- The turned queries at an element. -/
theorem pay6_apply (y : FVec Ideal S512x512 .f32) (a b : FVec Ideal S512x128 .f32) (r : Fin 512) (c : Fin 512) (A B : Fin 64 → EReal)
    (ha : ∀ l : Fin 128, a (ix2 r l) = A ⟨l.val % 64, by omega⟩) (hb : ∀ l : Fin 128, b (ix2 r l) = B ⟨l.val % 64, by omega⟩) :
    k0_pay6 y (k0_pay4 a) (k0_pay5 b) (ix3 0 r c) = turn (fun d => y (ix2 r ⟨c.val / 64 * 64 + d.val, by omega⟩)) A B ⟨c.val % 64, by omega⟩ := by
  have hc := c.isLt
  have key : ∀ i j : Fin 512, i.val = j.val → y (ix2 r i) = y (ix2 r j) := fun i j e => congrArg (fun i => y (ix2 r i)) (Fin.ext e)
  unfold turn
  pointwise [k0_pay6, k0_pay4, k0_pay5, id]
  simp only [ha, hb]
  refine congrArg₂ (· + ·) (congrArg₂ (· * ·) (key _ _ ?_) (quad A c.val hc)) (congrArg₂ (· * ·) ((sel_half c.val hc _ _).trans ?_) (quad B c.val hc))
  · dsimp only; omega
  · by_cases h : c.val % 32 < 16
    · rw [if_pos h, dif_pos (show c.val % 64 % 32 < 16 by omega)]
      exact key _ _ (by dsimp only; omega)
    · rw [if_neg h, dif_neg (show ¬ c.val % 64 % 32 < 16 by omega)]
      exact key _ _ (by dsimp only; omega)

/-- The turned keys at an element. -/
theorem pay12_apply (y : FVec Ideal S512x2560 .f32) (a b : FVec Ideal S512x128 .f32) (r : Fin 512) (c : Fin 256) (A B : Fin 64 → EReal)
    (ha : ∀ l : Fin 128, a (ix2 r l) = A ⟨l.val % 64, by omega⟩) (hb : ∀ l : Fin 128, b (ix2 r l) = B ⟨l.val % 64, by omega⟩) :
    k0_pay12 (k0_pay8 b) (k0_pay9 y a) (iota .tc S512x256 32 [1] iota_S512x256_d1_w32) (k0_pay10 y) (k0_pay11 y) 32#32 (ix3 0 r c)
      = turn (fun d => y (ix2 r ⟨512 + (c.val / 64 * 64 + d.val), by omega⟩)) A B ⟨c.val % 64, by omega⟩ := by
  have hc := c.isLt
  have key : ∀ i j : Fin 2560, i.val = j.val → y (ix2 r i) = y (ix2 r j) := fun i j e => congrArg (fun i => y (ix2 r i)) (Fin.ext e)
  unfold turn
  pointwise [k0_pay12, k0_pay8, k0_pay9, k0_pay10, k0_pay11, k0_pay7, id]
  simp only [ha, hb]
  refine congrArg₂ (· + ·) (congrArg₂ (· * ·) (key _ _ ?_) (pair A c.val hc)) (congrArg₂ (· * ·) ((sel_half c.val (by omega) _ _).trans ?_) (pair B c.val hc))
  · dsimp only; omega
  · by_cases h : c.val % 32 < 16
    · rw [if_pos h, dif_pos (show c.val % 64 % 32 < 16 by omega)]
      exact key _ _ (by dsimp only; omega)
    · rw [if_neg h, dif_neg (show ¬ c.val % 64 % 32 < 16 by omega)]
      exact key _ _ (by dsimp only; omega)

/-- The offsets of a rectangle that starts at the block's own start. -/
theorem hz3 : (![0, 0, 0] : Fin 3 → Nat) = fun _ => 0 := funext fun a => by fin_cases a <;> rfl
/-- The same with two axes. -/
theorem hz2 : (![0, 0] : Fin 2 → Nat) = fun _ => 0 := funext fun a => by fin_cases a <;> rfl

variable (x0 : Vec Ideal S1x512x1024 .f32) (x1 : Vec Ideal S1x1024 .f32) (x2 : Vec Ideal S1x1x1024 .f32) (x3 : Vec Ideal S1x1x1024 .f32)
  (x4 : Vec Ideal S1024x2560 .bf16) (x5 : Vec Ideal S512x128 .f32) (x6 : Vec Ideal S512x128 .f32)

/-- The product of the loaded blocks. -/
theorem pay16_apply (r : Fin 512) (c : Fin 2560) : k0_pay16 x0 x1 x2 x3 x4 x5 x6 (ix2 r c) = prod x0 x1 x2 x3 x4 r c := by
  unfold k0_pay16
  rw [View.ld_unit_zero hz3, View.ld_unit_zero hz2, View.ld_unit_zero hz3, View.ld_unit_zero hz3, View.ld_unit_zero hz2]
  exact pay2_apply _ _ _ _ _ r c

/-- The block of turned queries. -/
theorem out7_apply (r : Fin 512) (c : Fin 512) (A B : Fin 64 → EReal)
    (ha : ∀ l : Fin 128, x5 (ix2 r l) = A ⟨l.val % 64, by omega⟩) (hb : ∀ l : Fin 128, x6 (ix2 r l) = B ⟨l.val % 64, by omega⟩) :
    out0_7 x0 x1 x2 x3 x4 x5 x6 (ix3 0 r c)
      = turn (fun d => prod x0 x1 x2 x3 x4 r ⟨c.val / 64 * 64 + d.val, by omega⟩) A B ⟨c.val % 64, by omega⟩ := by
  unfold out0_7
  rw [View.canon_unit_zero hz3, View.ld_unit_zero hz3, View.ld_unit_zero hz2, View.ld_unit_zero hz3, View.ld_unit_zero hz3, View.ld_unit_zero hz2,
    View.ld_unit_zero hz2, View.ld_unit_zero hz2]
  refine (pay6_apply _ _ _ r c A B ha hb).trans ?_
  refine congrArg (fun q => turn q A B _) (funext fun d => ?_)
  exact pay3_apply _ _ _ _ _ r _

/-- The block of turned keys. -/
theorem out8_apply (r : Fin 512) (c : Fin 256) (A B : Fin 64 → EReal)
    (ha : ∀ l : Fin 128, x5 (ix2 r l) = A ⟨l.val % 64, by omega⟩) (hb : ∀ l : Fin 128, x6 (ix2 r l) = B ⟨l.val % 64, by omega⟩) :
    out0_8 x0 x1 x2 x3 x4 x5 x6 (ix3 0 r c)
      = turn (fun d => prod x0 x1 x2 x3 x4 r ⟨512 + (c.val / 64 * 64 + d.val), by omega⟩) A B ⟨c.val % 64, by omega⟩ := by
  have hy := pay16_apply x0 x1 x2 x3 x4 x5 x6 r
  unfold out0_8
  generalize k0_pay16 x0 x1 x2 x3 x4 x5 x6 = y at hy ⊢
  rw [View.canon_unit_zero hz3, View.ld_unit_zero hz2, View.ld_unit_zero hz2]
  refine (pay12_apply _ _ _ r c A B ha hb).trans ?_
  exact congrArg (fun q => turn q A B _) (funext fun d => hy _)

/-- The block of values. -/
theorem out9_apply (r : Fin 512) (c : Fin 256) :
    out0_9 x0 x1 x2 x3 x4 x5 x6 (ix3 0 r c) = prod x0 x1 x2 x3 x4 r ⟨768 + c.val, by omega⟩ := by
  rw [← pay16_apply x0 x1 x2 x3 x4 x5 x6]
  unfold out0_9
  generalize k0_pay16 x0 x1 x2 x3 x4 x5 x6 = y
  rw [View.canon_unit_zero hz3]
  pointwise [k0_pay13, id]

/-- The block of unturned queries. -/
theorem out10_apply (r : Fin 512) (c : Fin 512) :
    out0_10 x0 x1 x2 x3 x4 x5 x6 (ix3 0 r c) = prod x0 x1 x2 x3 x4 r ⟨1024 + c.val, by omega⟩ := by
  rw [← pay16_apply x0 x1 x2 x3 x4 x5 x6]
  unfold out0_10
  generalize k0_pay16 x0 x1 x2 x3 x4 x5 x6 = y
  rw [View.canon_unit_zero hz3]
  pointwise [k0_pay14, id]

/-- The block of unturned keys. -/
theorem out11_apply (r : Fin 512) (c : Fin 512) :
    out0_11 x0 x1 x2 x3 x4 x5 x6 (ix3 0 r c) = prod x0 x1 x2 x3 x4 r ⟨1536 + c.val, by omega⟩ := by
  rw [← pay16_apply x0 x1 x2 x3 x4 x5 x6]
  unfold out0_11
  generalize k0_pay16 x0 x1 x2 x3 x4 x5 x6 = y
  rw [View.canon_unit_zero hz3]
  pointwise [k0_pay15, id]

/-- The block of values beside the unturned keys. -/
theorem out12_apply (r : Fin 512) (c : Fin 512) :
    out0_12 x0 x1 x2 x3 x4 x5 x6 (ix3 0 r c) = prod x0 x1 x2 x3 x4 r ⟨2048 + c.val, by omega⟩ := by
  rw [← pay16_apply x0 x1 x2 x3 x4 x5 x6]
  unfold out0_12
  generalize k0_pay16 x0 x1 x2 x3 x4 x5 x6 = y
  rw [View.canon_unit_zero hz3]
  pointwise [k0_pay1, id]

end Cert.ProjIdeal.Body
end
-- ==== Proof.ProjHost.lean ====
/- The arrays and blocks that the projection's launch reads, and where its output blocks lie. -/
module

public import proofs.«01_k».proof.Proof.ProjTables
public import proofs.«01_k».proof.Proof.ProjBody
public import Idealize.ShloMosaic.Lib.Pipeline.ValueKit.Geometry
public import Idealize.ShloMosaic.Lib.StableHlo.ReadAt

@[expose] public section

set_option maxRecDepth 16384

noncomputable section

namespace Cert.ProjIdeal.Host

open Cert.ProjIdeal Cert.ProjIdeal.Gen Idealize.ShloMosaic Idealize.ShloMosaic.TcCoe Idealize.SL.Sem

variable (m : (ℓ : Loc nD τ sig) → Buf (Elt Ideal) ℓ)

variable (U : Valuation τ sig (Elt Ideal))

/-- The last four stages leave the weights. -/
theorem keep_w : StableHlo.after hostOps0_4 (StableHlo.after hostOps0_3 (StableHlo.after hostOps0_2 (StableHlo.after hostOps0_1 U))) (Proc.devRef .tc main_v11)
    = U (Proc.devRef .tc main_v11) := by
  after_reads_simp

/-- The column of the weights that stands in column `l` of what the launch reads. -/
def column (l : Fin 2560) : Fin 2304 :=
  if h : l.val < 512 then ⟨l.val, by omega⟩
  else if h : l.val - 512 < 256 then ⟨512 + ((l.val - 512) / 128 * 64 + (l.val - 512) % 64), by omega⟩
  else if h : l.val - 512 - 256 < 256 then ⟨640 + ((l.val - 512 - 256) / 128 * 64 + (l.val - 512 - 256) % 64), by omega⟩
  else ⟨768 + (l.val - 512 - 256 - 256), by omega⟩

/-- The nested choices of the doubled columns are the column map. -/
theorem columns (f : Fin 2304 → EReal) (l : ℕ) (hl : l < 2560) :
    (if h : l < 512 then f ⟨l, by omega⟩
    else if h : l - 512 < 256 then
      if h_1 : l - 512 < 64 then f ⟨512 + (l - 512), by omega⟩
      else if h_2 : l - 512 - 64 < 64 then f ⟨512 + (l - 512 - 64), by omega⟩
      else if h_3 : l - 512 - 64 - 64 < 64 then f ⟨512 + (64 + (l - 512 - 64 - 64)), by omega⟩
      else f ⟨512 + (64 + (l - 512 - 64 - 64 - 64)), by omega⟩
    else if h : l - 512 - 256 < 256 then
      if h_1 : l - 512 - 256 < 64 then f ⟨640 + (l - 512 - 256), by omega⟩
      else if h_2 : l - 512 - 256 - 64 < 64 then f ⟨640 + (l - 512 - 256 - 64), by omega⟩
      else if h_3 : l - 512 - 256 - 64 - 64 < 64 then f ⟨640 + (64 + (l - 512 - 256 - 64 - 64)), by omega⟩
      else f ⟨640 + (64 + (l - 512 - 256 - 64 - 64 - 64)), by omega⟩
    else f ⟨768 + (l - 512 - 256 - 256), by omega⟩) = f (column ⟨l, hl⟩) := by
  have key : ∀ (i j : Fin 2304), i.val = j.val → f i = f j := fun i j e => congrArg f (Fin.ext e)
  unfold column
  by_cases h1 : l < 512
  · rw [dif_pos h1, dif_pos h1]
  · rw [dif_neg h1, dif_neg h1]
    by_cases h2 : l - 512 < 256
    · rw [dif_pos h2, dif_pos h2]
      split_ifs <;> exact key _ _ (by dsimp only; omega)
    · rw [dif_neg h2, dif_neg h2]
      by_cases h3 : l - 512 - 256 < 256
      · rw [dif_pos h3, dif_pos h3]
        split_ifs <;> exact key _ _ (by dsimp only; omega)
      · rw [dif_neg h3, dif_neg h3]

/-- The weights that the launch reads: the key and value heads stand twice. -/
theorem weights_stage (k : Fin 1024) (l : Fin 2560) : StableHlo.after hostOps0 U (Proc.devRef .tc main_v11) (ix2 k l) =
    (show Vec Ideal S1024x2304 .f32 from U (Proc.devRef .tc main_arg4)) (ix2 k (column l)) := by
  after_reads_at
  after_reads_at
  after_reads_at
  exact columns (fun i => (show Vec Ideal S1024x2304 .f32 from U (Proc.devRef .tc main_arg4)) (ix2 k i)) l.val l.isLt

/-- The weights that the launch reads. -/
theorem weights (c : Dev nD) (k : Fin 1024) (l : Fin 2560) : V m c main_v11 (ix2 k l) = m (c, Proc.devRef .tc main_arg4) (ix2 k (column l)) := by
  rw [stages, keep_w, weights_stage]

/-- The gain that the launch reads. -/
theorem gain (c : Dev nD) (k : Fin 1024) : V m c main_v55 (ix2 0 k) = m (c, Proc.devRef .tc main_arg1) (ix1 k) := by
  rw [stages]
  after_reads_at
/-- The shift that the launch reads. -/
theorem shift (c : Dev nD) (b : Fin 4) (k : Fin 1024) : V m c main_v56 (ix3 b 0 k) = m (c, Proc.devRef .tc main_arg2) (ix2 b k) := by
  rw [stages]
  after_reads_at
/-- The scale that the launch reads. -/
theorem scale (c : Dev nD) (b : Fin 4) (k : Fin 1024) : V m c main_v57 (ix3 b 0 k) = m (c, Proc.devRef .tc main_arg3) (ix2 b k) := by
  rw [stages]
  after_reads_at
/-- The tokens that the launch reads. -/
theorem tokens (c : Dev nD) (b : Fin 4) (s : Fin 4096) (k : Fin 1024) : V m c main_arg0 (ix3 b s k) = m (c, Proc.devRef .tc main_arg0) (ix3 b s k) := by
  rw [stages]
  after_reads_at

/-- The launch has 32 points. -/
theorem point_lt (t : Fin cfg0.N) : t.val < 32 := t.isLt

/-- The batch of a point. -/
def batch (t : Fin cfg0.N) : Fin 4 := ⟨t.val / 8, by have := point_lt t; omega⟩
/-- The token of a point's row. -/
def token (t : Fin cfg0.N) (r : Fin 512) : Fin 4096 := ⟨t.val % 8 * 512 + r.val, by have := r.isLt; omega⟩

/-- The blocks of window 0. -/
theorem index0 : ∀ t : Fin cfg0.N, win0_0.index t = ![t.val / 8, t.val % 8, 0] :=
  (by decide +kernel : ∀ t : Fin grid0.N, win0_0.index t = ![t.val / 8, t.val % 8, 0])
/-- The blocks of window 1. -/
theorem index1 : ∀ t : Fin cfg0.N, win0_1.index t = ![0, 0] :=
  (by decide +kernel : ∀ t : Fin grid0.N, win0_1.index t = ![0, 0])
/-- The blocks of window 2. -/
theorem index2 : ∀ t : Fin cfg0.N, win0_2.index t = ![t.val / 8, 0, 0] :=
  (by decide +kernel : ∀ t : Fin grid0.N, win0_2.index t = ![t.val / 8, 0, 0])
/-- The blocks of window 3. -/
theorem index3 : ∀ t : Fin cfg0.N, win0_3.index t = ![t.val / 8, 0, 0] :=
  (by decide +kernel : ∀ t : Fin grid0.N, win0_3.index t = ![t.val / 8, 0, 0])
/-- The blocks of window 4. -/
theorem index4 : ∀ t : Fin cfg0.N, win0_4.index t = ![0, 0] :=
  (by decide +kernel : ∀ t : Fin grid0.N, win0_4.index t = ![0, 0])
/-- The blocks of window 5. -/
theorem index5 : ∀ t : Fin cfg0.N, win0_5.index t = ![t.val % 8, 0] :=
  (by decide +kernel : ∀ t : Fin grid0.N, win0_5.index t = ![t.val % 8, 0])
/-- The blocks of window 6. -/
theorem index6 : ∀ t : Fin cfg0.N, win0_6.index t = ![t.val % 8, 0] :=
  (by decide +kernel : ∀ t : Fin grid0.N, win0_6.index t = ![t.val % 8, 0])
/-- The blocks of window 7. -/
theorem index7 : ∀ t : Fin cfg0.N, win0_7.index t = ![t.val / 8, t.val % 8, 0] :=
  (by decide +kernel : ∀ t : Fin grid0.N, win0_7.index t = ![t.val / 8, t.val % 8, 0])
/-- The blocks of window 8. -/
theorem index8 : ∀ t : Fin cfg0.N, win0_8.index t = ![t.val / 8, t.val % 8, 0] :=
  (by decide +kernel : ∀ t : Fin grid0.N, win0_8.index t = ![t.val / 8, t.val % 8, 0])
/-- The blocks of window 9. -/
theorem index9 : ∀ t : Fin cfg0.N, win0_9.index t = ![t.val / 8, t.val % 8, 0] :=
  (by decide +kernel : ∀ t : Fin grid0.N, win0_9.index t = ![t.val / 8, t.val % 8, 0])
/-- The blocks of window 10. -/
theorem index10 : ∀ t : Fin cfg0.N, win0_10.index t = ![t.val / 8, t.val % 8, 0] :=
  (by decide +kernel : ∀ t : Fin grid0.N, win0_10.index t = ![t.val / 8, t.val % 8, 0])
/-- The blocks of window 11. -/
theorem index11 : ∀ t : Fin cfg0.N, win0_11.index t = ![t.val / 8, t.val % 8, 0] :=
  (by decide +kernel : ∀ t : Fin grid0.N, win0_11.index t = ![t.val / 8, t.val % 8, 0])
/-- The blocks of window 12. -/
theorem index12 : ∀ t : Fin cfg0.N, win0_12.index t = ![t.val / 8, t.val % 8, 0] :=
  (by decide +kernel : ∀ t : Fin grid0.N, win0_12.index t = ![t.val / 8, t.val % 8, 0])

/-- The block of window 0. -/
theorem blk0 (c : Dev nD) (t : Fin cfg0.N) (r : Fin 512) (q : Fin 1024) :
    iblk m c 0 t (ix3 0 r q) = V m c main_arg0 (ix3 (batch t) (token t r) q) := by
  show V m c main_arg0 (((cfg0.win 0).blk t).view.emb (ix3 0 r q)) = _
  refine congrArg (V m c main_arg0) (funext fun a => Fin.ext ?_)
  refine ((cfg0.win 0).rect_emb_val t _ a).trans ?_
  show win0_0.index t a * _ + _ = _
  rw [index0]
  match a with
  | ⟨0, _⟩ => show t.val / 8 * 1 + 0 = t.val / 8; omega
  | ⟨1, _⟩ => rfl
  | ⟨2, _⟩ => show 0 * 1024 + q.val = q.val; omega

/-- The block of window 1. -/
theorem blk1 (c : Dev nD) (t : Fin cfg0.N) (q : Fin 1024) :
    iblk m c 1 t (ix2 0 q) = V m c main_v55 (ix2 0 q) := by
  show V m c main_v55 (((cfg0.win 1).blk t).view.emb (ix2 0 q)) = _
  refine congrArg (V m c main_v55) (funext fun a => Fin.ext ?_)
  refine ((cfg0.win 1).rect_emb_val t _ a).trans ?_
  show win0_1.index t a * _ + _ = _
  rw [index1]
  match a with
  | ⟨0, _⟩ => show 0 * 1 + 0 = 0; omega
  | ⟨1, _⟩ => show 0 * 1024 + q.val = q.val; omega

/-- The block of window 2. -/
theorem blk2 (c : Dev nD) (t : Fin cfg0.N) (q : Fin 1024) :
    iblk m c 2 t (ix3 0 0 q) = V m c main_v56 (ix3 (batch t) 0 q) := by
  show V m c main_v56 (((cfg0.win 2).blk t).view.emb (ix3 0 0 q)) = _
  refine congrArg (V m c main_v56) (funext fun a => Fin.ext ?_)
  refine ((cfg0.win 2).rect_emb_val t _ a).trans ?_
  show win0_2.index t a * _ + _ = _
  rw [index2]
  match a with
  | ⟨0, _⟩ => show t.val / 8 * 1 + 0 = t.val / 8; omega
  | ⟨1, _⟩ => show 0 * 1 + 0 = 0; omega
  | ⟨2, _⟩ => show 0 * 1024 + q.val = q.val; omega

/-- The block of window 3. -/
theorem blk3 (c : Dev nD) (t : Fin cfg0.N) (q : Fin 1024) :
    iblk m c 3 t (ix3 0 0 q) = V m c main_v57 (ix3 (batch t) 0 q) := by
  show V m c main_v57 (((cfg0.win 3).blk t).view.emb (ix3 0 0 q)) = _
  refine congrArg (V m c main_v57) (funext fun a => Fin.ext ?_)
  refine ((cfg0.win 3).rect_emb_val t _ a).trans ?_
  show win0_3.index t a * _ + _ = _
  rw [index3]
  match a with
  | ⟨0, _⟩ => show t.val / 8 * 1 + 0 = t.val / 8; omega
  | ⟨1, _⟩ => show 0 * 1 + 0 = 0; omega
  | ⟨2, _⟩ => show 0 * 1024 + q.val = q.val; omega

/-- The block of window 4. -/
theorem blk4 (c : Dev nD) (t : Fin cfg0.N) (k : Fin 1024) (q : Fin 2560) :
    iblk m c 4 t (ix2 k q) = V m c main_v11 (ix2 k q) := by
  show V m c main_v11 (((cfg0.win 4).blk t).view.emb (ix2 k q)) = _
  refine congrArg (V m c main_v11) (funext fun a => Fin.ext ?_)
  refine ((cfg0.win 4).rect_emb_val t _ a).trans ?_
  show win0_4.index t a * _ + _ = _
  rw [index4]
  match a with
  | ⟨0, _⟩ => show 0 * 1024 + k.val = k.val; omega
  | ⟨1, _⟩ => show 0 * 2560 + q.val = q.val; omega

/-- The block of window 5. -/
theorem blk5 (c : Dev nD) (t : Fin cfg0.N) (r : Fin 512) (q : Fin 128) :
    iblk m c 5 t (ix2 r q) = V m c main_v51 (ix2 (token t r) q) := by
  show V m c main_v51 (((cfg0.win 5).blk t).view.emb (ix2 r q)) = _
  refine congrArg (V m c main_v51) (funext fun a => Fin.ext ?_)
  refine ((cfg0.win 5).rect_emb_val t _ a).trans ?_
  show win0_5.index t a * _ + _ = _
  rw [index5]
  match a with
  | ⟨0, _⟩ => rfl
  | ⟨1, _⟩ => show 0 * 128 + q.val = q.val; omega

/-- The block of window 6. -/
theorem blk6 (c : Dev nD) (t : Fin cfg0.N) (r : Fin 512) (q : Fin 128) :
    iblk m c 6 t (ix2 r q) = V m c main_v54 (ix2 (token t r) q) := by
  show V m c main_v54 (((cfg0.win 6).blk t).view.emb (ix2 r q)) = _
  refine congrArg (V m c main_v54) (funext fun a => Fin.ext ?_)
  refine ((cfg0.win 6).rect_emb_val t _ a).trans ?_
  show win0_6.index t a * _ + _ = _
  rw [index6]
  match a with
  | ⟨0, _⟩ => rfl
  | ⟨1, _⟩ => show 0 * 128 + q.val = q.val; omega

/-- Where a point's block of output window 7 lies. -/
theorem emb7 (t : Fin cfg0.N) (e : Fin 1) (r : Fin 512) (q : Fin 512) :
    ((cfg0.win 7).blk t).view.emb (ix3 e r q) = ix3 (batch t) (token t r) q := by
  have he := e.isLt
  refine funext fun a => Fin.ext ?_
  refine ((cfg0.win 7).rect_emb_val t _ a).trans ?_
  show win0_7.index t a * _ + _ = _
  rw [index7]
  match a with
  | ⟨0, _⟩ => show t.val / 8 * 1 + e.val = t.val / 8; omega
  | ⟨1, _⟩ => rfl
  | ⟨2, _⟩ => show 0 * 512 + q.val = q.val; omega

/-- Every element of that result lies in the block of its batch and row block. -/
theorem cover7 (i : S4x4096x512.Idx) :
    ∃ t : Fin cfg0.N, (cfg0.win 7).flush t = true ∧ i ∈ ((cfg0.win 7).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_7 _, ?_⟩
  have h := ((cfg0.win 7).blk ⟨(i 0).val * 8 + (i 1).val / 512, ht⟩).view.emb_mem_set (ix3 (0 : Fin 1) (⟨(i 1).val % 512, by omega⟩ : Fin 512) (i 2))
  refine Eq.mp (congrArg (· ∈ _) ((emb7 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 8 lies. -/
theorem emb8 (t : Fin cfg0.N) (e : Fin 1) (r : Fin 512) (q : Fin 256) :
    ((cfg0.win 8).blk t).view.emb (ix3 e r q) = ix3 (batch t) (token t r) q := by
  have he := e.isLt
  refine funext fun a => Fin.ext ?_
  refine ((cfg0.win 8).rect_emb_val t _ a).trans ?_
  show win0_8.index t a * _ + _ = _
  rw [index8]
  match a with
  | ⟨0, _⟩ => show t.val / 8 * 1 + e.val = t.val / 8; omega
  | ⟨1, _⟩ => rfl
  | ⟨2, _⟩ => show 0 * 256 + q.val = q.val; omega

/-- Every element of that result lies in the block of its batch and row block. -/
theorem cover8 (i : S4x4096x256.Idx) :
    ∃ t : Fin cfg0.N, (cfg0.win 8).flush t = true ∧ i ∈ ((cfg0.win 8).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_8 _, ?_⟩
  have h := ((cfg0.win 8).blk ⟨(i 0).val * 8 + (i 1).val / 512, ht⟩).view.emb_mem_set (ix3 (0 : Fin 1) (⟨(i 1).val % 512, by omega⟩ : Fin 512) (i 2))
  refine Eq.mp (congrArg (· ∈ _) ((emb8 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 9 lies. -/
theorem emb9 (t : Fin cfg0.N) (e : Fin 1) (r : Fin 512) (q : Fin 256) :
    ((cfg0.win 9).blk t).view.emb (ix3 e r q) = ix3 (batch t) (token t r) q := by
  have he := e.isLt
  refine funext fun a => Fin.ext ?_
  refine ((cfg0.win 9).rect_emb_val t _ a).trans ?_
  show win0_9.index t a * _ + _ = _
  rw [index9]
  match a with
  | ⟨0, _⟩ => show t.val / 8 * 1 + e.val = t.val / 8; omega
  | ⟨1, _⟩ => rfl
  | ⟨2, _⟩ => show 0 * 256 + q.val = q.val; omega

/-- Every element of that result lies in the block of its batch and row block. -/
theorem cover9 (i : S4x4096x256.Idx) :
    ∃ t : Fin cfg0.N, (cfg0.win 9).flush t = true ∧ i ∈ ((cfg0.win 9).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_9 _, ?_⟩
  have h := ((cfg0.win 9).blk ⟨(i 0).val * 8 + (i 1).val / 512, ht⟩).view.emb_mem_set (ix3 (0 : Fin 1) (⟨(i 1).val % 512, by omega⟩ : Fin 512) (i 2))
  refine Eq.mp (congrArg (· ∈ _) ((emb9 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 10 lies. -/
theorem emb10 (t : Fin cfg0.N) (e : Fin 1) (r : Fin 512) (q : Fin 512) :
    ((cfg0.win 10).blk t).view.emb (ix3 e r q) = ix3 (batch t) (token t r) q := by
  have he := e.isLt
  refine funext fun a => Fin.ext ?_
  refine ((cfg0.win 10).rect_emb_val t _ a).trans ?_
  show win0_10.index t a * _ + _ = _
  rw [index10]
  match a with
  | ⟨0, _⟩ => show t.val / 8 * 1 + e.val = t.val / 8; omega
  | ⟨1, _⟩ => rfl
  | ⟨2, _⟩ => show 0 * 512 + q.val = q.val; omega

/-- Every element of that result lies in the block of its batch and row block. -/
theorem cover10 (i : S4x4096x512.Idx) :
    ∃ t : Fin cfg0.N, (cfg0.win 10).flush t = true ∧ i ∈ ((cfg0.win 10).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_10 _, ?_⟩
  have h := ((cfg0.win 10).blk ⟨(i 0).val * 8 + (i 1).val / 512, ht⟩).view.emb_mem_set (ix3 (0 : Fin 1) (⟨(i 1).val % 512, by omega⟩ : Fin 512) (i 2))
  refine Eq.mp (congrArg (· ∈ _) ((emb10 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 11 lies. -/
theorem emb11 (t : Fin cfg0.N) (e : Fin 1) (r : Fin 512) (q : Fin 512) :
    ((cfg0.win 11).blk t).view.emb (ix3 e r q) = ix3 (batch t) (token t r) q := by
  have he := e.isLt
  refine funext fun a => Fin.ext ?_
  refine ((cfg0.win 11).rect_emb_val t _ a).trans ?_
  show win0_11.index t a * _ + _ = _
  rw [index11]
  match a with
  | ⟨0, _⟩ => show t.val / 8 * 1 + e.val = t.val / 8; omega
  | ⟨1, _⟩ => rfl
  | ⟨2, _⟩ => show 0 * 512 + q.val = q.val; omega

/-- Every element of that result lies in the block of its batch and row block. -/
theorem cover11 (i : S4x4096x512.Idx) :
    ∃ t : Fin cfg0.N, (cfg0.win 11).flush t = true ∧ i ∈ ((cfg0.win 11).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_11 _, ?_⟩
  have h := ((cfg0.win 11).blk ⟨(i 0).val * 8 + (i 1).val / 512, ht⟩).view.emb_mem_set (ix3 (0 : Fin 1) (⟨(i 1).val % 512, by omega⟩ : Fin 512) (i 2))
  refine Eq.mp (congrArg (· ∈ _) ((emb11 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 12 lies. -/
theorem emb12 (t : Fin cfg0.N) (e : Fin 1) (r : Fin 512) (q : Fin 512) :
    ((cfg0.win 12).blk t).view.emb (ix3 e r q) = ix3 (batch t) (token t r) q := by
  have he := e.isLt
  refine funext fun a => Fin.ext ?_
  refine ((cfg0.win 12).rect_emb_val t _ a).trans ?_
  show win0_12.index t a * _ + _ = _
  rw [index12]
  match a with
  | ⟨0, _⟩ => show t.val / 8 * 1 + e.val = t.val / 8; omega
  | ⟨1, _⟩ => rfl
  | ⟨2, _⟩ => show 0 * 512 + q.val = q.val; omega

/-- Every element of that result lies in the block of its batch and row block. -/
theorem cover12 (i : S4x4096x512.Idx) :
    ∃ t : Fin cfg0.N, (cfg0.win 12).flush t = true ∧ i ∈ ((cfg0.win 12).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_12 _, ?_⟩
  have h := ((cfg0.win 12).blk ⟨(i 0).val * 8 + (i 1).val / 512, ht⟩).view.emb_mem_set (ix3 (0 : Fin 1) (⟨(i 1).val % 512, by omega⟩ : Fin 512) (i 2))
  refine Eq.mp (congrArg (· ∈ _) ((emb12 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

end Cert.ProjIdeal.Host
end
-- ==== Proof.ProjValue.lean ====
/- The projection's six result arrays are the reference's values of its arguments. -/
module

public import proofs.«01_k».proof.Proof.ProjHost
public import Idealize.ShloMosaic.Lib.Pipeline.ValueKit.Geometry

@[expose] public section

set_option maxRecDepth 16384

noncomputable section

namespace Cert.ProjIdeal.Run

open Cert.ProjIdeal Cert.ProjIdeal.Gen Idealize.ShloMosaic Idealize.ShloMosaic.TcCoe Idealize.SL.Sem Cert.ProjIdeal.Body Cert.ProjIdeal.Host
open Cert.ProjRefIdeal.Out (dotAt headTurn rowAngles colAngles)

/-- A head turned by the tables is the reference's turned head. -/
theorem turn_eq (q : Fin 64 → EReal) (r c : Fin 16 → EReal) (d : Fin 64) : turn q (cosAt r c) (sinAt r c) d = headTurn q r c d := by
  obtain ⟨d, hd⟩ := d
  have kq : ∀ i j : Fin 64, i.val = j.val → q i = q j := fun i j e => congrArg q (Fin.ext e)
  have kc : ∀ i j : Fin 16, i.val = j.val → c i = c j := fun i j e => congrArg c (Fin.ext e)
  unfold turn cosAt sinAt headTurn
  dsimp only
  by_cases h1 : d < 16
  · rw [dif_pos (show d % 32 < 16 by omega), dif_pos h1, dif_pos h1, dif_pos (show d < 32 by omega), dif_pos h1, mul_neg, sub_eq_add_neg,
      kq ⟨d + 16, _⟩ ⟨16 + d, by omega⟩ (Nat.add_comm _ _)]
  · rw [dif_neg h1, dif_neg h1]
    by_cases h2 : d - 16 < 16
    · rw [dif_neg (show ¬ d % 32 < 16 by omega), dif_pos h2, dif_pos h2, dif_pos (show d < 32 by omega), dif_neg h1]
    · rw [dif_neg h2, dif_neg h2, dif_neg (show ¬ d < 32 by omega)]
      by_cases h3 : d - 16 - 16 < 16
      · rw [dif_pos (show d % 32 < 16 by omega), dif_pos h3, dif_pos h3, dif_pos (show d - 32 < 16 by omega), mul_neg, sub_eq_add_neg,
          kq ⟨d + 16, _⟩ ⟨16 + d, by omega⟩ (Nat.add_comm _ _), kc ⟨d - 16 - 16, _⟩ ⟨d - 32, by omega⟩ (by dsimp only; omega)]
      · rw [dif_neg (show ¬ d % 32 < 16 by omega), dif_neg h3, dif_neg h3, dif_neg (show ¬ d - 32 < 16 by omega),
          kc ⟨d - 16 - 16 - 16, _⟩ ⟨d - 32 - 16, by omega⟩ (by dsimp only; omega)]

variable (m : (ℓ : Loc nD τ sig) → Buf (Elt Ideal) ℓ)

/-- The products of the kernel's own arguments. -/
def dots (c : Dev nD) (b : Fin 4) (s : Fin 4096) (l : Fin 2304) : EReal :=
  dotAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b s l

/-- The product of blocks that hold rows of the arguments is the product of the arguments. -/
theorem prod_of (x0 : Vec Ideal S1x512x1024 .f32) (x1 : Vec Ideal S1x1024 .f32) (x2 x3 : Vec Ideal S1x1x1024 .f32) (x4 : Vec Ideal S1024x2560 .bf16)
    (x : FVec Ideal S4x4096x1024 .f32) (g : FVec Ideal S1024 .f32) (sh sc : FVec Ideal S4x1024 .f32) (w : FVec Ideal S1024x2304 .f32)
    (b : Fin 4) (s : Fin 4096) (r : Fin 512) (l : Fin 2560) (l' : Fin 2304)
    (h0 : ∀ k, x0 (ix3 0 r k) = x (ix3 b s k)) (h1 : ∀ k, x1 (ix2 0 k) = g (ix1 k)) (h2 : ∀ k, x2 (ix3 0 0 k) = sh (ix2 b k))
    (h3 : ∀ k, x3 (ix3 0 0 k) = sc (ix2 b k)) (h4 : ∀ k, x4 (ix2 k l) = w (ix2 k l')) :
    prod x0 x1 x2 x3 x4 r l = dotAt x g sh sc w b s l' := by
  unfold prod dotAt
  simp only [h0, h1, h2, h3, h4]

/-- The product of a point's blocks is the product of its rows with the weights' column. -/
theorem prod_eq (c : Dev nD) (t : Fin cfg0.N) (r : Fin 512) (l : Fin 2560) :
    prod (iblk m c 0 t) (iblk m c 1 t) (iblk m c 2 t) (iblk m c 3 t) (iblk m c 4 t) r l = dots m c (batch t) (token t r) (column l) :=
  prod_of _ _ _ _ _ _ _ _ _ _ _ _ _ _ _ (fun k => (blk0 m c t r k).trans (tokens m c _ _ k)) (fun k => (blk1 m c t k).trans (gain m c k))
    (fun k => (blk2 m c t k).trans (shift m c _ k)) (fun k => (blk3 m c t k).trans (scale m c _ k)) (fun k => (blk4 m c t k l).trans (weights m c k l))

/-- The number of the column that stands in a column. -/
theorem column_val (l : ℕ) (hl : l < 2560) : (column ⟨l, hl⟩).val = if l < 512 then l
    else if l - 512 < 256 then 512 + ((l - 512) / 128 * 64 + (l - 512) % 64)
    else if l - 512 - 256 < 256 then 640 + ((l - 512 - 256) / 128 * 64 + (l - 512 - 256) % 64)
    else 768 + (l - 512 - 256 - 256) := by
  unfold column
  dsimp only
  split_ifs <;> rfl

/-- The same of a column that is known. -/
theorem prod_at (c : Dev nD) (t : Fin cfg0.N) (r : Fin 512) (l : Fin 2560) (l' : Fin 2304) (e : (column l).val = l'.val) :
    prod (iblk m c 0 t) (iblk m c 1 t) (iblk m c 2 t) (iblk m c 3 t) (iblk m c 4 t) r l = dots m c (batch t) (token t r) l' := by
  rw [prod_eq, Fin.ext e]

/-- The reference's queries, turned, of the kernel's own arguments. -/
def target7 (c : Dev nD) : FVec Ideal S4x4096x512 .f32 :=
  Cert.ProjRefIdeal.Out.query (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out7_eq (c : Dev nD) (t : Fin cfg0.N) (r : Fin 512) (q : Fin 512) :
    out0_7 (iblk m c 0 t) (iblk m c 1 t) (iblk m c 2 t) (iblk m c 3 t) (iblk m c 4 t) (iblk m c 5 t) (iblk m c 6 t) (ix3 0 r q)
      = target7 m c (ix3 (batch t) (token t r) q) := by
  have hq := q.isLt
  refine (out7_apply _ _ _ _ _ _ _ r q (cosAt (fun i => rowAngles (ix3 (token t r) 0 i)) (fun i => colAngles (ix3 (token t r) 0 i)))
    (sinAt (fun i => rowAngles (ix3 (token t r) 0 i)) (fun i => colAngles (ix3 (token t r) 0 i)))
    (fun l => (blk5 m c t r l).trans (cosTable m c _ l)) (fun l => (blk6 m c t r l).trans (sinTable m c _ l))).trans ?_
  rw [turn_eq]
  refine Eq.trans ?_ (Cert.ProjRefIdeal.Out.query_apply _ _ _ _ _ (batch t) (token t r) q).symm
  refine congrArg (fun p => headTurn p _ _ _) (funext fun d => ?_)
  have hd := d.isLt
  refine prod_at m c t r _ _ ?_
  rw [column_val]
  dsimp only
  split_ifs <;> omega

/-- The result array at the end is the reference's. -/
theorem final7 (c : Dev nD) : (dats m 0 c).arrAt 7 cfg0.N = target7 m c := by
  refine (dats m 0 c).arrAt_eq_of_emb 7 (target7 m c) (fun t _ y => ?_) cover7
  show (dats m 0 c).after 7 t y = _
  rw [after0_7]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out7_eq m c t (y 1) (y 2)).trans (congrArg (target7 m c) (emb7 t 0 (y 1) (y 2)).symm)

/-- The reference's keys, turned, of the kernel's own arguments. -/
def target8 (c : Dev nD) : FVec Ideal S4x4096x256 .bf16 :=
  Cert.ProjRefIdeal.Out.key (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out8_eq (c : Dev nD) (t : Fin cfg0.N) (r : Fin 512) (q : Fin 256) :
    out0_8 (iblk m c 0 t) (iblk m c 1 t) (iblk m c 2 t) (iblk m c 3 t) (iblk m c 4 t) (iblk m c 5 t) (iblk m c 6 t) (ix3 0 r q)
      = target8 m c (ix3 (batch t) (token t r) q) := by
  have hq := q.isLt
  refine (out8_apply _ _ _ _ _ _ _ r q (cosAt (fun i => rowAngles (ix3 (token t r) 0 i)) (fun i => colAngles (ix3 (token t r) 0 i)))
    (sinAt (fun i => rowAngles (ix3 (token t r) 0 i)) (fun i => colAngles (ix3 (token t r) 0 i)))
    (fun l => (blk5 m c t r l).trans (cosTable m c _ l)) (fun l => (blk6 m c t r l).trans (sinTable m c _ l))).trans ?_
  rw [turn_eq]
  refine Eq.trans ?_ (Cert.ProjRefIdeal.Out.key_apply _ _ _ _ _ (batch t) (token t r) q).symm
  refine congrArg (fun p => headTurn p _ _ _) (funext fun d => ?_)
  have hd := d.isLt
  refine prod_at m c t r _ _ ?_
  rw [column_val]
  dsimp only
  split_ifs <;> omega

/-- The result array at the end is the reference's. -/
theorem final8 (c : Dev nD) : (dats m 0 c).arrAt 8 cfg0.N = target8 m c := by
  refine (dats m 0 c).arrAt_eq_of_emb 8 (target8 m c) (fun t _ y => ?_) cover8
  show (dats m 0 c).after 8 t y = _
  rw [after0_8]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out8_eq m c t (y 1) (y 2)).trans (congrArg (target8 m c) (emb8 t 0 (y 1) (y 2)).symm)

/-- The reference's values, of the kernel's own arguments. -/
def target9 (c : Dev nD) : FVec Ideal S4x4096x256 .bf16 :=
  Cert.ProjRefIdeal.Out.value (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out9_eq (c : Dev nD) (t : Fin cfg0.N) (r : Fin 512) (q : Fin 256) :
    out0_9 (iblk m c 0 t) (iblk m c 1 t) (iblk m c 2 t) (iblk m c 3 t) (iblk m c 4 t) (iblk m c 5 t) (iblk m c 6 t) (ix3 0 r q)
      = target9 m c (ix3 (batch t) (token t r) q) := by
  have hq := q.isLt
  refine (out9_apply _ _ _ _ _ _ _ r q).trans ?_
  refine Eq.trans ?_ (Cert.ProjRefIdeal.Out.value_apply _ _ _ _ _ (batch t) (token t r) q).symm
  refine prod_at m c t r _ _ ?_
  rw [column_val]
  dsimp only
  split_ifs <;> omega

/-- The result array at the end is the reference's. -/
theorem final9 (c : Dev nD) : (dats m 0 c).arrAt 9 cfg0.N = target9 m c := by
  refine (dats m 0 c).arrAt_eq_of_emb 9 (target9 m c) (fun t _ y => ?_) cover9
  show (dats m 0 c).after 9 t y = _
  rw [after0_9]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out9_eq m c t (y 1) (y 2)).trans (congrArg (target9 m c) (emb9 t 0 (y 1) (y 2)).symm)

/-- The reference's unturned queries, of the kernel's own arguments. -/
def target10 (c : Dev nD) : FVec Ideal S4x4096x512 .f32 :=
  Cert.ProjRefIdeal.Out.query' (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out10_eq (c : Dev nD) (t : Fin cfg0.N) (r : Fin 512) (q : Fin 512) :
    out0_10 (iblk m c 0 t) (iblk m c 1 t) (iblk m c 2 t) (iblk m c 3 t) (iblk m c 4 t) (iblk m c 5 t) (iblk m c 6 t) (ix3 0 r q)
      = target10 m c (ix3 (batch t) (token t r) q) := by
  have hq := q.isLt
  refine (out10_apply _ _ _ _ _ _ _ r q).trans ?_
  refine Eq.trans ?_ (Cert.ProjRefIdeal.Out.query'_apply _ _ _ _ _ (batch t) (token t r) q).symm
  refine prod_at m c t r _ _ ?_
  rw [column_val]
  dsimp only
  split_ifs <;> omega

/-- The result array at the end is the reference's. -/
theorem final10 (c : Dev nD) : (dats m 0 c).arrAt 10 cfg0.N = target10 m c := by
  refine (dats m 0 c).arrAt_eq_of_emb 10 (target10 m c) (fun t _ y => ?_) cover10
  show (dats m 0 c).after 10 t y = _
  rw [after0_10]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out10_eq m c t (y 1) (y 2)).trans (congrArg (target10 m c) (emb10 t 0 (y 1) (y 2)).symm)

/-- The reference's unturned keys, of the kernel's own arguments. -/
def target11 (c : Dev nD) : FVec Ideal S4x4096x512 .bf16 :=
  Cert.ProjRefIdeal.Out.key' (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out11_eq (c : Dev nD) (t : Fin cfg0.N) (r : Fin 512) (q : Fin 512) :
    out0_11 (iblk m c 0 t) (iblk m c 1 t) (iblk m c 2 t) (iblk m c 3 t) (iblk m c 4 t) (iblk m c 5 t) (iblk m c 6 t) (ix3 0 r q)
      = target11 m c (ix3 (batch t) (token t r) q) := by
  have hq := q.isLt
  refine (out11_apply _ _ _ _ _ _ _ r q).trans ?_
  refine Eq.trans ?_ (Cert.ProjRefIdeal.Out.key'_apply _ _ _ _ _ (batch t) (token t r) q).symm
  refine prod_at m c t r _ _ ?_
  rw [column_val]
  dsimp only
  split_ifs <;> omega

/-- The result array at the end is the reference's. -/
theorem final11 (c : Dev nD) : (dats m 0 c).arrAt 11 cfg0.N = target11 m c := by
  refine (dats m 0 c).arrAt_eq_of_emb 11 (target11 m c) (fun t _ y => ?_) cover11
  show (dats m 0 c).after 11 t y = _
  rw [after0_11]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out11_eq m c t (y 1) (y 2)).trans (congrArg (target11 m c) (emb11 t 0 (y 1) (y 2)).symm)

/-- The reference's values beside them, of the kernel's own arguments. -/
def target12 (c : Dev nD) : FVec Ideal S4x4096x512 .bf16 :=
  Cert.ProjRefIdeal.Out.value' (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out12_eq (c : Dev nD) (t : Fin cfg0.N) (r : Fin 512) (q : Fin 512) :
    out0_12 (iblk m c 0 t) (iblk m c 1 t) (iblk m c 2 t) (iblk m c 3 t) (iblk m c 4 t) (iblk m c 5 t) (iblk m c 6 t) (ix3 0 r q)
      = target12 m c (ix3 (batch t) (token t r) q) := by
  have hq := q.isLt
  refine (out12_apply _ _ _ _ _ _ _ r q).trans ?_
  refine Eq.trans ?_ (Cert.ProjRefIdeal.Out.value'_apply _ _ _ _ _ (batch t) (token t r) q).symm
  refine prod_at m c t r _ _ ?_
  rw [column_val]
  dsimp only
  split_ifs <;> omega

/-- The result array at the end is the reference's. -/
theorem final12 (c : Dev nD) : (dats m 0 c).arrAt 12 cfg0.N = target12 m c := by
  refine (dats m 0 c).arrAt_eq_of_emb 12 (target12 m c) (fun t _ y => ?_) cover12
  show (dats m 0 c).after 12 t y = _
  rw [after0_12]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out12_eq m c t (y 1) (y 2)).trans (congrArg (target12 m c) (emb12 t 0 (y 1) (y 2)).symm)

end Cert.ProjIdeal.Run
end
-- ==== Proof.OddTables.lean ====
/- The arrays that the odd layer's projection reads at its launch: what the host operations before it leave, at an index. -/
module

public import proofs.«01_k».proof.Proof.Gen.OddIdeal.Value
public import proofs.«01_k».proof.Proof.ProjHost
public import Idealize.ShloMosaic.Lib.StableHlo.ReadAt
public import Idealize.ShloMosaic.Lib.Pointwise
public import proofs.«01_k».proof.Proof.WinHost

@[expose] public section

set_option maxRecDepth 16384

noncomputable section

namespace Cert.OddIdeal.Host

open Cert.OddIdeal Cert.OddIdeal.Gen Idealize.ShloMosaic Idealize.ShloMosaic.TcCoe Idealize.SL.Sem
open Cert.ProjIdeal.Host (freq rowPos colWord unit' rowAngles_at colAngles_at cosAt sinAt column columns)
open Cert.WinIdeal.Body (sel_pos sel_neg)

/-- Operations one list after another. -/
theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

variable (m : (ℓ : Loc nD τ sig) → Buf (Elt Ideal) ℓ)

/-- The contents after the tables' stages. -/
def tables (U : Valuation τ sig (Elt Ideal)) : Valuation τ sig (Elt Ideal) :=
  StableHlo.after hostOps0_4 (StableHlo.after hostOps0_3 (StableHlo.after hostOps0_2 (StableHlo.after hostOps0_1 (StableHlo.after hostOps0 U))))

/-- The contents before the launch, stage by stage. -/
theorem stages (c : Dev nD) (b : Ref sig .tc) : V m c b =
    StableHlo.after hostOps0_10 (StableHlo.after hostOps0_9 (StableHlo.after hostOps0_8 (StableHlo.after hostOps0_7 (StableHlo.after hostOps0_6 (StableHlo.after hostOps0_5 (tables (fun b => m (c, b)))))))) (Proc.devRef .tc b) := by
  unfold V tables
  rw [List.flatten_cons, List.flatten_cons, List.flatten_cons, List.flatten_cons, List.flatten_cons, List.flatten_cons, List.flatten_cons, List.flatten_cons,
    List.flatten_cons, List.flatten_cons, List.flatten_cons, List.flatten_nil,
    after_append, after_append, after_append, after_append, after_append, after_append, after_append, after_append, after_append, after_append, List.append_nil]

variable (U : Valuation τ sig (Elt Ideal))

/-- The table of cosines, from the positions. -/
theorem cos_stage (s : Fin 4096) (l : Fin 128) : StableHlo.after hostOps0_4 U (Proc.devRef .tc main_v59) (ix2 s l) =
    cosAt (fun i => (show EReal from U (Proc.devRef .tc main_v22) (ix1 s)) * freq i.val)
      (fun i => FloatOps.sitofp (F := Ideal) FTy.f32 (U (Proc.devRef .tc main_v23) (ix1 s)) * freq i.val) ⟨l.val % 64, by omega⟩ := by
  after_reads_at
  after_reads_at
  rfl

/-- The table of signed sines, from the positions. -/
theorem sin_stage (s : Fin 4096) (l : Fin 128) : StableHlo.after hostOps0_4 U (Proc.devRef .tc main_v62) (ix2 s l) =
    sinAt (fun i => (show EReal from U (Proc.devRef .tc main_v22) (ix1 s)) * freq i.val)
      (fun i => FloatOps.sitofp (F := Ideal) FTy.f32 (U (Proc.devRef .tc main_v23) (ix1 s)) * freq i.val) ⟨l.val % 64, by omega⟩ := by
  after_reads_at
  after_reads_at
  rfl

/-- The rows' positions as numbers. -/
theorem row_stage (s : Fin 4096) : StableHlo.after hostOps0_2 (StableHlo.after hostOps0_1 U) (Proc.devRef .tc main_v22) (ix1 s) =
    rowPos (U (Proc.devRef .tc main_v20) (ix1 s)) (U (Proc.devRef .tc main_c) ix0) := by
  have h : ∀ U : Valuation τ sig (Elt Ideal), StableHlo.after hostOps0_2 U (Proc.devRef .tc main_v22) (ix1 s) =
      FloatOps.sitofp (F := Ideal) FTy.f32 (U (Proc.devRef .tc main_v21) (ix1 s)) := by
    intro U; after_reads_at
  refine (h _).trans ?_
  unfold rowPos
  refine congrArg (FloatOps.sitofp (F := Ideal) FTy.f32) ?_
  after_reads_at
  rfl

/-- The columns' positions as words. -/
theorem col_stage (s : Fin 4096) : StableHlo.after hostOps0_3 U (Proc.devRef .tc main_v23) (ix1 s) =
    colWord (U (Proc.devRef .tc main_v20) (ix1 s)) (unit' (U (Proc.devRef .tc main_c_0) ix0)) := by
  after_reads_at
  rfl

/-- The columns' stage leaves the rows' positions. -/
theorem keep_v22 : StableHlo.after hostOps0_3 U (Proc.devRef .tc main_v22) = U (Proc.devRef .tc main_v22) := by after_reads_simp
/-- The rows' stages leave the tokens' numbers. -/
theorem keep_v20 : StableHlo.after hostOps0_2 (StableHlo.after hostOps0_1 U) (Proc.devRef .tc main_v20) = U (Proc.devRef .tc main_v20) := by after_reads_simp
/-- The columns' divisor. -/
theorem c0_stage : StableHlo.after hostOps0_2 U (Proc.devRef .tc main_c_0) ix0 = 64#32 := by after_reads_at
/-- The rows' divisor. -/
theorem c_stage : StableHlo.after hostOps0 U (Proc.devRef .tc main_c) ix0 = 64#32 := by after_reads_at
/-- The tokens' numbers. -/
theorem v20_stage (s : Fin 4096) : StableHlo.after hostOps0 U (Proc.devRef .tc main_v20) (ix1 s) = BitVec.ofNat 32 s.val := by after_reads_at

/-- The head-mean matrix's stages leave the table of cosines. -/
theorem keep_cos : StableHlo.after hostOps0_10 (StableHlo.after hostOps0_9 (StableHlo.after hostOps0_8 (StableHlo.after hostOps0_7 (StableHlo.after hostOps0_6 (StableHlo.after hostOps0_5 U))))) (Proc.devRef .tc main_v59)
    = U (Proc.devRef .tc main_v59) := by after_reads_simp

/-- They leave the table of signed sines. -/
theorem keep_sin : StableHlo.after hostOps0_10 (StableHlo.after hostOps0_9 (StableHlo.after hostOps0_8 (StableHlo.after hostOps0_7 (StableHlo.after hostOps0_6 (StableHlo.after hostOps0_5 U))))) (Proc.devRef .tc main_v62)
    = U (Proc.devRef .tc main_v62) := by after_reads_simp

/-- The table of cosines that the launch reads. -/
theorem cosTable (c : Dev nD) (s : Fin 4096) (l : Fin 128) : V m c main_v59 (ix2 s l) =
    cosAt (fun i => Cert.ProjRefIdeal.Out.rowAngles (ix3 s 0 i)) (fun i => Cert.ProjRefIdeal.Out.colAngles (ix3 s 0 i)) ⟨l.val % 64, by omega⟩ := by
  rw [stages, keep_cos, tables, cos_stage, keep_v22, col_stage, row_stage, keep_v20, c0_stage, c_stage, v20_stage]
  simp only [rowAngles_at, colAngles_at]

/-- The table of signed sines that the launch reads. -/
theorem sinTable (c : Dev nD) (s : Fin 4096) (l : Fin 128) : V m c main_v62 (ix2 s l) =
    sinAt (fun i => Cert.ProjRefIdeal.Out.rowAngles (ix3 s 0 i)) (fun i => Cert.ProjRefIdeal.Out.colAngles (ix3 s 0 i)) ⟨l.val % 64, by omega⟩ := by
  rw [stages, keep_sin, tables, sin_stage, keep_v22, col_stage, row_stage, keep_v20, c0_stage, c_stage, v20_stage]
  simp only [rowAngles_at, colAngles_at]

/-- The quotient of two words, rounded down, as the words compute it. -/
def floorWord (w z : BitVec 32) : BitVec 32 :=
  Scalar.select
    (IntOp.andi
      (IntOp.cmpi CmpIPredicate.ne (if w = 0 then 0 else if w.msb = true then -1 else 1 : BitVec 32) (if z = 0 then 0 else if z.msb = true then -1 else 1 : BitVec 32))
      (IntOp.cmpi CmpIPredicate.ne (IntOp.remsi ArithUnit.host w z) 0#32))
    (IntOp.subi (IntOp.divsi ArithUnit.host w z) 1#32)
    (IntOp.divsi ArithUnit.host w z)

/-- It is the head of a column. -/
theorem floorWord_eq : ∀ l : Fin 512, floorWord (BitVec.ofNat 32 l.val) 64#32 = BitVec.ofNat 32 (l.val / 64) := by
  decide +kernel

/-- Whether two columns are of one head, as the words tell. -/
theorem same_head (j l : Fin 512) (x y : EReal) :
    Scalar.select (IntOp.cmpi .eq (floorWord (BitVec.ofNat 32 j.val) 64#32) (floorWord (BitVec.ofNat 32 l.val) 64#32)) x y = if j.val / 64 = l.val / 64 then x else y := by
  have hj := j.isLt
  have hl := l.isLt
  rw [floorWord_eq, floorWord_eq]
  by_cases h : j.val / 64 = l.val / 64
  · rw [if_pos h, h]
    exact sel_pos (by simp [IntOp.cmpi])
  · rw [if_neg h]
    refine sel_neg (fun e => h ?_)
    have e' : BitVec.ofNat 32 (j.val / 64) = BitVec.ofNat 32 (l.val / 64) := by
      by_contra hne
      have hb : (BitVec.ofNat 32 (j.val / 64) == BitVec.ofNat 32 (l.val / 64)) = false := beq_eq_false_iff_ne.mpr hne
      simp only [IntOp.cmpi, hb] at e
      exact absurd e (by decide)
    have := congrArg BitVec.toNat e'
    simp only [BitVec.toNat_ofNat] at this
    omega

/-- The head-mean matrix, from the two arrays of heads. -/
theorem mat_stage (j l : Fin 512) : StableHlo.after hostOps0_10 (StableHlo.after hostOps0_9 (StableHlo.after hostOps0_8 U)) (Proc.devRef .tc main_v69) (ix2 j l) =
    Scalar.select (IntOp.cmpi .eq (U (Proc.devRef .tc main_v64) (ix2 j l)) (U (Proc.devRef .tc main_v66) (ix2 j l))) (Ideal.ofBits FTy.f32 0x3C800000#32) (Ideal.ofBits FTy.f32 0x00000000#32) := by
  after_reads_at

/-- The columns' heads. -/
theorem v66_stage (j l : Fin 512) : StableHlo.after hostOps0_7 U (Proc.devRef .tc main_v66) (ix2 j l) =
    floorWord (U (Proc.devRef .tc main_v65) (ix2 j l)) (U (Proc.devRef .tc main_c_5) ix0) := by
  after_reads_at
  rfl

/-- The rows' heads. -/
theorem v64_stage (j l : Fin 512) : StableHlo.after hostOps0_5 U (Proc.devRef .tc main_v64) (ix2 j l) =
    floorWord (U (Proc.devRef .tc main_v63) (ix2 j l)) (U (Proc.devRef .tc main_c_4) ix0) := by
  after_reads_at
  rfl

/-- The columns' stages leave the rows' heads. -/
theorem keep_v64 : StableHlo.after hostOps0_7 (StableHlo.after hostOps0_6 U) (Proc.devRef .tc main_v64) = U (Proc.devRef .tc main_v64) := by after_reads_simp
/-- The columns' numbers. -/
theorem v65_stage (j l : Fin 512) : StableHlo.after hostOps0_6 U (Proc.devRef .tc main_v65) (ix2 j l) = BitVec.ofNat 32 l.val := by after_reads_at
/-- The columns' divisor. -/
theorem c5_stage : StableHlo.after hostOps0_6 U (Proc.devRef .tc main_c_5) ix0 = 64#32 := by after_reads_at
/-- The rows' numbers. -/
theorem v63_stage (j l : Fin 512) : StableHlo.after hostOps0_4 U (Proc.devRef .tc main_v63) (ix2 j l) = BitVec.ofNat 32 j.val := by after_reads_at
/-- The rows' divisor. -/
theorem c4_stage : StableHlo.after hostOps0_4 U (Proc.devRef .tc main_c_4) ix0 = 64#32 := by after_reads_at

/-- The head-mean matrix that the launch reads. -/
theorem matrix (c : Dev nD) (j l : Fin 512) : V m c main_v69 (ix2 j l) = if j.val / 64 = l.val / 64 then Ideal.ofBits FTy.f32 0x3C800000#32 else 0 := by
  rw [stages, mat_stage, keep_v64, v66_stage, v65_stage, c5_stage, v64_stage, tables, v63_stage, c4_stage, same_head, Ideal.ofBits_zero_f32]

/-- The gains, from the two heads' gains. -/
theorem gains_stage (l : Fin 768) : StableHlo.after hostOps0 U (Proc.devRef .tc main_v19) (ix2 0 l) =
    if l.val < 512 then (show Vec Ideal S64 .f32 from U (Proc.devRef .tc main_arg5)) (ix1 ⟨l.val % 64, by omega⟩)
    else (show Vec Ideal S64 .f32 from U (Proc.devRef .tc main_arg6)) (ix1 ⟨(l.val - 512) % 64, by omega⟩) := by
  after_reads_at
  after_reads_at
  rfl

/-- The weights: the key and value heads stand twice. -/
theorem weights_stage (k : Fin 1024) (l : Fin 2560) : StableHlo.after hostOps0 U (Proc.devRef .tc main_v11) (ix2 k l) =
    (show Vec Ideal S1024x2304 .f32 from U (Proc.devRef .tc main_arg4)) (ix2 k (column l)) := by
  after_reads_at
  after_reads_at
  after_reads_at
  exact columns (fun i => (show Vec Ideal S1024x2304 .f32 from U (Proc.devRef .tc main_arg4)) (ix2 k i)) l.val l.isLt

/-- The head-mean matrix's stages leave the weights. -/
theorem keep_w : StableHlo.after hostOps0_10 (StableHlo.after hostOps0_9 (StableHlo.after hostOps0_8 (StableHlo.after hostOps0_7 (StableHlo.after hostOps0_6 (StableHlo.after hostOps0_5 U))))) (Proc.devRef .tc main_v11)
    = U (Proc.devRef .tc main_v11) := by after_reads_simp

/-- They leave the gains. -/
theorem keep_g : StableHlo.after hostOps0_10 (StableHlo.after hostOps0_9 (StableHlo.after hostOps0_8 (StableHlo.after hostOps0_7 (StableHlo.after hostOps0_6 (StableHlo.after hostOps0_5 U))))) (Proc.devRef .tc main_v19)
    = U (Proc.devRef .tc main_v19) := by after_reads_simp

/-- The tables' stages leave the weights. -/
theorem keep_w' : StableHlo.after hostOps0_4 (StableHlo.after hostOps0_3 (StableHlo.after hostOps0_2 (StableHlo.after hostOps0_1 U))) (Proc.devRef .tc main_v11)
    = U (Proc.devRef .tc main_v11) := by after_reads_simp

/-- The tables' stages leave the gains. -/
theorem keep_g' : StableHlo.after hostOps0_4 (StableHlo.after hostOps0_3 (StableHlo.after hostOps0_2 (StableHlo.after hostOps0_1 U))) (Proc.devRef .tc main_v19)
    = U (Proc.devRef .tc main_v19) := by after_reads_simp

/-- The weights that the launch reads. -/
theorem weights (c : Dev nD) (k : Fin 1024) (l : Fin 2560) : V m c main_v11 (ix2 k l) = m (c, Proc.devRef .tc main_arg4) (ix2 k (column l)) := by
  rw [stages, keep_w, tables, keep_w', weights_stage]

/-- The gains of the queries that the launch reads. -/
theorem gainsQ (c : Dev nD) (l : Fin 512) : V m c main_v19 (ix2 0 ⟨l.val, by omega⟩) = m (c, Proc.devRef .tc main_arg5) (ix1 ⟨l.val % 64, by omega⟩) := by
  rw [stages, keep_g, tables, keep_g', gains_stage, if_pos l.isLt]

/-- The gains of the keys that the launch reads. -/
theorem gainsK (c : Dev nD) (l : Fin 256) : V m c main_v19 (ix2 0 ⟨512 + l.val, by omega⟩) = m (c, Proc.devRef .tc main_arg6) (ix1 ⟨l.val % 64, by omega⟩) := by
  rw [stages, keep_g, tables, keep_g', gains_stage, if_neg (by dsimp only; omega)]
  exact congrArg (m (c, Proc.devRef .tc main_arg6)) (congrArg ix1 (Fin.ext (by dsimp only; omega)))

/-- The gain that the launch reads. -/
theorem gain (c : Dev nD) (k : Fin 1024) : V m c main_v70 (ix2 0 k) = m (c, Proc.devRef .tc main_arg1) (ix1 k) := by
  rw [stages, tables]
  after_reads_at

/-- The shift that the launch reads. -/
theorem shift (c : Dev nD) (b : Fin 4) (k : Fin 1024) : V m c main_v71 (ix3 b 0 k) = m (c, Proc.devRef .tc main_arg2) (ix2 b k) := by
  rw [stages, tables]
  after_reads_at

/-- The scale that the launch reads. -/
theorem scale (c : Dev nD) (b : Fin 4) (k : Fin 1024) : V m c main_v72 (ix3 b 0 k) = m (c, Proc.devRef .tc main_arg3) (ix2 b k) := by
  rw [stages, tables]
  after_reads_at

/-- The tokens that the launch reads. -/
theorem tokens (c : Dev nD) (b : Fin 4) (s : Fin 4096) (k : Fin 1024) : V m c main_arg0 (ix3 b s k) = m (c, Proc.devRef .tc main_arg0) (ix3 b s k) := by
  rw [stages, tables]
  after_reads_at

end Cert.OddIdeal.Host
end
-- ==== Proof.OddHost.lean ====
/- The blocks that the odd layer's projection reads at one grid point, and where its output blocks lie. -/
module

public import proofs.«01_k».proof.Proof.OddTables
public import Idealize.ShloMosaic.Lib.Pipeline.ValueKit.Geometry

@[expose] public section

set_option maxRecDepth 16384

noncomputable section

namespace Cert.OddIdeal.Host

open Cert.OddIdeal Cert.OddIdeal.Gen Idealize.ShloMosaic Idealize.ShloMosaic.TcCoe Idealize.SL.Sem

variable (m : (ℓ : Loc nD τ sig) → Buf (Elt Ideal) ℓ)

/-- The launch has 32 points. -/
theorem point_lt (t : Fin cfg0.N) : t.val < 32 := t.isLt

/-- The batch of a point. -/
def batch (t : Fin cfg0.N) : Fin 4 := ⟨t.val / 8, by have := point_lt t; omega⟩

/-- The token of a point's row. -/
def token (t : Fin cfg0.N) (r : Fin 512) : Fin 4096 := ⟨t.val % 8 * 512 + r.val, by have := r.isLt; omega⟩

/-- The blocks of window 0. -/
theorem index0 : ∀ t : Fin cfg0.N, win0_0.index t = ![t.val / 8, t.val % 8, 0] :=
  (by decide +kernel : ∀ t : Fin grid0.N, win0_0.index t = ![t.val / 8, t.val % 8, 0])

/-- The blocks of window 1. -/
theorem index1 : ∀ t : Fin cfg0.N, win0_1.index t = ![0, 0] :=
  (by decide +kernel : ∀ t : Fin grid0.N, win0_1.index t = ![0, 0])

/-- The blocks of window 2. -/
theorem index2 : ∀ t : Fin cfg0.N, win0_2.index t = ![t.val / 8, 0, 0] :=
  (by decide +kernel : ∀ t : Fin grid0.N, win0_2.index t = ![t.val / 8, 0, 0])

/-- The blocks of window 3. -/
theorem index3 : ∀ t : Fin cfg0.N, win0_3.index t = ![t.val / 8, 0, 0] :=
  (by decide +kernel : ∀ t : Fin grid0.N, win0_3.index t = ![t.val / 8, 0, 0])

/-- The blocks of window 4. -/
theorem index4 : ∀ t : Fin cfg0.N, win0_4.index t = ![0, 0] :=
  (by decide +kernel : ∀ t : Fin grid0.N, win0_4.index t = ![0, 0])

/-- The blocks of window 5. -/
theorem index5 : ∀ t : Fin cfg0.N, win0_5.index t = ![t.val % 8, 0] :=
  (by decide +kernel : ∀ t : Fin grid0.N, win0_5.index t = ![t.val % 8, 0])

/-- The blocks of window 6. -/
theorem index6 : ∀ t : Fin cfg0.N, win0_6.index t = ![t.val % 8, 0] :=
  (by decide +kernel : ∀ t : Fin grid0.N, win0_6.index t = ![t.val % 8, 0])

/-- The blocks of window 7. -/
theorem index7 : ∀ t : Fin cfg0.N, win0_7.index t = ![0, 0] :=
  (by decide +kernel : ∀ t : Fin grid0.N, win0_7.index t = ![0, 0])

/-- The blocks of window 8. -/
theorem index8 : ∀ t : Fin cfg0.N, win0_8.index t = ![0, 0] :=
  (by decide +kernel : ∀ t : Fin grid0.N, win0_8.index t = ![0, 0])

/-- The blocks of window 9. -/
theorem index9 : ∀ t : Fin cfg0.N, win0_9.index t = ![t.val / 8, t.val % 8, 0] :=
  (by decide +kernel : ∀ t : Fin grid0.N, win0_9.index t = ![t.val / 8, t.val % 8, 0])

/-- The blocks of window 10. -/
theorem index10 : ∀ t : Fin cfg0.N, win0_10.index t = ![t.val / 8, t.val % 8, 0] :=
  (by decide +kernel : ∀ t : Fin grid0.N, win0_10.index t = ![t.val / 8, t.val % 8, 0])

/-- The blocks of window 11. -/
theorem index11 : ∀ t : Fin cfg0.N, win0_11.index t = ![t.val / 8, t.val % 8, 0] :=
  (by decide +kernel : ∀ t : Fin grid0.N, win0_11.index t = ![t.val / 8, t.val % 8, 0])

/-- The blocks of window 12. -/
theorem index12 : ∀ t : Fin cfg0.N, win0_12.index t = ![t.val / 8, t.val % 8, 0] :=
  (by decide +kernel : ∀ t : Fin grid0.N, win0_12.index t = ![t.val / 8, t.val % 8, 0])

/-- The block of window 0. -/
theorem blk0 (c : Dev nD) (t : Fin cfg0.N) (r : Fin 512) (q : Fin 1024) :
    iblk m c 0 t (ix3 0 r q) = V m c main_arg0 (ix3 (batch t) (token t r) q) := by
  show V m c main_arg0 (((cfg0.win 0).blk t).view.emb (ix3 0 r q)) = _
  refine congrArg (V m c main_arg0) (funext fun a => Fin.ext ?_)
  refine ((cfg0.win 0).rect_emb_val t _ a).trans ?_
  show win0_0.index t a * _ + _ = _
  rw [index0]
  match a with
  | ⟨0, _⟩ => show t.val / 8 * 1 + 0 = t.val / 8; omega
  | ⟨1, _⟩ => rfl
  | ⟨2, _⟩ => show 0 * 1024 + q.val = q.val; omega

/-- The block of window 1. -/
theorem blk1 (c : Dev nD) (t : Fin cfg0.N) (q : Fin 1024) :
    iblk m c 1 t (ix2 0 q) = V m c main_v70 (ix2 0 q) := by
  show V m c main_v70 (((cfg0.win 1).blk t).view.emb (ix2 0 q)) = _
  refine congrArg (V m c main_v70) (funext fun a => Fin.ext ?_)
  refine ((cfg0.win 1).rect_emb_val t _ a).trans ?_
  show win0_1.index t a * _ + _ = _
  rw [index1]
  match a with
  | ⟨0, _⟩ => show 0 * 1 + 0 = 0; omega
  | ⟨1, _⟩ => show 0 * 1024 + q.val = q.val; omega

/-- The block of window 2. -/
theorem blk2 (c : Dev nD) (t : Fin cfg0.N) (q : Fin 1024) :
    iblk m c 2 t (ix3 0 0 q) = V m c main_v71 (ix3 (batch t) 0 q) := by
  show V m c main_v71 (((cfg0.win 2).blk t).view.emb (ix3 0 0 q)) = _
  refine congrArg (V m c main_v71) (funext fun a => Fin.ext ?_)
  refine ((cfg0.win 2).rect_emb_val t _ a).trans ?_
  show win0_2.index t a * _ + _ = _
  rw [index2]
  match a with
  | ⟨0, _⟩ => show t.val / 8 * 1 + 0 = t.val / 8; omega
  | ⟨1, _⟩ => show 0 * 1 + 0 = 0; omega
  | ⟨2, _⟩ => show 0 * 1024 + q.val = q.val; omega

/-- The block of window 3. -/
theorem blk3 (c : Dev nD) (t : Fin cfg0.N) (q : Fin 1024) :
    iblk m c 3 t (ix3 0 0 q) = V m c main_v72 (ix3 (batch t) 0 q) := by
  show V m c main_v72 (((cfg0.win 3).blk t).view.emb (ix3 0 0 q)) = _
  refine congrArg (V m c main_v72) (funext fun a => Fin.ext ?_)
  refine ((cfg0.win 3).rect_emb_val t _ a).trans ?_
  show win0_3.index t a * _ + _ = _
  rw [index3]
  match a with
  | ⟨0, _⟩ => show t.val / 8 * 1 + 0 = t.val / 8; omega
  | ⟨1, _⟩ => show 0 * 1 + 0 = 0; omega
  | ⟨2, _⟩ => show 0 * 1024 + q.val = q.val; omega

/-- The block of window 4. -/
theorem blk4 (c : Dev nD) (t : Fin cfg0.N) (k : Fin 1024) (q : Fin 2560) :
    iblk m c 4 t (ix2 k q) = V m c main_v11 (ix2 k q) := by
  show V m c main_v11 (((cfg0.win 4).blk t).view.emb (ix2 k q)) = _
  refine congrArg (V m c main_v11) (funext fun a => Fin.ext ?_)
  refine ((cfg0.win 4).rect_emb_val t _ a).trans ?_
  show win0_4.index t a * _ + _ = _
  rw [index4]
  match a with
  | ⟨0, _⟩ => show 0 * 1024 + k.val = k.val; omega
  | ⟨1, _⟩ => show 0 * 2560 + q.val = q.val; omega

/-- The block of window 5. -/
theorem blk5 (c : Dev nD) (t : Fin cfg0.N) (r : Fin 512) (q : Fin 128) :
    iblk m c 5 t (ix2 r q) = V m c main_v59 (ix2 (token t r) q) := by
  show V m c main_v59 (((cfg0.win 5).blk t).view.emb (ix2 r q)) = _
  refine congrArg (V m c main_v59) (funext fun a => Fin.ext ?_)
  refine ((cfg0.win 5).rect_emb_val t _ a).trans ?_
  show win0_5.index t a * _ + _ = _
  rw [index5]
  match a with
  | ⟨0, _⟩ => rfl
  | ⟨1, _⟩ => show 0 * 128 + q.val = q.val; omega

/-- The block of window 6. -/
theorem blk6 (c : Dev nD) (t : Fin cfg0.N) (r : Fin 512) (q : Fin 128) :
    iblk m c 6 t (ix2 r q) = V m c main_v62 (ix2 (token t r) q) := by
  show V m c main_v62 (((cfg0.win 6).blk t).view.emb (ix2 r q)) = _
  refine congrArg (V m c main_v62) (funext fun a => Fin.ext ?_)
  refine ((cfg0.win 6).rect_emb_val t _ a).trans ?_
  show win0_6.index t a * _ + _ = _
  rw [index6]
  match a with
  | ⟨0, _⟩ => rfl
  | ⟨1, _⟩ => show 0 * 128 + q.val = q.val; omega

/-- The block of window 7. -/
theorem blk7 (c : Dev nD) (t : Fin cfg0.N) (k : Fin 512) (q : Fin 512) :
    iblk m c 7 t (ix2 k q) = V m c main_v69 (ix2 k q) := by
  show V m c main_v69 (((cfg0.win 7).blk t).view.emb (ix2 k q)) = _
  refine congrArg (V m c main_v69) (funext fun a => Fin.ext ?_)
  refine ((cfg0.win 7).rect_emb_val t _ a).trans ?_
  show win0_7.index t a * _ + _ = _
  rw [index7]
  match a with
  | ⟨0, _⟩ => show 0 * 512 + k.val = k.val; omega
  | ⟨1, _⟩ => show 0 * 512 + q.val = q.val; omega

/-- The block of window 8. -/
theorem blk8 (c : Dev nD) (t : Fin cfg0.N) (q : Fin 768) :
    iblk m c 8 t (ix2 0 q) = V m c main_v19 (ix2 0 q) := by
  show V m c main_v19 (((cfg0.win 8).blk t).view.emb (ix2 0 q)) = _
  refine congrArg (V m c main_v19) (funext fun a => Fin.ext ?_)
  refine ((cfg0.win 8).rect_emb_val t _ a).trans ?_
  show win0_8.index t a * _ + _ = _
  rw [index8]
  match a with
  | ⟨0, _⟩ => show 0 * 1 + 0 = 0; omega
  | ⟨1, _⟩ => show 0 * 768 + q.val = q.val; omega

/-- Where a point's block of output window 9 lies. -/
theorem emb9 (t : Fin cfg0.N) (e : Fin 1) (r : Fin 512) (q : Fin 512) :
    ((cfg0.win 9).blk t).view.emb (ix3 e r q) = ix3 (batch t) (token t r) q := by
  have he := e.isLt
  refine funext fun a => Fin.ext ?_
  refine ((cfg0.win 9).rect_emb_val t _ a).trans ?_
  show win0_9.index t a * _ + _ = _
  rw [index9]
  match a with
  | ⟨0, _⟩ => show t.val / 8 * 1 + e.val = t.val / 8; omega
  | ⟨1, _⟩ => rfl
  | ⟨2, _⟩ => show 0 * 512 + q.val = q.val; omega

/-- Every element of that result lies in the block of its batch and row block. -/
theorem cover9 (i : S4x4096x512.Idx) :
    ∃ t : Fin cfg0.N, (cfg0.win 9).flush t = true ∧ i ∈ ((cfg0.win 9).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_9 _, ?_⟩
  have h := ((cfg0.win 9).blk ⟨(i 0).val * 8 + (i 1).val / 512, ht⟩).view.emb_mem_set (ix3 (0 : Fin 1) (⟨(i 1).val % 512, by omega⟩ : Fin 512) (i 2))
  refine Eq.mp (congrArg (· ∈ _) ((emb9 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 10 lies. -/
theorem emb10 (t : Fin cfg0.N) (e : Fin 1) (r : Fin 512) (q : Fin 256) :
    ((cfg0.win 10).blk t).view.emb (ix3 e r q) = ix3 (batch t) (token t r) q := by
  have he := e.isLt
  refine funext fun a => Fin.ext ?_
  refine ((cfg0.win 10).rect_emb_val t _ a).trans ?_
  show win0_10.index t a * _ + _ = _
  rw [index10]
  match a with
  | ⟨0, _⟩ => show t.val / 8 * 1 + e.val = t.val / 8; omega
  | ⟨1, _⟩ => rfl
  | ⟨2, _⟩ => show 0 * 256 + q.val = q.val; omega

/-- Every element of that result lies in the block of its batch and row block. -/
theorem cover10 (i : S4x4096x256.Idx) :
    ∃ t : Fin cfg0.N, (cfg0.win 10).flush t = true ∧ i ∈ ((cfg0.win 10).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_10 _, ?_⟩
  have h := ((cfg0.win 10).blk ⟨(i 0).val * 8 + (i 1).val / 512, ht⟩).view.emb_mem_set (ix3 (0 : Fin 1) (⟨(i 1).val % 512, by omega⟩ : Fin 512) (i 2))
  refine Eq.mp (congrArg (· ∈ _) ((emb10 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 11 lies. -/
theorem emb11 (t : Fin cfg0.N) (e : Fin 1) (r : Fin 512) (q : Fin 256) :
    ((cfg0.win 11).blk t).view.emb (ix3 e r q) = ix3 (batch t) (token t r) q := by
  have he := e.isLt
  refine funext fun a => Fin.ext ?_
  refine ((cfg0.win 11).rect_emb_val t _ a).trans ?_
  show win0_11.index t a * _ + _ = _
  rw [index11]
  match a with
  | ⟨0, _⟩ => show t.val / 8 * 1 + e.val = t.val / 8; omega
  | ⟨1, _⟩ => rfl
  | ⟨2, _⟩ => show 0 * 256 + q.val = q.val; omega

/-- Every element of that result lies in the block of its batch and row block. -/
theorem cover11 (i : S4x4096x256.Idx) :
    ∃ t : Fin cfg0.N, (cfg0.win 11).flush t = true ∧ i ∈ ((cfg0.win 11).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_11 _, ?_⟩
  have h := ((cfg0.win 11).blk ⟨(i 0).val * 8 + (i 1).val / 512, ht⟩).view.emb_mem_set (ix3 (0 : Fin 1) (⟨(i 1).val % 512, by omega⟩ : Fin 512) (i 2))
  refine Eq.mp (congrArg (· ∈ _) ((emb11 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- Where a point's block of output window 12 lies. -/
theorem emb12 (t : Fin cfg0.N) (e : Fin 1) (r : Fin 512) (q : Fin 1536) :
    ((cfg0.win 12).blk t).view.emb (ix3 e r q) = ix3 (batch t) (token t r) q := by
  have he := e.isLt
  refine funext fun a => Fin.ext ?_
  refine ((cfg0.win 12).rect_emb_val t _ a).trans ?_
  show win0_12.index t a * _ + _ = _
  rw [index12]
  match a with
  | ⟨0, _⟩ => show t.val / 8 * 1 + e.val = t.val / 8; omega
  | ⟨1, _⟩ => rfl
  | ⟨2, _⟩ => show 0 * 1536 + q.val = q.val; omega

/-- Every element of that result lies in the block of its batch and row block. -/
theorem cover12 (i : S4x4096x1536.Idx) :
    ∃ t : Fin cfg0.N, (cfg0.win 12).flush t = true ∧ i ∈ ((cfg0.win 12).blk t).view.set := by
  have h0 : (i 0).val < 4 := (i 0).isLt
  have h1 : (i 1).val < 4096 := (i 1).isLt
  have ht : (i 0).val * 8 + (i 1).val / 512 < cfg0.N := by show _ < 32; omega
  refine ⟨⟨(i 0).val * 8 + (i 1).val / 512, ht⟩, flush0_12 _, ?_⟩
  have h := ((cfg0.win 12).blk ⟨(i 0).val * 8 + (i 1).val / 512, ht⟩).view.emb_mem_set (ix3 (0 : Fin 1) (⟨(i 1).val % 512, by omega⟩ : Fin 512) (i 2))
  refine Eq.mp (congrArg (· ∈ _) ((emb12 ⟨(i 0).val * 8 + (i 1).val / 512, ht⟩ (0 : Fin 1) (⟨(i 1).val % 512, by omega⟩ : Fin 512) (i 2)).trans ?_)) h
  refine funext fun a => Fin.ext ?_
  match a with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

end Cert.OddIdeal.Host
end
-- ==== Proof.OddRef.lean ====
/- The odd layer's projection as the reference states it, at an element: as the even layer's, with every query and key head
   normalised before it is turned. -/
module

public import proofs.«01_k».proof.Proof.Gen.OddRefIdeal.Run
public import proofs.«01_k».proof.Proof.ProjRef

@[expose] public section

set_option maxRecDepth 16384

noncomputable section

namespace Cert.OddRefIdeal.Out

open Cert.OddRefIdeal Cert.OddRefIdeal.Gen Cert.OddRefIdeal.Value Idealize.ShloMosaic Idealize.ShloMosaic.TcCoe Idealize.SL.Sem
open Cert.ProjRefIdeal.Out (product dotAt product_apply turned8 turned2 twice turned8_apply turned2_apply twice_apply headTurn rowAngles colAngles)

/-- The query heads, each over the root of its mean square and times the gain. -/
def normed8 (z : FVec Ideal S4x4096x8x64 .f32) (g : FVec Ideal S64 .f32) : FVec Ideal S4x4096x8x64 .f32 :=
  mulf (mulf z (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf z z) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 g))

/-- The key heads, each over the root of its mean square and times the gain. -/
def normed2 (z : FVec Ideal S4x4096x2x64 .f32) (g : FVec Ideal S64 .f32) : FVec Ideal S4x4096x2x64 .f32 :=
  mulf (mulf z (broadcastInDim S4x4096x2x64 ![0, 1, 2, 3] bcast_S4x4096x2x1_S4x4096x2x64_0_1_2_3 (Host.rsqrt (addf (Host.divf (broadcastInDim S4x4096x2x1 ![0, 1, 2] bcast_S4x4096x2_S4x4096x2x1_0_1_2 (Host.reduceAdd (mulf z z) (constant S_ .f32 0x00000000#32) reducesTo_S4x4096x2x64_S4x4096x2_d3 h_S_)) (broadcastInDim S4x4096x2x1 ![] bcast_S_S4x4096x2x1 (constant S_ .f32 0x42800000#32))) (broadcastInDim S4x4096x2x1 ![] bcast_S_S4x4096x2x1 (constant S_ .f32 0x358637BD#32)))))) (broadcastInDim S4x4096x2x64 ![0, 1, 2, 3] bcast_S1x1x1x64_S4x4096x2x64_0_1_2_3 (broadcastInDim S1x1x1x64 ![3] bcast_S64_S1x1x1x64_3 g))

/-- The places of one head are those whose first three coordinates are its own. -/
theorem fiber {n0 n1 n2 n3 : ℕ} (h : (⟨4, ![n0, n1, n2, n3]⟩ : Shape).ReducesTo [3] ⟨3, ![n0, n1, n2]⟩) (b : Fin n0) (s : Fin n1) (e : Fin n2)
    (i : (⟨4, ![n0, n1, n2, n3]⟩ : Shape).Idx) : h.drop i = ix3 b s e ↔ ∃ t : Fin n3, ix4 b s e t = i := by
  constructor
  · intro hd
    refine ⟨i 3, ?_⟩
    funext a; apply Fin.ext
    match a with
    | ⟨0, _⟩ => exact (congrArg Fin.val (congrFun hd ⟨0, Nat.lt_of_sub_eq_succ rfl⟩)).symm
    | ⟨1, _⟩ => exact (congrArg Fin.val (congrFun hd ⟨1, Nat.lt_of_sub_eq_succ rfl⟩)).symm
    | ⟨2, _⟩ => exact (congrArg Fin.val (congrFun hd ⟨2, Nat.lt_of_sub_eq_succ rfl⟩)).symm
    | ⟨3, _⟩ => rfl
  · rintro ⟨t, rfl⟩
    funext a
    apply Fin.ext
    match a with
    | ⟨0, _⟩ => rfl
    | ⟨1, _⟩ => rfl
    | ⟨2, _⟩ => rfl

/-- A sum over the last of four axes. -/
theorem reduce_sum {n0 n1 n2 n3 : ℕ} (h : (⟨4, ![n0, n1, n2, n3]⟩ : Shape).ReducesTo [3] ⟨3, ![n0, n1, n2]⟩)
    (y : FVec Ideal ⟨4, ![n0, n1, n2, n3]⟩ .f32) (b : Fin n0) (s : Fin n1) (e : Fin n2) :
    Ideal.hostReduceAdd h y 0 (ix3 b s e) = ∑ t : Fin n3, y (ix4 b s e t) := by
  unfold Ideal.hostReduceAdd
  rw [zero_add]
  exact Finset.sum_filter_eq_sum_of_fiber _ _ (fun t t' e => congrFun e 3) (fiber _ b s e) _

/-- One head normalised: over the root of its mean square, times the gain. -/
def headNorm (p g : Fin 64 → EReal) (d : Fin 64) : EReal :=
  p d * Ideal.rsqrt (Ideal.div (∑ t : Fin 64, p t * p t) (Ideal.ofBits FTy.f32 0x42800000#32) + Ideal.ofBits FTy.f32 0x358637BD#32) * g d

/-- The normalised query heads at an element. -/
theorem normed8_apply (z : FVec Ideal S4x4096x8x64 .f32) (g : FVec Ideal S64 .f32) (b : Fin 4) (s : Fin 4096) (e : Fin 8) (d : Fin 64) :
    normed8 z g (ix4 b s e d) = headNorm (fun d => z (ix4 b s e d)) (fun d => g (ix1 d)) d := by
  unfold headNorm
  have h := reduce_sum reducesTo_S4x4096x8x64_S4x4096x8_d3 (mulf z z) b s e
  have h' : normed8 z g (ix4 b s e d) = z (ix4 b s e d) * Ideal.rsqrt (Ideal.div (Ideal.hostReduceAdd reducesTo_S4x4096x8x64_S4x4096x8_d3 (mulf z z) 0 (ix3 b s e)) (Ideal.ofBits FTy.f32 0x42800000#32) + Ideal.ofBits FTy.f32 0x358637BD#32) * g (ix1 d) := by
    pointwise [normed8, id]
  rw [h', h]
  rfl

/-- The normalised key heads at an element. -/
theorem normed2_apply (z : FVec Ideal S4x4096x2x64 .f32) (g : FVec Ideal S64 .f32) (b : Fin 4) (s : Fin 4096) (e : Fin 2) (d : Fin 64) :
    normed2 z g (ix4 b s e d) = headNorm (fun d => z (ix4 b s e d)) (fun d => g (ix1 d)) d := by
  unfold headNorm
  have h := reduce_sum reducesTo_S4x4096x2x64_S4x4096x2_d3 (mulf z z) b s e
  have h' : normed2 z g (ix4 b s e d) = z (ix4 b s e d) * Ideal.rsqrt (Ideal.div (Ideal.hostReduceAdd reducesTo_S4x4096x2x64_S4x4096x2_d3 (mulf z z) 0 (ix3 b s e)) (Ideal.ofBits FTy.f32 0x42800000#32) + Ideal.ofBits FTy.f32 0x358637BD#32) * g (ix1 d) := by
    pointwise [normed2, id]
  rw [h', h]
  rfl

/-- The queries as a function of the arguments. -/
def query (x : FVec Ideal S4x4096x1024 .f32) (g : FVec Ideal S1024 .f32) (sh sc : FVec Ideal S4x1024 .f32) (w : FVec Ideal S1024x2304 .f32) (qn : FVec Ideal S64 .f32) : FVec Ideal S4x4096x512 .f32 :=
  turned8 (normed8 (shapeCast _ (extractStridedSlice S4x4096x512 ![0, 0, 0] (product x g sh sc w) slices_S4x4096x2304_S4x4096x512_0_0_0) shapeCasts_S4x4096x512_S4x4096x8x64) qn) rowAngles colAngles
/-- The keys. -/
def key (x : FVec Ideal S4x4096x1024 .f32) (g : FVec Ideal S1024 .f32) (sh sc : FVec Ideal S4x1024 .f32) (w : FVec Ideal S1024x2304 .f32) (kn : FVec Ideal S64 .f32) : FVec Ideal S4x4096x256 .bf16 :=
  twice (turned2 (normed2 (shapeCast _ (extractStridedSlice S4x4096x128 ![0, 0, 512] (product x g sh sc w) slices_S4x4096x2304_S4x4096x128_0_0_512) shapeCasts_S4x4096x128_S4x4096x2x64) kn) rowAngles colAngles)
/-- The values. -/
def value (x : FVec Ideal S4x4096x1024 .f32) (g : FVec Ideal S1024 .f32) (sh sc : FVec Ideal S4x1024 .f32) (w : FVec Ideal S1024x2304 .f32) : FVec Ideal S4x4096x256 .bf16 :=
  twice (shapeCast _ (extractStridedSlice S4x4096x128 ![0, 0, 640] (product x g sh sc w) slices_S4x4096x2304_S4x4096x128_0_0_640) shapeCasts_S4x4096x128_S4x4096x2x64)
/-- The remaining columns. -/
def rest (x : FVec Ideal S4x4096x1024 .f32) (g : FVec Ideal S1024 .f32) (sh sc : FVec Ideal S4x1024 .f32) (w : FVec Ideal S1024x2304 .f32) : FVec Ideal S4x4096x1536 .f32 :=
  extractStridedSlice S4x4096x1536 ![0, 0, 768] (product x g sh sc w) slices_S4x4096x2304_S4x4096x1536_0_0_768

variable (x : FVec Ideal S4x4096x1024 .f32) (g : FVec Ideal S1024 .f32) (sh sc : FVec Ideal S4x1024 .f32) (w : FVec Ideal S1024x2304 .f32)
  (qn kn : FVec Ideal S64 .f32) (b : Fin 4) (s : Fin 4096)

/-- The queries at an element. -/
theorem query_apply (l : Fin 512) : query x g sh sc w qn (ix3 b s l)
    = headTurn (headNorm (fun d => dotAt x g sh sc w b s ⟨l.val / 64 * 64 + d.val, by omega⟩) (fun d => qn (ix1 d))) (fun i => rowAngles (ix3 s 0 i)) (fun i => colAngles (ix3 s 0 i)) ⟨l.val % 64, by omega⟩ := by
  unfold query
  rw [turned8_apply]
  refine congrArg (fun p => headTurn p _ _ _) (funext fun d => ?_)
  refine (normed8_apply _ _ b s _ d).trans ?_
  refine congrArg (fun p => headNorm p _ d) (funext fun d => ?_)
  refine Eq.trans ?_ (product_apply x g sh sc w b s ⟨l.val / 64 * 64 + d.val, by omega⟩)
  generalize product x g sh sc w = y
  pointwise

/-- The keys at an element. -/
theorem key_apply (l : Fin 256) : key x g sh sc w kn (ix3 b s l)
    = headTurn (headNorm (fun d => dotAt x g sh sc w b s ⟨512 + (l.val / 128 * 64 + d.val), by omega⟩) (fun d => kn (ix1 d))) (fun i => rowAngles (ix3 s 0 i)) (fun i => colAngles (ix3 s 0 i)) ⟨l.val % 64, by omega⟩ := by
  unfold key
  rw [twice_apply, turned2_apply]
  refine congrArg (fun p => headTurn p _ _ _) (funext fun d => ?_)
  refine (normed2_apply _ _ b s _ d).trans ?_
  refine congrArg (fun p => headNorm p _ d) (funext fun d => ?_)
  refine Eq.trans ?_ (product_apply x g sh sc w b s ⟨512 + (l.val / 128 * 64 + d.val), by omega⟩)
  generalize product x g sh sc w = y
  pointwise

/-- The values at an element. -/
theorem value_apply (l : Fin 256) : value x g sh sc w (ix3 b s l) = dotAt x g sh sc w b s ⟨640 + (l.val / 128 * 64 + l.val % 64), by omega⟩ := by
  unfold value
  rw [twice_apply]
  refine Eq.trans ?_ (product_apply x g sh sc w b s ⟨640 + (l.val / 128 * 64 + l.val % 64), by omega⟩)
  generalize product x g sh sc w = y
  pointwise

/-- The remaining columns at an element. -/
theorem rest_apply (l : Fin 1536) : rest x g sh sc w (ix3 b s l) = dotAt x g sh sc w b s ⟨768 + l.val, by omega⟩ := by
  refine Eq.trans ?_ (product_apply x g sh sc w b s ⟨768 + l.val, by omega⟩)
  unfold rest
  generalize product x g sh sc w = y
  pointwise

/-- What the run leaves are these functions of the arguments. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v108) = query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v197) = key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v205) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25) = rest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3, h4⟩ := h c
    exact ⟨⟨h0.trans rfl, h1.trans rfl, h2.trans rfl, h3.trans rfl⟩, h4⟩)
    (Cert.OddRefIdeal.Value.run (F := Ideal) m ρ)

end Cert.OddRefIdeal.Out
end
-- ==== Proof.OddBody.lean ====
/- What the odd layer's projection leaves in its output blocks at one grid point, at an element. -/
module

public import proofs.«01_k».proof.Proof.Gen.OddIdeal.Value
public import proofs.«01_k».proof.Proof.OddRef
public import proofs.«01_k».proof.Proof.ProjBody
public import Idealize.ShloMosaic.Lib.Pointwise
public import Idealize.ShloMosaic.Lib.Pipeline.ValueKit.Tiles

@[expose] public section

set_option maxRecDepth 16384

noncomputable section

namespace Cert.OddIdeal.Body

open Cert.OddIdeal Cert.OddIdeal.Gen Idealize.ShloMosaic Idealize.ShloMosaic.TcCoe Idealize.SL.Sem
open Cert.ProjIdeal.Body (quad pair sel_half turn hz2 hz3 prod)
open Cert.OddRefIdeal.Out (headNorm)

/-- The word of 64. -/
theorem sixtyFour : Ideal.ofBits FTy.f32 0x42800000#32 = ((64 : ℝ) : EReal) := by
  simp [Ideal.ofBits, Ideal.ieee, -EReal.coe_mul]
  norm_num

/-- The word of one over 64. -/
theorem sixtyFourth : Ideal.ofBits FTy.f32 0x3C800000#32 = ((64⁻¹ : ℝ) : EReal) := by
  simp [Ideal.ofBits, Ideal.ieee, -EReal.coe_mul]
  norm_num

/-- A factor that is a real number, not negative, goes into a sum. -/
theorem sum_factor {ι : Type} (s : Finset ι) (f : ι → EReal) (c : ℝ) (hc : 0 ≤ c) : (∑ i ∈ s, f i) * (c : EReal) = ∑ i ∈ s, f i * (c : EReal) := by
  classical
  induction s using Finset.induction_on with
  | empty => rw [Finset.sum_empty, Finset.sum_empty, zero_mul]
  | insert a s ha ih =>
    rw [Finset.sum_insert ha, Finset.sum_insert ha, EReal.right_distrib_of_nonneg_of_ne_top (by exact_mod_cast hc) (EReal.coe_ne_top c), ih]

/-- The product of a row's squares with the matrix that holds one over 64 where two columns are of one head is the head's mean
    square. -/
theorem head_mean {n : ℕ} (y : Fin n → EReal) (l : ℕ) (hn : ∀ d : Fin 64, l / 64 * 64 + d.val < n) :
    ∑ j : Fin n, y j * y j * (if j.val / 64 = l / 64 then Ideal.ofBits FTy.f32 0x3C800000#32 else 0)
      = Ideal.div (∑ d : Fin 64, y ⟨l / 64 * 64 + d.val, hn d⟩ * y ⟨l / 64 * 64 + d.val, hn d⟩) (Ideal.ofBits FTy.f32 0x42800000#32) := by
  have e : ∀ j : Fin n, y j * y j * (if j.val / 64 = l / 64 then Ideal.ofBits FTy.f32 0x3C800000#32 else 0)
      = if j.val / 64 = l / 64 then y j * y j * Ideal.ofBits FTy.f32 0x3C800000#32 else 0 := by
    intro j
    by_cases h : j.val / 64 = l / 64
    · rw [if_pos h, if_pos h]
    · rw [if_neg h, if_neg h, mul_zero]
  rw [Finset.sum_congr rfl (fun j _ => e j), ← Finset.sum_filter,
    Finset.sum_filter_eq_sum_of_fiber (fun j : Fin n => j.val / 64 = l / 64) (fun d : Fin 64 => (⟨l / 64 * 64 + d.val, hn d⟩ : Fin n)) ?_ ?_,
    sixtyFour, sixtyFourth, Ideal.div_coe (by norm_num), sum_factor _ _ _ (by norm_num), one_div]
  · intro d d' h
    have h' : l / 64 * 64 + d.val = l / 64 * 64 + d'.val := congrArg Fin.val h
    exact Fin.ext (by omega)
  · intro j
    have hj := j.isLt
    constructor
    · intro h
      exact ⟨⟨j.val - l / 64 * 64, by omega⟩, Fin.ext (by dsimp only; omega)⟩
    · rintro ⟨d, rfl⟩
      have hd := d.isLt
      dsimp only
      omega

/-- The kernel's product is the product. -/
theorem pay4_apply (x : Vec Ideal S1x512x1024 .f32) (g : Vec Ideal S1x1024 .f32) (sc sh : Vec Ideal S1x1x1024 .f32) (w : Vec Ideal S1024x2560 .bf16) (r : Fin 512) (c : Fin 2560) :
    k0_pay4 x g sc sh w (ix2 r c) = prod x g sh sc w r c := by
  unfold prod Cert.ProjRefIdeal.Out.row
  pointwise [k0_pay4, id]

/-- The queries' columns of the product. -/
theorem pay5_apply (x : Vec Ideal S1x512x1024 .f32) (g : Vec Ideal S1x1024 .f32) (sc sh : Vec Ideal S1x1x1024 .f32) (w : Vec Ideal S1024x2560 .bf16) (r : Fin 512) (c : Fin 512) :
    k0_pay5 x g sc sh w (ix2 r c) = prod x g sh sc w r ⟨c.val, by omega⟩ := by
  rw [← pay4_apply]
  unfold k0_pay5
  generalize k0_pay4 x g sc sh w = y
  pointwise [id]

/-- The queries' head means. -/
theorem pay6_apply (x : Vec Ideal S1x512x1024 .f32) (g : Vec Ideal S1x1024 .f32) (sc sh : Vec Ideal S1x1x1024 .f32) (w : Vec Ideal S1024x2560 .bf16) (M : Vec Ideal S512x512 .bf16)
    (hm : ∀ j l : Fin 512, M (ix2 j l) = if j.val / 64 = l.val / 64 then Ideal.ofBits FTy.f32 0x3C800000#32 else 0) (r : Fin 512) (c : Fin 512) :
    k0_pay6 x g sc sh w M (ix2 r c) = Ideal.div (∑ d : Fin 64, k0_pay5 x g sc sh w (ix2 r ⟨c.val / 64 * 64 + d.val, by omega⟩) *
      k0_pay5 x g sc sh w (ix2 r ⟨c.val / 64 * 64 + d.val, by omega⟩)) (Ideal.ofBits FTy.f32 0x42800000#32) := by
  unfold k0_pay6
  generalize k0_pay5 x g sc sh w = y
  refine Eq.trans ?_ (head_mean (fun j : Fin 512 => y (ix2 r j)) c.val (fun d => by omega))
  simp only [← hm _ c]
  pointwise [id]

/-- The normalised and turned queries at an element, from the columns and their head means. -/
theorem pay7_apply (y z : FVec Ideal S512x512 .f32) (g : FVec Ideal S1x512 .f32) (a b : FVec Ideal S512x128 .f32) (r : Fin 512) (c : Fin 512) (A B G : Fin 64 → EReal)
    (ha : ∀ l : Fin 128, a (ix2 r l) = A ⟨l.val % 64, by omega⟩) (hb : ∀ l : Fin 128, b (ix2 r l) = B ⟨l.val % 64, by omega⟩)
    (hg : ∀ l : Fin 512, g (ix2 0 l) = G ⟨l.val % 64, by omega⟩)
    (hz : ∀ l : Fin 512, z (ix2 r l) = Ideal.div (∑ d : Fin 64, y (ix2 r ⟨l.val / 64 * 64 + d.val, by omega⟩) * y (ix2 r ⟨l.val / 64 * 64 + d.val, by omega⟩)) (Ideal.ofBits FTy.f32 0x42800000#32)) :
    k0_pay7 y z (Scalar.ofBits .f32 0x358637BD#32) g a b (ix3 0 r c) = turn (headNorm (fun d => y (ix2 r ⟨c.val / 64 * 64 + d.val, by omega⟩)) G) A B ⟨c.val % 64, by omega⟩ := by
  have hc := c.isLt
  have key : ∀ (j : Fin 512) (d : Fin 64), j.val = c.val / 64 * 64 + d.val →
      y (ix2 r j) * Ideal.rsqrt (z (ix2 r j) + Ideal.ofBits FTy.f32 0x358637BD#32) * g (ix2 0 j) = headNorm (fun d => y (ix2 r ⟨c.val / 64 * 64 + d.val, by omega⟩)) G d := by
    intro j d e
    have hd := d.isLt
    have ej : j = ⟨c.val / 64 * 64 + d.val, by omega⟩ := Fin.ext e
    have e1 : (c.val / 64 * 64 + d.val) / 64 = c.val / 64 := by omega
    have e2 : (⟨(c.val / 64 * 64 + d.val) % 64, by omega⟩ : Fin 64) = d := Fin.ext (by dsimp only; omega)
    rw [ej, hz, hg]
    dsimp only
    unfold headNorm
    simp only [e1, e2]
  unfold turn
  pointwise [k0_pay7, id]
  simp only [ha, hb]
  refine congrArg₂ (· + ·) (congrArg₂ (· * ·) (key _ _ ?_) (quad A c.val hc)) (congrArg₂ (· * ·) ((sel_half c.val hc _ _).trans ?_) (quad B c.val hc))
  · dsimp only; omega
  · by_cases h : c.val % 32 < 16
    · rw [if_pos h, dif_pos (show c.val % 64 % 32 < 16 by omega)]
      exact key _ _ (by dsimp only; omega)
    · rw [if_neg h, dif_neg (show ¬ c.val % 64 % 32 < 16 by omega)]
      exact key _ _ (by dsimp only; omega)

/-- The normalised keys at an element. -/
theorem pay8_apply (y : FVec Ideal S512x2560 .f32) (M : Vec Ideal S512x512 .bf16) (g : Vec Ideal S1x256 .f32) (r : Fin 512) (j : Fin 256) (G : Fin 64 → EReal)
    (hg : ∀ l : Fin 256, g (ix2 0 l) = G ⟨l.val % 64, by omega⟩)
    (hm : ∀ j l : Fin 512, M (ix2 j l) = if j.val / 64 = l.val / 64 then Ideal.ofBits FTy.f32 0x3C800000#32 else 0) :
    k0_pay8 y M g (ix2 r j) = headNorm (fun d => y (ix2 r ⟨512 + (j.val / 64 * 64 + d.val), by omega⟩)) G ⟨j.val % 64, by omega⟩ := by
  have hj := j.isLt
  have e : k0_pay8 y M g (ix2 r j) = y (ix2 r ⟨512 + j.val, by omega⟩) * Ideal.rsqrt ((∑ t : Fin 256, y (ix2 r ⟨512 + t.val, by omega⟩) * y (ix2 r ⟨512 + t.val, by omega⟩) *
      M (ix2 ⟨t.val, by omega⟩ ⟨j.val, by omega⟩)) + Ideal.ofBits FTy.f32 0x358637BD#32) * g (ix2 0 j) := by
    pointwise [k0_pay8, id]
  rw [e, hg]
  simp only [hm]
  rw [head_mean (fun t : Fin 256 => y (ix2 r ⟨512 + t.val, by omega⟩)) j.val (fun d => by omega)]
  unfold headNorm
  dsimp only
  have ej : (⟨512 + (j.val / 64 * 64 + j.val % 64), by omega⟩ : Fin 2560) = ⟨512 + j.val, by omega⟩ := Fin.ext (by dsimp only; omega)
  rw [ej]

/-- The normalised and turned keys at an element, from the normalised ones. -/
theorem pay1_apply (N : FVec Ideal S512x256 .f32) (a b : FVec Ideal S512x128 .f32) (r : Fin 512) (c : Fin 256) (A B H : Fin 64 → EReal)
    (ha : ∀ l : Fin 128, a (ix2 r l) = A ⟨l.val % 64, by omega⟩) (hb : ∀ l : Fin 128, b (ix2 r l) = B ⟨l.val % 64, by omega⟩)
    (key : ∀ (j : Fin 256) (d : Fin 64), j.val = c.val / 64 * 64 + d.val → N (ix2 r j) = H d) (y : FVec Ideal S512x2560 .f32) (M : Vec Ideal S512x512 .bf16) (g : Vec Ideal S1x256 .f32)
    (hN : k0_pay8 y M g = N) :
    k0_pay1 (k0_pay9 b) (k0_pay10 y M g a) (k0_pay11 y M g) (k0_pay12 y M g) k0_pay13 (ix3 0 r c) = turn H A B ⟨c.val % 64, by omega⟩ := by
  have hc := c.isLt
  unfold turn k0_pay10 k0_pay11 k0_pay12
  rw [hN]
  pointwise [k0_pay1, k0_pay9, k0_pay13, id]
  simp only [ha, hb]
  refine congrArg₂ (· + ·) (congrArg₂ (· * ·) (key _ _ ?_) (pair A c.val hc)) (congrArg₂ (· * ·) ((sel_half c.val (by omega) _ _).trans ?_) (pair B c.val hc))
  · dsimp only; omega
  · by_cases h : c.val % 32 < 16
    · rw [if_pos h, dif_pos (show c.val % 64 % 32 < 16 by omega)]
      exact key _ _ (by dsimp only; omega)
    · rw [if_neg h, dif_neg (show ¬ c.val % 64 % 32 < 16 by omega)]
      exact key _ _ (by dsimp only; omega)

variable (x0 : Vec Ideal S1x512x1024 .f32) (x1 : Vec Ideal S1x1024 .f32) (x2 : Vec Ideal S1x1x1024 .f32) (x3 : Vec Ideal S1x1x1024 .f32)
  (x4 : Vec Ideal S1024x2560 .bf16) (x5 : Vec Ideal S512x128 .f32) (x6 : Vec Ideal S512x128 .f32) (x7 : Vec Ideal S512x512 .bf16) (x8 : Vec Ideal S1x768 .f32)

/-- The gains of the queries' columns. -/
theorem gains_q (l : Fin 512) : View.ld x8 r0_5 (ix2 (0 : Fin 1) l) = x8 (ix2 0 ⟨l.val, by omega⟩) := by
  refine View.ld_unit_apply_of x8 _ _ _ _ _ (fun a => ?_)
  match a with
  | ⟨0, _⟩ => rfl
  | ⟨1, _⟩ => exact (Nat.zero_add _).symm

/-- The gains of the keys' columns. -/
theorem gains_k (l : Fin 256) : View.ld x8 r0_8 (ix2 (0 : Fin 1) l) = x8 (ix2 0 ⟨512 + l.val, by omega⟩) := by
  refine View.ld_unit_apply_of x8 _ _ _ _ _ (fun a => ?_)
  match a with
  | ⟨0, _⟩ => rfl
  | ⟨1, _⟩ => rfl

/-- The product of the loaded blocks. -/
theorem pay14_apply (r : Fin 512) (c : Fin 2560) : k0_pay14 x0 x1 x2 x3 x4 x5 x6 x7 x8 (ix2 r c) = prod x0 x1 x2 x3 x4 r c := by
  unfold k0_pay14
  rw [View.ld_unit_zero hz3, View.ld_unit_zero hz2, View.ld_unit_zero hz3, View.ld_unit_zero hz3, View.ld_unit_zero hz2]
  exact pay4_apply _ _ _ _ _ r c

/-- The block of normalised and turned queries. -/
theorem out9_apply (r : Fin 512) (c : Fin 512) (A B G : Fin 64 → EReal)
    (ha : ∀ l : Fin 128, x5 (ix2 r l) = A ⟨l.val % 64, by omega⟩) (hb : ∀ l : Fin 128, x6 (ix2 r l) = B ⟨l.val % 64, by omega⟩)
    (hm : ∀ j l : Fin 512, x7 (ix2 j l) = if j.val / 64 = l.val / 64 then Ideal.ofBits FTy.f32 0x3C800000#32 else 0)
    (hg : ∀ l : Fin 512, x8 (ix2 0 ⟨l.val, by omega⟩) = G ⟨l.val % 64, by omega⟩) :
    out0_9 x0 x1 x2 x3 x4 x5 x6 x7 x8 (ix3 0 r c)
      = turn (headNorm (fun d => prod x0 x1 x2 x3 x4 r ⟨c.val / 64 * 64 + d.val, by omega⟩) G) A B ⟨c.val % 64, by omega⟩ := by
  unfold out0_9
  rw [View.canon_unit_zero hz3, View.ld_unit_zero hz3, View.ld_unit_zero hz2, View.ld_unit_zero hz3, View.ld_unit_zero hz3, View.ld_unit_zero hz2,
    View.ld_unit_zero hz2, View.ld_unit_zero hz2, View.ld_unit_zero hz2]
  refine (pay7_apply _ _ _ _ _ r c A B G ha hb (fun l => (gains_q x8 l).trans (hg l)) (fun l => pay6_apply _ _ _ _ _ _ hm r l)).trans ?_
  refine congrArg (fun q => turn (headNorm q G) A B _) (funext fun d => ?_)
  exact pay5_apply _ _ _ _ _ r _

/-- The block of normalised and turned keys. -/
theorem out10_apply (r : Fin 512) (c : Fin 256) (A B G : Fin 64 → EReal)
    (ha : ∀ l : Fin 128, x5 (ix2 r l) = A ⟨l.val % 64, by omega⟩) (hb : ∀ l : Fin 128, x6 (ix2 r l) = B ⟨l.val % 64, by omega⟩)
    (hm : ∀ j l : Fin 512, x7 (ix2 j l) = if j.val / 64 = l.val / 64 then Ideal.ofBits FTy.f32 0x3C800000#32 else 0)
    (hg : ∀ l : Fin 256, x8 (ix2 0 ⟨512 + l.val, by omega⟩) = G ⟨l.val % 64, by omega⟩) :
    out0_10 x0 x1 x2 x3 x4 x5 x6 x7 x8 (ix3 0 r c)
      = turn (headNorm (fun d => prod x0 x1 x2 x3 x4 r ⟨512 + (c.val / 64 * 64 + d.val), by omega⟩) G) A B ⟨c.val % 64, by omega⟩ := by
  have hy := pay14_apply x0 x1 x2 x3 x4 x5 x6 x7 x8 r
  have hc := c.isLt
  unfold out0_10
  generalize k0_pay14 x0 x1 x2 x3 x4 x5 x6 x7 x8 = y at hy ⊢
  rw [View.canon_unit_zero hz3, View.ld_unit_zero hz2, View.ld_unit_zero hz2, View.ld_unit_zero hz2]
  refine pay1_apply _ _ _ r c A B _ ha hb (fun j d e => ?_) y x7 (View.ld x8 r0_8) rfl
  have hd := d.isLt
  refine (pay8_apply y x7 (View.ld x8 r0_8) r j G (fun l => (gains_k x8 l).trans (hg l)) hm).trans ?_
  have e1 : j.val / 64 = c.val / 64 := by omega
  have e2 : (⟨j.val % 64, by omega⟩ : Fin 64) = d := Fin.ext (by dsimp only; omega)
  rw [e2]
  refine congrArg (fun q => headNorm q G d) (funext fun t => ?_)
  rw [hy]
  simp only [e1]

/-- The block of values. -/
theorem out11_apply (r : Fin 512) (c : Fin 256) :
    out0_11 x0 x1 x2 x3 x4 x5 x6 x7 x8 (ix3 0 r c) = prod x0 x1 x2 x3 x4 r ⟨768 + c.val, by omega⟩ := by
  rw [← pay14_apply x0 x1 x2 x3 x4 x5 x6 x7 x8]
  unfold out0_11
  generalize k0_pay14 x0 x1 x2 x3 x4 x5 x6 x7 x8 = y
  rw [View.canon_unit_zero hz3]
  pointwise [k0_pay2, id]

/-- The block of the remaining columns. -/
theorem out12_apply (r : Fin 512) (c : Fin 1536) :
    out0_12 x0 x1 x2 x3 x4 x5 x6 x7 x8 (ix3 0 r c) = prod x0 x1 x2 x3 x4 r ⟨1024 + c.val, by omega⟩ := by
  rw [← pay14_apply x0 x1 x2 x3 x4 x5 x6 x7 x8]
  unfold out0_12
  generalize k0_pay14 x0 x1 x2 x3 x4 x5 x6 x7 x8 = y
  rw [View.canon_unit_zero hz3]
  pointwise [k0_pay3, id]

end Cert.OddIdeal.Body
end
-- ==== Proof.OddValue.lean ====
/- The odd layer's projection: its four result arrays are the reference's values of its arguments. -/
module

public import proofs.«01_k».proof.Proof.OddHost
public import proofs.«01_k».proof.Proof.OddBody
public import proofs.«01_k».proof.Proof.ProjValue
public import Idealize.ShloMosaic.Lib.Pipeline.ValueKit.Geometry

@[expose] public section

set_option maxRecDepth 16384

noncomputable section

namespace Cert.OddIdeal.Run

open Cert.OddIdeal Cert.OddIdeal.Gen Idealize.ShloMosaic Idealize.ShloMosaic.TcCoe Idealize.SL.Sem Cert.OddIdeal.Body Cert.OddIdeal.Host
open Cert.ProjRefIdeal.Out (dotAt headTurn rowAngles colAngles)
open Cert.ProjIdeal.Body (prod turn)
open Cert.ProjIdeal.Host (cosAt sinAt column)
open Cert.ProjIdeal.Run (turn_eq prod_of column_val)
open Cert.OddRefIdeal.Out (headNorm)

variable (m : (ℓ : Loc nD τ sig) → Buf (Elt Ideal) ℓ)

/-- The products of the kernel's own arguments. -/
def dots (c : Dev nD) (b : Fin 4) (s : Fin 4096) (l : Fin 2304) : EReal :=
  dotAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b s l

/-- The product of a point's blocks is the product of its rows with the weights' column. -/
theorem prod_eq (c : Dev nD) (t : Fin cfg0.N) (r : Fin 512) (l : Fin 2560) :
    prod (iblk m c 0 t) (iblk m c 1 t) (iblk m c 2 t) (iblk m c 3 t) (iblk m c 4 t) r l = dots m c (batch t) (token t r) (column l) :=
  prod_of _ _ _ _ _ _ _ _ _ _ _ _ _ _ _ (fun k => (blk0 m c t r k).trans (tokens m c _ _ k)) (fun k => (blk1 m c t k).trans (gain m c k))
    (fun k => (blk2 m c t k).trans (shift m c _ k)) (fun k => (blk3 m c t k).trans (scale m c _ k)) (fun k => (blk4 m c t k l).trans (weights m c k l))

/-- The same where the column is known. -/
theorem prod_at (c : Dev nD) (t : Fin cfg0.N) (r : Fin 512) (l : Fin 2560) (l' : Fin 2304) (e : (column l).val = l'.val) :
    prod (iblk m c 0 t) (iblk m c 1 t) (iblk m c 2 t) (iblk m c 3 t) (iblk m c 4 t) r l = dots m c (batch t) (token t r) l' := by
  rw [prod_eq, Fin.ext e]

/-- The reference's queries, normalised and turned, of the kernel's own arguments. -/
def target9 (c : Dev nD) : FVec Ideal S4x4096x512 .f32 :=
  Cert.OddRefIdeal.Out.query (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- A point's block is the reference's. -/
theorem out9_eq (c : Dev nD) (t : Fin cfg0.N) (r : Fin 512) (q : Fin 512) :
    out0_9 (iblk m c 0 t) (iblk m c 1 t) (iblk m c 2 t) (iblk m c 3 t) (iblk m c 4 t) (iblk m c 5 t) (iblk m c 6 t) (iblk m c 7 t) (iblk m c 8 t) (ix3 0 r q)
      = target9 m c (ix3 (batch t) (token t r) q) := by
  have hq := q.isLt
  refine (out9_apply _ _ _ _ _ _ _ _ _ r q (cosAt (fun i => rowAngles (ix3 (token t r) 0 i)) (fun i => colAngles (ix3 (token t r) 0 i)))
    (sinAt (fun i => rowAngles (ix3 (token t r) 0 i)) (fun i => colAngles (ix3 (token t r) 0 i)))
    (fun d => (show FVec Ideal S64 .f32 from m ((c.tc : Thread nD τ).loc main_arg5)) (ix1 d))
    (fun l => (blk5 m c t r l).trans (cosTable m c _ l)) (fun l => (blk6 m c t r l).trans (sinTable m c _ l))
    (fun j l => (blk7 m c t j l).trans (matrix m c j l)) (fun l => (blk8 m c t _).trans (gainsQ m c l))).trans ?_
  rw [turn_eq]
  refine Eq.trans ?_ (Cert.OddRefIdeal.Out.query_apply _ _ _ _ _ _ (batch t) (token t r) q).symm
  refine congrArg (fun p => headTurn (headNorm p _) _ _ _) (funext fun d => ?_)
  have hd := d.isLt
  refine prod_at m c t r _ _ ?_
  rw [column_val]
  dsimp only
  split_ifs <;> omega

/-- The result array at the end is the reference's. -/
theorem final9 (c : Dev nD) : (dats m 0 c).arrAt 9 cfg0.N = target9 m c := by
  refine (dats m 0 c).arrAt_eq_of_emb 9 (target9 m c) (fun t _ y => ?_) cover9
  show (dats m 0 c).after 9 t y = _
  rw [after0_9]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out9_eq m c t (y 1) (y 2)).trans (congrArg (target9 m c) (emb9 t 0 (y 1) (y 2)).symm)

/-- The reference's keys, normalised and turned, of the kernel's own arguments. -/
def target10 (c : Dev nD) : FVec Ideal S4x4096x256 .bf16 :=
  Cert.OddRefIdeal.Out.key (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6))

/-- A point's block is the reference's. -/
theorem out10_eq (c : Dev nD) (t : Fin cfg0.N) (r : Fin 512) (q : Fin 256) :
    out0_10 (iblk m c 0 t) (iblk m c 1 t) (iblk m c 2 t) (iblk m c 3 t) (iblk m c 4 t) (iblk m c 5 t) (iblk m c 6 t) (iblk m c 7 t) (iblk m c 8 t) (ix3 0 r q)
      = target10 m c (ix3 (batch t) (token t r) q) := by
  have hq := q.isLt
  refine (out10_apply _ _ _ _ _ _ _ _ _ r q (cosAt (fun i => rowAngles (ix3 (token t r) 0 i)) (fun i => colAngles (ix3 (token t r) 0 i)))
    (sinAt (fun i => rowAngles (ix3 (token t r) 0 i)) (fun i => colAngles (ix3 (token t r) 0 i)))
    (fun d => (show FVec Ideal S64 .f32 from m ((c.tc : Thread nD τ).loc main_arg6)) (ix1 d))
    (fun l => (blk5 m c t r l).trans (cosTable m c _ l)) (fun l => (blk6 m c t r l).trans (sinTable m c _ l))
    (fun j l => (blk7 m c t j l).trans (matrix m c j l)) (fun l => (blk8 m c t _).trans (gainsK m c l))).trans ?_
  rw [turn_eq]
  refine Eq.trans ?_ (Cert.OddRefIdeal.Out.key_apply _ _ _ _ _ _ (batch t) (token t r) q).symm
  refine congrArg (fun p => headTurn (headNorm p _) _ _ _) (funext fun d => ?_)
  have hd := d.isLt
  refine prod_at m c t r _ _ ?_
  rw [column_val]
  dsimp only
  split_ifs <;> omega

/-- The result array at the end is the reference's. -/
theorem final10 (c : Dev nD) : (dats m 0 c).arrAt 10 cfg0.N = target10 m c := by
  refine (dats m 0 c).arrAt_eq_of_emb 10 (target10 m c) (fun t _ y => ?_) cover10
  show (dats m 0 c).after 10 t y = _
  rw [after0_10]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out10_eq m c t (y 1) (y 2)).trans (congrArg (target10 m c) (emb10 t 0 (y 1) (y 2)).symm)

/-- The reference's values, of the kernel's own arguments. -/
def target11 (c : Dev nD) : FVec Ideal S4x4096x256 .bf16 :=
  Cert.OddRefIdeal.Out.value (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out11_eq (c : Dev nD) (t : Fin cfg0.N) (r : Fin 512) (q : Fin 256) :
    out0_11 (iblk m c 0 t) (iblk m c 1 t) (iblk m c 2 t) (iblk m c 3 t) (iblk m c 4 t) (iblk m c 5 t) (iblk m c 6 t) (iblk m c 7 t) (iblk m c 8 t) (ix3 0 r q)
      = target11 m c (ix3 (batch t) (token t r) q) := by
  have hq := q.isLt
  refine (out11_apply _ _ _ _ _ _ _ _ _ r q).trans ?_
  refine Eq.trans ?_ (Cert.OddRefIdeal.Out.value_apply _ _ _ _ _ (batch t) (token t r) q).symm
  refine prod_at m c t r _ _ ?_
  rw [column_val]
  dsimp only
  split_ifs <;> omega

/-- The result array at the end is the reference's. -/
theorem final11 (c : Dev nD) : (dats m 0 c).arrAt 11 cfg0.N = target11 m c := by
  refine (dats m 0 c).arrAt_eq_of_emb 11 (target11 m c) (fun t _ y => ?_) cover11
  show (dats m 0 c).after 11 t y = _
  rw [after0_11]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out11_eq m c t (y 1) (y 2)).trans (congrArg (target11 m c) (emb11 t 0 (y 1) (y 2)).symm)

/-- The reference's remaining columns, of the kernel's own arguments. -/
def target12 (c : Dev nD) : FVec Ideal S4x4096x1536 .f32 :=
  Cert.OddRefIdeal.Out.rest (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's. -/
theorem out12_eq (c : Dev nD) (t : Fin cfg0.N) (r : Fin 512) (q : Fin 1536) :
    out0_12 (iblk m c 0 t) (iblk m c 1 t) (iblk m c 2 t) (iblk m c 3 t) (iblk m c 4 t) (iblk m c 5 t) (iblk m c 6 t) (iblk m c 7 t) (iblk m c 8 t) (ix3 0 r q)
      = target12 m c (ix3 (batch t) (token t r) q) := by
  have hq := q.isLt
  refine (out12_apply _ _ _ _ _ _ _ _ _ r q).trans ?_
  refine Eq.trans ?_ (Cert.OddRefIdeal.Out.rest_apply _ _ _ _ _ (batch t) (token t r) q).symm
  refine prod_at m c t r _ _ ?_
  rw [column_val]
  dsimp only
  split_ifs <;> omega

/-- The result array at the end is the reference's. -/
theorem final12 (c : Dev nD) : (dats m 0 c).arrAt 12 cfg0.N = target12 m c := by
  refine (dats m 0 c).arrAt_eq_of_emb 12 (target12 m c) (fun t _ y => ?_) cover12
  show (dats m 0 c).after 12 t y = _
  rw [after0_12]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out12_eq m c t (y 1) (y 2)).trans (congrArg (target12 m c) (emb12 t 0 (y 1) (y 2)).symm)

end Cert.OddIdeal.Run
end
-- ==== Proof.CtxRef.lean ====
/- The projections of the context rows as their references state them, at an element: as the tokens', with one shift and scale for
   all batches and nothing turned. -/
module

public import proofs.«01_k».proof.Proof.Gen.CtxRefIdeal.Run
public import proofs.«01_k».proof.Proof.ProjRef

@[expose] public section

set_option maxRecDepth 16384

noncomputable section

namespace Cert.CtxRefIdeal.Out

open Cert.CtxRefIdeal Cert.CtxRefIdeal.Gen Cert.CtxRefIdeal.Value Idealize.ShloMosaic Idealize.ShloMosaic.TcCoe Idealize.SL.Sem
open Cert.ProjRefIdeal.Out (row reduce_sum)

/-- The tokens, normalised and modulated. -/
def hidden (x : FVec Ideal S4x256x1024 .f32) (g : FVec Ideal S1024 .f32) (sh sc : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))) (broadcastInDim S4x256x1024 ![0, 1, 2] bcast_S1x1x1024_S4x256x1024_0_1_2 (addf (broadcastInDim S1x1x1024 ![] bcast_S_S1x1x1024 (constant S_ .f32 0x3F800000#32)) (broadcastInDim S1x1x1024 ![0, 2] bcast_S1x1024_S1x1x1024_0_2 sc)))) (broadcastInDim S4x256x1024 ![0, 1, 2] bcast_S1x1x1024_S4x256x1024_0_1_2 (broadcastInDim S1x1x1024 ![0, 2] bcast_S1x1024_S1x1x1024_0_2 sh))

/-- Their product with the weights. -/
def product (x : FVec Ideal S4x256x1024 .f32) (g : FVec Ideal S1024 .f32) (sh sc : FVec Ideal S1x1024 .f32) (w : FVec Ideal S1024x2304 .f32) :
    FVec Ideal S4x256x2304 .f32 :=
  Host.dotGeneral dot_S4x256x1024_S1024x2304_S4x256x2304_2_0_01_1_n_n none (hidden x g sh sc) w

/-- Two heads, each handed on twice. -/
def twice (z : FVec Ideal S4x256x2x64 .f32) : FVec Ideal S4x256x256 .bf16 :=
  truncf .bf16 (shapeCast _ ((concatenate S4x256x4x64 2 [⟨S4x256x1x64, ((extractStridedSlice S4x256x1x64 ![0, 0, 0, 0] (z) slices_S4x256x2x64_S4x256x1x64_0_0_0_0))⟩, ⟨S4x256x1x64, ((extractStridedSlice S4x256x1x64 ![0, 0, 0, 0] (z) slices_S4x256x2x64_S4x256x1x64_0_0_0_0))⟩, ⟨S4x256x1x64, ((extractStridedSlice S4x256x1x64 ![0, 0, 1, 0] (z) slices_S4x256x2x64_S4x256x1x64_0_0_1_0))⟩, ⟨S4x256x1x64, ((extractStridedSlice S4x256x1x64 ![0, 0, 1, 0] (z) slices_S4x256x2x64_S4x256x1x64_0_0_1_0))⟩] concatenates_S4x256x1x64_S4x256x1x64_S4x256x1x64_S4x256x1x64_S4x256x4x64_d2)) shapeCasts_S4x256x4x64_S4x256x256) bitsLt_bf16_f32

/-- The normalised and modulated tokens at an element. -/
theorem hidden_apply (x : FVec Ideal S4x256x1024 .f32) (g : FVec Ideal S1024 .f32) (sh sc : FVec Ideal S1x1024 .f32) (b : Fin 4) (s : Fin 256) (k : Fin 1024) :
    hidden x g sh sc (ix3 b s k) = row (fun t => x (ix3 b s t)) (fun t => g (ix1 t)) (fun t => sh (ix2 0 t)) (fun t => sc (ix2 0 t)) k := by
  unfold row
  have e := reduce_sum reducesTo_S4x256x1024_S4x256_d2 (mulf x x) b s
  have h : hidden x g sh sc (ix3 b s k) = x (ix3 b s k) * Ideal.rsqrt (Ideal.div (Ideal.hostReduceAdd reducesTo_S4x256x1024_S4x256_d2 (mulf x x) 0 (ix2 b s)) (Ideal.ofBits FTy.f32 0x44800000#32) + Ideal.ofBits FTy.f32 0x358637BD#32) * g (ix1 k) *
    (Ideal.ofBits FTy.f32 0x3F800000#32 + sc (ix2 0 k)) + sh (ix2 0 k) := by
    pointwise [hidden, id]
  rw [h, e]
  rfl

/-- The product at an element. -/
theorem product_apply (x : FVec Ideal S4x256x1024 .f32) (g : FVec Ideal S1024 .f32) (sh sc : FVec Ideal S1x1024 .f32) (w : FVec Ideal S1024x2304 .f32)
    (b : Fin 4) (s : Fin 256) (c : Fin 2304) :
    product x g sh sc w (ix3 b s c)
      = ∑ k : Fin 1024, row (fun t => x (ix3 b s t)) (fun t => g (ix1 t)) (fun t => sh (ix2 0 t)) (fun t => sc (ix2 0 t)) k * w (ix2 k c) := by
  have h : product x g sh sc w (ix3 b s c) = ∑ k : Fin 1024, hidden x g sh sc (ix3 b s k) * w (ix2 k c) := by
    unfold product
    generalize hidden x g sh sc = y
    pointwise
  rw [h]
  simp only [hidden_apply]

/-- The doubled heads at an element. -/
theorem twice_apply (z : FVec Ideal S4x256x2x64 .f32) (b : Fin 4) (s : Fin 256) (l : Fin 256) :
    twice z (ix3 b s l) = z (ix4 b s (⟨l.val / 128, by omega⟩ : Fin 2) (⟨l.val % 64, by omega⟩ : Fin 64)) := by
  have hl := l.isLt
  have key : ∀ (i : ℕ) (hi : i < 2), i = l.val / 128 → z (ix4 b s (⟨i, hi⟩ : Fin 2) (⟨l.val % 64, by omega⟩ : Fin 64)) =
      z (ix4 b s (⟨l.val / 128, by omega⟩ : Fin 2) (⟨l.val % 64, by omega⟩ : Fin 64)) := by
    intro i hi e
    subst e
    rfl
  pointwise [twice, id]
  split_ifs <;> exact key _ _ (by omega)

/-- The queries as a function of the five arguments. -/
def query (x : FVec Ideal S4x256x1024 .f32) (g : FVec Ideal S1024 .f32) (sh sc : FVec Ideal S1x1024 .f32) (w : FVec Ideal S1024x2304 .f32) : FVec Ideal S4x256x512 .f32 :=
  extractStridedSlice S4x256x512 ![0, 0, 0] (product x g sh sc w) slices_S4x256x2304_S4x256x512_0_0_0

/-- The keys. -/
def key (x : FVec Ideal S4x256x1024 .f32) (g : FVec Ideal S1024 .f32) (sh sc : FVec Ideal S1x1024 .f32) (w : FVec Ideal S1024x2304 .f32) : FVec Ideal S4x256x256 .bf16 :=
  twice (shapeCast _ (extractStridedSlice S4x256x128 ![0, 0, 512] (product x g sh sc w) slices_S4x256x2304_S4x256x128_0_0_512) shapeCasts_S4x256x128_S4x256x2x64)

/-- The values. -/
def value (x : FVec Ideal S4x256x1024 .f32) (g : FVec Ideal S1024 .f32) (sh sc : FVec Ideal S1x1024 .f32) (w : FVec Ideal S1024x2304 .f32) : FVec Ideal S4x256x256 .bf16 :=
  twice (shapeCast _ (extractStridedSlice S4x256x128 ![0, 0, 640] (product x g sh sc w) slices_S4x256x2304_S4x256x128_0_0_640) shapeCasts_S4x256x128_S4x256x2x64)

/-- The neighbourhood's queries. -/
def query' (x : FVec Ideal S4x256x1024 .f32) (g : FVec Ideal S1024 .f32) (sh sc : FVec Ideal S1x1024 .f32) (w : FVec Ideal S1024x2304 .f32) : FVec Ideal S4x256x512 .f32 :=
  extractStridedSlice S4x256x512 ![0, 0, 768] (product x g sh sc w) slices_S4x256x2304_S4x256x512_0_0_768

/-- The neighbourhood's keys. -/
def key' (x : FVec Ideal S4x256x1024 .f32) (g : FVec Ideal S1024 .f32) (sh sc : FVec Ideal S1x1024 .f32) (w : FVec Ideal S1024x2304 .f32) : FVec Ideal S4x256x512 .bf16 :=
  truncf .bf16 (extractStridedSlice S4x256x512 ![0, 0, 1280] (product x g sh sc w) slices_S4x256x2304_S4x256x512_0_0_1280) bitsLt_bf16_f32

/-- The neighbourhood's values. -/
def value' (x : FVec Ideal S4x256x1024 .f32) (g : FVec Ideal S1024 .f32) (sh sc : FVec Ideal S1x1024 .f32) (w : FVec Ideal S1024x2304 .f32) : FVec Ideal S4x256x512 .bf16 :=
  truncf .bf16 (extractStridedSlice S4x256x512 ![0, 0, 1792] (product x g sh sc w) slices_S4x256x2304_S4x256x512_0_0_1792) bitsLt_bf16_f32

/-- The element of the product at batch `b`, row `s` and column `c` of the weights. -/
def dotAt (x : FVec Ideal S4x256x1024 .f32) (g : FVec Ideal S1024 .f32) (sh sc : FVec Ideal S1x1024 .f32) (w : FVec Ideal S1024x2304 .f32) (b : Fin 4) (s : Fin 256) (c : Fin 2304) : EReal :=
  ∑ k : Fin 1024, row (fun t => x (ix3 b s t)) (fun t => g (ix1 t)) (fun t => sh (ix2 0 t)) (fun t => sc (ix2 0 t)) k * w (ix2 k c)

variable (x : FVec Ideal S4x256x1024 .f32) (g : FVec Ideal S1024 .f32) (sh sc : FVec Ideal S1x1024 .f32) (w : FVec Ideal S1024x2304 .f32)
  (b : Fin 4) (s : Fin 256)

variable (x : FVec Ideal S4x256x1024 .f32) (g : FVec Ideal S1024 .f32) (sh sc : FVec Ideal S1x1024 .f32) (w : FVec Ideal S1024x2304 .f32)
  (b : Fin 4) (s : Fin 256)

/-- The queries at an element. -/
theorem query_apply (l : Fin 512) : query x g sh sc w (ix3 b s l) = dotAt x g sh sc w b s ⟨l.val, by omega⟩ := by
  refine Eq.trans ?_ (product_apply x g sh sc w b s ⟨l.val, by omega⟩)
  unfold query
  generalize product x g sh sc w = y
  pointwise

/-- The keys at an element. -/
theorem key_apply (l : Fin 256) : key x g sh sc w (ix3 b s l) = dotAt x g sh sc w b s ⟨512 + (l.val / 128 * 64 + l.val % 64), by omega⟩ := by
  unfold key
  rw [twice_apply]
  refine Eq.trans ?_ (product_apply x g sh sc w b s ⟨512 + (l.val / 128 * 64 + l.val % 64), by omega⟩)
  generalize product x g sh sc w = y
  pointwise

/-- The values at an element. -/
theorem value_apply (l : Fin 256) : value x g sh sc w (ix3 b s l) = dotAt x g sh sc w b s ⟨640 + (l.val / 128 * 64 + l.val % 64), by omega⟩ := by
  unfold value
  rw [twice_apply]
  refine Eq.trans ?_ (product_apply x g sh sc w b s ⟨640 + (l.val / 128 * 64 + l.val % 64), by omega⟩)
  generalize product x g sh sc w = y
  pointwise

/-- The neighbourhood's queries at an element. -/
theorem query'_apply (l : Fin 512) : query' x g sh sc w (ix3 b s l) = dotAt x g sh sc w b s ⟨768 + l.val, by omega⟩ := by
  refine Eq.trans ?_ (product_apply x g sh sc w b s ⟨768 + l.val, by omega⟩)
  unfold query'
  generalize product x g sh sc w = y
  pointwise

/-- The neighbourhood's keys at an element. -/
theorem key'_apply (l : Fin 512) : key' x g sh sc w (ix3 b s l) = dotAt x g sh sc w b s ⟨1280 + l.val, by omega⟩ := by
  refine Eq.trans ?_ (product_apply x g sh sc w b s ⟨1280 + l.val, by omega⟩)
  unfold key'
  generalize product x g sh sc w = y
  pointwise

/-- The neighbourhood's values at an element. -/
theorem value'_apply (l : Fin 512) : value' x g sh sc w (ix3 b s l) = dotAt x g sh sc w b s ⟨1792 + l.val, by omega⟩ := by
  refine Eq.trans ?_ (product_apply x g sh sc w b s ⟨1792 + l.val, by omega⟩)
  unfold value'
  generalize product x g sh sc w = y
  pointwise

/-- What the run leaves are these functions of the arguments. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v22) = query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25) = query' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = key' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v45) = value' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h0, h1, h2, h3, h4, h5, h6⟩ := h c
    exact ⟨⟨h0.trans rfl, h1.trans rfl, h2.trans rfl, h3.trans rfl, h4.trans rfl, h5.trans rfl⟩, h6⟩)
    (Cert.CtxRefIdeal.Value.run (F := Ideal) m ρ)

end Cert.CtxRefIdeal.Out
end
-- ==== Proof.CtxBody.lean ====
/- What the context rows' projection leaves in its output blocks at one grid point, at an element. -/
module

public import proofs.«01_k».proof.Proof.Gen.CtxIdeal.Value
public import proofs.«01_k».proof.Proof.CtxRef
public import proofs.«01_k».proof.Proof.ProjBody
public import Idealize.ShloMosaic.Lib.Pointwise
public import Idealize.ShloMosaic.Lib.Pipeline.ValueKit.Tiles

@[expose] public section

set_option maxRecDepth 16384

noncomputable section

namespace Cert.CtxIdeal.Body

open Cert.CtxIdeal Cert.CtxIdeal.Gen Idealize.ShloMosaic Idealize.ShloMosaic.TcCoe Idealize.SL.Sem
open Cert.ProjIdeal.Body (hz2 hz3)

/-- The product at an element. -/
def prod (x : Vec Ideal S1x256x1024 .f32) (g : Vec Ideal S1x1024 .f32) (sh sc : Vec Ideal S1x1x1024 .f32) (w : Vec Ideal S1024x2560 .bf16) (r : Fin 256) (c : Fin 2560) : EReal :=
  ∑ k, Cert.ProjRefIdeal.Out.row (fun t => x (ix3 0 r t)) (fun t => g (ix2 0 t)) (fun t => sh (ix3 0 0 t)) (fun t => sc (ix3 0 0 t)) k * w (ix2 k c)

/-- The kernel's product is the product. -/
theorem pay6_apply (x : Vec Ideal S1x256x1024 .f32) (g : Vec Ideal S1x1024 .f32) (sc sh : Vec Ideal S1x1x1024 .f32) (w : Vec Ideal S1024x2560 .bf16) (r : Fin 256) (c : Fin 2560) :
    k0_pay6 x g sc sh w (ix2 r c) = prod x g sh sc w r c := by
  unfold prod Cert.ProjRefIdeal.Out.row
  pointwise [k0_pay6, id]

variable (x0 : Vec Ideal S1x256x1024 .f32) (x1 : Vec Ideal S1x1024 .f32) (x2 : Vec Ideal S1x1x1024 .f32) (x3 : Vec Ideal S1x1x1024 .f32)
  (x4 : Vec Ideal S1024x2560 .bf16)

/-- The product of the loaded blocks. -/
theorem pay9_apply (r : Fin 256) (c : Fin 2560) : k0_pay9 x0 x1 x2 x3 x4 (ix2 r c) = prod x0 x1 x2 x3 x4 r c := by
  unfold k0_pay9
  rw [View.ld_unit_zero hz3, View.ld_unit_zero hz2, View.ld_unit_zero hz3, View.ld_unit_zero hz3, View.ld_unit_zero hz2]
  exact pay6_apply _ _ _ _ _ r c

/-- The block of queries. -/
theorem out5_apply (r : Fin 256) (c : Fin 512) :
    out0_5 x0 x1 x2 x3 x4 (ix3 0 r c) = prod x0 x1 x2 x3 x4 r ⟨c.val, by omega⟩ := by
  rw [← pay6_apply x0 x1 x3 x2 x4]
  unfold out0_5
  rw [View.canon_unit_zero hz3, View.ld_unit_zero hz3, View.ld_unit_zero hz2, View.ld_unit_zero hz3, View.ld_unit_zero hz3, View.ld_unit_zero hz2]
  unfold k0_pay7
  generalize k0_pay6 x0 x1 x3 x2 x4 = y
  pointwise [id]

/-- The block of keys. -/
theorem out6_apply (r : Fin 256) (c : Fin 256) :
    out0_6 x0 x1 x2 x3 x4 (ix3 0 r c) = prod x0 x1 x2 x3 x4 r ⟨512 + c.val, by omega⟩ := by
  rw [← pay6_apply x0 x1 x3 x2 x4]
  unfold out0_6
  rw [View.canon_unit_zero hz3, View.ld_unit_zero hz3, View.ld_unit_zero hz2, View.ld_unit_zero hz3, View.ld_unit_zero hz3, View.ld_unit_zero hz2]
  unfold k0_pay8
  generalize k0_pay6 x0 x1 x3 x2 x4 = y
  pointwise [k0_pay1, id]

/-- The block of values. -/
theorem out7_apply (r : Fin 256) (c : Fin 256) :
    out0_7 x0 x1 x2 x3 x4 (ix3 0 r c) = prod x0 x1 x2 x3 x4 r ⟨768 + c.val, by omega⟩ := by
  rw [← pay9_apply x0 x1 x2 x3 x4]
  unfold out0_7
  generalize k0_pay9 x0 x1 x2 x3 x4 = y
  rw [View.canon_unit_zero hz3]
  pointwise [k0_pay2, id]

/-- The block of second queries. -/
theorem out8_apply (r : Fin 256) (c : Fin 512) :
    out0_8 x0 x1 x2 x3 x4 (ix3 0 r c) = prod x0 x1 x2 x3 x4 r ⟨1024 + c.val, by omega⟩ := by
  rw [← pay9_apply x0 x1 x2 x3 x4]
  unfold out0_8
  generalize k0_pay9 x0 x1 x2 x3 x4 = y
  rw [View.canon_unit_zero hz3]
  pointwise [k0_pay3, id]

/-- The block of second keys. -/
theorem out9_apply (r : Fin 256) (c : Fin 512) :
    out0_9 x0 x1 x2 x3 x4 (ix3 0 r c) = prod x0 x1 x2 x3 x4 r ⟨1536 + c.val, by omega⟩ := by
  rw [← pay9_apply x0 x1 x2 x3 x4]
  unfold out0_9
  generalize k0_pay9 x0 x1 x2 x3 x4 = y
  rw [View.canon_unit_zero hz3]
  pointwise [k0_pay4, id]

/-- The block of second values. -/
theorem out10_apply (r : Fin 256) (c : Fin 512) :
    out0_10 x0 x1 x2 x3 x4 (ix3 0 r c) = prod x0 x1 x2 x3 x4 r ⟨2048 + c.val, by omega⟩ := by
  rw [← pay9_apply x0 x1 x2 x3 x4]
  unfold out0_10
  generalize k0_pay9 x0 x1 x2 x3 x4 = y
  rw [View.canon_unit_zero hz3]
  pointwise [k0_pay5, id]

end Cert.CtxIdeal.Body
end
-- ==== Proof.CtxHost.lean ====
/- The arrays and blocks that the launch of the context rows' projection reads, and where its output blocks lie. -/
module

public import proofs.«01_k».proof.Proof.CtxBody
public import proofs.«01_k».proof.Proof.ProjHost
public import Idealize.ShloMosaic.Lib.Pipeline.ValueKit.Geometry
public import Idealize.ShloMosaic.Lib.StableHlo.ReadAt

@[expose] public section

set_option maxRecDepth 16384

noncomputable section

namespace Cert.CtxIdeal.Host

open Cert.CtxIdeal Cert.CtxIdeal.Gen Idealize.ShloMosaic Idealize.ShloMosaic.TcCoe Idealize.SL.Sem
open Cert.ProjIdeal.Host (column columns)

variable (m : (ℓ : Loc nD τ sig) → Buf (Elt Ideal) ℓ)

variable (U : Valuation τ sig (Elt Ideal))

/-- The weights: the key and value heads stand twice. -/
theorem weights_stage (k : Fin 1024) (l : Fin 2560) : StableHlo.after hostOps0 U (Proc.devRef .tc main_v11) (ix2 k l) =
    (show Vec Ideal S1024x2304 .f32 from U (Proc.devRef .tc main_arg4)) (ix2 k (column l)) := by
  after_reads_at
  after_reads_at
  after_reads_at
  exact columns (fun i => (show Vec Ideal S1024x2304 .f32 from U (Proc.devRef .tc main_arg4)) (ix2 k i)) l.val l.isLt

/-- The weights that the launch reads. -/
theorem weights (c : Dev nD) (k : Fin 1024) (l : Fin 2560) : V m c main_v11 (ix2 k l) = m (c, Proc.devRef .tc main_arg4) (ix2 k (column l)) :=
  weights_stage _ k l

/-- The gain, in any contents. -/
theorem gain_stage (k : Fin 1024) : StableHlo.after hostOps0 U (Proc.devRef .tc main_v12) (ix2 0 k) =
    (show Vec Ideal S1024 .f32 from U (Proc.devRef .tc main_arg1)) (ix1 k) := by
  after_reads_at
/-- The shift, in any contents. -/
theorem shift_stage (k : Fin 1024) : StableHlo.after hostOps0 U (Proc.devRef .tc main_v13) (ix3 0 0 k) =
    (show Vec Ideal S1x1024 .f32 from U (Proc.devRef .tc main_arg2)) (ix2 0 k) := by
  after_reads_at
/-- The scale, in any contents. -/
theorem scale_stage (k : Fin 1024) : StableHlo.after hostOps0 U (Proc.devRef .tc main_v14) (ix3 0 0 k) =
    (show Vec Ideal S1x1024 .f32 from U (Proc.devRef .tc main_arg3)) (ix2 0 k) := by
  after_reads_at
/-- The rows, in any contents. -/
theorem tokens_stage (b : Fin 4) (s : Fin 256) (k : Fin 1024) : StableHlo.after hostOps0 U (Proc.devRef .tc main_arg0) (ix3 b s k) =
    (show Vec Ideal S4x256x1024 .f32 from U (Proc.devRef .tc main_arg0)) (ix3 b s k) := by
  after_reads_at

/-- The gain that the launch reads. -/
theorem gain (c : Dev nD) (k : Fin 1024) : V m c main_v12 (ix2 0 k) = m (c, Proc.devRef .tc main_arg1) (ix1 k) := gain_stage _ k
/-- The shift that the launch reads. -/
theorem shift (c : Dev nD) (k : Fin 1024) : V m c main_v13 (ix3 0 0 k) = m (c, Proc.devRef .tc main_arg2) (ix2 0 k) := shift_stage _ k
/-- The scale that the launch reads. -/
theorem scale (c : Dev nD) (k : Fin 1024) : V m c main_v14 (ix3 0 0 k) = m (c, Proc.devRef .tc main_arg3) (ix2 0 k) := scale_stage _ k
/-- The rows that the launch reads. -/
theorem tokens (c : Dev nD) (b : Fin 4) (s : Fin 256) (k : Fin 1024) : V m c main_arg0 (ix3 b s k) = m (c, Proc.devRef .tc main_arg0) (ix3 b s k) :=
  tokens_stage _ b s k

/-- The launch has 4 points. -/
theorem point_lt (t : Fin cfg0.N) : t.val < 4 := t.isLt

/-- The batch of a point. -/
def batch (t : Fin cfg0.N) : Fin 4 := ⟨t.val, point_lt t⟩

/-- The blocks of window 0. -/
theorem index0 : ∀ t : Fin cfg0.N, win0_0.index t = ![t.val, 0, 0] :=
  (by decide +kernel : ∀ t : Fin grid0.N, win0_0.index t = ![t.val, 0, 0])

/-- The blocks of window 1. -/
theorem index1 : ∀ t : Fin cfg0.N, win0_1.index t = ![0, 0] :=
  (by decide +kernel : ∀ t : Fin grid0.N, win0_1.index t = ![0, 0])

/-- The blocks of window 2. -/
theorem index2 : ∀ t : Fin cfg0.N, win0_2.index t = ![0, 0, 0] :=
  (by decide +kernel : ∀ t : Fin grid0.N, win0_2.index t = ![0, 0, 0])

/-- The blocks of window 3. -/
theorem index3 : ∀ t : Fin cfg0.N, win0_3.index t = ![0, 0, 0] :=
  (by decide +kernel : ∀ t : Fin grid0.N, win0_3.index t = ![0, 0, 0])

/-- The blocks of window 4. -/
theorem index4 : ∀ t : Fin cfg0.N, win0_4.index t = ![0, 0] :=
  (by decide +kernel : ∀ t : Fin grid0.N, win0_4.index t = ![0, 0])

/-- The blocks of window 5. -/
theorem index5 : ∀ t : Fin cfg0.N, win0_5.index t = ![t.val, 0, 0] :=
  (by decide +kernel : ∀ t : Fin grid0.N, win0_5.index t = ![t.val, 0, 0])

/-- The blocks of window 6. -/
theorem index6 : ∀ t : Fin cfg0.N, win0_6.index t = ![t.val, 0, 0] :=
  (by decide +kernel : ∀ t : Fin grid0.N, win0_6.index t = ![t.val, 0, 0])

/-- The blocks of window 7. -/
theorem index7 : ∀ t : Fin cfg0.N, win0_7.index t = ![t.val, 0, 0] :=
  (by decide +kernel : ∀ t : Fin grid0.N, win0_7.index t = ![t.val, 0, 0])

/-- The blocks of window 8. -/
theorem index8 : ∀ t : Fin cfg0.N, win0_8.index t = ![t.val, 0, 0] :=
  (by decide +kernel : ∀ t : Fin grid0.N, win0_8.index t = ![t.val, 0, 0])

/-- The blocks of window 9. -/
theorem index9 : ∀ t : Fin cfg0.N, win0_9.index t = ![t.val, 0, 0] :=
  (by decide +kernel : ∀ t : Fin grid0.N, win0_9.index t = ![t.val, 0, 0])

/-- The blocks of window 10. -/
theorem index10 : ∀ t : Fin cfg0.N, win0_10.index t = ![t.val, 0, 0] :=
  (by decide +kernel : ∀ t : Fin grid0.N, win0_10.index t = ![t.val, 0, 0])

/-- The block of window 0. -/
theorem blk0 (c : Dev nD) (t : Fin cfg0.N) (r : Fin 256) (q : Fin 1024) :
    iblk m c 0 t (ix3 0 r q) = V m c main_arg0 (ix3 (batch t) r q) := by
  show V m c main_arg0 (((cfg0.win 0).blk t).view.emb (ix3 0 r q)) = _
  refine congrArg (V m c main_arg0) (funext fun a => Fin.ext ?_)
  refine ((cfg0.win 0).rect_emb_val t _ a).trans ?_
  show win0_0.index t a * _ + _ = _
  rw [index0]
  match a with
  | ⟨0, _⟩ => show t.val * 1 + 0 = t.val; omega
  | ⟨1, _⟩ => show 0 * 256 + r.val = r.val; omega
  | ⟨2, _⟩ => show 0 * 1024 + q.val = q.val; omega

/-- The block of window 1. -/
theorem blk1 (c : Dev nD) (t : Fin cfg0.N) (q : Fin 1024) :
    iblk m c 1 t (ix2 0 q) = V m c main_v12 (ix2 0 q) := by
  show V m c main_v12 (((cfg0.win 1).blk t).view.emb (ix2 0 q)) = _
  refine congrArg (V m c main_v12) (funext fun a => Fin.ext ?_)
  refine ((cfg0.win 1).rect_emb_val t _ a).trans ?_
  show win0_1.index t a * _ + _ = _
  rw [index1]
  match a with
  | ⟨0, _⟩ => show 0 * 1 + 0 = 0; omega
  | ⟨1, _⟩ => show 0 * 1024 + q.val = q.val; omega

/-- The block of window 2. -/
theorem blk2 (c : Dev nD) (t : Fin cfg0.N) (q : Fin 1024) :
    iblk m c 2 t (ix3 0 0 q) = V m c main_v13 (ix3 0 0 q) := by
  show V m c main_v13 (((cfg0.win 2).blk t).view.emb (ix3 0 0 q)) = _
  refine congrArg (V m c main_v13) (funext fun a => Fin.ext ?_)
  refine ((cfg0.win 2).rect_emb_val t _ a).trans ?_
  show win0_2.index t a * _ + _ = _
  rw [index2]
  match a with
  | ⟨0, _⟩ => show 0 * 1 + 0 = 0; omega
  | ⟨1, _⟩ => show 0 * 1 + 0 = 0; omega
  | ⟨2, _⟩ => show 0 * 1024 + q.val = q.val; omega

/-- The block of window 3. -/
theorem blk3 (c : Dev nD) (t : Fin cfg0.N) (q : Fin 1024) :
    iblk m c 3 t (ix3 0 0 q) = V m c main_v14 (ix3 0 0 q) := by
  show V m c main_v14 (((cfg0.win 3).blk t).view.emb (ix3 0 0 q)) = _
  refine congrArg (V m c main_v14) (funext fun a => Fin.ext ?_)
  refine ((cfg0.win 3).rect_emb_val t _ a).trans ?_
  show win0_3.index t a * _ + _ = _
  rw [index3]
  match a with
  | ⟨0, _⟩ => show 0 * 1 + 0 = 0; omega
  | ⟨1, _⟩ => show 0 * 1 + 0 = 0; omega
  | ⟨2, _⟩ => show 0 * 1024 + q.val = q.val; omega

/-- The block of window 4. -/
theorem blk4 (c : Dev nD) (t : Fin cfg0.N) (k : Fin 1024) (q : Fin 2560) :
    iblk m c 4 t (ix2 k q) = V m c main_v11 (ix2 k q) := by
  show V m c main_v11 (((cfg0.win 4).blk t).view.emb (ix2 k q)) = _
  refine congrArg (V m c main_v11) (funext fun a => Fin.ext ?_)
  refine ((cfg0.win 4).rect_emb_val t _ a).trans ?_
  show win0_4.index t a * _ + _ = _
  rw [index4]
  match a with
  | ⟨0, _⟩ => show 0 * 1024 + k.val = k.val; omega
  | ⟨1, _⟩ => show 0 * 2560 + q.val = q.val; omega

/-- Where a point's block of output window 5 lies. -/
theorem emb5 (t : Fin cfg0.N) (e : Fin 1) (r : Fin 256) (q : Fin 512) :
    ((cfg0.win 5).blk t).view.emb (ix3 e r q) = ix3 (batch t) r q := by
  have he := e.isLt
  refine funext fun a => Fin.ext ?_
  refine ((cfg0.win 5).rect_emb_val t _ a).trans ?_
  show win0_5.index t a * _ + _ = _
  rw [index5]
  match a with
  | ⟨0, _⟩ => show t.val * 1 + e.val = t.val; omega
  | ⟨1, _⟩ => show 0 * 256 + r.val = r.val; omega
  | ⟨2, _⟩ => show 0 * 512 + q.val = q.val; omega

/-- Every element of that result lies in the block of its batch. -/
theorem cover5 (i : S4x256x512.Idx) :
    ∃ t : Fin cfg0.N, (cfg0.win 5).flush t = true ∧ i ∈ ((cfg0.win 5).blk t).view.set := by
  have h0 : (i 0).val < 4 := (i 0).isLt
  have ht : (i 0).val < cfg0.N := by show _ < 4; omega
  refine ⟨⟨(i 0).val, ht⟩, flush0_5 _, ?_⟩
  have h := ((cfg0.win 5).blk ⟨(i 0).val, ht⟩).view.emb_mem_set (ix3 (0 : Fin 1) (i 1) (i 2))
  refine Eq.mp (congrArg (· ∈ _) ((emb5 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

/-- Where a point's block of output window 6 lies. -/
theorem emb6 (t : Fin cfg0.N) (e : Fin 1) (r : Fin 256) (q : Fin 256) :
    ((cfg0.win 6).blk t).view.emb (ix3 e r q) = ix3 (batch t) r q := by
  have he := e.isLt
  refine funext fun a => Fin.ext ?_
  refine ((cfg0.win 6).rect_emb_val t _ a).trans ?_
  show win0_6.index t a * _ + _ = _
  rw [index6]
  match a with
  | ⟨0, _⟩ => show t.val * 1 + e.val = t.val; omega
  | ⟨1, _⟩ => show 0 * 256 + r.val = r.val; omega
  | ⟨2, _⟩ => show 0 * 256 + q.val = q.val; omega

/-- Every element of that result lies in the block of its batch. -/
theorem cover6 (i : S4x256x256.Idx) :
    ∃ t : Fin cfg0.N, (cfg0.win 6).flush t = true ∧ i ∈ ((cfg0.win 6).blk t).view.set := by
  have h0 : (i 0).val < 4 := (i 0).isLt
  have ht : (i 0).val < cfg0.N := by show _ < 4; omega
  refine ⟨⟨(i 0).val, ht⟩, flush0_6 _, ?_⟩
  have h := ((cfg0.win 6).blk ⟨(i 0).val, ht⟩).view.emb_mem_set (ix3 (0 : Fin 1) (i 1) (i 2))
  refine Eq.mp (congrArg (· ∈ _) ((emb6 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

/-- Where a point's block of output window 7 lies. -/
theorem emb7 (t : Fin cfg0.N) (e : Fin 1) (r : Fin 256) (q : Fin 256) :
    ((cfg0.win 7).blk t).view.emb (ix3 e r q) = ix3 (batch t) r q := by
  have he := e.isLt
  refine funext fun a => Fin.ext ?_
  refine ((cfg0.win 7).rect_emb_val t _ a).trans ?_
  show win0_7.index t a * _ + _ = _
  rw [index7]
  match a with
  | ⟨0, _⟩ => show t.val * 1 + e.val = t.val; omega
  | ⟨1, _⟩ => show 0 * 256 + r.val = r.val; omega
  | ⟨2, _⟩ => show 0 * 256 + q.val = q.val; omega

/-- Every element of that result lies in the block of its batch. -/
theorem cover7 (i : S4x256x256.Idx) :
    ∃ t : Fin cfg0.N, (cfg0.win 7).flush t = true ∧ i ∈ ((cfg0.win 7).blk t).view.set := by
  have h0 : (i 0).val < 4 := (i 0).isLt
  have ht : (i 0).val < cfg0.N := by show _ < 4; omega
  refine ⟨⟨(i 0).val, ht⟩, flush0_7 _, ?_⟩
  have h := ((cfg0.win 7).blk ⟨(i 0).val, ht⟩).view.emb_mem_set (ix3 (0 : Fin 1) (i 1) (i 2))
  refine Eq.mp (congrArg (· ∈ _) ((emb7 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

/-- Where a point's block of output window 8 lies. -/
theorem emb8 (t : Fin cfg0.N) (e : Fin 1) (r : Fin 256) (q : Fin 512) :
    ((cfg0.win 8).blk t).view.emb (ix3 e r q) = ix3 (batch t) r q := by
  have he := e.isLt
  refine funext fun a => Fin.ext ?_
  refine ((cfg0.win 8).rect_emb_val t _ a).trans ?_
  show win0_8.index t a * _ + _ = _
  rw [index8]
  match a with
  | ⟨0, _⟩ => show t.val * 1 + e.val = t.val; omega
  | ⟨1, _⟩ => show 0 * 256 + r.val = r.val; omega
  | ⟨2, _⟩ => show 0 * 512 + q.val = q.val; omega

/-- Every element of that result lies in the block of its batch. -/
theorem cover8 (i : S4x256x512.Idx) :
    ∃ t : Fin cfg0.N, (cfg0.win 8).flush t = true ∧ i ∈ ((cfg0.win 8).blk t).view.set := by
  have h0 : (i 0).val < 4 := (i 0).isLt
  have ht : (i 0).val < cfg0.N := by show _ < 4; omega
  refine ⟨⟨(i 0).val, ht⟩, flush0_8 _, ?_⟩
  have h := ((cfg0.win 8).blk ⟨(i 0).val, ht⟩).view.emb_mem_set (ix3 (0 : Fin 1) (i 1) (i 2))
  refine Eq.mp (congrArg (· ∈ _) ((emb8 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

/-- Where a point's block of output window 9 lies. -/
theorem emb9 (t : Fin cfg0.N) (e : Fin 1) (r : Fin 256) (q : Fin 512) :
    ((cfg0.win 9).blk t).view.emb (ix3 e r q) = ix3 (batch t) r q := by
  have he := e.isLt
  refine funext fun a => Fin.ext ?_
  refine ((cfg0.win 9).rect_emb_val t _ a).trans ?_
  show win0_9.index t a * _ + _ = _
  rw [index9]
  match a with
  | ⟨0, _⟩ => show t.val * 1 + e.val = t.val; omega
  | ⟨1, _⟩ => show 0 * 256 + r.val = r.val; omega
  | ⟨2, _⟩ => show 0 * 512 + q.val = q.val; omega

/-- Every element of that result lies in the block of its batch. -/
theorem cover9 (i : S4x256x512.Idx) :
    ∃ t : Fin cfg0.N, (cfg0.win 9).flush t = true ∧ i ∈ ((cfg0.win 9).blk t).view.set := by
  have h0 : (i 0).val < 4 := (i 0).isLt
  have ht : (i 0).val < cfg0.N := by show _ < 4; omega
  refine ⟨⟨(i 0).val, ht⟩, flush0_9 _, ?_⟩
  have h := ((cfg0.win 9).blk ⟨(i 0).val, ht⟩).view.emb_mem_set (ix3 (0 : Fin 1) (i 1) (i 2))
  refine Eq.mp (congrArg (· ∈ _) ((emb9 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

/-- Where a point's block of output window 10 lies. -/
theorem emb10 (t : Fin cfg0.N) (e : Fin 1) (r : Fin 256) (q : Fin 512) :
    ((cfg0.win 10).blk t).view.emb (ix3 e r q) = ix3 (batch t) r q := by
  have he := e.isLt
  refine funext fun a => Fin.ext ?_
  refine ((cfg0.win 10).rect_emb_val t _ a).trans ?_
  show win0_10.index t a * _ + _ = _
  rw [index10]
  match a with
  | ⟨0, _⟩ => show t.val * 1 + e.val = t.val; omega
  | ⟨1, _⟩ => show 0 * 256 + r.val = r.val; omega
  | ⟨2, _⟩ => show 0 * 512 + q.val = q.val; omega

/-- Every element of that result lies in the block of its batch. -/
theorem cover10 (i : S4x256x512.Idx) :
    ∃ t : Fin cfg0.N, (cfg0.win 10).flush t = true ∧ i ∈ ((cfg0.win 10).blk t).view.set := by
  have h0 : (i 0).val < 4 := (i 0).isLt
  have ht : (i 0).val < cfg0.N := by show _ < 4; omega
  refine ⟨⟨(i 0).val, ht⟩, flush0_10 _, ?_⟩
  have h := ((cfg0.win 10).blk ⟨(i 0).val, ht⟩).view.emb_mem_set (ix3 (0 : Fin 1) (i 1) (i 2))
  refine Eq.mp (congrArg (· ∈ _) ((emb10 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

end Cert.CtxIdeal.Host
end
-- ==== Proof.CtxValue.lean ====
/- The six result arrays of the context rows' projection are the reference's values of its arguments. -/
module

public import proofs.«01_k».proof.Proof.CtxHost
public import proofs.«01_k».proof.Proof.ProjValue
public import Idealize.ShloMosaic.Lib.Pipeline.ValueKit.Geometry

@[expose] public section

set_option maxRecDepth 16384

noncomputable section

namespace Cert.CtxIdeal.Run

open Cert.CtxIdeal Cert.CtxIdeal.Gen Idealize.ShloMosaic Idealize.ShloMosaic.TcCoe Idealize.SL.Sem Cert.CtxIdeal.Body Cert.CtxIdeal.Host
open Cert.CtxRefIdeal.Out (dotAt)
open Cert.ProjIdeal.Host (column)
open Cert.ProjIdeal.Run (column_val)

variable (m : (ℓ : Loc nD τ sig) → Buf (Elt Ideal) ℓ)

/-- The products of the kernel's own arguments. -/
def dots (c : Dev nD) (b : Fin 4) (s : Fin 256) (l : Fin 2304) : EReal :=
  dotAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s l

/-- The product of blocks that hold rows of the arguments is the product of the arguments. -/
theorem prod_of (x0 : Vec Ideal S1x256x1024 .f32) (x1 : Vec Ideal S1x1024 .f32) (x2 x3 : Vec Ideal S1x1x1024 .f32) (x4 : Vec Ideal S1024x2560 .bf16)
    (x : FVec Ideal S4x256x1024 .f32) (g : FVec Ideal S1024 .f32) (sh sc : FVec Ideal S1x1024 .f32) (w : FVec Ideal S1024x2304 .f32)
    (b : Fin 4) (r : Fin 256) (l : Fin 2560) (l' : Fin 2304)
    (h0 : ∀ k, x0 (ix3 0 r k) = x (ix3 b r k)) (h1 : ∀ k, x1 (ix2 0 k) = g (ix1 k)) (h2 : ∀ k, x2 (ix3 0 0 k) = sh (ix2 0 k))
    (h3 : ∀ k, x3 (ix3 0 0 k) = sc (ix2 0 k)) (h4 : ∀ k, x4 (ix2 k l) = w (ix2 k l')) :
    prod x0 x1 x2 x3 x4 r l = dotAt x g sh sc w b r l' := by
  unfold prod dotAt
  simp only [h0, h1, h2, h3, h4]

/-- The product of a point's blocks is the product of its rows with the weights' column. -/
theorem prod_eq (c : Dev nD) (t : Fin cfg0.N) (r : Fin 256) (l : Fin 2560) :
    prod (iblk m c 0 t) (iblk m c 1 t) (iblk m c 2 t) (iblk m c 3 t) (iblk m c 4 t) r l = dots m c (batch t) r (column l) :=
  prod_of _ _ _ _ _ _ _ _ _ _ _ _ _ _ (fun k => (blk0 m c t r k).trans (tokens m c _ _ k)) (fun k => (blk1 m c t k).trans (gain m c k))
    (fun k => (blk2 m c t k).trans (shift m c k)) (fun k => (blk3 m c t k).trans (scale m c k)) (fun k => (blk4 m c t k l).trans (weights m c k l))

/-- The same of a column that is known. -/
theorem prod_at (c : Dev nD) (t : Fin cfg0.N) (r : Fin 256) (l : Fin 2560) (l' : Fin 2304) (e : (column l).val = l'.val) :
    prod (iblk m c 0 t) (iblk m c 1 t) (iblk m c 2 t) (iblk m c 3 t) (iblk m c 4 t) r l = dots m c (batch t) r l' := by
  rw [prod_eq, Fin.ext e]

/-- The reference's result of the kernel's own arguments. -/
def target5 (c : Dev nD) : FVec Ideal S4x256x512 .f32 :=
  Cert.CtxRefIdeal.Out.query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out5_eq (c : Dev nD) (t : Fin cfg0.N) (r : Fin 256) (q : Fin 512) :
    out0_5 (iblk m c 0 t) (iblk m c 1 t) (iblk m c 2 t) (iblk m c 3 t) (iblk m c 4 t) (ix3 0 r q)
      = target5 m c (ix3 (batch t) r q) := by
  have hq := q.isLt
  refine (out5_apply _ _ _ _ _ r q).trans ?_
  refine Eq.trans ?_ (Cert.CtxRefIdeal.Out.query_apply _ _ _ _ _ (batch t) r q).symm
  refine prod_at m c t r _ _ ?_
  rw [column_val]
  dsimp only
  split_ifs <;> omega

/-- The result array at the end is the reference's. -/
theorem final5 (c : Dev nD) : (dats m 0 c).arrAt 5 cfg0.N = target5 m c := by
  refine (dats m 0 c).arrAt_eq_of_emb 5 (target5 m c) (fun t _ y => ?_) cover5
  show (dats m 0 c).after 5 t y = _
  rw [after0_5]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out5_eq m c t (y 1) (y 2)).trans (congrArg (target5 m c) (emb5 t 0 (y 1) (y 2)).symm)

/-- The reference's result of the kernel's own arguments. -/
def target6 (c : Dev nD) : FVec Ideal S4x256x256 .bf16 :=
  Cert.CtxRefIdeal.Out.key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out6_eq (c : Dev nD) (t : Fin cfg0.N) (r : Fin 256) (q : Fin 256) :
    out0_6 (iblk m c 0 t) (iblk m c 1 t) (iblk m c 2 t) (iblk m c 3 t) (iblk m c 4 t) (ix3 0 r q)
      = target6 m c (ix3 (batch t) r q) := by
  have hq := q.isLt
  refine (out6_apply _ _ _ _ _ r q).trans ?_
  refine Eq.trans ?_ (Cert.CtxRefIdeal.Out.key_apply _ _ _ _ _ (batch t) r q).symm
  refine prod_at m c t r _ _ ?_
  rw [column_val]
  dsimp only
  split_ifs <;> omega

/-- The result array at the end is the reference's. -/
theorem final6 (c : Dev nD) : (dats m 0 c).arrAt 6 cfg0.N = target6 m c := by
  refine (dats m 0 c).arrAt_eq_of_emb 6 (target6 m c) (fun t _ y => ?_) cover6
  show (dats m 0 c).after 6 t y = _
  rw [after0_6]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out6_eq m c t (y 1) (y 2)).trans (congrArg (target6 m c) (emb6 t 0 (y 1) (y 2)).symm)

/-- The reference's result of the kernel's own arguments. -/
def target7 (c : Dev nD) : FVec Ideal S4x256x256 .bf16 :=
  Cert.CtxRefIdeal.Out.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out7_eq (c : Dev nD) (t : Fin cfg0.N) (r : Fin 256) (q : Fin 256) :
    out0_7 (iblk m c 0 t) (iblk m c 1 t) (iblk m c 2 t) (iblk m c 3 t) (iblk m c 4 t) (ix3 0 r q)
      = target7 m c (ix3 (batch t) r q) := by
  have hq := q.isLt
  refine (out7_apply _ _ _ _ _ r q).trans ?_
  refine Eq.trans ?_ (Cert.CtxRefIdeal.Out.value_apply _ _ _ _ _ (batch t) r q).symm
  refine prod_at m c t r _ _ ?_
  rw [column_val]
  dsimp only
  split_ifs <;> omega

/-- The result array at the end is the reference's. -/
theorem final7 (c : Dev nD) : (dats m 0 c).arrAt 7 cfg0.N = target7 m c := by
  refine (dats m 0 c).arrAt_eq_of_emb 7 (target7 m c) (fun t _ y => ?_) cover7
  show (dats m 0 c).after 7 t y = _
  rw [after0_7]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out7_eq m c t (y 1) (y 2)).trans (congrArg (target7 m c) (emb7 t 0 (y 1) (y 2)).symm)

/-- The reference's result of the kernel's own arguments. -/
def target8 (c : Dev nD) : FVec Ideal S4x256x512 .f32 :=
  Cert.CtxRefIdeal.Out.query' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out8_eq (c : Dev nD) (t : Fin cfg0.N) (r : Fin 256) (q : Fin 512) :
    out0_8 (iblk m c 0 t) (iblk m c 1 t) (iblk m c 2 t) (iblk m c 3 t) (iblk m c 4 t) (ix3 0 r q)
      = target8 m c (ix3 (batch t) r q) := by
  have hq := q.isLt
  refine (out8_apply _ _ _ _ _ r q).trans ?_
  refine Eq.trans ?_ (Cert.CtxRefIdeal.Out.query'_apply _ _ _ _ _ (batch t) r q).symm
  refine prod_at m c t r _ _ ?_
  rw [column_val]
  dsimp only
  split_ifs <;> omega

/-- The result array at the end is the reference's. -/
theorem final8 (c : Dev nD) : (dats m 0 c).arrAt 8 cfg0.N = target8 m c := by
  refine (dats m 0 c).arrAt_eq_of_emb 8 (target8 m c) (fun t _ y => ?_) cover8
  show (dats m 0 c).after 8 t y = _
  rw [after0_8]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out8_eq m c t (y 1) (y 2)).trans (congrArg (target8 m c) (emb8 t 0 (y 1) (y 2)).symm)

/-- The reference's result of the kernel's own arguments. -/
def target9 (c : Dev nD) : FVec Ideal S4x256x512 .bf16 :=
  Cert.CtxRefIdeal.Out.key' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out9_eq (c : Dev nD) (t : Fin cfg0.N) (r : Fin 256) (q : Fin 512) :
    out0_9 (iblk m c 0 t) (iblk m c 1 t) (iblk m c 2 t) (iblk m c 3 t) (iblk m c 4 t) (ix3 0 r q)
      = target9 m c (ix3 (batch t) r q) := by
  have hq := q.isLt
  refine (out9_apply _ _ _ _ _ r q).trans ?_
  refine Eq.trans ?_ (Cert.CtxRefIdeal.Out.key'_apply _ _ _ _ _ (batch t) r q).symm
  refine prod_at m c t r _ _ ?_
  rw [column_val]
  dsimp only
  split_ifs <;> omega

/-- The result array at the end is the reference's. -/
theorem final9 (c : Dev nD) : (dats m 0 c).arrAt 9 cfg0.N = target9 m c := by
  refine (dats m 0 c).arrAt_eq_of_emb 9 (target9 m c) (fun t _ y => ?_) cover9
  show (dats m 0 c).after 9 t y = _
  rw [after0_9]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out9_eq m c t (y 1) (y 2)).trans (congrArg (target9 m c) (emb9 t 0 (y 1) (y 2)).symm)

/-- The reference's result of the kernel's own arguments. -/
def target10 (c : Dev nD) : FVec Ideal S4x256x512 .bf16 :=
  Cert.CtxRefIdeal.Out.value' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out10_eq (c : Dev nD) (t : Fin cfg0.N) (r : Fin 256) (q : Fin 512) :
    out0_10 (iblk m c 0 t) (iblk m c 1 t) (iblk m c 2 t) (iblk m c 3 t) (iblk m c 4 t) (ix3 0 r q)
      = target10 m c (ix3 (batch t) r q) := by
  have hq := q.isLt
  refine (out10_apply _ _ _ _ _ r q).trans ?_
  refine Eq.trans ?_ (Cert.CtxRefIdeal.Out.value'_apply _ _ _ _ _ (batch t) r q).symm
  refine prod_at m c t r _ _ ?_
  rw [column_val]
  dsimp only
  split_ifs <;> omega

/-- The result array at the end is the reference's. -/
theorem final10 (c : Dev nD) : (dats m 0 c).arrAt 10 cfg0.N = target10 m c := by
  refine (dats m 0 c).arrAt_eq_of_emb 10 (target10 m c) (fun t _ y => ?_) cover10
  show (dats m 0 c).after 10 t y = _
  rw [after0_10]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out10_eq m c t (y 1) (y 2)).trans (congrArg (target10 m c) (emb10 t 0 (y 1) (y 2)).symm)

end Cert.CtxIdeal.Run
end
-- ==== Proof.LastRef.lean ====
/- The projection of the context rows in the odd layer, keys and values, as the reference states it, at an element. -/
module

public import proofs.«01_k».proof.Proof.Gen.LastRefIdeal.Run
public import proofs.«01_k».proof.Proof.CtxRef
public import proofs.«01_k».proof.Proof.OddRef

@[expose] public section

set_option maxRecDepth 16384

noncomputable section

namespace Cert.LastRefIdeal.Out

open Cert.LastRefIdeal Cert.LastRefIdeal.Gen Cert.LastRefIdeal.Value Idealize.ShloMosaic Idealize.ShloMosaic.TcCoe Idealize.SL.Sem
open Cert.CtxRefIdeal.Out (product dotAt product_apply twice twice_apply)
open Cert.OddRefIdeal.Out (headNorm reduce_sum)

/-- The key heads, each over the root of its mean square and times the gain. -/
def normed2 (z : FVec Ideal S4x256x2x64 .f32) (g : FVec Ideal S64 .f32) : FVec Ideal S4x256x2x64 .f32 :=
  mulf (mulf z (broadcastInDim S4x256x2x64 ![0, 1, 2, 3] bcast_S4x256x2x1_S4x256x2x64_0_1_2_3 (Host.rsqrt (addf (Host.divf (broadcastInDim S4x256x2x1 ![0, 1, 2] bcast_S4x256x2_S4x256x2x1_0_1_2 (Host.reduceAdd (mulf z z) (constant S_ .f32 0x00000000#32) reducesTo_S4x256x2x64_S4x256x2_d3 h_S_)) (broadcastInDim S4x256x2x1 ![] bcast_S_S4x256x2x1 (constant S_ .f32 0x42800000#32))) (broadcastInDim S4x256x2x1 ![] bcast_S_S4x256x2x1 (constant S_ .f32 0x358637BD#32)))))) (broadcastInDim S4x256x2x64 ![0, 1, 2, 3] bcast_S1x1x1x64_S4x256x2x64_0_1_2_3 (broadcastInDim S1x1x1x64 ![3] bcast_S64_S1x1x1x64_3 g))

/-- The normalised key heads at an element. -/
theorem normed2_apply (z : FVec Ideal S4x256x2x64 .f32) (g : FVec Ideal S64 .f32) (b : Fin 4) (s : Fin 256) (e : Fin 2) (d : Fin 64) :
    normed2 z g (ix4 b s e d) = headNorm (fun d => z (ix4 b s e d)) (fun d => g (ix1 d)) d := by
  unfold headNorm
  have h := reduce_sum reducesTo_S4x256x2x64_S4x256x2_d3 (mulf z z) b s e
  have h' : normed2 z g (ix4 b s e d) = z (ix4 b s e d) * Ideal.rsqrt (Ideal.div (Ideal.hostReduceAdd reducesTo_S4x256x2x64_S4x256x2_d3 (mulf z z) 0 (ix3 b s e)) (Ideal.ofBits FTy.f32 0x42800000#32) + Ideal.ofBits FTy.f32 0x358637BD#32) * g (ix1 d) := by
    pointwise [normed2, id]
  rw [h', h]
  rfl

/-- The keys as a function of the arguments. -/
def key (x : FVec Ideal S4x256x1024 .f32) (g : FVec Ideal S1024 .f32) (sh sc : FVec Ideal S1x1024 .f32) (w : FVec Ideal S1024x2304 .f32) (kn : FVec Ideal S64 .f32) : FVec Ideal S4x256x256 .bf16 :=
  twice (normed2 (shapeCast _ (extractStridedSlice S4x256x128 ![0, 0, 512] (product x g sh sc w) slices_S4x256x2304_S4x256x128_0_0_512) shapeCasts_S4x256x128_S4x256x2x64) kn)
/-- The values. -/
def value (x : FVec Ideal S4x256x1024 .f32) (g : FVec Ideal S1024 .f32) (sh sc : FVec Ideal S1x1024 .f32) (w : FVec Ideal S1024x2304 .f32) : FVec Ideal S4x256x256 .bf16 :=
  twice (shapeCast _ (extractStridedSlice S4x256x128 ![0, 0, 640] (product x g sh sc w) slices_S4x256x2304_S4x256x128_0_0_640) shapeCasts_S4x256x128_S4x256x2x64)

variable (x : FVec Ideal S4x256x1024 .f32) (g : FVec Ideal S1024 .f32) (sh sc : FVec Ideal S1x1024 .f32) (w : FVec Ideal S1024x2304 .f32)
  (kn : FVec Ideal S64 .f32) (b : Fin 4) (s : Fin 256)

/-- The keys at an element. -/
theorem key_apply (l : Fin 256) : key x g sh sc w kn (ix3 b s l)
    = headNorm (fun d => dotAt x g sh sc w b s ⟨512 + (l.val / 128 * 64 + d.val), by omega⟩) (fun d => kn (ix1 d)) ⟨l.val % 64, by omega⟩ := by
  unfold key
  rw [twice_apply]
  refine (normed2_apply _ _ b s _ _).trans ?_
  refine congrArg (fun p => headNorm p _ _) (funext fun d => ?_)
  refine Eq.trans ?_ (product_apply x g sh sc w b s ⟨512 + (l.val / 128 * 64 + d.val), by omega⟩)
  generalize product x g sh sc w = y
  pointwise

/-- The values at an element. -/
theorem value_apply (l : Fin 256) : value x g sh sc w (ix3 b s l) = dotAt x g sh sc w b s ⟨640 + (l.val / 128 * 64 + l.val % 64), by omega⟩ := by
  unfold value
  rw [twice_apply]
  refine Eq.trans ?_ (product_apply x g sh sc w b s ⟨640 + (l.val / 128 * 64 + l.val % 64), by omega⟩)
  generalize product x g sh sc w = y
  pointwise

/-- What the run leaves are these functions of the arguments. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v46) = key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v54) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h1, h2⟩ := h c
    exact ⟨⟨h0.trans rfl, h1.trans rfl⟩, h2⟩)
    (Cert.LastRefIdeal.Value.run (F := Ideal) m ρ)

end Cert.LastRefIdeal.Out
end
-- ==== Proof.LastBody.lean ====
/- What the odd layer's projection of the context rows leaves in its two output blocks at one grid point, at an element. -/
module

public import proofs.«01_k».proof.Proof.Gen.LastIdeal.Value
public import proofs.«01_k».proof.Proof.LastRef
public import proofs.«01_k».proof.Proof.OddBody
public import Idealize.ShloMosaic.Lib.Pointwise
public import Idealize.ShloMosaic.Lib.Pipeline.ValueKit.Tiles

@[expose] public section

set_option maxRecDepth 16384

noncomputable section

namespace Cert.LastIdeal.Body

open Cert.LastIdeal Cert.LastIdeal.Gen Idealize.ShloMosaic Idealize.ShloMosaic.TcCoe Idealize.SL.Sem
open Cert.ProjIdeal.Body (hz2 hz3)
open Cert.OddIdeal.Body (head_mean)
open Cert.OddRefIdeal.Out (headNorm)

/-- The product at an element. -/
def prod (x : Vec Ideal S1x256x1024 .f32) (g : Vec Ideal S1x1024 .f32) (sh sc : Vec Ideal S1x1x1024 .f32) (w : Vec Ideal S1024x512 .bf16) (r : Fin 256) (c : Fin 512) : EReal :=
  ∑ k, Cert.ProjRefIdeal.Out.row (fun t => x (ix3 0 r t)) (fun t => g (ix2 0 t)) (fun t => sh (ix3 0 0 t)) (fun t => sc (ix3 0 0 t)) k * w (ix2 k c)

/-- The kernel's product is the product. -/
theorem pay3_apply (x : Vec Ideal S1x256x1024 .f32) (g : Vec Ideal S1x1024 .f32) (sc sh : Vec Ideal S1x1x1024 .f32) (w : Vec Ideal S1024x512 .bf16) (r : Fin 256) (c : Fin 512) :
    k0_pay3 x g sc sh w (ix2 r c) = prod x g sh sc w r c := by
  unfold prod Cert.ProjRefIdeal.Out.row
  pointwise [k0_pay3, id]

/-- The keys' columns of the product. -/
theorem pay4_apply (x : Vec Ideal S1x256x1024 .f32) (g : Vec Ideal S1x1024 .f32) (sc sh : Vec Ideal S1x1x1024 .f32) (w : Vec Ideal S1024x512 .bf16) (r : Fin 256) (c : Fin 256) :
    k0_pay4 x g sc sh w (ix2 r c) = prod x g sh sc w r ⟨c.val, by omega⟩ := by
  rw [← pay3_apply]
  unfold k0_pay4
  generalize k0_pay3 x g sc sh w = y
  pointwise [id]

/-- The keys' head means. -/
theorem pay5_apply (x : Vec Ideal S1x256x1024 .f32) (g : Vec Ideal S1x1024 .f32) (sc sh : Vec Ideal S1x1x1024 .f32) (w : Vec Ideal S1024x512 .bf16) (M : Vec Ideal S512x512 .bf16)
    (hm : ∀ j l : Fin 512, M (ix2 j l) = if j.val / 64 = l.val / 64 then Ideal.ofBits FTy.f32 0x3C800000#32 else 0) (r : Fin 256) (c : Fin 256) :
    k0_pay5 x g sc sh w M (ix2 r c) = Ideal.div (∑ d : Fin 64, k0_pay4 x g sc sh w (ix2 r ⟨c.val / 64 * 64 + d.val, by omega⟩) *
      k0_pay4 x g sc sh w (ix2 r ⟨c.val / 64 * 64 + d.val, by omega⟩)) (Ideal.ofBits FTy.f32 0x42800000#32) := by
  unfold k0_pay5
  generalize k0_pay4 x g sc sh w = y
  refine Eq.trans ?_ (head_mean (fun j : Fin 256 => y (ix2 r j)) c.val (fun d => by omega))
  have hm' : ∀ j : Fin 256, (if j.val / 64 = c.val / 64 then Ideal.ofBits FTy.f32 0x3C800000#32 else 0) = M (ix2 ⟨j.val, by omega⟩ ⟨c.val, by omega⟩) :=
    fun j => (hm ⟨j.val, by omega⟩ ⟨c.val, by omega⟩).symm
  simp only [hm']
  pointwise [id]

/-- The normalised keys at an element, from the columns and their head means. -/
theorem pay1_apply (y z : FVec Ideal S256x256 .f32) (g : Vec Ideal S1x256 .f32) (r : Fin 256) (j : Fin 256) (G : Fin 64 → EReal)
    (hg : ∀ l : Fin 256, g (ix2 0 l) = G ⟨l.val % 64, by omega⟩)
    (hz : ∀ l : Fin 256, z (ix2 r l) = Ideal.div (∑ d : Fin 64, y (ix2 r ⟨l.val / 64 * 64 + d.val, by omega⟩) * y (ix2 r ⟨l.val / 64 * 64 + d.val, by omega⟩)) (Ideal.ofBits FTy.f32 0x42800000#32)) :
    k0_pay1 y z g (ix3 0 r j) = headNorm (fun d => y (ix2 r ⟨j.val / 64 * 64 + d.val, by omega⟩)) G ⟨j.val % 64, by omega⟩ := by
  have hj := j.isLt
  have e : k0_pay1 y z g (ix3 0 r j) = y (ix2 r j) * Ideal.rsqrt (z (ix2 r j) + Ideal.ofBits FTy.f32 0x358637BD#32) * g (ix2 0 j) := by
    pointwise [k0_pay1, id]
  rw [e, hg, hz]
  unfold headNorm
  dsimp only
  have ej : (⟨j.val / 64 * 64 + j.val % 64, by omega⟩ : Fin 256) = j := Fin.ext (by dsimp only; omega)
  rw [ej]

variable (x0 : Vec Ideal S1x256x1024 .f32) (x1 : Vec Ideal S1x1024 .f32) (x2 : Vec Ideal S1x1x1024 .f32) (x3 : Vec Ideal S1x1x1024 .f32)
  (x4 : Vec Ideal S1024x512 .bf16) (x5 : Vec Ideal S512x512 .bf16) (x6 : Vec Ideal S1x256 .f32)

/-- The block of normalised keys. -/
theorem out7_apply (r : Fin 256) (c : Fin 256) (G : Fin 64 → EReal)
    (hm : ∀ j l : Fin 512, x5 (ix2 j l) = if j.val / 64 = l.val / 64 then Ideal.ofBits FTy.f32 0x3C800000#32 else 0)
    (hg : ∀ l : Fin 256, x6 (ix2 0 l) = G ⟨l.val % 64, by omega⟩) :
    out0_7 x0 x1 x2 x3 x4 x5 x6 (ix3 0 r c) = headNorm (fun d => prod x0 x1 x2 x3 x4 r ⟨c.val / 64 * 64 + d.val, by omega⟩) G ⟨c.val % 64, by omega⟩ := by
  unfold out0_7
  rw [View.canon_unit_zero hz3, View.ld_unit_zero hz3, View.ld_unit_zero hz2, View.ld_unit_zero hz3, View.ld_unit_zero hz3, View.ld_unit_zero hz2, View.ld_unit_zero hz2, View.ld_unit_zero hz2]
  refine (pay1_apply _ _ _ r c G hg (fun l => pay5_apply _ _ _ _ _ _ hm r l)).trans ?_
  refine congrArg (fun q => headNorm q G _) (funext fun d => ?_)
  exact pay4_apply _ _ _ _ _ r _

/-- The block of values. -/
theorem out8_apply (r : Fin 256) (c : Fin 256) :
    out0_8 x0 x1 x2 x3 x4 x5 x6 (ix3 0 r c) = prod x0 x1 x2 x3 x4 r ⟨256 + c.val, by omega⟩ := by
  rw [← pay3_apply x0 x1 x3 x2 x4]
  unfold out0_8
  rw [View.canon_unit_zero hz3, View.ld_unit_zero hz3, View.ld_unit_zero hz2, View.ld_unit_zero hz3, View.ld_unit_zero hz3, View.ld_unit_zero hz2]
  generalize k0_pay3 x0 x1 x3 x2 x4 = y
  pointwise [k0_pay2, id]

end Cert.LastIdeal.Body
end
-- ==== Proof.LastHost.lean ====
/- The arrays and blocks that the launch of the odd layer's projection of the context rows reads, and where its output blocks lie. -/
module

public import proofs.«01_k».proof.Proof.LastBody
public import proofs.«01_k».proof.Proof.OddTables
public import proofs.«01_k».proof.Proof.ProjHost
public import Idealize.ShloMosaic.Lib.Pipeline.ValueKit.Geometry
public import Idealize.ShloMosaic.Lib.StableHlo.ReadAt

@[expose] public section

set_option maxRecDepth 16384

noncomputable section

namespace Cert.LastIdeal.Host

open Cert.LastIdeal Cert.LastIdeal.Gen Idealize.ShloMosaic Idealize.ShloMosaic.TcCoe Idealize.SL.Sem
open Cert.ProjIdeal.Host (column columns)
open Cert.OddIdeal.Host (floorWord floorWord_eq same_head)

/-- Operations one list after another. -/
theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

variable (m : (ℓ : Loc nD τ sig) → Buf (Elt Ideal) ℓ)

/-- The contents before the launch, stage by stage. -/
theorem stages (c : Dev nD) (b : Ref sig .tc) : V m c b =
    StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc b) := by
  unfold V
  rw [List.flatten_cons, List.flatten_cons, List.flatten_cons, List.flatten_cons, List.flatten_cons, List.flatten_cons, List.flatten_cons, List.flatten_nil,
    after_append, after_append, after_append, after_append, after_append, after_append, List.append_nil]

variable (U : Valuation τ sig (Elt Ideal))

/-- The head-mean matrix, from the two arrays of heads. -/
theorem mat_stage (j l : Fin 512) : StableHlo.after hostOps0_6 (StableHlo.after hostOps0_5 (StableHlo.after hostOps0_4 U)) (Proc.devRef .tc main_v18) (ix2 j l) =
    Scalar.select (IntOp.cmpi .eq (U (Proc.devRef .tc main_v13) (ix2 j l)) (U (Proc.devRef .tc main_v15) (ix2 j l))) (Ideal.ofBits FTy.f32 0x3C800000#32) (Ideal.ofBits FTy.f32 0x00000000#32) := by
  after_reads_at

/-- The columns' heads. -/
theorem v15_stage (j l : Fin 512) : StableHlo.after hostOps0_3 U (Proc.devRef .tc main_v15) (ix2 j l) =
    floorWord (U (Proc.devRef .tc main_v14) (ix2 j l)) (U (Proc.devRef .tc main_c_0) ix0) := by
  after_reads_at
  rfl

/-- The rows' heads. -/
theorem v13_stage (j l : Fin 512) : StableHlo.after hostOps0_1 U (Proc.devRef .tc main_v13) (ix2 j l) =
    floorWord (U (Proc.devRef .tc main_v12) (ix2 j l)) (U (Proc.devRef .tc main_c) ix0) := by
  after_reads_at
  rfl

/-- The columns' stages leave the rows' heads. -/
theorem keep_v13 : StableHlo.after hostOps0_3 (StableHlo.after hostOps0_2 U) (Proc.devRef .tc main_v13) = U (Proc.devRef .tc main_v13) := by after_reads_simp
/-- The columns' numbers. -/
theorem v14_stage (j l : Fin 512) : StableHlo.after hostOps0_2 U (Proc.devRef .tc main_v14) (ix2 j l) = BitVec.ofNat 32 l.val := by after_reads_at
/-- The columns' divisor. -/
theorem c0_stage : StableHlo.after hostOps0_2 U (Proc.devRef .tc main_c_0) ix0 = 64#32 := by after_reads_at
/-- The rows' numbers. -/
theorem v12_stage (j l : Fin 512) : StableHlo.after hostOps0 U (Proc.devRef .tc main_v12) (ix2 j l) = BitVec.ofNat 32 j.val := by after_reads_at
/-- The rows' divisor. -/
theorem c_stage : StableHlo.after hostOps0 U (Proc.devRef .tc main_c) ix0 = 64#32 := by after_reads_at

/-- The head-mean matrix that the launch reads. -/
theorem matrix (c : Dev nD) (j l : Fin 512) : V m c main_v18 (ix2 j l) = if j.val / 64 = l.val / 64 then Ideal.ofBits FTy.f32 0x3C800000#32 else 0 := by
  rw [stages, mat_stage, keep_v13, v15_stage, v14_stage, c0_stage, v13_stage, v12_stage, c_stage, same_head, Ideal.ofBits_zero_f32]

/-- The weights of all columns: the key and value heads stand twice. -/
theorem weights_stage (k : Fin 1024) (l : Fin 2560) : StableHlo.after hostOps0 U (Proc.devRef .tc main_v11) (ix2 k l) =
    (show Vec Ideal S1024x2304 .f32 from U (Proc.devRef .tc main_arg4)) (ix2 k (column l)) := by
  after_reads_at
  after_reads_at
  after_reads_at
  exact columns (fun i => (show Vec Ideal S1024x2304 .f32 from U (Proc.devRef .tc main_arg4)) (ix2 k i)) l.val l.isLt

/-- The head-mean matrix's stages leave them. -/
theorem keep_w : StableHlo.after hostOps0_5 (StableHlo.after hostOps0_4 (StableHlo.after hostOps0_3 (StableHlo.after hostOps0_2 (StableHlo.after hostOps0_1 U)))) (Proc.devRef .tc main_v11)
    = U (Proc.devRef .tc main_v11) := by after_reads_simp

/-- The keys' and values' columns. -/
theorem slice_stage (k : Fin 1024) (l : Fin 512) : StableHlo.after hostOps0_6 U (Proc.devRef .tc main_v23) (ix2 k l) =
    U (Proc.devRef .tc main_v11) (ix2 k ⟨512 + l.val, by omega⟩) := by
  after_reads_at

/-- The weights that the launch reads. -/
theorem weights (c : Dev nD) (k : Fin 1024) (l : Fin 512) :
    V m c main_v23 (ix2 k l) = m (c, Proc.devRef .tc main_arg4) (ix2 k (column ⟨512 + l.val, by omega⟩)) := by
  rw [stages, slice_stage, keep_w, weights_stage]

/-- The gains that the launch reads: the head's gain four times. -/
theorem gains (c : Dev nD) (l : Fin 256) : V m c main_v22 (ix2 0 l) = m (c, Proc.devRef .tc main_arg5) (ix1 ⟨l.val % 64, by omega⟩) := by
  rw [stages]
  after_reads_at

/-- The gain that the launch reads. -/
theorem gain (c : Dev nD) (k : Fin 1024) : V m c main_v24 (ix2 0 k) = m (c, Proc.devRef .tc main_arg1) (ix1 k) := by
  rw [stages]
  after_reads_at

/-- The shift that the launch reads. -/
theorem shift (c : Dev nD) (k : Fin 1024) : V m c main_v25 (ix3 0 0 k) = m (c, Proc.devRef .tc main_arg2) (ix2 0 k) := by
  rw [stages]
  after_reads_at

/-- The scale that the launch reads. -/
theorem scale (c : Dev nD) (k : Fin 1024) : V m c main_v26 (ix3 0 0 k) = m (c, Proc.devRef .tc main_arg3) (ix2 0 k) := by
  rw [stages]
  after_reads_at

/-- The rows that the launch reads. -/
theorem tokens (c : Dev nD) (b : Fin 4) (s : Fin 256) (k : Fin 1024) : V m c main_arg0 (ix3 b s k) = m (c, Proc.devRef .tc main_arg0) (ix3 b s k) := by
  rw [stages]
  after_reads_at

/-- The launch has 4 points. -/
theorem point_lt (t : Fin cfg0.N) : t.val < 4 := t.isLt

/-- The batch of a point. -/
def batch (t : Fin cfg0.N) : Fin 4 := ⟨t.val, point_lt t⟩

/-- The blocks of window 0. -/
theorem index0 : ∀ t : Fin cfg0.N, win0_0.index t = ![t.val, 0, 0] :=
  (by decide +kernel : ∀ t : Fin grid0.N, win0_0.index t = ![t.val, 0, 0])

/-- The blocks of window 1. -/
theorem index1 : ∀ t : Fin cfg0.N, win0_1.index t = ![0, 0] :=
  (by decide +kernel : ∀ t : Fin grid0.N, win0_1.index t = ![0, 0])

/-- The blocks of window 2. -/
theorem index2 : ∀ t : Fin cfg0.N, win0_2.index t = ![0, 0, 0] :=
  (by decide +kernel : ∀ t : Fin grid0.N, win0_2.index t = ![0, 0, 0])

/-- The blocks of window 3. -/
theorem index3 : ∀ t : Fin cfg0.N, win0_3.index t = ![0, 0, 0] :=
  (by decide +kernel : ∀ t : Fin grid0.N, win0_3.index t = ![0, 0, 0])

/-- The blocks of window 4. -/
theorem index4 : ∀ t : Fin cfg0.N, win0_4.index t = ![0, 0] :=
  (by decide +kernel : ∀ t : Fin grid0.N, win0_4.index t = ![0, 0])

/-- The blocks of window 5. -/
theorem index5 : ∀ t : Fin cfg0.N, win0_5.index t = ![0, 0] :=
  (by decide +kernel : ∀ t : Fin grid0.N, win0_5.index t = ![0, 0])

/-- The blocks of window 6. -/
theorem index6 : ∀ t : Fin cfg0.N, win0_6.index t = ![0, 0] :=
  (by decide +kernel : ∀ t : Fin grid0.N, win0_6.index t = ![0, 0])

/-- The blocks of window 7. -/
theorem index7 : ∀ t : Fin cfg0.N, win0_7.index t = ![t.val, 0, 0] :=
  (by decide +kernel : ∀ t : Fin grid0.N, win0_7.index t = ![t.val, 0, 0])

/-- The blocks of window 8. -/
theorem index8 : ∀ t : Fin cfg0.N, win0_8.index t = ![t.val, 0, 0] :=
  (by decide +kernel : ∀ t : Fin grid0.N, win0_8.index t = ![t.val, 0, 0])

/-- The block of window 0. -/
theorem blk0 (c : Dev nD) (t : Fin cfg0.N) (r : Fin 256) (q : Fin 1024) :
    iblk m c 0 t (ix3 0 r q) = V m c main_arg0 (ix3 (batch t) r q) := by
  show V m c main_arg0 (((cfg0.win 0).blk t).view.emb (ix3 0 r q)) = _
  refine congrArg (V m c main_arg0) (funext fun a => Fin.ext ?_)
  refine ((cfg0.win 0).rect_emb_val t _ a).trans ?_
  show win0_0.index t a * _ + _ = _
  rw [index0]
  match a with
  | ⟨0, _⟩ => show t.val * 1 + 0 = t.val; omega
  | ⟨1, _⟩ => show 0 * 256 + r.val = r.val; omega
  | ⟨2, _⟩ => show 0 * 1024 + q.val = q.val; omega

/-- The block of window 1. -/
theorem blk1 (c : Dev nD) (t : Fin cfg0.N) (q : Fin 1024) :
    iblk m c 1 t (ix2 0 q) = V m c main_v24 (ix2 0 q) := by
  show V m c main_v24 (((cfg0.win 1).blk t).view.emb (ix2 0 q)) = _
  refine congrArg (V m c main_v24) (funext fun a => Fin.ext ?_)
  refine ((cfg0.win 1).rect_emb_val t _ a).trans ?_
  show win0_1.index t a * _ + _ = _
  rw [index1]
  match a with
  | ⟨0, _⟩ => show 0 * 1 + 0 = 0; omega
  | ⟨1, _⟩ => show 0 * 1024 + q.val = q.val; omega

/-- The block of window 2. -/
theorem blk2 (c : Dev nD) (t : Fin cfg0.N) (q : Fin 1024) :
    iblk m c 2 t (ix3 0 0 q) = V m c main_v25 (ix3 0 0 q) := by
  show V m c main_v25 (((cfg0.win 2).blk t).view.emb (ix3 0 0 q)) = _
  refine congrArg (V m c main_v25) (funext fun a => Fin.ext ?_)
  refine ((cfg0.win 2).rect_emb_val t _ a).trans ?_
  show win0_2.index t a * _ + _ = _
  rw [index2]
  match a with
  | ⟨0, _⟩ => show 0 * 1 + 0 = 0; omega
  | ⟨1, _⟩ => show 0 * 1 + 0 = 0; omega
  | ⟨2, _⟩ => show 0 * 1024 + q.val = q.val; omega

/-- The block of window 3. -/
theorem blk3 (c : Dev nD) (t : Fin cfg0.N) (q : Fin 1024) :
    iblk m c 3 t (ix3 0 0 q) = V m c main_v26 (ix3 0 0 q) := by
  show V m c main_v26 (((cfg0.win 3).blk t).view.emb (ix3 0 0 q)) = _
  refine congrArg (V m c main_v26) (funext fun a => Fin.ext ?_)
  refine ((cfg0.win 3).rect_emb_val t _ a).trans ?_
  show win0_3.index t a * _ + _ = _
  rw [index3]
  match a with
  | ⟨0, _⟩ => show 0 * 1 + 0 = 0; omega
  | ⟨1, _⟩ => show 0 * 1 + 0 = 0; omega
  | ⟨2, _⟩ => show 0 * 1024 + q.val = q.val; omega

/-- The block of window 4. -/
theorem blk4 (c : Dev nD) (t : Fin cfg0.N) (k : Fin 1024) (q : Fin 512) :
    iblk m c 4 t (ix2 k q) = V m c main_v23 (ix2 k q) := by
  show V m c main_v23 (((cfg0.win 4).blk t).view.emb (ix2 k q)) = _
  refine congrArg (V m c main_v23) (funext fun a => Fin.ext ?_)
  refine ((cfg0.win 4).rect_emb_val t _ a).trans ?_
  show win0_4.index t a * _ + _ = _
  rw [index4]
  match a with
  | ⟨0, _⟩ => show 0 * 1024 + k.val = k.val; omega
  | ⟨1, _⟩ => show 0 * 512 + q.val = q.val; omega

/-- The block of window 5. -/
theorem blk5 (c : Dev nD) (t : Fin cfg0.N) (k : Fin 512) (q : Fin 512) :
    iblk m c 5 t (ix2 k q) = V m c main_v18 (ix2 k q) := by
  show V m c main_v18 (((cfg0.win 5).blk t).view.emb (ix2 k q)) = _
  refine congrArg (V m c main_v18) (funext fun a => Fin.ext ?_)
  refine ((cfg0.win 5).rect_emb_val t _ a).trans ?_
  show win0_5.index t a * _ + _ = _
  rw [index5]
  match a with
  | ⟨0, _⟩ => show 0 * 512 + k.val = k.val; omega
  | ⟨1, _⟩ => show 0 * 512 + q.val = q.val; omega

/-- The block of window 6. -/
theorem blk6 (c : Dev nD) (t : Fin cfg0.N) (q : Fin 256) :
    iblk m c 6 t (ix2 0 q) = V m c main_v22 (ix2 0 q) := by
  show V m c main_v22 (((cfg0.win 6).blk t).view.emb (ix2 0 q)) = _
  refine congrArg (V m c main_v22) (funext fun a => Fin.ext ?_)
  refine ((cfg0.win 6).rect_emb_val t _ a).trans ?_
  show win0_6.index t a * _ + _ = _
  rw [index6]
  match a with
  | ⟨0, _⟩ => show 0 * 1 + 0 = 0; omega
  | ⟨1, _⟩ => show 0 * 256 + q.val = q.val; omega

/-- Where a point's block of output window 7 lies. -/
theorem emb7 (t : Fin cfg0.N) (e : Fin 1) (r : Fin 256) (q : Fin 256) :
    ((cfg0.win 7).blk t).view.emb (ix3 e r q) = ix3 (batch t) r q := by
  have he := e.isLt
  refine funext fun a => Fin.ext ?_
  refine ((cfg0.win 7).rect_emb_val t _ a).trans ?_
  show win0_7.index t a * _ + _ = _
  rw [index7]
  match a with
  | ⟨0, _⟩ => show t.val * 1 + e.val = t.val; omega
  | ⟨1, _⟩ => show 0 * 256 + r.val = r.val; omega
  | ⟨2, _⟩ => show 0 * 256 + q.val = q.val; omega

/-- Every element of that result lies in the block of its batch. -/
theorem cover7 (i : S4x256x256.Idx) :
    ∃ t : Fin cfg0.N, (cfg0.win 7).flush t = true ∧ i ∈ ((cfg0.win 7).blk t).view.set := by
  have h0 : (i 0).val < 4 := (i 0).isLt
  have ht : (i 0).val < cfg0.N := by show _ < 4; omega
  refine ⟨⟨(i 0).val, ht⟩, flush0_7 _, ?_⟩
  have h := ((cfg0.win 7).blk ⟨(i 0).val, ht⟩).view.emb_mem_set (ix3 (0 : Fin 1) (i 1) (i 2))
  refine Eq.mp (congrArg (· ∈ _) ((emb7 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

/-- Where a point's block of output window 8 lies. -/
theorem emb8 (t : Fin cfg0.N) (e : Fin 1) (r : Fin 256) (q : Fin 256) :
    ((cfg0.win 8).blk t).view.emb (ix3 e r q) = ix3 (batch t) r q := by
  have he := e.isLt
  refine funext fun a => Fin.ext ?_
  refine ((cfg0.win 8).rect_emb_val t _ a).trans ?_
  show win0_8.index t a * _ + _ = _
  rw [index8]
  match a with
  | ⟨0, _⟩ => show t.val * 1 + e.val = t.val; omega
  | ⟨1, _⟩ => show 0 * 256 + r.val = r.val; omega
  | ⟨2, _⟩ => show 0 * 256 + q.val = q.val; omega

/-- Every element of that result lies in the block of its batch. -/
theorem cover8 (i : S4x256x256.Idx) :
    ∃ t : Fin cfg0.N, (cfg0.win 8).flush t = true ∧ i ∈ ((cfg0.win 8).blk t).view.set := by
  have h0 : (i 0).val < 4 := (i 0).isLt
  have ht : (i 0).val < cfg0.N := by show _ < 4; omega
  refine ⟨⟨(i 0).val, ht⟩, flush0_8 _, ?_⟩
  have h := ((cfg0.win 8).blk ⟨(i 0).val, ht⟩).view.emb_mem_set (ix3 (0 : Fin 1) (i 1) (i 2))
  refine Eq.mp (congrArg (· ∈ _) ((emb8 ⟨(i 0).val, ht⟩ (0 : Fin 1) (i 1) (i 2)).trans ?_)) h
  refine funext fun a => Fin.ext ?_
  match a with
  | ⟨0, _⟩ => rfl
  | ⟨1, _⟩ => rfl
  | ⟨2, _⟩ => rfl

end Cert.LastIdeal.Host
end
-- ==== Proof.LastValue.lean ====
/- The two result arrays of the odd layer's projection of the context rows are the reference's values of its arguments. -/
module

public import proofs.«01_k».proof.Proof.LastHost
public import proofs.«01_k».proof.Proof.ProjValue
public import Idealize.ShloMosaic.Lib.Pipeline.ValueKit.Geometry

@[expose] public section

set_option maxRecDepth 16384

noncomputable section

namespace Cert.LastIdeal.Run

open Cert.LastIdeal Cert.LastIdeal.Gen Idealize.ShloMosaic Idealize.ShloMosaic.TcCoe Idealize.SL.Sem Cert.LastIdeal.Body Cert.LastIdeal.Host
open Cert.CtxRefIdeal.Out (dotAt)
open Cert.ProjIdeal.Host (column)
open Cert.ProjIdeal.Run (column_val)
open Cert.OddRefIdeal.Out (headNorm)

variable (m : (ℓ : Loc nD τ sig) → Buf (Elt Ideal) ℓ)

/-- The products of the kernel's own arguments. -/
def dots (c : Dev nD) (b : Fin 4) (s : Fin 256) (l : Fin 2304) : EReal :=
  dotAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s l

/-- The product of blocks that hold rows of the arguments is the product of the arguments. -/
theorem prod_of (x0 : Vec Ideal S1x256x1024 .f32) (x1 : Vec Ideal S1x1024 .f32) (x2 x3 : Vec Ideal S1x1x1024 .f32) (x4 : Vec Ideal S1024x512 .bf16)
    (x : FVec Ideal S4x256x1024 .f32) (g : FVec Ideal S1024 .f32) (sh sc : FVec Ideal S1x1024 .f32) (w : FVec Ideal S1024x2304 .f32)
    (b : Fin 4) (r : Fin 256) (l : Fin 512) (l' : Fin 2304)
    (h0 : ∀ k, x0 (ix3 0 r k) = x (ix3 b r k)) (h1 : ∀ k, x1 (ix2 0 k) = g (ix1 k)) (h2 : ∀ k, x2 (ix3 0 0 k) = sh (ix2 0 k))
    (h3 : ∀ k, x3 (ix3 0 0 k) = sc (ix2 0 k)) (h4 : ∀ k, x4 (ix2 k l) = w (ix2 k l')) :
    prod x0 x1 x2 x3 x4 r l = dotAt x g sh sc w b r l' := by
  unfold prod dotAt
  simp only [h0, h1, h2, h3, h4]

/-- The product of a point's blocks is the product of its rows with the weights' column. -/
theorem prod_eq (c : Dev nD) (t : Fin cfg0.N) (r : Fin 256) (l : Fin 512) :
    prod (iblk m c 0 t) (iblk m c 1 t) (iblk m c 2 t) (iblk m c 3 t) (iblk m c 4 t) r l = dots m c (batch t) r (column ⟨512 + l.val, by omega⟩) :=
  prod_of _ _ _ _ _ _ _ _ _ _ _ _ _ _ (fun k => (blk0 m c t r k).trans (tokens m c _ _ k)) (fun k => (blk1 m c t k).trans (gain m c k))
    (fun k => (blk2 m c t k).trans (shift m c k)) (fun k => (blk3 m c t k).trans (scale m c k)) (fun k => (blk4 m c t k l).trans (weights m c k l))

/-- The same of a column that is known. -/
theorem prod_at (c : Dev nD) (t : Fin cfg0.N) (r : Fin 256) (l : Fin 512) (l' : Fin 2304) (e : (column ⟨512 + l.val, by omega⟩).val = l'.val) :
    prod (iblk m c 0 t) (iblk m c 1 t) (iblk m c 2 t) (iblk m c 3 t) (iblk m c 4 t) r l = dots m c (batch t) r l' := by
  rw [prod_eq, Fin.ext e]

/-- The reference's keys of the kernel's own arguments. -/
def target7 (c : Dev nD) : FVec Ideal S4x256x256 .bf16 :=
  Cert.LastRefIdeal.Out.key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- A point's block is the reference's. -/
theorem out7_eq (c : Dev nD) (t : Fin cfg0.N) (r : Fin 256) (q : Fin 256) :
    out0_7 (iblk m c 0 t) (iblk m c 1 t) (iblk m c 2 t) (iblk m c 3 t) (iblk m c 4 t) (iblk m c 5 t) (iblk m c 6 t) (ix3 0 r q)
      = target7 m c (ix3 (batch t) r q) := by
  have hq := q.isLt
  refine (out7_apply _ _ _ _ _ _ _ r q (fun d => (show FVec Ideal S64 .f32 from m ((c.tc : Thread nD τ).loc main_arg5)) (ix1 d))
    (fun j l => (blk5 m c t j l).trans (matrix m c j l)) (fun l => (blk6 m c t l).trans (gains m c l))).trans ?_
  refine Eq.trans ?_ (Cert.LastRefIdeal.Out.key_apply _ _ _ _ _ _ (batch t) r q).symm
  refine congrArg (fun p => headNorm p _ _) (funext fun d => ?_)
  have hd := d.isLt
  refine prod_at m c t r _ _ ?_
  rw [column_val]
  dsimp only
  split_ifs <;> omega

/-- The result array at the end is the reference's. -/
theorem final7 (c : Dev nD) : (dats m 0 c).arrAt 7 cfg0.N = target7 m c := by
  refine (dats m 0 c).arrAt_eq_of_emb 7 (target7 m c) (fun t _ y => ?_) cover7
  show (dats m 0 c).after 7 t y = _
  rw [after0_7]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out7_eq m c t (y 1) (y 2)).trans (congrArg (target7 m c) (emb7 t 0 (y 1) (y 2)).symm)

/-- The reference's values of the kernel's own arguments. -/
def target8 (c : Dev nD) : FVec Ideal S4x256x256 .bf16 :=
  Cert.LastRefIdeal.Out.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A point's block is the reference's. -/
theorem out8_eq (c : Dev nD) (t : Fin cfg0.N) (r : Fin 256) (q : Fin 256) :
    out0_8 (iblk m c 0 t) (iblk m c 1 t) (iblk m c 2 t) (iblk m c 3 t) (iblk m c 4 t) (iblk m c 5 t) (iblk m c 6 t) (ix3 0 r q)
      = target8 m c (ix3 (batch t) r q) := by
  have hq := q.isLt
  refine (out8_apply _ _ _ _ _ _ _ r q).trans ?_
  refine Eq.trans ?_ (Cert.LastRefIdeal.Out.value_apply _ _ _ _ _ (batch t) r q).symm
  refine prod_at m c t r _ _ ?_
  rw [column_val]
  dsimp only
  split_ifs <;> omega

/-- The result array at the end is the reference's. -/
theorem final8 (c : Dev nD) : (dats m 0 c).arrAt 8 cfg0.N = target8 m c := by
  refine (dats m 0 c).arrAt_eq_of_emb 8 (target8 m c) (fun t _ y => ?_) cover8
  show (dats m 0 c).after 8 t y = _
  rw [after0_8]
  have h0 : y 0 = (0 : Fin 1) := Subsingleton.elim (α := Fin 1) _ _
  have hy : y = ix3 (0 : Fin 1) (y 1) (y 2) := (eq_ix3 y).trans (congrArg (fun e : Fin 1 => ix3 e (y 1) (y 2)) h0)
  rw [hy]
  exact (out8_eq m c t (y 1) (y 2)).trans (congrArg (target8 m c) (emb8 t 0 (y 1) (y 2)).symm)

end Cert.LastIdeal.Run
end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.MoeRefIdeal.Run
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.Full.Frame
public import proofs.«01_k».proof.Proof.Gen.FullIdeal.Value
public import proofs.«01_k».proof.Proof.Gen.FullRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Odd.Frame
public import proofs.«01_k».proof.Proof.Gen.OddIdeal.Value
public import proofs.«01_k».proof.Proof.Gen.OddRefIdeal.Run
public import proofs.«01_k».proof.Proof.Gen.Ctx.Frame
public import proofs.«01_k».proof.Proof.Gen.CtxIdeal.Value
public import proofs.«01_k».proof.Proof.Gen.CtxRefIdeal.Run
public import proofs.«01_k».proof.Proof.Gen.Last.Frame
public import proofs.«01_k».proof.Proof.Gen.LastIdeal.Value
public import proofs.«01_k».proof.Proof.Gen.LastRefIdeal.Run
public import proofs.«01_k».proof.Proof.Gen.Pre_finite_logits
public import proofs.«01_k».proof.Proof.Gen.Pre_tiles_in_range
public import proofs.«01_k».proof.Proof.Gen.Pre_finite_scores
public import proofs.«01_k».proof.Proof.MoeRun
public import proofs.«01_k».proof.Proof.MoeIdealRun
public import proofs.«01_k».proof.Proof.MoeRef
public import proofs.«01_k».proof.Proof.MoeValue
public import proofs.«01_k».proof.Proof.WinValue
public import proofs.«01_k».proof.Proof.FullValue
public import proofs.«01_k».proof.Proof.ProjValue
public import proofs.«01_k».proof.Proof.OddValue
public import proofs.«01_k».proof.Proof.CtxValue
public import proofs.«01_k».proof.Proof.LastValue
public import Idealize.ShloMosaic.Adequacy
public import Idealize.ShloMosaic.Init

@[expose] public section

noncomputable section

namespace Cert.Proof

open Idealize.ShloMosaic Idealize.SL.Sem Cert.Moe

/-- The grouped experts' kernel runs and leaves its arguments and the counters as they were. -/
theorem frame_moe : Cert.quiescent_Moe (hMoe := Cert.Moe.Gen.facts) (hPre_tiles_in_range := Cert.Pre_tiles_in_range.Gen.facts) :=
  fun m g h => Cert.Moe.Run.frame_of_ok m g (Cert.Moe.Run.ok_of_pre m h)

/-- The same of its reading over the extended reals. -/
theorem frame_moeIdeal : Cert.quiescent_MoeIdeal (hMoeIdeal := Cert.MoeIdeal.Gen.facts) (hPre_tiles_in_range := Cert.Pre_tiles_in_range.Gen.facts) :=
  fun m g h => Cert.MoeIdeal.Run.frame_of_ok m g (Cert.MoeIdeal.Run.ok_of_pre m h)

/-- The same of its reference. -/
theorem frame_moeRef : Cert.quiescent_MoeRefIdeal (hMoeRefIdeal := Cert.MoeRefIdeal.Gen.facts) (hPre_tiles_in_range := Cert.Pre_tiles_in_range.Gen.facts) :=
  fun m g _ => (θ_run Cert.MoeRefIdeal.defs _ _).mono
    (fun r h => ⟨fun c => (h c).2, Idealize.ShloMosaic.sem_eq_zero_of_no_sems (by decide) r.2⟩) (Cert.MoeRefIdeal.Value.run (F := Ideal) m g)

/-- The grouped experts' kernel and the plain sum over the experts end with the same array. -/
theorem value_moe : Cert.algebraic_MoeIdeal_MoeRefIdeal (hMoeIdeal := Cert.MoeIdeal.Gen.facts) (hMoeRefIdeal := Cert.MoeRefIdeal.Gen.facts)
    (hPre_tiles_in_range := Cert.Pre_tiles_in_range.Gen.facts) := by
  intro m g m' g' hp heq
  have hO := Cert.MoeIdeal.Run.ok_of_pre m hp
  refine ⟨fun c => Cert.MoeIdeal.Run.target m c, ?_, ?_⟩
  · exact (θ_run Cert.MoeIdeal.defs _ _).mono (fun r h c => ⟨((h.1 c).2).trans (Cert.MoeIdeal.Run.final m hO c), (h.1 c).1⟩)
      (Cert.MoeIdeal.Run.run_result m g hO)
  · refine (θ_run Cert.MoeRefIdeal.defs _ _).mono (fun r h c => ⟨((h c).1).trans ?_, (h c).2⟩) (Cert.MoeRefIdeal.Value.run (F := Ideal) m' g')
    obtain ⟨e0, e1, e2, e3, e4, e5⟩ := heq c
    exact (show _ = Cert.MoeRefIdeal.Out.term _ _ _ _ _ _ from rfl).trans (by unfold Cert.MoeIdeal.Run.target; rw [e0, e1, e2, e3, e4, e5])

/-- The window attention's kernel runs and leaves its arguments and the counters as they were. -/
theorem frame_win : Cert.quiescent_Win (hWin := Cert.Win.Gen.facts) := fun m g _ => Cert.Win.Gen.frame m g

/-- The same of its reading over the extended reals. -/
theorem frame_winIdeal : Cert.quiescent_WinIdeal (hWinIdeal := Cert.WinIdeal.Gen.facts) := fun m g _ => Cert.WinIdeal.Gen.frame m g

/-- The same where the scores are finite. -/
theorem frame_winIdeal_finite : Cert.quiescent_WinIdeal_pre_finite_scores (hWinIdeal := Cert.WinIdeal.Gen.facts)
    (hPre_finite_scores := Cert.Pre_finite_scores.Gen.facts) := fun m g _ => Cert.WinIdeal.Gen.frame m g

/-- The same of its reference. -/
theorem frame_winRef : Cert.quiescent_WinRefIdeal (hWinRefIdeal := Cert.WinRefIdeal.Gen.facts) :=
  fun m g _ => (θ_run Cert.WinRefIdeal.defs _ _).mono
    (fun r h => ⟨fun c => (h c).2, Idealize.ShloMosaic.sem_eq_zero_of_no_sems (by decide) r.2⟩) (Cert.WinRefIdeal.Value.run (F := Ideal) m g)

/-- The same of the reference where the scores are finite. -/
theorem frame_winRef_finite : Cert.quiescent_WinRefIdeal_pre_finite_scores (hWinRefIdeal := Cert.WinRefIdeal.Gen.facts)
    (hPre_finite_scores := Cert.Pre_finite_scores.Gen.facts) :=
  fun m g _ => (θ_run Cert.WinRefIdeal.defs _ _).mono
    (fun r h => ⟨fun c => (h c).2, Idealize.ShloMosaic.sem_eq_zero_of_no_sems (by decide) r.2⟩) (Cert.WinRefIdeal.Value.run (F := Ideal) m g)

/-- The three named constants are all that the reading over the extended reals changes in the window attention. -/
theorem preserves_win : Cert.preserves_Win_WinIdeal :=
  ⟨IdealRules.named_const.statement Cert.WinIdeal.κ "q_mult" .f32 0x3E38AA3B#32 (((8 * (Real.log 2))⁻¹ : ℝ) : EReal) rfl,
   IdealRules.named_const.statement Cert.WinIdeal.κ "mask" .f32 0xF149F2CA#32 ⊥ rfl,
   IdealRules.named_const.statement Cert.WinIdeal.κ "log2_e" .f32 0x3FB8AA3B#32 (((Real.log 2)⁻¹ : ℝ) : EReal) rfl⟩

/-- The window attention's kernel and the reference's softmax over the window, the context and the sink end with the same array. -/
theorem value_win : Cert.algebraic_WinIdeal_WinRefIdeal_pre_finite_scores (hWinIdeal := Cert.WinIdeal.Gen.facts)
    (hWinRefIdeal := Cert.WinRefIdeal.Gen.facts) (hPre_finite_scores := Cert.Pre_finite_scores.Gen.facts) := by
  intro m g m' g' hp heq
  refine ⟨fun c => Cert.WinIdeal.Run.target m c, ?_, ?_⟩
  · exact (θ_run Cert.WinIdeal.defs _ _).mono (fun r h c => ⟨((h c).1).trans (Cert.WinIdeal.Run.final m hp c), (h c).2⟩)
      (Cert.WinIdeal.Value.run_blocks m g)
  · refine (θ_run Cert.WinRefIdeal.defs _ _).mono (fun r h c => ⟨((h c).1).trans ?_, (h c).2⟩) (Cert.WinRefIdeal.Value.run (F := Ideal) m' g')
    obtain ⟨e0, e1, e2, e3, e4, e5⟩ := heq c
    refine (Cert.WinRefIdeal.Out.res_eq m' c).trans ?_
    unfold Cert.WinIdeal.Run.target
    rw [e0, e1, e2, e3, e4, e5]

/-- The full attention's kernel runs and leaves its arguments and the counters as they were. -/
theorem frame_full : Cert.quiescent_Full (hFull := Cert.Full.Gen.facts) := fun m g _ => Cert.Full.Gen.frame m g

/-- The same of its reading over the extended reals. -/
theorem frame_fullIdeal : Cert.quiescent_FullIdeal (hFullIdeal := Cert.FullIdeal.Gen.facts) := fun m g _ => Cert.FullIdeal.Gen.frame m g

/-- The same where the scores are finite. -/
theorem frame_fullIdeal_finite : Cert.quiescent_FullIdeal_pre_finite_logits (hFullIdeal := Cert.FullIdeal.Gen.facts)
    (hPre_finite_logits := Cert.Pre_finite_logits.Gen.facts) := fun m g _ => Cert.FullIdeal.Gen.frame m g

/-- The same of its reference. -/
theorem frame_fullRef : Cert.quiescent_FullRefIdeal (hFullRefIdeal := Cert.FullRefIdeal.Gen.facts) :=
  fun m g _ => (θ_run Cert.FullRefIdeal.defs _ _).mono
    (fun r h => ⟨fun c => (h c).2, Idealize.ShloMosaic.sem_eq_zero_of_no_sems (by decide) r.2⟩) (Cert.FullRefIdeal.Value.run (F := Ideal) m g)

/-- The same of the reference where the scores are finite. -/
theorem frame_fullRef_finite : Cert.quiescent_FullRefIdeal_pre_finite_logits (hFullRefIdeal := Cert.FullRefIdeal.Gen.facts)
    (hPre_finite_logits := Cert.Pre_finite_logits.Gen.facts) :=
  fun m g _ => (θ_run Cert.FullRefIdeal.defs _ _).mono
    (fun r h => ⟨fun c => (h c).2, Idealize.ShloMosaic.sem_eq_zero_of_no_sems (by decide) r.2⟩) (Cert.FullRefIdeal.Value.run (F := Ideal) m g)

/-- The named constant is all that the reading over the extended reals changes in the full attention. -/
theorem preserves_full : Cert.preserves_Full_FullIdeal :=
  IdealRules.named_const.statement Cert.FullIdeal.κ "q_mult" .f32 0x3E38AA3B#32 (((8 * (Real.log 2))⁻¹ : ℝ) : EReal) rfl

/-- The full attention's kernel and the reference's softmax over the context's and the sequence's keys end with the same array. -/
theorem value_full : Cert.algebraic_FullIdeal_FullRefIdeal_pre_finite_logits (hFullIdeal := Cert.FullIdeal.Gen.facts)
    (hFullRefIdeal := Cert.FullRefIdeal.Gen.facts) (hPre_finite_logits := Cert.Pre_finite_logits.Gen.facts) := by
  intro m g m' g' hp heq
  refine ⟨fun c => Cert.FullIdeal.Run.target m c, ?_, ?_⟩
  · exact (θ_run Cert.FullIdeal.defs _ _).mono (fun r h c => ⟨((h c).1).trans (Cert.FullIdeal.Run.final m hp c), (h c).2⟩)
      (Cert.FullIdeal.Value.run_blocks m g)
  · refine (θ_run Cert.FullRefIdeal.defs _ _).mono (fun r h c => ⟨((h c).1).trans ?_, (h c).2⟩)
      (Cert.FullRefIdeal.Value.run (F := Ideal) m' g')
    obtain ⟨e0, e1, e2, e3, e4⟩ := heq c
    refine (Cert.FullRefIdeal.Out.res_eq m' c).trans ?_
    unfold Cert.FullIdeal.Run.target
    rw [e0, e1, e2, e3, e4]

/-- The projection's kernel runs and leaves its arguments and the counters as they were. -/
theorem frame_proj : Cert.quiescent_Proj (hProj := Cert.Proj.Gen.facts) := fun m g _ => Cert.Proj.Gen.frame m g

/-- The same of its reading over the extended reals. -/
theorem frame_projIdeal : Cert.quiescent_ProjIdeal (hProjIdeal := Cert.ProjIdeal.Gen.facts) := fun m g _ => Cert.ProjIdeal.Gen.frame m g

/-- The same of its reference. -/
theorem frame_projRef : Cert.quiescent_ProjRefIdeal (hProjRefIdeal := Cert.ProjRefIdeal.Gen.facts) :=
  fun m g _ => (θ_run Cert.ProjRefIdeal.defs _ _).mono
    (fun r h => ⟨fun c => (h c).2, Idealize.ShloMosaic.sem_eq_zero_of_no_sems (by decide) r.2⟩) (Cert.ProjRefIdeal.Out.run_eq m g)

/-- The projection's kernel and the reference's normalization, product and rotation end with the same six arrays. -/
theorem value_proj : Cert.algebraic_ProjIdeal_ProjRefIdeal (hProjIdeal := Cert.ProjIdeal.Gen.facts)
    (hProjRefIdeal := Cert.ProjRefIdeal.Gen.facts) := by
  intro m g m' g' _ heq
  refine ⟨fun c => Cert.ProjIdeal.Run.target7 m c, fun c => Cert.ProjIdeal.Run.target8 m c, fun c => Cert.ProjIdeal.Run.target9 m c,
    fun c => Cert.ProjIdeal.Run.target10 m c, fun c => Cert.ProjIdeal.Run.target11 m c, fun c => Cert.ProjIdeal.Run.target12 m c, ?_, ?_⟩
  · refine (θ_run Cert.ProjIdeal.defs _ _).mono (fun r h c => ?_) (Cert.ProjIdeal.Value.run_blocks m g)
    obtain ⟨h0, h1, h2, h3, h4, h5, h6⟩ := h c
    exact ⟨h0.trans (Cert.ProjIdeal.Run.final7 m c), h1.trans (Cert.ProjIdeal.Run.final8 m c), h2.trans (Cert.ProjIdeal.Run.final9 m c),
      h3.trans (Cert.ProjIdeal.Run.final10 m c), h4.trans (Cert.ProjIdeal.Run.final11 m c), h5.trans (Cert.ProjIdeal.Run.final12 m c), h6⟩
  · refine (θ_run Cert.ProjRefIdeal.defs _ _).mono (fun r h c => ?_) (Cert.ProjRefIdeal.Out.run_eq m' g')
    obtain ⟨⟨h0, h1, h2, h3, h4, h5⟩, h6⟩ := h c
    obtain ⟨e0, e1, e2, e3, e4⟩ := heq c
    rw [e0, e1, e2, e3, e4] at h0 h1 h2 h3 h4 h5
    exact ⟨h0, h1, h2, h3, h4, h5, h6⟩

/-- The odd layer's projection runs and leaves its arguments and the counters as they were. -/
theorem frame_odd : Cert.quiescent_Odd (hOdd := Cert.Odd.Gen.facts) := fun m g _ => Cert.Odd.Gen.frame m g

/-- So does its reading over the extended reals. -/
theorem frame_oddIdeal : Cert.quiescent_OddIdeal (hOddIdeal := Cert.OddIdeal.Gen.facts) := fun m g _ => Cert.OddIdeal.Gen.frame m g

/-- So does its reference. -/
theorem frame_oddRef : Cert.quiescent_OddRefIdeal (hOddRefIdeal := Cert.OddRefIdeal.Gen.facts) :=
  fun m g _ => (θ_run Cert.OddRefIdeal.defs _ _).mono
    (fun r h => ⟨fun c => (h c).2, Idealize.ShloMosaic.sem_eq_zero_of_no_sems (by decide) r.2⟩) (Cert.OddRefIdeal.Out.run_eq m g)

/-- The odd layer's projection and the reference's normalization, product, head norms and rotation end with the same four arrays. -/
theorem value_odd : Cert.algebraic_OddIdeal_OddRefIdeal (hOddIdeal := Cert.OddIdeal.Gen.facts)
    (hOddRefIdeal := Cert.OddRefIdeal.Gen.facts) := by
  intro m g m' g' _ heq
  refine ⟨fun c => Cert.OddIdeal.Run.target9 m c, fun c => Cert.OddIdeal.Run.target10 m c, fun c => Cert.OddIdeal.Run.target11 m c,
    fun c => Cert.OddIdeal.Run.target12 m c, ?_, ?_⟩
  · refine (θ_run Cert.OddIdeal.defs _ _).mono (fun r h c => ?_) (Cert.OddIdeal.Value.run_blocks m g)
    obtain ⟨h0, h1, h2, h3, h4⟩ := h c
    exact ⟨h0.trans (Cert.OddIdeal.Run.final9 m c), h1.trans (Cert.OddIdeal.Run.final10 m c), h2.trans (Cert.OddIdeal.Run.final11 m c),
      h3.trans (Cert.OddIdeal.Run.final12 m c), h4⟩
  · refine (θ_run Cert.OddRefIdeal.defs _ _).mono (fun r h c => ?_) (Cert.OddRefIdeal.Out.run_eq m' g')
    obtain ⟨⟨h0, h1, h2, h3⟩, h4⟩ := h c
    obtain ⟨e0, e1, e2, e3, e4, e5, e6⟩ := heq c
    rw [e0, e1, e2, e3, e4, e5] at h0
    rw [e0, e1, e2, e3, e4, e6] at h1
    rw [e0, e1, e2, e3, e4] at h2 h3
    exact ⟨h0, h1, h2, h3, h4⟩

/-- The context rows' projection runs and leaves its arguments and the counters as they were. -/
theorem frame_ctx : Cert.quiescent_Ctx (hCtx := Cert.Ctx.Gen.facts) := fun m g _ => Cert.Ctx.Gen.frame m g

/-- So does its reading over the extended reals. -/
theorem frame_ctxIdeal : Cert.quiescent_CtxIdeal (hCtxIdeal := Cert.CtxIdeal.Gen.facts) := fun m g _ => Cert.CtxIdeal.Gen.frame m g

/-- So does its reference. -/
theorem frame_ctxRef : Cert.quiescent_CtxRefIdeal (hCtxRefIdeal := Cert.CtxRefIdeal.Gen.facts) :=
  fun m g _ => (θ_run Cert.CtxRefIdeal.defs _ _).mono
    (fun r h => ⟨fun c => (h c).2, Idealize.ShloMosaic.sem_eq_zero_of_no_sems (by decide) r.2⟩) (Cert.CtxRefIdeal.Out.run_eq m g)

/-- The context rows' projection and the reference's normalization and product end with the same six arrays. -/
theorem value_ctx : Cert.algebraic_CtxIdeal_CtxRefIdeal (hCtxIdeal := Cert.CtxIdeal.Gen.facts)
    (hCtxRefIdeal := Cert.CtxRefIdeal.Gen.facts) := by
  intro m g m' g' _ heq
  refine ⟨fun c => Cert.CtxIdeal.Run.target5 m c, fun c => Cert.CtxIdeal.Run.target6 m c, fun c => Cert.CtxIdeal.Run.target7 m c, fun c => Cert.CtxIdeal.Run.target8 m c, fun c => Cert.CtxIdeal.Run.target9 m c, fun c => Cert.CtxIdeal.Run.target10 m c, ?_, ?_⟩
  · refine (θ_run Cert.CtxIdeal.defs _ _).mono (fun r h c => ?_) (Cert.CtxIdeal.Value.run_blocks m g)
    obtain ⟨h0, h1, h2, h3, h4, h5, h6⟩ := h c
    exact ⟨h0.trans (Cert.CtxIdeal.Run.final5 m c), h1.trans (Cert.CtxIdeal.Run.final6 m c), h2.trans (Cert.CtxIdeal.Run.final7 m c), h3.trans (Cert.CtxIdeal.Run.final8 m c), h4.trans (Cert.CtxIdeal.Run.final9 m c), h5.trans (Cert.CtxIdeal.Run.final10 m c), h6⟩
  · refine (θ_run Cert.CtxRefIdeal.defs _ _).mono (fun r h c => ?_) (Cert.CtxRefIdeal.Out.run_eq m' g')
    obtain ⟨⟨h0, h1, h2, h3, h4, h5⟩, h6⟩ := h c
    obtain ⟨e0, e1, e2, e3, e4⟩ := heq c
    rw [e0, e1, e2, e3, e4] at h0 h1 h2 h3 h4 h5
    exact ⟨h0, h1, h2, h3, h4, h5, h6⟩

/-- The odd layer's projection of the context rows runs and leaves its arguments and the counters as they were. -/
theorem frame_last : Cert.quiescent_Last (hLast := Cert.Last.Gen.facts) := fun m g _ => Cert.Last.Gen.frame m g

/-- So does its reading over the extended reals. -/
theorem frame_lastIdeal : Cert.quiescent_LastIdeal (hLastIdeal := Cert.LastIdeal.Gen.facts) := fun m g _ => Cert.LastIdeal.Gen.frame m g

/-- So does its reference. -/
theorem frame_lastRef : Cert.quiescent_LastRefIdeal (hLastRefIdeal := Cert.LastRefIdeal.Gen.facts) :=
  fun m g _ => (θ_run Cert.LastRefIdeal.defs _ _).mono
    (fun r h => ⟨fun c => (h c).2, Idealize.ShloMosaic.sem_eq_zero_of_no_sems (by decide) r.2⟩) (Cert.LastRefIdeal.Out.run_eq m g)

/-- The odd layer's projection of the context rows and the reference's normalization, product and head norms end with the same keys and values. -/
theorem value_last : Cert.algebraic_LastIdeal_LastRefIdeal (hLastIdeal := Cert.LastIdeal.Gen.facts)
    (hLastRefIdeal := Cert.LastRefIdeal.Gen.facts) := by
  intro m g m' g' _ heq
  refine ⟨fun c => Cert.LastIdeal.Run.target7 m c, fun c => Cert.LastIdeal.Run.target8 m c, ?_, ?_⟩
  · refine (θ_run Cert.LastIdeal.defs _ _).mono (fun r h c => ?_) (Cert.LastIdeal.Value.run_blocks m g)
    obtain ⟨h0, h1, h2⟩ := h c
    exact ⟨h0.trans (Cert.LastIdeal.Run.final7 m c), h1.trans (Cert.LastIdeal.Run.final8 m c), h2⟩
  · refine (θ_run Cert.LastRefIdeal.defs _ _).mono (fun r h c => ?_) (Cert.LastRefIdeal.Out.run_eq m' g')
    obtain ⟨⟨h0, h1⟩, h2⟩ := h c
    obtain ⟨e0, e1, e2, e3, e4, e5⟩ := heq c
    rw [e0, e1, e2, e3, e4, e5] at h0
    rw [e0, e1, e2, e3, e4] at h1
    exact ⟨h0, h1, h2⟩

/-- Everything that is claimed. -/
theorem claim : Cert.Claim := ⟨Cert.Moe.Gen.facts, Cert.MoeIdeal.Gen.facts, Cert.MoeRefIdeal.Gen.facts, Cert.Win.Gen.facts,
  Cert.WinIdeal.Gen.facts, Cert.WinRefIdeal.Gen.facts, Cert.Full.Gen.facts, Cert.FullIdeal.Gen.facts, Cert.FullRefIdeal.Gen.facts,
  Cert.Proj.Gen.facts, Cert.ProjIdeal.Gen.facts, Cert.ProjRefIdeal.Gen.facts,
  Cert.Odd.Gen.facts, Cert.OddIdeal.Gen.facts, Cert.OddRefIdeal.Gen.facts,
  Cert.Ctx.Gen.facts, Cert.CtxIdeal.Gen.facts, Cert.CtxRefIdeal.Gen.facts, Cert.Last.Gen.facts, Cert.LastIdeal.Gen.facts, Cert.LastRefIdeal.Gen.facts,
  Cert.Pre_tiles_in_range.Gen.facts, Cert.Pre_finite_scores.Gen.facts, Cert.Pre_finite_logits.Gen.facts,
  frame_moe, frame_moeIdeal, frame_moeRef, frame_win, frame_winIdeal, frame_winIdeal_finite, frame_winRef, frame_winRef_finite,
  frame_full, frame_fullIdeal, frame_fullIdeal_finite, frame_fullRef, frame_fullRef_finite,
  frame_proj, frame_projIdeal, frame_projRef, frame_odd, frame_oddIdeal, frame_oddRef,
  frame_ctx, frame_ctxIdeal, frame_ctxRef, frame_last, frame_lastIdeal, frame_lastRef,
  trivial, value_moe, preserves_win, value_win, preserves_full, value_full, trivial, value_proj, trivial, value_odd, trivial, value_ctx, trivial, value_last⟩

end Cert.Proof

end
